-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_below_inf [hPre_below_inf : Cert.Pre_below_inf.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_below_inf.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_below_inf [hPre_below_inf : Cert.Pre_below_inf.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_below_inf.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Kernel33Ideal_pre_below_inf [hKernel33Ideal : Cert.Kernel33Ideal.Facts] [hPre_below_inf : Cert.Pre_below_inf.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_below_inf m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Reference33Ideal_pre_below_inf [hReference33Ideal : Cert.Reference33Ideal.Facts] [hPre_below_inf : Cert.Pre_below_inf.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_below_inf m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v44) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v33) = v0 c
          ∧ r.2.mem ((c.tc : Thread Cert.Reference19Ideal.nD Cert.Reference19Ideal.τ).loc Cert.Reference19Ideal.main_v34) = v1 c
          ∧ r.2.mem ((c.tc : Thread Cert.Reference19Ideal.nD Cert.Reference19Ideal.τ).loc Cert.Reference19Ideal.main_v35) = v2 c
          ∧ r.2.mem ((c.tc : Thread Cert.Reference19Ideal.nD Cert.Reference19Ideal.τ).loc Cert.Reference19Ideal.main_v36) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v17) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v69) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_v52) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v51) = v2 c
          ∧ r.2.mem ((c.tc : Thread Cert.Reference22Ideal.nD Cert.Reference22Ideal.τ).loc Cert.Reference22Ideal.main_v33) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_v13) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v7) = v2 c
          ∧ r.2.mem ((c.tc : Thread Cert.Reference25Ideal.nD Cert.Reference25Ideal.τ).loc Cert.Reference25Ideal.main_v13) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v26) = v1 c
          ∧ r.2.mem ((c.tc : Thread Cert.Reference26Ideal.nD Cert.Reference26Ideal.τ).loc Cert.Reference26Ideal.main_v7) = v2 c
          ∧ r.2.mem ((c.tc : Thread Cert.Reference26Ideal.nD Cert.Reference26Ideal.τ).loc Cert.Reference26Ideal.main_v13) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v26) = v1 c
          ∧ r.2.mem ((c.tc : Thread Cert.Reference27Ideal.nD Cert.Reference27Ideal.τ).loc Cert.Reference27Ideal.main_v7) = v2 c
          ∧ r.2.mem ((c.tc : Thread Cert.Reference27Ideal.nD Cert.Reference27Ideal.τ).loc Cert.Reference27Ideal.main_v13) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)) (v2 : (c : Dev Cert.Kernel28Ideal.nD) → Buf (Elt Ideal) ((c.tc : Thread Cert.Kernel28Ideal.nD Cert.Kernel28Ideal.τ).loc Cert.Kernel28Ideal.main_v1_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_v1_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v3) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1)) (v1 : (c : Dev Cert.Kernel29Ideal.nD) → Buf (Elt Ideal) ((c.tc : Thread Cert.Kernel29Ideal.nD Cert.Kernel29Ideal.τ).loc Cert.Kernel29Ideal.main_v2)) (v2 : (c : Dev Cert.Kernel29Ideal.nD) → Buf (Elt Ideal) ((c.tc : Thread Cert.Kernel29Ideal.nD Cert.Kernel29Ideal.τ).loc Cert.Kernel29Ideal.main_v3)) (v3 : (c : Dev Cert.Kernel29Ideal.nD) → Buf (Elt Ideal) ((c.tc : Thread Cert.Kernel29Ideal.nD Cert.Kernel29Ideal.τ).loc Cert.Kernel29Ideal.main_v4)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_v2) = v1 c
          ∧ r.2.mem ((c.tc : Thread Cert.Kernel29Ideal.nD Cert.Kernel29Ideal.τ).loc Cert.Kernel29Ideal.main_v3) = v2 c
          ∧ r.2.mem ((c.tc : Thread Cert.Kernel29Ideal.nD Cert.Kernel29Ideal.τ).loc Cert.Kernel29Ideal.main_v4) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v20) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v9) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v3) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v1)) (v1 : (c : Dev Cert.Kernel31Ideal.nD) → Buf (Elt Ideal) ((c.tc : Thread Cert.Kernel31Ideal.nD Cert.Kernel31Ideal.τ).loc Cert.Kernel31Ideal.main_v2)) (v2 : (c : Dev Cert.Kernel31Ideal.nD) → Buf (Elt Ideal) ((c.tc : Thread Cert.Kernel31Ideal.nD Cert.Kernel31Ideal.τ).loc Cert.Kernel31Ideal.main_v3)) (v3 : (c : Dev Cert.Kernel31Ideal.nD) → Buf (Elt Ideal) ((c.tc : Thread Cert.Kernel31Ideal.nD Cert.Kernel31Ideal.τ).loc Cert.Kernel31Ideal.main_v4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_v2) = v1 c
          ∧ r.2.mem ((c.tc : Thread Cert.Kernel31Ideal.nD Cert.Kernel31Ideal.τ).loc Cert.Kernel31Ideal.main_v3) = v2 c
          ∧ r.2.mem ((c.tc : Thread Cert.Kernel31Ideal.nD Cert.Kernel31Ideal.τ).loc Cert.Kernel31Ideal.main_v4) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_v21) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v10) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_v6) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal_pre_below_inf [hKernel33Ideal : Cert.Kernel33Ideal.Facts] [hReference33Ideal : Cert.Reference33Ideal.Facts] [hPre_below_inf : Cert.Pre_below_inf.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_below_inf m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v12) = v0 c
          ∧ r.2.mem ((c.tc : Thread Cert.Reference33Ideal.nD Cert.Reference33Ideal.τ).loc Cert.Reference33Ideal.main_v8) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v2_0)) (v1 : (c : Dev Cert.Kernel34Ideal.nD) → Buf (Elt Ideal) ((c.tc : Thread Cert.Kernel34Ideal.nD Cert.Kernel34Ideal.τ).loc Cert.Kernel34Ideal.main_v2_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2_0) = v0 c
          ∧ r.2.mem ((c.tc : Thread Cert.Kernel34Ideal.nD Cert.Kernel34Ideal.τ).loc Cert.Kernel34Ideal.main_v2_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite_inputs : Cert.Pre_finite_inputs.Facts) (hPre_finite2 : Cert.Pre_finite2.Facts) (hPre_below_inf : Cert.Pre_below_inf.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_below_inf (hKernel33Ideal := hKernel33Ideal) (hPre_below_inf := hPre_below_inf)
    ∧ quiescent_Reference33Ideal (hReference33Ideal := hReference33Ideal)
    ∧ quiescent_Reference33Ideal_pre_below_inf (hReference33Ideal := hReference33Ideal) (hPre_below_inf := hPre_below_inf)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_below_inf (hKernel33Ideal := hKernel33Ideal) (hReference33Ideal := hReference33Ideal) (hPre_below_inf := hPre_below_inf)
    ∧ preserves_Kernel34_Kernel34Ideal
    ∧ algebraic_Kernel34Ideal_Reference34Ideal (hKernel34Ideal := hKernel34Ideal) (hReference34Ideal := hReference34Ideal)
-- ==== Pre_below_inf.lean ====
abbrev S2048x4608 : Shape := ⟨2, ![2048, 4608]⟩
abbrev S2048x128 : Shape := ⟨2, ![2048, 128]⟩
abbrev S1x128 : Shape := ⟨2, ![1, 128]⟩
abbrev S_ : Shape := ⟨0, ![]⟩

class Facts : Prop where
  bcast_S_S2048x128 : S_.BroadcastsInDim S2048x128 (![] : Fin 0 → Fin S2048x128.rank)

variable [Facts]

def fn {F : FTy → Type} [FloatOps F] (main_arg0 : FVec F S2048x4608 .bf16) (main_arg1 : FVec F S2048x128 .f32) (main_arg2 : FVec F S2048x4608 .f32) (main_arg3 : FVec F S1x128 .f32) : IVec S2048x128 1 :=
  let main_cst : FVec F S_ .f32 := constant S_ .f32 0x7F800000#32
  let main_v0 : FVec F S2048x128 .f32 := broadcastInDim S2048x128 ![] bcast_S_S2048x128 main_cst
  let main_v1 : IVec S2048x128 1 := cmpf .olt main_arg1 main_v0
  main_v1
-- ==== Pre_finite2.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S8x704x2048 : S_.BroadcastsInDim S8x704x2048 (![] : Fin 0 → Fin S8x704x2048.rank)
  bcast_S_S8x2048x704 : S_.BroadcastsInDim S8x2048x704 (![] : Fin 0 → Fin S8x2048x704.rank)

variable [Facts]

def fn {F : FTy → Type} [FloatOps F] (main_arg0 : FVec F S2048x2048 .bf16) (main_arg1 : FVec F S8x704x2048 .bf16) (main_arg2 : FVec F S8x2048x704 .bf16) (main_arg3 : FVec F S8x2048x704 .bf16) : IVec S2048x2048 1 × IVec S8x704x2048 1 × IVec S8x2048x704 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S8x704x2048 .f32 := (extf .f32 · bitsLt_bf16_f32) main_arg1
  let main_v5 : FVec F S8x704x2048 .f32 := Host.absf main_v4
  let main_cst_0 : FVec F S_ .f32 := constant S_ .f32 0x7F800000#32
  let main_v6 : FVec F S8x704x2048 .f32 := broadcastInDim S8x704x2048 ![] bcast_S_S8x704x2048 main_cst_0
  let main_v7 : IVec S8x704x2048 1 := cmpf .olt main_v5 main_v6
  let main_v8 : FVec F S8x2048x704 .f32 := (extf .f32 · bitsLt_bf16_f32) main_arg3
  let main_v9 : FVec F S8x2048x704 .f32 := Host.absf main_v8
  let main_cst_1 : FVec F S_ .f32 := constant S_ .f32 0x7F800000#32
  let main_v10 : FVec F S8x2048x704 .f32 := broadcastInDim S8x2048x704 ![] bcast_S_S8x2048x704 main_cst_1
  let main_v11 : IVec S8x2048x704 1 := cmpf .olt main_v9 main_v10
  (main_v3, main_v7, main_v11)
-- ==== Pre_finite_inputs.lean ====
abbrev S2048x6144 : Shape := ⟨2, ![2048, 6144]⟩
abbrev S2048x1024 : Shape := ⟨2, ![2048, 1024]⟩
abbrev S2048x3072 : Shape := ⟨2, ![2048, 3072]⟩
abbrev S_ : Shape := ⟨0, ![]⟩

class Facts : Prop where
  slices_S2048x6144_S2048x3072_0_0 : S2048x6144.Slices ![0, 0] S2048x3072
  bitsLt_bf16_f32 : FTy.bits .bf16 < FTy.bits .f32
  bcast_S_S2048x3072 : S_.BroadcastsInDim S2048x3072 (![] : Fin 0 → Fin S2048x3072.rank)
  bcast_S_S2048x1024 : S_.BroadcastsInDim S2048x1024 (![] : Fin 0 → Fin S2048x1024.rank)

variable [Facts]

def fn {F : FTy → Type} [FloatOps F] (main_arg0 : FVec F S2048x6144 .bf16) (main_arg1 : FVec F S2048x1024 .bf16) : IVec S2048x3072 1 × IVec S2048x1024 1 :=
  let main_v0 : FVec F S2048x3072 .bf16 := (extractStridedSlice S2048x3072 ![0, 0] · slices_S2048x6144_S2048x3072_0_0) main_arg0
  let main_v1 : FVec F S2048x3072 .f32 := (extf .f32 · bitsLt_bf16_f32) main_v0
  let main_v2 : FVec F S2048x3072 .f32 := Host.absf main_v1
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  (main_v4, main_v8)
-- ==== Kernel.lean ====
abbrev S2048x6144 : Shape := ⟨2, ![2048, 6144]⟩
abbrev S2048x1024 : Shape := ⟨2, ![2048, 1024]⟩
abbrev S2048x3072 : Shape := ⟨2, ![2048, 3072]⟩
abbrev S2048x8x3x128 : Shape := ⟨4, ![2048, 8, 3, 128]⟩
abbrev S2048x8x1x128 : Shape := ⟨4, ![2048, 8, 1, 128]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x128 : Shape := ⟨2, ![2048, 128]⟩
abbrev S8x128 : Shape := ⟨2, ![8, 128]⟩
abbrev S256x128 : Shape := ⟨2, ![256, 128]⟩
abbrev S256x512 : Shape := ⟨2, ![256, 512]⟩
abbrev S2048x1536 : Shape := ⟨2, ![2048, 1536]⟩
abbrev S4x2048x128 : Shape := ⟨3, ![4, 2048, 128]⟩
abbrev S256 : Shape := ⟨1, ![256]⟩
abbrev S256x1 : Shape := ⟨2, ![256, 1]⟩
abbrev S256x256 : Shape := ⟨2, ![256, 256]⟩
abbrev S1x256x128 : Shape := ⟨3, ![1, 256, 128]⟩
abbrev S1x2048x128 : Shape := ⟨3, ![1, 2048, 128]⟩

abbrev nBuf : Space → Nat
  | .hbm => 52
  | .vmem => 32
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x3072, .bf16⟩
  | .hbm, ⟨3, _⟩ => ⟨S2048x3072, .f32⟩
  | .hbm, ⟨4, _⟩ => ⟨S2048x8x3x128, .f32⟩
  | .hbm, ⟨5, _⟩ => ⟨S2048x8x1x128, .f32⟩
  | .hbm, ⟨6, _⟩ => ⟨S2048x8x128, .f32⟩
  | .hbm, ⟨7, _⟩ => ⟨S2048x8x1x128, .f32⟩
  | .hbm, ⟨8, _⟩ => ⟨S2048x8x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S_, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S2048x8, .f32⟩
  | .hbm, ⟨45, _⟩ => ⟨S_, .i32⟩
  | .hbm, ⟨46, _⟩ => ⟨S_, .f32⟩
  | .hbm, ⟨47, _⟩ => ⟨S2048x128, .f32⟩
  | .hbm, ⟨48, _⟩ => ⟨S_, .f32⟩
  | .hbm, ⟨49, _⟩ => ⟨S8x128, .f32⟩
  | .hbm, ⟨50, _⟩ => ⟨S2048x6144, .bf16⟩
  | .hbm, ⟨51, _⟩ => ⟨S2048x3072, .bf16⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S256x128, .bf16⟩
  | .local _ .vmem, ⟨19, _⟩ => ⟨S256x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S256x512, .bf16⟩
  | .local _ .vmem, ⟨25, _⟩ => ⟨S256x512, .bf16⟩
  | .local _ .vmem, ⟨26, _⟩ => ⟨S256x128, .f32⟩
  | .local _ .vmem, ⟨27, _⟩ => ⟨S256x128, .f32⟩
  | .local _ .vmem, ⟨28, _⟩ => ⟨S2048x1536, .bf16⟩
  | .local _ .vmem, ⟨29, _⟩ => ⟨S2048x1536, .bf16⟩
  | .local _ .vmem, ⟨30, _⟩ => ⟨S4x2048x128, .f32⟩
  | .local _ .vmem, ⟨31, _⟩ => ⟨S4x2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_call2_v0 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_43 : BitVec 32 := 1#32
  ⟨c0_i32_41, v78, c1_i32_43⟩
def k0_mult1 (i : grid0.Coords) (k0_t1 : Fin (k0_t1_loop i).trips) : BitVec 32 :=
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  v401
def k0_off1 (i : grid0.Coords) (k0_t1 : Fin (k0_t1_loop i).trips) : Fin 2 → Nat :=
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  let v402 : BitVec 32 := v401
  let v403 : Index := Scalar.indexCast v402
  let c0_158 : Index := 0#32
  ![v403.toNat, 0]
def k0_off2 (i : grid0.Coords) (k0_t1 : Fin (k0_t1_loop i).trips) : Fin 3 → Nat :=
  let c0_210 : Index := 0#32
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  let v402 : BitVec 32 := v401
  let v587 : Index := Scalar.indexCast v402
  let c0_211 : Index := 0#32
  ![0, v587.toNat, 0]
def k0_off3 (i : grid0.Coords) (k0_t1 : Fin (k0_t1_loop i).trips) : Fin 3 → Nat :=
  let c1_220 : Index := 1#32
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  let v402 : BitVec 32 := v401
  let v606 : Index := Scalar.indexCast v402
  let c0_221 : Index := 0#32
  ![1, v606.toNat, 0]
def k0_off4 (i : grid0.Coords) (k0_t1 : Fin (k0_t1_loop i).trips) : Fin 3 → Nat :=
  let c2_230 : Index := 2#32
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  let v402 : BitVec 32 := v401
  let v625 : Index := Scalar.indexCast v402
  let c0_231 : Index := 0#32
  ![2, v625.toNat, 0]
def k0_off5 (i : grid0.Coords) (k0_t1 : Fin (k0_t1_loop i).trips) : Fin 3 → Nat :=
  let c3_240 : Index := 3#32
  let c0_i32_41 : BitVec 32 := 0#32
  let c1_i32_43 : BitVec 32 := 1#32
  let arg20 : BitVec 32 := Scf.iv c0_i32_41 c1_i32_43 k0_t1
  let c256_i32_157 : BitVec 32 := 256#32
  let v401 : BitVec 32 := Scalar.muli arg20 c256_i32_157
  let v402 : BitVec 32 := v401
  let v644 : Index := Scalar.indexCast v402
  let c0_241 : Index := 0#32
  ![3, v644.toNat, 0]
@[reducible] def k0_t2_loop (i : grid0.Coords) : Scf.Loop 32 :=
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let v75 : BitVec 32 := Scalar.addi c0_i32_41 v74
  let c1_i32_44 : BitVec 32 := 1#32
  ⟨v78, v75, c1_i32_44⟩
def k0_mult2 (i : grid0.Coords) (k0_t2 : Fin (k0_t2_loop i).trips) : BitVec 32 :=
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  v401
def k0_off6 (i : grid0.Coords) (k0_t2 : Fin (k0_t2_loop i).trips) : Fin 2 → Nat :=
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  let v402 : BitVec 32 := v401
  let v403 : Index := Scalar.indexCast v402
  let c0_158 : Index := 0#32
  ![v403.toNat, 0]
def k0_off7 (i : grid0.Coords) (k0_t2 : Fin (k0_t2_loop i).trips) : Fin 3 → Nat :=
  let c0_210 : Index := 0#32
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  let v402 : BitVec 32 := v401
  let v587 : Index := Scalar.indexCast v402
  let c0_211 : Index := 0#32
  ![0, v587.toNat, 0]
def k0_off8 (i : grid0.Coords) (k0_t2 : Fin (k0_t2_loop i).trips) : Fin 3 → Nat :=
  let c1_220 : Index := 1#32
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  let v402 : BitVec 32 := v401
  let v606 : Index := Scalar.indexCast v402
  let c0_221 : Index := 0#32
  ![1, v606.toNat, 0]
def k0_off9 (i : grid0.Coords) (k0_t2 : Fin (k0_t2_loop i).trips) : Fin 3 → Nat :=
  let c2_230 : Index := 2#32
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  let v402 : BitVec 32 := v401
  let v625 : Index := Scalar.indexCast v402
  let c0_231 : Index := 0#32
  ![2, v625.toNat, 0]
def k0_off10 (i : grid0.Coords) (k0_t2 : Fin (k0_t2_loop i).trips) : Fin 3 → Nat :=
  let c3_240 : Index := 3#32
  let c0_i32_41 : BitVec 32 := 0#32
  let arg1 : BitVec 32 := BitVec.ofNat 32 (i 1).val
  let v74 : BitVec 32 := Scalar.subi arg1 c0_i32_41
  let c1_i32_42 : BitVec 32 := 1#32
  let v76 : BitVec 32 := Scalar.divsi v74 c1_i32_42
  let v77 : BitVec 32 := Scalar.muli v76 c1_i32_42
  let v78 : BitVec 32 := Scalar.addi c0_i32_41 v77
  let c1_i32_44 : BitVec 32 := 1#32
  let arg20 : BitVec 32 := Scf.iv v78 c1_i32_44 k0_t2
  let c256_i32_157 : BitVec 32 := 256#32
  let v401 : BitVec 32 := Scalar.muli arg20 c256_i32_157
  let v402 : BitVec 32 := v401
  let v644 : Index := Scalar.indexCast v402
  let c0_241 : Index := 0#32
  ![3, v644.toNat, 0]
def k0_mult3 (i : grid0.Coords) : BitVec 32 :=
  let arg1 : BitVec 32 := BitVec.ofNat 32 (i 1).val
  let c256_i32 : BitVec 32 := 256#32
  let v84 : BitVec 32 := Scalar.muli arg1 c256_i32
  v84
def k0_off11 (i : grid0.Coords) : Fin 2 → Nat :=
  let arg1 : BitVec 32 := BitVec.ofNat 32 (i 1).val
  let c256_i32 : BitVec 32 := 256#32
  let v84 : BitVec 32 := Scalar.muli arg1 c256_i32
  let v85 : BitVec 32 := v84
  let v86 : Index := Scalar.indexCast v85
  let c0_45 : Index := 0#32
  ![v86.toNat, 0]
def k0_off12 (i : grid0.Coords) : Fin 3 → Nat :=
  let c0_109 : Index := 0#32
  let arg1 : BitVec 32 := BitVec.ofNat 32 (i 1).val
  let c256_i32 : BitVec 32 := 256#32
  let v84 : BitVec 32 := Scalar.muli arg1 c256_i32
  let v85 : BitVec 32 := v84
  let v294 : Index := Scalar.indexCast v85
  let c0_110 : Index := 0#32
  ![0, v294.toNat, 0]
def k0_off13 (i : grid0.Coords) : Fin 3 → Nat :=
  let c1 : Index := 1#32
  let arg1 : BitVec 32 := BitVec.ofNat 32 (i 1).val
  let c256_i32 : BitVec 32 := 256#32
  let v84 : BitVec 32 := Scalar.muli arg1 c256_i32
  let v85 : BitVec 32 := v84
  let v313 : Index := Scalar.indexCast v85
  let c0_119 : Index := 0#32
  ![1, v313.toNat, 0]
def k0_off14 (i : grid0.Coords) : Fin 3 → Nat :=
  let c2 : Index := 2#32
  let arg1 : BitVec 32 := BitVec.ofNat 32 (i 1).val
  let c256_i32 : BitVec 32 := 256#32
  let v84 : BitVec 32 := Scalar.muli arg1 c256_i32
  let v85 : BitVec 32 := v84
  let v332 : Index := Scalar.indexCast v85
  let c0_128 : Index := 0#32
  ![2, v332.toNat, 0]
def k0_off15 (i : grid0.Coords) : Fin 3 → Nat :=
  let c3 : Index := 3#32
  let arg1 : BitVec 32 := BitVec.ofNat 32 (i 1).val
  let c256_i32 : BitVec 32 := 256#32
  let v84 : BitVec 32 := Scalar.muli arg1 c256_i32
  let v85 : BitVec 32 := v84
  let v351 : Index := Scalar.indexCast v85
  let c0_137 : Index := 0#32
  ![3, v351.toNat, 0]
def k0_mult4 (i : grid0.Coords) : BitVec 32 :=
  let arg1 : BitVec 32 := BitVec.ofNat 32 (i 1).val
  let c256_i32_150 : BitVec 32 := 256#32
  let v379 : BitVec 32 := Scalar.muli arg1 c256_i32_150
  v379
def k0_off16 (i : grid0.Coords) : Fin 2 → Nat :=
  let arg1 : BitVec 32 := BitVec.ofNat 32 (i 1).val
  let c256_i32_150 : BitVec 32 := 256#32
  let v379 : BitVec 32 := Scalar.muli arg1 c256_i32_150
  let v380 : BitVec 32 := v379
  let v381 : Index := Scalar.indexCast v380
  let c0_151 : Index := 0#32
  ![v381.toNat, 0]
def k0_mult5 (i : grid0.Coords) : BitVec 32 :=
  let arg1 : BitVec 32 := BitVec.ofNat 32 (i 1).val
  let c256_i32_152 : BitVec 32 := 256#32
  let v384 : BitVec 32 := Scalar.muli arg1 c256_i32_152
  v384
def k0_off17 (i : grid0.Coords) : Fin 2 → Nat :=
  let arg1 : BitVec 32 := BitVec.ofNat 32 (i 1).val
  let c256_i32_152 : BitVec 32 := 256#32
  let v384 : BitVec 32 := Scalar.muli arg1 c256_i32_152
  let v385 : BitVec 32 := v384
  let v386 : Index := Scalar.indexCast v385
  let c384_153 : Index := 384#32
  ![v386.toNat, 384]
def k0_mult6 (i : grid0.Coords) : BitVec 32 :=
  let arg1 : BitVec 32 := BitVec.ofNat 32 (i 1).val
  let c256_i32_154 : BitVec 32 := 256#32
  let v389 : BitVec 32 := Scalar.muli arg1 c256_i32_154
  v389
def k0_off18 (i : grid0.Coords) : Fin 2 → Nat :=
  let arg1 : BitVec 32 := BitVec.ofNat 32 (i 1).val
  let c256_i32_154 : BitVec 32 := 256#32
  let v389 : BitVec 32 := Scalar.muli arg1 c256_i32_154
  let v390 : BitVec 32 := v389
  let v391 : Index := Scalar.indexCast v390
  let c768 : Index := 768#32
  ![v391.toNat, 768]
def k0_mult7 (i : grid0.Coords) : BitVec 32 :=
  let arg1 : BitVec 32 := BitVec.ofNat 32 (i 1).val
  let c256_i32_155 : BitVec 32 := 256#32
  let v394 : BitVec 32 := Scalar.muli arg1 c256_i32_155
  v394
def k0_off19 (i : grid0.Coords) : Fin 2 → Nat :=
  let arg1 : BitVec 32 := BitVec.ofNat 32 (i 1).val
  let c256_i32_155 : BitVec 32 := 256#32
  let v394 : BitVec 32 := Scalar.muli arg1 c256_i32_155
  let v395 : BitVec 32 := v394
  let v396 : Index := Scalar.indexCast v395
  let c1152 : Index := 1152#32
  ![v396.toNat, 1152]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c0_i32_0 : BitVec 32 := 0#32
  let v2 : BitVec 32 := Scalar.addi v1 c0_i32_0
  let c3_i32 : BitVec 32 := 3#32
  let v3 : BitVec 32 := Scalar.muli c3_i32 v2
  let c0_i32_1 : BitVec 32 := 0#32
  ![arg1.toNat, v3.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c0_i32_0 : BitVec 32 := 0#32
  let v2 : BitVec 32 := Scalar.addi v1 c0_i32_0
  let c3_i32 : BitVec 32 := 3#32
  let v3 : BitVec 32 := Scalar.muli c3_i32 v2
  let c1_i32 : BitVec 32 := 1#32
  let v4 : BitVec 32 := Scalar.addi v3 c1_i32
  let c0_i32_1 : BitVec 32 := 0#32
  let c0_i32_2 : BitVec 32 := 0#32
  ![c0_i32_1.toNat, v4.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c0_i32_0 : BitVec 32 := 0#32
  let v2 : BitVec 32 := Scalar.addi v1 c0_i32_0
  let c3_i32 : BitVec 32 := 3#32
  let v3 : BitVec 32 := Scalar.muli c3_i32 v2
  let c2_i32 : BitVec 32 := 2#32
  let v4 : BitVec 32 := Scalar.addi v3 c2_i32
  let c0_i32_1 : BitVec 32 := 0#32
  let c0_i32_2 : BitVec 32 := 0#32
  ![c0_i32_1.toNat, v4.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c1_i32 : BitVec 32 := 1#32
  let v2 : BitVec 32 := Scalar.addi v1 c1_i32
  let c3_i32 : BitVec 32 := 3#32
  let v3 : BitVec 32 := Scalar.muli c3_i32 v2
  let c0_i32_0 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c1_i32 : BitVec 32 := 1#32
  let v2 : BitVec 32 := Scalar.addi v1 c1_i32
  let c3_i32 : BitVec 32 := 3#32
  let v3 : BitVec 32 := Scalar.muli c3_i32 v2
  let c1_i32_0 : BitVec 32 := 1#32
  let v4 : BitVec 32 := Scalar.addi v3 c1_i32_0
  let c0_i32_1 : BitVec 32 := 0#32
  let c0_i32_2 : BitVec 32 := 0#32
  ![c0_i32_1.toNat, v4.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c1_i32 : BitVec 32 := 1#32
  let v2 : BitVec 32 := Scalar.addi v1 c1_i32
  let c3_i32 : BitVec 32 := 3#32
  let v3 : BitVec 32 := Scalar.muli c3_i32 v2
  let c2_i32 : BitVec 32 := 2#32
  let v4 : BitVec 32 := Scalar.addi v3 c2_i32
  let c0_i32_0 : BitVec 32 := 0#32
  let c0_i32_1 : BitVec 32 := 0#32
  ![c0_i32_0.toNat, v4.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c2_i32 : BitVec 32 := 2#32
  let v2 : BitVec 32 := Scalar.addi v1 c2_i32
  let c3_i32 : BitVec 32 := 3#32
  let v3 : BitVec 32 := Scalar.muli c3_i32 v2
  let c0_i32_0 : BitVec 32 := 0#32
  ![arg1.toNat, v3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c2_i32 : BitVec 32 := 2#32
  let v2 : BitVec 32 := Scalar.addi v1 c2_i32
  let c3_i32 : BitVec 32 := 3#32
  let v3 : BitVec 32 := Scalar.muli c3_i32 v2
  let c1_i32 : BitVec 32 := 1#32
  let v4 : BitVec 32 := Scalar.addi v3 c1_i32
  let c0_i32_0 : BitVec 32 := 0#32
  let c0_i32_1 : BitVec 32 := 0#32
  ![c0_i32_0.toNat, v4.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c2_i32 : BitVec 32 := 2#32
  let v2 : BitVec 32 := Scalar.addi v1 c2_i32
  let c3_i32 : BitVec 32 := 3#32
  let v3 : BitVec 32 := Scalar.muli c3_i32 v2
  let c2_i32_0 : BitVec 32 := 2#32
  let v4 : BitVec 32 := Scalar.addi v3 c2_i32_0
  let c0_i32_1 : BitVec 32 := 0#32
  let c0_i32_2 : BitVec 32 := 0#32
  ![c0_i32_1.toNat, v4.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c3_i32 : BitVec 32 := 3#32
  let v2 : BitVec 32 := Scalar.addi v1 c3_i32
  let c3_i32_0 : BitVec 32 := 3#32
  let v3 : BitVec 32 := Scalar.muli c3_i32_0 v2
  let c0_i32_1 : BitVec 32 := 0#32
  ![arg1.toNat, v3.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c3_i32 : BitVec 32 := 3#32
  let v2 : BitVec 32 := Scalar.addi v1 c3_i32
  let c3_i32_0 : BitVec 32 := 3#32
  let v3 : BitVec 32 := Scalar.muli c3_i32_0 v2
  let c1_i32 : BitVec 32 := 1#32
  let v4 : BitVec 32 := Scalar.addi v3 c1_i32
  let c0_i32_1 : BitVec 32 := 0#32
  let c0_i32_2 : BitVec 32 := 0#32
  ![c0_i32_1.toNat, v4.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi c0_i32 v0
  let c3_i32 : BitVec 32 := 3#32
  let v2 : BitVec 32 := Scalar.addi v1 c3_i32
  let c3_i32_0 : BitVec 32 := 3#32
  let v3 : BitVec 32 := Scalar.muli c3_i32_0 v2
  let c2_i32 : BitVec 32 := 2#32
  let v4 : BitVec 32 := Scalar.addi v3 c2_i32
  let c0_i32_1 : BitVec 32 := 0#32
  let c0_i32_2 : BitVec 32 := 0#32
  ![c0_i32_1.toNat, v4.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S2048x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S2048x6144 : Shape := ⟨2, ![2048, 6144]⟩
abbrev S2048x1024 : Shape := ⟨2, ![2048, 1024]⟩
abbrev S2048x16x3x128 : Shape := ⟨4, ![2048, 16, 3, 128]⟩
abbrev S3x16x2048x128 : Shape := ⟨4, ![3, 16, 2048, 128]⟩
abbrev S3x8x2048x128 : Shape := ⟨4, ![3, 8, 2048, 128]⟩
abbrev S2048x8x128 : Shape := ⟨3, ![2048, 8, 128]⟩
abbrev S8x2048x128 : Shape := ⟨3, ![8, 2048, 128]⟩
abbrev S1x8x2048x128 : Shape := ⟨4, ![1, 8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S2048x8x3x128 : Shape := ⟨4, ![2048, 8, 3, 128]⟩
abbrev S2048x3072 : Shape := ⟨2, ![2048, 3072]⟩

abbrev nBuf : Space → Nat
  | .hbm => 179
  | .vmem => 0
  | .smem => 0
  | _ => 0

abbrev hbmTy0_0 (i : Nat) : BufTy := match i % 128 with
  | 0 => ⟨S2048x6144, .bf16⟩
  | 1 => ⟨S2048x1024, .bf16⟩
  | 2 => ⟨S2048x6144, .f32⟩
  | 3 => ⟨S2048x16x3x128, .f32⟩
  | 4 => ⟨S3x16x2048x128, .f32⟩
  | 5 => ⟨S3x8x2048x128, .f32⟩
  | 6 => ⟨S2048x1024, .f32⟩
  | 7 => ⟨S2048x8x128, .f32⟩
  | 8 => ⟨S8x2048x128, .f32⟩
  | 9 => ⟨S1x8x2048x128, .f32⟩
  | 10 => ⟨S8x2048x128, .f32⟩
  | 11 => ⟨S1x8x2048x128, .f32⟩
  | 12 => ⟨S8x2048x128, .f32⟩
  | 13 => ⟨S1x8x2048x128, .f32⟩
  | 14 => ⟨S8x2048x128, .f32⟩
  | 15 => ⟨S8x2048x2048, .f32⟩
  | 16 => ⟨S_, .f32⟩
  | 17 => ⟨S8x2048x2048, .f32⟩
  | 18 => ⟨S8x2048x2048, .f32⟩
  | 19 => ⟨S2048, .i32⟩
  | 20 => ⟨S1x2048, .i32⟩
  | 21 => ⟨S2048, .i32⟩
  | 22 => ⟨S2048x1, .i32⟩
  | 23 => ⟨S2048x2048, .i32⟩
  | 24 => ⟨S2048x2048, .i32⟩
  | 25 => ⟨S2048x2048, .i1⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .i1⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S_, .f32⟩
  | 43 => ⟨S8x2048x2048, .f32⟩
  | 44 => ⟨S8x2048x2048, .i1⟩
  | 45 => ⟨S_, .f32⟩
  | 46 => ⟨S8x2048x2048, .f32⟩
  | 47 => ⟨S8x2048x2048, .f32⟩
  | 48 => ⟨S_, .f32⟩
  | 49 => ⟨S8x2048x2048, .f32⟩
  | 50 => ⟨S8x2048x2048, .i1⟩
  | 51 => ⟨S_, .f32⟩
  | 52 => ⟨S8x2048x2048, .f32⟩
  | 53 => ⟨S8x2048x2048, .f32⟩
  | 54 => ⟨S8x2048x2048, .f32⟩
  | 55 => ⟨S8x2048x2048, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S8x2048x2048, .f32⟩
  | 64 => ⟨S8x2048x2048, .i1⟩
  | 65 => ⟨S_, .f32⟩
  | 66 => ⟨S8x2048x2048, .f32⟩
  | 67 => ⟨S8x2048x2048, .f32⟩
  | 68 => ⟨S8x2048x2048, .f32⟩
  | 69 => ⟨S8x2048x2048, .f32⟩
  | 70 => ⟨S8x2048x2048, .f32⟩
  | 71 => ⟨S_, .f32⟩
  | 72 => ⟨S8x2048x2048, .f32⟩
  | 73 => ⟨S8x2048x2048, .f32⟩
  | 74 => ⟨S8x2048x2048, .f32⟩
  | 75 => ⟨S_, .f32⟩
  | 76 => ⟨S_, .f32⟩
  | 77 => ⟨S8x2048x2048, .i1⟩
  | 78 => ⟨S8x2048x2048, .f32⟩
  | 79 => ⟨S8x2048x2048, .f32⟩
  | 80 => ⟨S_, .f32⟩
  | 81 => ⟨S8x2048x2048, .f32⟩
  | 82 => ⟨S_, .f32⟩
  | 83 => ⟨S_, .f32⟩
  | 84 => ⟨S8x2048x2048, .f32⟩
  | 85 => ⟨S8x2048x2048, .f32⟩
  | 86 => ⟨S8x2048x2048, .f32⟩
  | 87 => ⟨S_, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .i1⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S8x2048x2048, .f32⟩
  | 100 => ⟨S8x2048x2048, .f32⟩
  | 101 => ⟨S_, .f32⟩
  | 102 => ⟨S8x2048x2048, .f32⟩
  | 103 => ⟨S8x2048x2048, .i1⟩
  | 104 => ⟨S_, .f32⟩
  | 105 => ⟨S8x2048x2048, .f32⟩
  | 106 => ⟨S8x2048x2048, .f32⟩
  | 107 => ⟨S_, .f32⟩
  | 108 => ⟨S8x2048x2048, .f32⟩
  | 109 => ⟨S8x2048x2048, .i1⟩
  | 110 => ⟨S_, .f32⟩
  | 111 => ⟨S8x2048x2048, .f32⟩
  | 112 => ⟨S8x2048x2048, .f32⟩
  | 113 => ⟨S8x2048x2048, .f32⟩
  | 114 => ⟨S8x2048x2048, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S8x2048x2048, .f32⟩
  | 123 => ⟨S8x2048x2048, .i1⟩
  | 124 => ⟨S_, .f32⟩
  | 125 => ⟨S8x2048x2048, .f32⟩
  | 126 => ⟨S8x2048x2048, .f32⟩
  | 127 => ⟨S8x2048x2048, .f32⟩
  | _ => ⟨S2048x6144, .bf16⟩

abbrev hbmTy0_1 (i : Nat) : BufTy := match i % 128 with
  | 0 => ⟨S8x2048x2048, .f32⟩
  | 1 => ⟨S8x2048x2048, .f32⟩
  | 2 => ⟨S_, .f32⟩
  | 3 => ⟨S8x2048x2048, .f32⟩
  | 4 => ⟨S8x2048x2048, .f32⟩
  | 5 => ⟨S8x2048x2048, .f32⟩
  | 6 => ⟨S8x2048x2048, .f32⟩
  | 7 => ⟨S8x2048x2048, .f32⟩
  | 8 => ⟨S_, .f32⟩
  | 9 => ⟨S_, .f32⟩
  | 10 => ⟨S8x2048x2048, .i1⟩
  | 11 => ⟨S8x2048x2048, .f32⟩
  | 12 => ⟨S8x2048x2048, .f32⟩
  | 13 => ⟨S_, .f32⟩
  | 14 => ⟨S8x2048x2048, .f32⟩
  | 15 => ⟨S8x2048x128, .f32⟩
  | 16 => ⟨S8x128x2048, .f32⟩
  | 17 => ⟨S8x2048x128, .f32⟩
  | 18 => ⟨S8x2048x2048, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S_, .f32⟩
  | 28 => ⟨S_, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .f32⟩
  | 42 => ⟨S8x2048x128, .f32⟩
  | 43 => ⟨S8x2048x128, .f32⟩
  | 44 => ⟨S1x8x2048x128, .f32⟩
  | 45 => ⟨S1x8x2048x128, .f32⟩
  | 46 => ⟨S1x8x2048x128, .f32⟩
  | 47 => ⟨S3x8x2048x128, .f32⟩
  | 48 => ⟨S2048x8x3x128, .f32⟩
  | 49 => ⟨S2048x3072, .f32⟩
  | 50 => ⟨S2048x3072, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v24_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v24_2 : Ref sig .tc := ⟨.hbm, 73, rfl⟩
abbrev main_v24_0 : Ref sig .tc := ⟨.hbm, 74, rfl⟩
abbrev main_cst_0 : Ref sig .tc := ⟨.hbm, 75, rfl⟩
abbrev main_call1_v0 : Ref sig .tc := ⟨.hbm, 76, rfl⟩
abbrev main_v25_1 : Ref sig .tc := ⟨.hbm, 77, rfl⟩
abbrev main_call1_v2 : Ref sig .tc := ⟨.hbm, 78, rfl⟩
abbrev main_v25_0 : Ref sig .tc := ⟨.hbm, 79, rfl⟩
abbrev main_call1_cst : Ref sig .tc := ⟨.hbm, 80, rfl⟩
abbrev main_v25_2 : Ref sig .tc := ⟨.hbm, 81, rfl⟩
abbrev main_call2_cst : Ref sig .tc := ⟨.hbm, 82, rfl⟩
abbrev main_call2_v0 : Ref sig .tc := ⟨.hbm, 83, rfl⟩
abbrev main_v26 : Ref sig .tc := ⟨.hbm, 84, rfl⟩
abbrev main_v27 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v28_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v28_2 : Ref sig .tc := ⟨.hbm, 132, rfl⟩
abbrev main_v28_0 : Ref sig .tc := ⟨.hbm, 133, rfl⟩
abbrev main_v29 : Ref sig .tc := ⟨.hbm, 134, rfl⟩
abbrev main_v30 : Ref sig .tc := ⟨.hbm, 135, rfl⟩
abbrev main_cst_1 : Ref sig .tc := ⟨.hbm, 136, rfl⟩
abbrev main_call4_v0 : Ref sig .tc := ⟨.hbm, 137, rfl⟩
abbrev main_v31_1 : Ref sig .tc := ⟨.hbm, 138, rfl⟩
abbrev main_call4_v2 : Ref sig .tc := ⟨.hbm, 139, rfl⟩
abbrev main_v31_0 : Ref sig .tc := ⟨.hbm, 140, rfl⟩
abbrev main_call4_cst : Ref sig .tc := ⟨.hbm, 141, rfl⟩
abbrev main_v31_2 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_call6_v0 : Ref sig .tc := ⟨.hbm, 151, rfl⟩
abbrev main_call6_v1 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== Kernel2.lean ====
abbrev S2048x2048 : Shape := ⟨2, ![2048, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x2048 : Shape := ⟨2, ![2048, 2048]⟩
abbrev S8x704x2048 : Shape := ⟨3, ![8, 704, 2048]⟩
abbrev S8x2048x704 : Shape := ⟨3, ![8, 2048, 704]⟩
abbrev S5632x2048 : Shape := ⟨2, ![5632, 2048]⟩
abbrev S2048x8x704 : Shape := ⟨3, ![2048, 8, 704]⟩
abbrev S2048x5632 : Shape := ⟨2, ![2048, 5632]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x704x2048, .f32⟩
  | .hbm, ⟨5, _⟩ => ⟨S5632x2048, .f32⟩
  | .hbm, ⟨6, _⟩ => ⟨S8x2048x704, .f32⟩
  | .hbm, ⟨7, _⟩ => ⟨S2048x8x704, .f32⟩
  | .hbm, ⟨8, _⟩ => ⟨S2048x5632, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S_, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x8x704, .f32⟩
  | .hbm, ⟨36, _⟩ => ⟨S8x2048x704, .f32⟩
  | .hbm, ⟨37, _⟩ => ⟨S8x2048x704, .bf16⟩
  | .hbm, ⟨38, _⟩ => ⟨S2048x8x704, .f32⟩
  | .hbm, ⟨39, _⟩ => ⟨S8x2048x704, .f32⟩
  | .hbm, ⟨40, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S8x2048x704 : Shape := ⟨3, ![8, 2048, 704]⟩
abbrev S_ : Shape := ⟨0, ![]⟩
abbrev S8x128 : Shape := ⟨2, ![8, 128]⟩
abbrev S2048x2048 : Shape := ⟨2, ![2048, 2048]⟩
abbrev S1x1024x704 : Shape := ⟨3, ![1, 1024, 704]⟩
abbrev S1x2048x704 : Shape := ⟨3, ![1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S_, .f32⟩
  | .hbm, ⟨5, _⟩ => ⟨S8x128, .f32⟩
  | .hbm, ⟨6, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S_, .f32⟩
  | .hbm, ⟨11, _⟩ => ⟨S2048x2048, .f32⟩
  | .hbm, ⟨12, _⟩ => ⟨S2048x5632, .f32⟩
  | .hbm, ⟨13, _⟩ => ⟨S2048x5632, .f32⟩
  | .hbm, ⟨14, _⟩ => ⟨S8x2048x704, .f32⟩
  | .hbm, ⟨15, _⟩ => ⟨S2048x8x704, .f32⟩
  | .hbm, ⟨16, _⟩ => ⟨S2048x5632, .f32⟩
  | .hbm, ⟨17, _⟩ => ⟨S8x2048x704, .f32⟩
  | .hbm, ⟨18, _⟩ => ⟨S2048x8x704, .f32⟩
  | .hbm, ⟨19, _⟩ => ⟨S2048x5632, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S2048x2048 : Shape := ⟨2, ![2048, 2048]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S2048x2048, .f32⟩
  | .hbm, ⟨3, _⟩ => ⟨S2048x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S2048x5632, .f32⟩
  | .hbm, ⟨12, _⟩ => ⟨S2048x8x704, .f32⟩
  | .hbm, ⟨13, _⟩ => ⟨S8x2048x704, .f32⟩
  | .hbm, ⟨14, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S8x704x2048 : Shape := ⟨3, ![8, 704, 2048]⟩
abbrev S2048x2048 : Shape := ⟨2, ![2048, 2048]⟩
abbrev S1x704x2048 : Shape := ⟨3, ![1, 704, 2048]⟩
abbrev S2048x1024 : Shape := ⟨2, ![2048, 1024]⟩
abbrev S1x704x1024 : Shape := ⟨3, ![1, 704, 1024]⟩
abbrev S704x2048 : Shape := ⟨2, ![704, 2048]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x704x2048, .bf16⟩
  | .hbm, ⟨1, _⟩ => ⟨S2048x2048, .bf16⟩
  | .hbm, ⟨2, _⟩ => ⟨S8x704x2048, .bf16⟩
  | .local _ .vmem, ⟨0, _⟩ => ⟨S1x704x2048, .bf16⟩
  | .local _ .vmem, ⟨1, _⟩ => ⟨S1x704x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8x704x2048 : Shape := ⟨3, ![8, 704, 2048]⟩
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S2048x2048, .bf16⟩
  | .hbm, ⟨2, _⟩ => ⟨S8x704x2048, .f32⟩
  | .hbm, ⟨3, _⟩ => ⟨S5632x2048, .f32⟩
  | .hbm, ⟨4, _⟩ => ⟨S2048x5632, .f32⟩
  | .hbm, ⟨5, _⟩ => ⟨S_, .f32⟩
  | .hbm, ⟨6, _⟩ => ⟨S5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S5632x2048, .f32⟩
  | .hbm, ⟨11, _⟩ => ⟨S8x704x2048, .f32⟩
  | .hbm, ⟨12, _⟩ => ⟨S8x704x2048, .bf16⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S2048x2048 : Shape := ⟨2, ![2048, 2048]⟩
abbrev S8x2048x704 : Shape := ⟨3, ![8, 2048, 704]⟩
abbrev S_ : Shape := ⟨0, ![]⟩
abbrev S8x128 : Shape := ⟨2, ![8, 128]⟩
abbrev S8x704x2048 : Shape := ⟨3, ![8, 704, 2048]⟩
abbrev S1024x2048 : Shape := ⟨2, ![1024, 2048]⟩
abbrev S1x2048x704 : Shape := ⟨3, ![1, 2048, 704]⟩
abbrev S1x1024x704 : Shape := ⟨3, ![1, 1024, 704]⟩
abbrev S1x704x1024 : Shape := ⟨3, ![1, 704, 1024]⟩
abbrev S512x2048 : Shape := ⟨2, ![512, 2048]⟩
abbrev S2048x704 : Shape := ⟨2, ![2048, 704]⟩
abbrev S512x704 : Shape := ⟨2, ![512, 704]⟩
abbrev S1x512x704 : Shape := ⟨3, ![1, 512, 704]⟩
abbrev S704x512 : Shape := ⟨2, ![704, 512]⟩
abbrev S1x704x512 : Shape := ⟨3, ![1, 704, 512]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S_, .f32⟩
  | .hbm, ⟨4, _⟩ => ⟨S8x128, .f32⟩
  | .hbm, ⟨5, _⟩ => ⟨S8x2048x704, .bf16⟩
  | .hbm, ⟨6, _⟩ => ⟨S8x2048x704, .bf16⟩
  | .hbm, ⟨7, _⟩ => ⟨S8x2048x704, .bf16⟩
  | .hbm, ⟨8, _⟩ => ⟨S8x704x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .bf16⟩
  | .local _ .vmem, ⟨13, _⟩ => ⟨S1x704x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2048x2048 : Shape := ⟨2, ![2048, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S8x704x2048 : Shape := ⟨3, ![8, 704, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S2048x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x8x704, .f32⟩
  | .hbm, ⟨23, _⟩ => ⟨S8x2048x704, .f32⟩
  | .hbm, ⟨24, _⟩ => ⟨S8x2048x704, .bf16⟩
  | .hbm, ⟨25, _⟩ => ⟨S2048x8x704, .f32⟩
  | .hbm, ⟨26, _⟩ => ⟨S8x2048x704, .f32⟩
  | .hbm, ⟨27, _⟩ => ⟨S8x2048x704, .bf16⟩
  | .hbm, ⟨28, _⟩ => ⟨S2048x8x704, .f32⟩
  | .hbm, ⟨29, _⟩ => ⟨S8x2048x704, .f32⟩
  | .hbm, ⟨30, _⟩ => ⟨S8x2048x704, .bf16⟩
  | .hbm, ⟨31, _⟩ => ⟨S8x704x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel7.lean ====
abbrev S8x2048x704 : Shape := ⟨3, ![8, 2048, 704]⟩
abbrev S8x704x2048 : Shape := ⟨3, ![8, 704, 2048]⟩
abbrev S2048x2048 : Shape := ⟨2, ![2048, 2048]⟩
abbrev S1x1024x704 : Shape := ⟨3, ![1, 1024, 704]⟩
abbrev S1x704x2048 : Shape := ⟨3, ![1, 704, 2048]⟩
abbrev S1024x2048 : Shape := ⟨2, ![1024, 2048]⟩
abbrev S1024x704 : Shape := ⟨2, ![1024, 704]⟩
abbrev S704x2048 : Shape := ⟨2, ![704, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8x2048x704 : Shape := ⟨3, ![8, 2048, 704]⟩
abbrev S8x704x2048 : Shape := ⟨3, ![8, 704, 2048]⟩
abbrev S2048x8x704 : Shape := ⟨3, ![2048, 8, 704]⟩
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S8x2048x704, .f32⟩
  | .hbm, ⟨3, _⟩ => ⟨S2048x8x704, .f32⟩
  | .hbm, ⟨4, _⟩ => ⟨S2048x5632, .f32⟩
  | .hbm, ⟨5, _⟩ => ⟨S8x704x2048, .f32⟩
  | .hbm, ⟨6, _⟩ => ⟨S5632x2048, .f32⟩
  | .hbm, ⟨7, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S2048x4608 : Shape := ⟨2, ![2048, 4608]⟩
abbrev S_ : Shape := ⟨0, ![]⟩
abbrev S8x128 : Shape := ⟨2, ![8, 128]⟩
abbrev S1024x2048 : Shape := ⟨2, ![1024, 2048]⟩
abbrev S256x2048 : Shape := ⟨2, ![256, 2048]⟩
abbrev S1024x512 : Shape := ⟨2, ![1024, 512]⟩
abbrev S1024x256 : Shape := ⟨2, ![1024, 256]⟩
abbrev S2048x4096 : Shape := ⟨2, ![2048, 4096]⟩

abbrev nBuf : Space → Nat
  | .hbm => 11
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4608, .f32⟩
  | .hbm, ⟨3, _⟩ => ⟨S2048x2048, .bf16⟩
  | .hbm, ⟨4, _⟩ => ⟨S2048x2048, .bf16⟩
  | .hbm, ⟨5, _⟩ => ⟨S_, .f32⟩
  | .hbm, ⟨6, _⟩ => ⟨S8x128, .f32⟩
  | .hbm, ⟨7, _⟩ => ⟨S2048x2048, .bf16⟩
  | .hbm, ⟨8, _⟩ => ⟨S2048x2048, .bf16⟩
  | .hbm, ⟨9, _⟩ => ⟨S2048x4608, .bf16⟩
  | .hbm, ⟨10, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x512, .f32⟩
  | .local _ .vmem, ⟨5, _⟩ => ⟨S1024x512, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x512, .bf16⟩
  | .local _ .vmem, ⟨15, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference8Ideal.lean ====
abbrev S2048x2048 : Shape := ⟨2, ![2048, 2048]⟩
abbrev S2048x4608 : Shape := ⟨2, ![2048, 4608]⟩
abbrev S2048x4096 : Shape := ⟨2, ![2048, 4096]⟩
abbrev S2048x8x2x256 : Shape := ⟨4, ![2048, 8, 2, 256]⟩
abbrev S2048x8x1x256 : Shape := ⟨4, ![2048, 8, 1, 256]⟩
abbrev S2048x8x256 : Shape := ⟨3, ![2048, 8, 256]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x4608, .f32⟩
  | .hbm, ⟨3, _⟩ => ⟨S2048x2048, .bf16⟩
  | .hbm, ⟨4, _⟩ => ⟨S2048x2048, .bf16⟩
  | .hbm, ⟨5, _⟩ => ⟨S2048x4096, .f32⟩
  | .hbm, ⟨6, _⟩ => ⟨S2048x8x2x256, .f32⟩
  | .hbm, ⟨7, _⟩ => ⟨S2048x8x1x256, .f32⟩
  | .hbm, ⟨8, _⟩ => ⟨S2048x8x256, .f32⟩
  | .hbm, ⟨9, _⟩ => ⟨S2048x2048, .f32⟩
  | .hbm, ⟨10, _⟩ => ⟨S2048x8x1x256, .f32⟩
  | .hbm, ⟨11, _⟩ => ⟨S2048x8x256, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x8x256, .f32⟩
  | .hbm, ⟨53, _⟩ => ⟨S2048x8x256, .f32⟩
  | .hbm, ⟨54, _⟩ => ⟨S2048x2048, .bf16⟩
  | .hbm, ⟨55, _⟩ => ⟨S2048x2048, .bf16⟩
  | .hbm, ⟨56, _⟩ => ⟨S2048x8x1x256, .f32⟩
  | .hbm, ⟨57, _⟩ => ⟨S2048x8x1x256, .f32⟩
  | .hbm, ⟨58, _⟩ => ⟨S2048x8x2x256, .f32⟩
  | .hbm, ⟨59, _⟩ => ⟨S2048x4096, .f32⟩
  | .hbm, ⟨60, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel9.lean ====
abbrev S2048x2048 : Shape := ⟨2, ![2048, 2048]⟩
abbrev S2048x6144 : Shape := ⟨2, ![2048, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x6144 : Shape := ⟨2, ![2048, 6144]⟩
abbrev S_ : Shape := ⟨0, ![]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x6144, .f32⟩
  | .hbm, ⟨6, _⟩ => ⟨S2048x6144, .f32⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x2048 : Shape := ⟨2, ![2048, 2048]⟩
abbrev S2048x4608 : Shape := ⟨2, ![2048, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x4608 : Shape := ⟨2, ![2048, 4608]⟩
abbrev S_ : Shape := ⟨0, ![]⟩
abbrev S4608x2048 : Shape := ⟨2, ![4608, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x4608, .f32⟩
  | .hbm, ⟨6, _⟩ => ⟨S2048x4608, .f32⟩
  | .hbm, ⟨7, _⟩ => ⟨S2048x4608, .f32⟩
  | .hbm, ⟨8, _⟩ => ⟨S4608x2048, .f32⟩
  | .hbm, ⟨9, _⟩ => ⟨S2048x4608, .f32⟩
  | .hbm, ⟨10, _⟩ => ⟨S2048x4608, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S2048x6144 : Shape := ⟨2, ![2048, 6144]⟩
abbrev S2048x10752 : Shape := ⟨2, ![2048, 10752]⟩
abbrev S_ : Shape := ⟨0, ![]⟩
abbrev S8x128 : Shape := ⟨2, ![8, 128]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S2048x10752, .bf16⟩
  | .hbm, ⟨2, _⟩ => ⟨S_, .f32⟩
  | .hbm, ⟨3, _⟩ => ⟨S8x128, .f32⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x6144 : Shape := ⟨2, ![2048, 6144]⟩
abbrev S2048x10752 : Shape := ⟨2, ![2048, 10752]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x10752, .bf16⟩
  | .hbm, ⟨2, _⟩ => ⟨S2048x6144, .bf16⟩
  | .hbm, ⟨3, _⟩ => ⟨S2048x6144, .f32⟩
  | .hbm, ⟨4, _⟩ => ⟨S_, .f32⟩
  | .hbm, ⟨5, _⟩ => ⟨S2048x2048, .f32⟩
  | .hbm, ⟨6, _⟩ => ⟨S2048x6144, .f32⟩
  | .hbm, ⟨7, _⟩ => ⟨S2048x6144, .f32⟩
  | .hbm, ⟨8, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x2048 : Shape := ⟨2, ![2048, 2048]⟩
abbrev S2048x4608 : Shape := ⟨2, ![2048, 4608]⟩
abbrev S2048x10752 : Shape := ⟨2, ![2048, 10752]⟩
abbrev S_ : Shape := ⟨0, ![]⟩
abbrev S8x128 : Shape := ⟨2, ![8, 128]⟩
abbrev S1024x1536 : Shape := ⟨2, ![1024, 1536]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x4608, .bf16⟩
  | .hbm, ⟨2, _⟩ => ⟨S2048x10752, .bf16⟩
  | .hbm, ⟨3, _⟩ => ⟨S_, .f32⟩
  | .hbm, ⟨4, _⟩ => ⟨S8x128, .f32⟩
  | .hbm, ⟨5, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2048 : Shape := ⟨2, ![2048, 2048]⟩
abbrev S2048x4608 : Shape := ⟨2, ![2048, 4608]⟩
abbrev S2048x10752 : Shape := ⟨2, ![2048, 10752]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4608, .bf16⟩
  | .hbm, ⟨2, _⟩ => ⟨S2048x10752, .bf16⟩
  | .hbm, ⟨3, _⟩ => ⟨S2048x4608, .bf16⟩
  | .hbm, ⟨4, _⟩ => ⟨S2048x4608, .f32⟩
  | .hbm, ⟨5, _⟩ => ⟨S_, .f32⟩
  | .hbm, ⟨6, _⟩ => ⟨S2048x2048, .f32⟩
  | .hbm, ⟨7, _⟩ => ⟨S2048x4608, .f32⟩
  | .hbm, ⟨8, _⟩ => ⟨S2048x4608, .f32⟩
  | .hbm, ⟨9, _⟩ => ⟨S2048x2048, .f32⟩
  | .hbm, ⟨10, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S2048x2048 : Shape := ⟨2, ![2048, 2048]⟩
abbrev S8x1024x256 : Shape := ⟨3, ![8, 1024, 256]⟩
abbrev S2048x1024 : Shape := ⟨2, ![2048, 1024]⟩
abbrev S1024x256 : Shape := ⟨2, ![1024, 256]⟩
abbrev S1x1024x256 : Shape := ⟨3, ![1, 1024, 256]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S8x1024x256, .f32⟩
  | .hbm, ⟨3, _⟩ => ⟨S1024x8x256, .f32⟩
  | .hbm, ⟨4, _⟩ => ⟨S1024x2048, .f32⟩
  | .hbm, ⟨5, _⟩ => ⟨S_, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S1024x2048 : Shape := ⟨2, ![1024, 2048]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S8x1024x256, .bf16⟩
  | .local _ .vmem, ⟨0, _⟩ => ⟨S1024x2048, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S1024x2048 : Shape := ⟨2, ![1024, 2048]⟩
abbrev S2048x2048 : Shape := ⟨2, ![2048, 2048]⟩
abbrev S2048x1024 : Shape := ⟨2, ![2048, 1024]⟩
abbrev S_ : Shape := ⟨0, ![]⟩
abbrev S1024x8x256 : Shape := ⟨3, ![1024, 8, 256]⟩
abbrev S8x1024x256 : Shape := ⟨3, ![8, 1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S1024x8x256, .f32⟩
  | .hbm, ⟨11, _⟩ => ⟨S8x1024x256, .f32⟩
  | .hbm, ⟨12, _⟩ => ⟨S8x1024x256, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S2048x2048 : Shape := ⟨2, ![2048, 2048]⟩
abbrev S2048x10752 : Shape := ⟨2, ![2048, 10752]⟩
abbrev S2048x6144 : Shape := ⟨2, ![2048, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S2048x10752 : Shape := ⟨2, ![2048, 10752]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x6144, .bf16⟩
  | .hbm, ⟨4, _⟩ => ⟨S2048x6144, .f32⟩
  | .hbm, ⟨5, _⟩ => ⟨S2048x6144, .f32⟩
  | .hbm, ⟨6, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S2048x2048 : Shape := ⟨2, ![2048, 2048]⟩
abbrev S2048x10752 : Shape := ⟨2, ![2048, 10752]⟩
abbrev S2048x4608 : Shape := ⟨2, ![2048, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S2048x10752 : Shape := ⟨2, ![2048, 10752]⟩
abbrev S2048x4608 : Shape := ⟨2, ![2048, 4608]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10752, .bf16⟩
  | .hbm, ⟨2, _⟩ => ⟨S2048x2048, .f32⟩
  | .hbm, ⟨3, _⟩ => ⟨S2048x4608, .bf16⟩
  | .hbm, ⟨4, _⟩ => ⟨S2048x4608, .f32⟩
  | .hbm, ⟨5, _⟩ => ⟨S2048x4608, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2048x2048 : Shape := ⟨2, ![2048, 2048]⟩
abbrev S_ : Shape := ⟨0, ![]⟩
abbrev S8x128 : Shape := ⟨2, ![8, 128]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S8x128, .f32⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x1024 : Shape := ⟨2, ![2048, 1024]⟩
abbrev S8x1024x256 : Shape := ⟨3, ![8, 1024, 256]⟩
abbrev S2048x4608 : Shape := ⟨2, ![2048, 4608]⟩
abbrev S_ : Shape := ⟨0, ![]⟩
abbrev S8x128 : Shape := ⟨2, ![8, 128]⟩
abbrev S2048x2048 : Shape := ⟨2, ![2048, 2048]⟩
abbrev S1024x1024 : Shape := ⟨2, ![1024, 1024]⟩
abbrev S1x1024x256 : Shape := ⟨3, ![1, 1024, 256]⟩
abbrev S1024x512 : Shape := ⟨2, ![1024, 512]⟩
abbrev S1024x256 : Shape := ⟨2, ![1024, 256]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x4608, .f32⟩
  | .hbm, ⟨5, _⟩ => ⟨S_, .f32⟩
  | .hbm, ⟨6, _⟩ => ⟨S8x128, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x512, .f32⟩
  | .local _ .vmem, ⟨9, _⟩ => ⟨S1024x512, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S2048x1024 : Shape := ⟨2, ![2048, 1024]⟩
abbrev S8x1024x256 : Shape := ⟨3, ![8, 1024, 256]⟩
abbrev S2048x4608 : Shape := ⟨2, ![2048, 4608]⟩
abbrev S1024x8x256 : Shape := ⟨3, ![1024, 8, 256]⟩
abbrev S1024x2048 : Shape := ⟨2, ![1024, 2048]⟩
abbrev S2048x2048 : Shape := ⟨2, ![2048, 2048]⟩
abbrev S2048x4096 : Shape := ⟨2, ![2048, 4096]⟩
abbrev S2048x8x2x256 : Shape := ⟨4, ![2048, 8, 2, 256]⟩
abbrev S2048x8x1x256 : Shape := ⟨4, ![2048, 8, 1, 256]⟩
abbrev S2048x8x256 : Shape := ⟨3, ![2048, 8, 256]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S8x1024x256, .bf16⟩
  | .hbm, ⟨4, _⟩ => ⟨S2048x4608, .f32⟩
  | .hbm, ⟨5, _⟩ => ⟨S2048x1024, .f32⟩
  | .hbm, ⟨6, _⟩ => ⟨S8x1024x256, .f32⟩
  | .hbm, ⟨7, _⟩ => ⟨S1024x8x256, .f32⟩
  | .hbm, ⟨8, _⟩ => ⟨S1024x2048, .f32⟩
  | .hbm, ⟨9, _⟩ => ⟨S2048x2048, .f32⟩
  | .hbm, ⟨10, _⟩ => ⟨S2048x1024, .f32⟩
  | .hbm, ⟨11, _⟩ => ⟨S8x1024x256, .f32⟩
  | .hbm, ⟨12, _⟩ => ⟨S1024x8x256, .f32⟩
  | .hbm, ⟨13, _⟩ => ⟨S1024x2048, .f32⟩
  | .hbm, ⟨14, _⟩ => ⟨S2048x2048, .f32⟩
  | .hbm, ⟨15, _⟩ => ⟨S2048x4096, .f32⟩
  | .hbm, ⟨16, _⟩ => ⟨S2048x8x2x256, .f32⟩
  | .hbm, ⟨17, _⟩ => ⟨S2048x8x1x256, .f32⟩
  | .hbm, ⟨18, _⟩ => ⟨S2048x8x256, .f32⟩
  | .hbm, ⟨19, _⟩ => ⟨S2048x2048, .f32⟩
  | .hbm, ⟨20, _⟩ => ⟨S2048x8x1x256, .f32⟩
  | .hbm, ⟨21, _⟩ => ⟨S2048x8x256, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel21.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Kernel22.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x128, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference22Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S1x128, .f32⟩
  | .hbm, ⟨71, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel23.lean ====
abbrev S2048x2048 : Shape := ⟨2, ![2048, 2048]⟩
abbrev S1x2048 : Shape := ⟨2, ![1, 2048]⟩
abbrev S_ : Shape := ⟨0, ![]⟩
abbrev S8x128 : Shape := ⟨2, ![8, 128]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S_, .f32⟩
  | .hbm, ⟨3, _⟩ => ⟨S8x128, .f32⟩
  | .hbm, ⟨4, _⟩ => ⟨S2048x2048, .bf16⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel24.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S2048x256, .bf16⟩
  | .local _ .vmem, ⟨11, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .bf16⟩
  | .hbm, ⟨36, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel25.lean ====
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S1x1024x256, .f32⟩
  | .hbm, ⟨5, _⟩ => ⟨S1x1024x256, .f32⟩
  | .hbm, ⟨6, _⟩ => ⟨S1x1024x256, .f32⟩
  | .hbm, ⟨7, _⟩ => ⟨S1x1024x256, .f32⟩
  | .local _ .vmem, ⟨0, _⟩ => ⟨S4x1024x256, .bf16⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S4x1024x256 : Shape := ⟨3, ![4, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S4x1024x256, .f32⟩
  | .hbm, ⟨5, _⟩ => ⟨S_, .f32⟩
  | .hbm, ⟨6, _⟩ => ⟨S1024x256, .f32⟩
  | .hbm, ⟨7, _⟩ => ⟨S1x1024x256, .f32⟩
  | .hbm, ⟨8, _⟩ => ⟨S_, .f32⟩
  | .hbm, ⟨9, _⟩ => ⟨S1x1024x256, .f32⟩
  | .hbm, ⟨10, _⟩ => ⟨S1x1024x256, .f32⟩
  | .hbm, ⟨11, _⟩ => ⟨S_, .f32⟩
  | .hbm, ⟨12, _⟩ => ⟨S1x1024x256, .f32⟩
  | .hbm, ⟨13, _⟩ => ⟨S1x1024x256, .f32⟩
  | .hbm, ⟨14, _⟩ => ⟨S1x1024x256, .f32⟩
  | .hbm, ⟨15, _⟩ => ⟨S_, .f32⟩
  | .hbm, ⟨16, _⟩ => ⟨S1x1024x256, .f32⟩
  | .hbm, ⟨17, _⟩ => ⟨S1x1024x256, .f32⟩
  | .hbm, ⟨18, _⟩ => ⟨S1x1024x256, .f32⟩
  | .hbm, ⟨19, _⟩ => ⟨S_, .f32⟩
  | .hbm, ⟨20, _⟩ => ⟨S1x1024x256, .f32⟩
  | .hbm, ⟨21, _⟩ => ⟨S1x1024x256, .f32⟩
  | .hbm, ⟨22, _⟩ => ⟨S1x1024x256, .f32⟩
  | .hbm, ⟨23, _⟩ => ⟨S_, .f32⟩
  | .hbm, ⟨24, _⟩ => ⟨S1x1024x256, .f32⟩
  | .hbm, ⟨25, _⟩ => ⟨S1x1024x256, .f32⟩
  | .hbm, ⟨26, _⟩ => ⟨S_, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S_, .f32⟩
  | .hbm, ⟨31, _⟩ => ⟨S1x1024x256, .f32⟩
  | .hbm, ⟨32, _⟩ => ⟨S1x1024x256, .f32⟩
  | .hbm, ⟨33, _⟩ => ⟨S1x1024x256, .f32⟩
  | .hbm, ⟨34, _⟩ => ⟨S_, .f32⟩
  | .hbm, ⟨35, _⟩ => ⟨S1x1024x256, .f32⟩
  | .hbm, ⟨36, _⟩ => ⟨S1x1024x256, .f32⟩
  | .hbm, ⟨37, _⟩ => ⟨S1x1024x256, .f32⟩
  | .hbm, ⟨38, _⟩ => ⟨S_, .f32⟩
  | .hbm, ⟨39, _⟩ => ⟨S1x1024x256, .f32⟩
  | .hbm, ⟨40, _⟩ => ⟨S1x1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel26.lean ====
abbrev S4x256x2048 : Shape := ⟨3, ![4, 256, 2048]⟩
abbrev S1x256x2048 : Shape := ⟨3, ![1, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S4x256x2048 : Shape := ⟨3, ![4, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel27.lean ====
abbrev S4x704x2048 : Shape := ⟨3, ![4, 704, 2048]⟩
abbrev S1x704x2048 : Shape := ⟨3, ![1, 704, 2048]⟩
abbrev S4x88x2048 : Shape := ⟨3, ![4, 88, 2048]⟩
abbrev S1x88x2048 : Shape := ⟨3, ![1, 88, 2048]⟩
abbrev S88x2048 : Shape := ⟨2, ![88, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S1x704x2048, .f32⟩
  | .hbm, ⟨5, _⟩ => ⟨S1x704x2048, .f32⟩
  | .hbm, ⟨6, _⟩ => ⟨S1x704x2048, .f32⟩
  | .hbm, ⟨7, _⟩ => ⟨S1x704x2048, .f32⟩
  | .local _ .vmem, ⟨0, _⟩ => ⟨S4x88x2048, .bf16⟩
  | .local _ .vmem, ⟨1, _⟩ => ⟨S4x88x2048, .bf16⟩
  | .local _ .vmem, ⟨2, _⟩ => ⟨S1x88x2048, .f32⟩
  | .local _ .vmem, ⟨3, _⟩ => ⟨S1x88x2048, .f32⟩
  | .local _ .vmem, ⟨4, _⟩ => ⟨S1x88x2048, .f32⟩
  | .local _ .vmem, ⟨5, _⟩ => ⟨S1x88x2048, .f32⟩
  | .local _ .vmem, ⟨6, _⟩ => ⟨S1x88x2048, .f32⟩
  | .local _ .vmem, ⟨7, _⟩ => ⟨S1x88x2048, .f32⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x88x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S4x704x2048 : Shape := ⟨3, ![4, 704, 2048]⟩
abbrev S1x704x2048 : Shape := ⟨3, ![1, 704, 2048]⟩
abbrev S_ : Shape := ⟨0, ![]⟩
abbrev S704x2048 : Shape := ⟨2, ![704, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S1x704x2048, .f32⟩
  | .hbm, ⟨8, _⟩ => ⟨S_, .f32⟩
  | .hbm, ⟨9, _⟩ => ⟨S1x704x2048, .f32⟩
  | .hbm, ⟨10, _⟩ => ⟨S1x704x2048, .f32⟩
  | .hbm, ⟨11, _⟩ => ⟨S_, .f32⟩
  | .hbm, ⟨12, _⟩ => ⟨S1x704x2048, .f32⟩
  | .hbm, ⟨13, _⟩ => ⟨S1x704x2048, .f32⟩
  | .hbm, ⟨14, _⟩ => ⟨S1x704x2048, .f32⟩
  | .hbm, ⟨15, _⟩ => ⟨S_, .f32⟩
  | .hbm, ⟨16, _⟩ => ⟨S1x704x2048, .f32⟩
  | .hbm, ⟨17, _⟩ => ⟨S1x704x2048, .f32⟩
  | .hbm, ⟨18, _⟩ => ⟨S1x704x2048, .f32⟩
  | .hbm, ⟨19, _⟩ => ⟨S_, .f32⟩
  | .hbm, ⟨20, _⟩ => ⟨S1x704x2048, .f32⟩
  | .hbm, ⟨21, _⟩ => ⟨S1x704x2048, .f32⟩
  | .hbm, ⟨22, _⟩ => ⟨S1x704x2048, .f32⟩
  | .hbm, ⟨23, _⟩ => ⟨S_, .f32⟩
  | .hbm, ⟨24, _⟩ => ⟨S1x704x2048, .f32⟩
  | .hbm, ⟨25, _⟩ => ⟨S1x704x2048, .f32⟩
  | .hbm, ⟨26, _⟩ => ⟨S_, .f32⟩
  | .hbm, ⟨27, _⟩ => ⟨S1x704x2048, .f32⟩
  | .hbm, ⟨28, _⟩ => ⟨S1x704x2048, .f32⟩
  | .hbm, ⟨29, _⟩ => ⟨S1x704x2048, .f32⟩
  | .hbm, ⟨30, _⟩ => ⟨S_, .f32⟩
  | .hbm, ⟨31, _⟩ => ⟨S1x704x2048, .f32⟩
  | .hbm, ⟨32, _⟩ => ⟨S1x704x2048, .f32⟩
  | .hbm, ⟨33, _⟩ => ⟨S1x704x2048, .f32⟩
  | .hbm, ⟨34, _⟩ => ⟨S_, .f32⟩
  | .hbm, ⟨35, _⟩ => ⟨S1x704x2048, .f32⟩
  | .hbm, ⟨36, _⟩ => ⟨S1x704x2048, .f32⟩
  | .hbm, ⟨37, _⟩ => ⟨S1x704x2048, .f32⟩
  | .hbm, ⟨38, _⟩ => ⟨S_, .f32⟩
  | .hbm, ⟨39, _⟩ => ⟨S1x704x2048, .f32⟩
  | .hbm, ⟨40, _⟩ => ⟨S1x704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel28.lean ====
abbrev S1x2048x704 : Shape := ⟨3, ![1, 2048, 704]⟩
abbrev S_ : Shape := ⟨0, ![]⟩
abbrev S2048x2048 : Shape := ⟨2, ![2048, 2048]⟩
abbrev S1x256x704 : Shape := ⟨3, ![1, 256, 704]⟩
abbrev S256x704 : Shape := ⟨2, ![256, 704]⟩

abbrev nBuf : Space → Nat
  | .hbm => 8
  | .vmem => 12
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S_, .bf16⟩
  | .hbm, ⟨4, _⟩ => ⟨S2048x2048, .bf16⟩
  | .hbm, ⟨5, _⟩ => ⟨S1x2048x704, .f32⟩
  | .hbm, ⟨6, _⟩ => ⟨S1x2048x704, .f32⟩
  | .hbm, ⟨7, _⟩ => ⟨S1x2048x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference28Ideal.lean ====
abbrev S1x2048x704 : Shape := ⟨3, ![1, 2048, 704]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S_, .f32⟩
  | .hbm, ⟨4, _⟩ => ⟨S1x2048x704, .f32⟩
  | .hbm, ⟨5, _⟩ => ⟨S1x2048x704, .f32⟩
  | .hbm, ⟨6, _⟩ => ⟨S_, .f32⟩
  | .hbm, ⟨7, _⟩ => ⟨S1x2048x704, .f32⟩
  | .hbm, ⟨8, _⟩ => ⟨S1x2048x704, .f32⟩
  | .hbm, ⟨9, _⟩ => ⟨S_, .f32⟩
  | .hbm, ⟨10, _⟩ => ⟨S1x2048x704, .f32⟩
  | .hbm, ⟨11, _⟩ => ⟨S1x2048x704, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel29.lean ====
abbrev S4x2048x704 : Shape := ⟨3, ![4, 2048, 704]⟩
abbrev S1x2048x704 : Shape := ⟨3, ![1, 2048, 704]⟩
abbrev S1x704x2048 : Shape := ⟨3, ![1, 704, 2048]⟩
abbrev S4x256x704 : Shape := ⟨3, ![4, 256, 704]⟩
abbrev S1x256x704 : Shape := ⟨3, ![1, 256, 704]⟩
abbrev S1x704x256 : Shape := ⟨3, ![1, 704, 256]⟩
abbrev S256x704 : Shape := ⟨2, ![256, 704]⟩
abbrev S704x256 : Shape := ⟨2, ![704, 256]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x704, .bf16⟩
  | .hbm, ⟨1, _⟩ => ⟨S1x2048x704, .f32⟩
  | .hbm, ⟨2, _⟩ => ⟨S1x2048x704, .f32⟩
  | .hbm, ⟨3, _⟩ => ⟨S1x2048x704, .f32⟩
  | .hbm, ⟨4, _⟩ => ⟨S1x704x2048, .f32⟩
  | .hbm, ⟨5, _⟩ => ⟨S1x704x2048, .f32⟩
  | .hbm, ⟨6, _⟩ => ⟨S1x704x2048, .f32⟩
  | .hbm, ⟨7, _⟩ => ⟨S1x704x2048, .f32⟩
  | .hbm, ⟨8, _⟩ => ⟨S1x2048x704, .f32⟩
  | .hbm, ⟨9, _⟩ => ⟨S1x2048x704, .f32⟩
  | .hbm, ⟨10, _⟩ => ⟨S1x2048x704, .f32⟩
  | .hbm, ⟨11, _⟩ => ⟨S1x2048x704, .f32⟩
  | .local _ .vmem, ⟨0, _⟩ => ⟨S4x256x704, .bf16⟩
  | .local _ .vmem, ⟨1, _⟩ => ⟨S4x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x704x256, .f32⟩
  | .local _ .vmem, ⟨9, _⟩ => ⟨S1x704x256, .f32⟩
  | .local _ .vmem, ⟨10, _⟩ => ⟨S1x704x256, .f32⟩
  | .local _ .vmem, ⟨11, _⟩ => ⟨S1x704x256, .f32⟩
  | .local _ .vmem, ⟨12, _⟩ => ⟨S1x704x256, .f32⟩
  | .local _ .vmem, ⟨13, _⟩ => ⟨S1x704x256, .f32⟩
  | .local _ .vmem, ⟨14, _⟩ => ⟨S1x704x256, .f32⟩
  | .local _ .vmem, ⟨15, _⟩ => ⟨S1x704x256, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S4x2048x704 : Shape := ⟨3, ![4, 2048, 704]⟩
abbrev S1x2048x704 : Shape := ⟨3, ![1, 2048, 704]⟩
abbrev S_ : Shape := ⟨0, ![]⟩
abbrev S2048x704 : Shape := ⟨2, ![2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S1x2048x704, .f32⟩
  | .hbm, ⟨2, _⟩ => ⟨S1x2048x704, .f32⟩
  | .hbm, ⟨3, _⟩ => ⟨S1x2048x704, .f32⟩
  | .hbm, ⟨4, _⟩ => ⟨S4x2048x704, .f32⟩
  | .hbm, ⟨5, _⟩ => ⟨S_, .f32⟩
  | .hbm, ⟨6, _⟩ => ⟨S2048x704, .f32⟩
  | .hbm, ⟨7, _⟩ => ⟨S1x2048x704, .f32⟩
  | .hbm, ⟨8, _⟩ => ⟨S_, .f32⟩
  | .hbm, ⟨9, _⟩ => ⟨S1x2048x704, .f32⟩
  | .hbm, ⟨10, _⟩ => ⟨S1x2048x704, .f32⟩
  | .hbm, ⟨11, _⟩ => ⟨S1x2048x704, .f32⟩
  | .hbm, ⟨12, _⟩ => ⟨S1x2048x704, .f32⟩
  | .hbm, ⟨13, _⟩ => ⟨S_, .f32⟩
  | .hbm, ⟨14, _⟩ => ⟨S1x2048x704, .f32⟩
  | .hbm, ⟨15, _⟩ => ⟨S1x2048x704, .f32⟩
  | .hbm, ⟨16, _⟩ => ⟨S1x2048x704, .f32⟩
  | .hbm, ⟨17, _⟩ => ⟨S_, .f32⟩
  | .hbm, ⟨18, _⟩ => ⟨S1x2048x704, .f32⟩
  | .hbm, ⟨19, _⟩ => ⟨S1x2048x704, .f32⟩
  | .hbm, ⟨20, _⟩ => ⟨S_, .f32⟩
  | .hbm, ⟨21, _⟩ => ⟨S1x2048x704, .f32⟩
  | .hbm, ⟨22, _⟩ => ⟨S1x2048x704, .f32⟩
  | .hbm, ⟨23, _⟩ => ⟨S1x2048x704, .f32⟩
  | .hbm, ⟨24, _⟩ => ⟨S_, .f32⟩
  | .hbm, ⟨25, _⟩ => ⟨S1x2048x704, .f32⟩
  | .hbm, ⟨26, _⟩ => ⟨S1x2048x704, .f32⟩
  | .hbm, ⟨27, _⟩ => ⟨S1x2048x704, .f32⟩
  | .hbm, ⟨28, _⟩ => ⟨S1x2048x704, .f32⟩
  | .hbm, ⟨29, _⟩ => ⟨S_, .f32⟩
  | .hbm, ⟨30, _⟩ => ⟨S1x2048x704, .f32⟩
  | .hbm, ⟨31, _⟩ => ⟨S1x2048x704, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel30.lean ====
abbrev S1x2048x1281 : Shape := ⟨3, ![1, 2048, 1281]⟩
abbrev S_ : Shape := ⟨0, ![]⟩
abbrev S2048x2048 : Shape := ⟨2, ![2048, 2048]⟩
abbrev S1x128x1281 : Shape := ⟨3, ![1, 128, 1281]⟩
abbrev S128x1281 : Shape := ⟨2, ![128, 1281]⟩

abbrev nBuf : Space → Nat
  | .hbm => 6
  | .vmem => 8
  | .smem => 0
  | _ => 0

abbrev bufTy : (tb : Table) → Fin (tcTables nBuf tb) → BufTy
  | .hbm, ⟨0, _⟩ => ⟨S1x2048x1281, .f32⟩
  | .hbm, ⟨1, _⟩ => ⟨S1x2048x1281, .f32⟩
  | .hbm, ⟨2, _⟩ => ⟨S_, .bf16⟩
  | .hbm, ⟨3, _⟩ => ⟨S2048x2048, .bf16⟩
  | .hbm, ⟨4, _⟩ => ⟨S1x2048x1281, .f32⟩
  | .hbm, ⟨5, _⟩ => ⟨S1x2048x1281, .f32⟩
  | .local _ .vmem, ⟨0, _⟩ => ⟨S1x128x1281, .f32⟩
  | .local _ .vmem, ⟨1, _⟩ => ⟨S1x128x1281, .f32⟩
  | .local _ .vmem, ⟨2, _⟩ => ⟨S1x128x1281, .f32⟩
  | .local _ .vmem, ⟨3, _⟩ => ⟨S1x128x1281, .f32⟩
  | .local _ .vmem, ⟨4, _⟩ => ⟨S1x128x1281, .f32⟩
  | .local _ .vmem, ⟨5, _⟩ => ⟨S1x128x1281, .f32⟩
  | .local _ .vmem, ⟨6, _⟩ => ⟨S1x128x1281, .f32⟩
  | .local _ .vmem, ⟨7, _⟩ => ⟨S1x128x1281, .f32⟩
  | _, _ => ⟨S1x2048x1281, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1281 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1281 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1281 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1281 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S1x2048x1281 : Shape := ⟨3, ![1, 2048, 1281]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x1281, .f32⟩
  | .hbm, ⟨1, _⟩ => ⟨S1x2048x1281, .f32⟩
  | .hbm, ⟨2, _⟩ => ⟨S_, .f32⟩
  | .hbm, ⟨3, _⟩ => ⟨S1x2048x1281, .f32⟩
  | .hbm, ⟨4, _⟩ => ⟨S1x2048x1281, .f32⟩
  | .hbm, ⟨5, _⟩ => ⟨S_, .f32⟩
  | .hbm, ⟨6, _⟩ => ⟨S1x2048x1281, .f32⟩
  | .hbm, ⟨7, _⟩ => ⟨S1x2048x1281, .f32⟩
  | _, _ => ⟨S1x2048x1281, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel31.lean ====
abbrev S4x2048x1408 : Shape := ⟨3, ![4, 2048, 1408]⟩
abbrev S1x2048x1281 : Shape := ⟨3, ![1, 2048, 1281]⟩
abbrev S1x1281x2048 : Shape := ⟨3, ![1, 1281, 2048]⟩
abbrev S4x256x1408 : Shape := ⟨3, ![4, 256, 1408]⟩
abbrev S1x256x1281 : Shape := ⟨3, ![1, 256, 1281]⟩
abbrev S1x1281x256 : Shape := ⟨3, ![1, 1281, 256]⟩
abbrev S256x1408 : Shape := ⟨2, ![256, 1408]⟩
abbrev S1408x256 : Shape := ⟨2, ![1408, 256]⟩
abbrev S1x256x1408 : Shape := ⟨3, ![1, 256, 1408]⟩
abbrev S256x1281 : Shape := ⟨2, ![256, 1281]⟩
abbrev S1281x256 : Shape := ⟨2, ![1281, 256]⟩

abbrev nBuf : Space → Nat
  | .hbm => 12
  | .vmem => 19
  | .smem => 0
  | _ => 0

abbrev bufTy : (tb : Table) → Fin (tcTables nBuf tb) → BufTy
  | .hbm, ⟨0, _⟩ => ⟨S4x2048x1408, .bf16⟩
  | .hbm, ⟨1, _⟩ => ⟨S1x2048x1281, .f32⟩
  | .hbm, ⟨2, _⟩ => ⟨S1x2048x1281, .f32⟩
  | .hbm, ⟨3, _⟩ => ⟨S1x2048x1281, .f32⟩
  | .hbm, ⟨4, _⟩ => ⟨S1x1281x2048, .f32⟩
  | .hbm, ⟨5, _⟩ => ⟨S1x1281x2048, .f32⟩
  | .hbm, ⟨6, _⟩ => ⟨S1x1281x2048, .f32⟩
  | .hbm, ⟨7, _⟩ => ⟨S1x1281x2048, .f32⟩
  | .hbm, ⟨8, _⟩ => ⟨S1x2048x1281, .f32⟩
  | .hbm, ⟨9, _⟩ => ⟨S1x2048x1281, .f32⟩
  | .hbm, ⟨10, _⟩ => ⟨S1x2048x1281, .f32⟩
  | .hbm, ⟨11, _⟩ => ⟨S1x2048x1281, .f32⟩
  | .local _ .vmem, ⟨0, _⟩ => ⟨S4x256x1408, .bf16⟩
  | .local _ .vmem, ⟨1, _⟩ => ⟨S4x256x1408, .bf16⟩
  | .local _ .vmem, ⟨2, _⟩ => ⟨S1x256x1281, .f32⟩
  | .local _ .vmem, ⟨3, _⟩ => ⟨S1x256x1281, .f32⟩
  | .local _ .vmem, ⟨4, _⟩ => ⟨S1x256x1281, .f32⟩
  | .local _ .vmem, ⟨5, _⟩ => ⟨S1x256x1281, .f32⟩
  | .local _ .vmem, ⟨6, _⟩ => ⟨S1x256x1281, .f32⟩
  | .local _ .vmem, ⟨7, _⟩ => ⟨S1x256x1281, .f32⟩
  | .local _ .vmem, ⟨8, _⟩ => ⟨S1x1281x256, .f32⟩
  | .local _ .vmem, ⟨9, _⟩ => ⟨S1x1281x256, .f32⟩
  | .local _ .vmem, ⟨10, _⟩ => ⟨S1x1281x256, .f32⟩
  | .local _ .vmem, ⟨11, _⟩ => ⟨S1x1281x256, .f32⟩
  | .local _ .vmem, ⟨12, _⟩ => ⟨S1x1281x256, .f32⟩
  | .local _ .vmem, ⟨13, _⟩ => ⟨S1x1281x256, .f32⟩
  | .local _ .vmem, ⟨14, _⟩ => ⟨S1x1281x256, .f32⟩
  | .local _ .vmem, ⟨15, _⟩ => ⟨S1x1281x256, .f32⟩
  | .local _ .vmem, ⟨16, _⟩ => ⟨S256x1408, .f32⟩
  | .local _ .vmem, ⟨17, _⟩ => ⟨S256x1408, .f32⟩
  | .local _ .vmem, ⟨18, _⟩ => ⟨S1408x256, .f32⟩
  | _, _ => ⟨S4x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1281 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1281 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1281 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1281x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1281x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1281x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1281x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S4x2048x1408 : Shape := ⟨3, ![4, 2048, 1408]⟩
abbrev S1x2048x1281 : Shape := ⟨3, ![1, 2048, 1281]⟩
abbrev S4x2048x1281 : Shape := ⟨3, ![4, 2048, 1281]⟩
abbrev S_ : Shape := ⟨0, ![]⟩
abbrev S2048x1281 : Shape := ⟨2, ![2048, 1281]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S1x2048x1281, .f32⟩
  | .hbm, ⟨2, _⟩ => ⟨S1x2048x1281, .f32⟩
  | .hbm, ⟨3, _⟩ => ⟨S1x2048x1281, .f32⟩
  | .hbm, ⟨4, _⟩ => ⟨S4x2048x1281, .bf16⟩
  | .hbm, ⟨5, _⟩ => ⟨S4x2048x1281, .f32⟩
  | .hbm, ⟨6, _⟩ => ⟨S_, .f32⟩
  | .hbm, ⟨7, _⟩ => ⟨S2048x1281, .f32⟩
  | .hbm, ⟨8, _⟩ => ⟨S1x2048x1281, .f32⟩
  | .hbm, ⟨9, _⟩ => ⟨S_, .f32⟩
  | .hbm, ⟨10, _⟩ => ⟨S1x2048x1281, .f32⟩
  | .hbm, ⟨11, _⟩ => ⟨S1x2048x1281, .f32⟩
  | .hbm, ⟨12, _⟩ => ⟨S1x2048x1281, .f32⟩
  | .hbm, ⟨13, _⟩ => ⟨S1x2048x1281, .f32⟩
  | .hbm, ⟨14, _⟩ => ⟨S_, .f32⟩
  | .hbm, ⟨15, _⟩ => ⟨S1x2048x1281, .f32⟩
  | .hbm, ⟨16, _⟩ => ⟨S1x2048x1281, .f32⟩
  | .hbm, ⟨17, _⟩ => ⟨S1x2048x1281, .f32⟩
  | .hbm, ⟨18, _⟩ => ⟨S_, .f32⟩
  | .hbm, ⟨19, _⟩ => ⟨S1x2048x1281, .f32⟩
  | .hbm, ⟨20, _⟩ => ⟨S1x2048x1281, .f32⟩
  | .hbm, ⟨21, _⟩ => ⟨S_, .f32⟩
  | .hbm, ⟨22, _⟩ => ⟨S1x2048x1281, .f32⟩
  | .hbm, ⟨23, _⟩ => ⟨S1x2048x1281, .f32⟩
  | .hbm, ⟨24, _⟩ => ⟨S1x2048x1281, .f32⟩
  | .hbm, ⟨25, _⟩ => ⟨S_, .f32⟩
  | .hbm, ⟨26, _⟩ => ⟨S1x2048x1281, .f32⟩
  | .hbm, ⟨27, _⟩ => ⟨S1x2048x1281, .f32⟩
  | .hbm, ⟨28, _⟩ => ⟨S1x2048x1281, .f32⟩
  | .hbm, ⟨29, _⟩ => ⟨S1x2048x1281, .f32⟩
  | .hbm, ⟨30, _⟩ => ⟨S_, .f32⟩
  | .hbm, ⟨31, _⟩ => ⟨S1x2048x1281, .f32⟩
  | .hbm, ⟨32, _⟩ => ⟨S1x2048x1281, .f32⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel32.lean ====
abbrev S2048x4608 : Shape := ⟨2, ![2048, 4608]⟩
abbrev S1x128 : Shape := ⟨2, ![1, 128]⟩
abbrev S2048x128 : Shape := ⟨2, ![2048, 128]⟩
abbrev S8x128x256 : Shape := ⟨3, ![8, 128, 256]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩

abbrev nBuf : Space → Nat
  | .hbm => 4
  | .vmem => 4
  | .smem => 0
  | _ => 0

abbrev bufTy : (tb : Table) → Fin (tcTables nBuf tb) → BufTy
  | .hbm, ⟨0, _⟩ => ⟨S2048x4608, .f32⟩
  | .hbm, ⟨1, _⟩ => ⟨S1x128, .f32⟩
  | .hbm, ⟨2, _⟩ => ⟨S2048x128, .f32⟩
  | .hbm, ⟨3, _⟩ => ⟨S8x128x256, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S8x128x256, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference32Ideal.lean ====
abbrev S2048x4608 : Shape := ⟨2, ![2048, 4608]⟩
abbrev S1x128 : Shape := ⟨2, ![1, 128]⟩
abbrev S2048x128 : Shape := ⟨2, ![2048, 128]⟩
abbrev S_ : Shape := ⟨0, ![]⟩
abbrev S8x256x128 : Shape := ⟨3, ![8, 256, 128]⟩
abbrev S8x128x256 : Shape := ⟨3, ![8, 128, 256]⟩

abbrev nBuf : Space → Nat
  | .hbm => 26
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S1x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .i1⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S_, .f32⟩
  | .hbm, ⟨23, _⟩ => ⟨S2048x128, .f32⟩
  | .hbm, ⟨24, _⟩ => ⟨S8x256x128, .f32⟩
  | .hbm, ⟨25, _⟩ => ⟨S8x128x256, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_cst : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel33.lean ====
abbrev S2048x4608 : Shape := ⟨2, ![2048, 4608]⟩
abbrev S2048x128 : Shape := ⟨2, ![2048, 128]⟩
abbrev S1x128 : Shape := ⟨2, ![1, 128]⟩
abbrev S2048x512 : Shape := ⟨2, ![2048, 512]⟩
abbrev S256x256 : Shape := ⟨2, ![256, 256]⟩
abbrev S256x128 : Shape := ⟨2, ![256, 128]⟩
abbrev S128 : Shape := ⟨1, ![128]⟩

abbrev nBuf : Space → Nat
  | .hbm => 6
  | .vmem => 5
  | .smem => 0
  | _ => 0

abbrev bufTy : (tb : Table) → Fin (tcTables nBuf tb) → BufTy
  | .hbm, ⟨0, _⟩ => ⟨S2048x4608, .bf16⟩
  | .hbm, ⟨1, _⟩ => ⟨S2048x128, .f32⟩
  | .hbm, ⟨2, _⟩ => ⟨S2048x4608, .f32⟩
  | .hbm, ⟨3, _⟩ => ⟨S1x128, .f32⟩
  | .hbm, ⟨4, _⟩ => ⟨S2048x4608, .bf16⟩
  | .hbm, ⟨5, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x512, .bf16⟩
  | .local _ .vmem, ⟨4, _⟩ => ⟨S1x128, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c32_i32 : BitVec 32 := 32#32
  let c0_i32_0 : BitVec 32 := 0#32
  ![c0_i32.toNat, c32_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference33Ideal.lean ====
abbrev S2048x4608 : Shape := ⟨2, ![2048, 4608]⟩
abbrev S2048x128 : Shape := ⟨2, ![2048, 128]⟩
abbrev S1x128 : Shape := ⟨2, ![1, 128]⟩
abbrev S_ : Shape := ⟨0, ![]⟩
abbrev S128 : Shape := ⟨1, ![128]⟩
abbrev S2048x4096 : Shape := ⟨2, ![2048, 4096]⟩
abbrev S2048x512 : Shape := ⟨2, ![2048, 512]⟩

abbrev nBuf : Space → Nat
  | .hbm => 73
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S2048x128, .f32⟩
  | .hbm, ⟨2, _⟩ => ⟨S2048x4608, .f32⟩
  | .hbm, ⟨3, _⟩ => ⟨S1x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .i1⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .i1⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .i1⟩
  | .hbm, ⟨31, _⟩ => ⟨S_, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x128, .f32⟩
  | .hbm, ⟨44, _⟩ => ⟨S2048x128, .i1⟩
  | .hbm, ⟨45, _⟩ => ⟨S_, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S_, .f32⟩
  | .hbm, ⟨52, _⟩ => ⟨S2048x128, .f32⟩
  | .hbm, ⟨53, _⟩ => ⟨S2048x128, .f32⟩
  | .hbm, ⟨54, _⟩ => ⟨S2048x128, .f32⟩
  | .hbm, ⟨55, _⟩ => ⟨S_, .f32⟩
  | .hbm, ⟨56, _⟩ => ⟨S_, .f32⟩
  | .hbm, ⟨57, _⟩ => ⟨S2048x128, .f32⟩
  | .hbm, ⟨58, _⟩ => ⟨S_, .f32⟩
  | .hbm, ⟨59, _⟩ => ⟨S_, .f32⟩
  | .hbm, ⟨60, _⟩ => ⟨S2048x128, .f32⟩
  | .hbm, ⟨61, _⟩ => ⟨S2048x128, .f32⟩
  | .hbm, ⟨62, _⟩ => ⟨S2048x128, .f32⟩
  | .hbm, ⟨63, _⟩ => ⟨S2048x128, .f32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S2048x4096, .bf16⟩
  | .hbm, ⟨68, _⟩ => ⟨S2048x128, .bf16⟩
  | .hbm, ⟨69, _⟩ => ⟨S_, .i32⟩
  | .hbm, ⟨70, _⟩ => ⟨S_, .bf16⟩
  | .hbm, ⟨71, _⟩ => ⟨S2048x512, .bf16⟩
  | .hbm, ⟨72, _⟩ => ⟨S2048x4608, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_cst : Ref sig .tc := ⟨.hbm, 55, rfl⟩
abbrev main_call1_v0 : Ref sig .tc := ⟨.hbm, 56, rfl⟩
abbrev main_v4 : Ref sig .tc := ⟨.hbm, 57, rfl⟩
abbrev main_call2_cst : Ref sig .tc := ⟨.hbm, 58, rfl⟩
abbrev main_call2_v0 : Ref sig .tc := ⟨.hbm, 59, rfl⟩
abbrev main_v5 : Ref sig .tc := ⟨.hbm, 60, rfl⟩
abbrev main_call3_v0 : Ref sig .tc := ⟨.hbm, 61, rfl⟩
abbrev main_call3_v1 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_v12 : Ref sig .tc := ⟨.hbm, 72, rfl⟩

abbrev nD : Nat := 1
abbrev τ : Topo := Topo.v7x

variable {F : FTy → Type} [FloatOps F]
-- ==== Kernel34.lean ====
abbrev S1x2048x1281 : Shape := ⟨3, ![1, 2048, 1281]⟩
abbrev S1x1281x2048 : Shape := ⟨3, ![1, 1281, 2048]⟩
abbrev S20496x128 : Shape := ⟨2, ![20496, 128]⟩
abbrev S2048x1408 : Shape := ⟨2, ![2048, 1408]⟩
abbrev S256x1408 : Shape := ⟨2, ![256, 1408]⟩
abbrev S1x256x1281 : Shape := ⟨3, ![1, 256, 1281]⟩
abbrev S128x128 : Shape := ⟨2, ![128, 128]⟩
abbrev S8x128 : Shape := ⟨2, ![8, 128]⟩
abbrev S1x128 : Shape := ⟨2, ![1, 128]⟩
abbrev S128x8 : Shape := ⟨2, ![128, 8]⟩
abbrev S256x1281 : Shape := ⟨2, ![256, 1281]⟩

abbrev nBuf : Space → Nat
  | .hbm => 5
  | .vmem => 6
  | .smem => 0
  | _ => 0

abbrev bufTy : (tb : Table) → Fin (tcTables nBuf tb) → BufTy
  | .hbm, ⟨0, _⟩ => ⟨S1x2048x1281, .f32⟩
  | .hbm, ⟨1, _⟩ => ⟨S1x1281x2048, .f32⟩
  | .hbm, ⟨2, _⟩ => ⟨S20496x128, .f32⟩
  | .hbm, ⟨3, _⟩ => ⟨S2048x1408, .bf16⟩
  | .hbm, ⟨4, _⟩ => ⟨S1x2048x1281, .f32⟩
  | .local _ .vmem, ⟨0, _⟩ => ⟨S20496x128, .f32⟩
  | .local _ .vmem, ⟨1, _⟩ => ⟨S256x1408, .bf16⟩
  | .local _ .vmem, ⟨2, _⟩ => ⟨S256x1408, .bf16⟩
  | .local _ .vmem, ⟨3, _⟩ => ⟨S1x256x1281, .f32⟩
  | .local _ .vmem, ⟨4, _⟩ => ⟨S1x256x1281, .f32⟩
  | .local _ .vmem, ⟨5, _⟩ => ⟨S256x1408, .f32⟩
  | _, _ => ⟨S1x2048x1281, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) (c0_i32_1 : BitVec 32) : Fin 2 → Nat :=
  let c2_i32 : BitVec 32 := 2#32
  let arg0 : BitVec 32 := BitVec.ofNat 32 (i 0).val
  let v0 : BitVec 32 := Scalar.muli c2_i32 arg0
  let v5 : BitVec 32 := Scalar.addi c0_i32 v0
  let v6 : BitVec 32 := Scalar.addi v5 c0_i32_1
  let v7 : Index := Scalar.indexCast v6
  let c0_2 : Index := 0#32
  ![v7.toNat, 0]
def k0_off2 (i : grid0.Coords) (c0_i32_82 : BitVec 32) : Fin 2 → Nat :=
  let c20480_i32 : BitVec 32 := 20480#32
  let c2_i32 : BitVec 32 := 2#32
  let arg0 : BitVec 32 := BitVec.ofNat 32 (i 0).val
  let v0 : BitVec 32 := Scalar.muli c2_i32 arg0
  let v188 : BitVec 32 := Scalar.addi c20480_i32 v0
  let v189 : BitVec 32 := Scalar.addi v188 c0_i32_82
  let v190 : Index := Scalar.indexCast v189
  let c0_83 : Index := 0#32
  ![v190.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S20496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1281 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference34Ideal.lean ====
abbrev S1x2048x1281 : Shape := ⟨3, ![1, 2048, 1281]⟩
abbrev S2048x1281 : Shape := ⟨2, ![2048, 1281]⟩
abbrev S_ : Shape := ⟨0, ![]⟩
abbrev S2048x1408 : Shape := ⟨2, ![2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S1x2048x1281, .f32⟩
  | .hbm, ⟨1, _⟩ => ⟨S2048x1281, .f32⟩
  | .hbm, ⟨2, _⟩ => ⟨S_, .i32⟩
  | .hbm, ⟨3, _⟩ => ⟨S_, .f32⟩
  | .hbm, ⟨4, _⟩ => ⟨S2048x1408, .f32⟩
  | .hbm, ⟨5, _⟩ => ⟨S2048x1408, .bf16⟩
  | .hbm, ⟨6, _⟩ => ⟨S_, .f32⟩
  | .hbm, ⟨7, _⟩ => ⟨S1x2048x1281, .f32⟩
  | .hbm, ⟨8, _⟩ => ⟨S1x2048x1281, .f32⟩
  | _, _ => ⟨S1x2048x1281, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Body.lean ====
/-
  The kernel body at one grid point, run on whole staging buffers at given contents: the two accumulators and the output
  window end with the body's stores written over what they held.  The three cases are a group's first query tile (the
  accumulators are zeroed), a middle one, and its last one (the accumulators are written out).
-/
module

public import proofs.«01_k».proof.Proof.Gen.KernelIdeal.Loops
public import proofs.«01_k».proof.Proof.Gen.KernelIdeal.Frame

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The condition of the body's first conditional: the point is a group's first query tile. -/
abbrev isFirst (i : grid0.Coords) : Prop := (Scalar.cmpi .ne (Scalar.extui (Scalar.cmpi .eq (BitVec.ofNat 32 (i 1).val) 0#32) : BitVec 32) 0#32) = 1#1

/-- The condition of the body's last conditional: the point is a group's last query tile. -/
abbrev isLast (i : grid0.Coords) : Prop := (Scalar.cmpi .ne (Scalar.extui (Scalar.cmpi .eq (BitVec.ofNat 32 (i 1).val) 7#32) : BitVec 32) 0#32) = 1#1

section

variable (c : Dev nD) (i : grid0.Coords)
  (arg2 : Memref sig .tc .vmem S256x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S256x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S256x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S256x128 .bf16) (harg11 : arg11.IsWhole)
  (arg12 : Memref sig .tc .vmem S2048x128 .bf16) (harg12 : arg12.IsWhole)
  (arg13 : Memref sig .tc .vmem S2048x128 .bf16) (harg13 : arg13.IsWhole)
  (arg14 : Memref sig .tc .vmem S256x512 .bf16) (harg14 : arg14.IsWhole)
  (arg15 : Memref sig .tc .vmem S256x128 .f32) (harg15 : arg15.IsWhole)
  (arg17 : Memref sig .tc .vmem S2048x1536 .bf16) (harg17 : arg17.IsWhole)
  (arg18 : Memref sig .tc .vmem S4x2048x128 .f32) (harg18 : arg18.IsWhole)
  (arg19 : Memref sig .tc .vmem S4x2048x128 .f32) (harg19 : arg19.IsWhole)
variable (x0 x3 x6 x9 : Vec F S256x128 .bf16) (x1 x2 x4 x5 x7 x8 x10 x11 : Vec F S2048x128 .bf16)
  (x12 : Vec F S256x512 .bf16) (x13 : Vec F S256x128 .f32) (xo : Vec F S2048x1536 .bf16)
  (xs0 xs1 : Vec F S4x2048x128 .f32)

set_option maxHeartbeats 4000000 in
/-- The body's run at a group's first query tile, with the pieces it stores. -/
def runFirst (hc0 : isFirst i) (hc1 : ¬isLast i) :
    Σ' (LO : List (View.Piece (Elt F) S2048x1536 .bf16)) (LK : List (View.Piece (Elt F) S4x2048x128 .f32)), { LV : List (View.Piece (Elt F) S4x2048x128 .f32) //
  ∀ (E : Set ℕ) (K : PUnit → sProp 𝕄),
    iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      owns (c : Thread nD τ) arg17 fullShare xo ∗
      owns (c : Thread nD τ) arg18 fullShare xs0 ∗
      owns (c : Thread nD τ) arg19 fullShare xs1 ∗
      (iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      (arg17.view.loc (c : Thread nD τ) ↦[arg17.view.set]{fullShare} arg17.view.writes (Elt F) (harg17.unread xo) LO) ∗
      (∃ es, arg18.view.loc (c : Thread nD τ) ↦[arg18.view.set]{fullShare} arg18.view.writes (Elt F) es LK) ∗
      (∃ es, arg19.view.loc (c : Thread nD τ) ↦[arg19.view.set]{fullShare} arg19.view.writes (Elt F) es LV)) -∗ K ⟨⟩))
    ⊢ wp frame (wpE (defs₀ (F := F)) Variants.none c none) E
        (cc0_sb_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v23) (Memref.isWhole_whole _) arg17 harg17 arg18 harg18 arg19 harg19) K } := by
  refine ⟨?_, ?_, ?_, fun E K => ?run⟩
  case run =>
    simp only [cc0_sb_bwd_eq_skeleton]; unfold cc0_sb_bwd_skel
    simp only [k0_part23_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs0; obtain rfl := harg19.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]; · iexact HO
    isplitl [HS0]; · iexists _; iexact HS0
    iexists _; iexact HS1

set_option maxHeartbeats 4000000 in
/-- The body's run at a middle query tile, with the pieces it stores. -/
def runMid (hc0 : ¬isFirst i) (hc1 : ¬isLast i) :
    Σ' (LO : List (View.Piece (Elt F) S2048x1536 .bf16)) (LK : List (View.Piece (Elt F) S4x2048x128 .f32)), { LV : List (View.Piece (Elt F) S4x2048x128 .f32) //
  ∀ (E : Set ℕ) (K : PUnit → sProp 𝕄),
    iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      owns (c : Thread nD τ) arg17 fullShare xo ∗
      owns (c : Thread nD τ) arg18 fullShare xs0 ∗
      owns (c : Thread nD τ) arg19 fullShare xs1 ∗
      (iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      (arg17.view.loc (c : Thread nD τ) ↦[arg17.view.set]{fullShare} arg17.view.writes (Elt F) (harg17.unread xo) LO) ∗
      (arg18.view.loc (c : Thread nD τ) ↦[arg18.view.set]{fullShare} arg18.view.writes (Elt F) (harg18.unread xs0) LK) ∗
      (arg19.view.loc (c : Thread nD τ) ↦[arg19.view.set]{fullShare} arg19.view.writes (Elt F) (harg19.unread xs1) LV)) -∗ K ⟨⟩))
    ⊢ wp frame (wpE (defs₀ (F := F)) Variants.none c none) E
        (cc0_sb_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v23) (Memref.isWhole_whole _) arg17 harg17 arg18 harg18 arg19 harg19) K } := by
  refine ⟨?_, ?_, ?_, fun E K => ?run⟩
  case run =>
    simp only [cc0_sb_bwd_eq_skeleton]; unfold cc0_sb_bwd_skel
    simp only [k0_part23_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs0; obtain rfl := harg19.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]; · iexact HO
    isplitl [HS0]; · iexact HS0
    iexact HS1

set_option maxHeartbeats 4000000 in
/-- The body's run at a group's last query tile, with the pieces it stores. -/
def runLast (hc0 : ¬isFirst i) (hc1 : isLast i) :
    Σ' (LO : List (View.Piece (Elt F) S2048x1536 .bf16)) (LK : List (View.Piece (Elt F) S4x2048x128 .f32)), { LV : List (View.Piece (Elt F) S4x2048x128 .f32) //
  ∀ (E : Set ℕ) (K : PUnit → sProp 𝕄),
    iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      owns (c : Thread nD τ) arg17 fullShare xo ∗
      owns (c : Thread nD τ) arg18 fullShare xs0 ∗
      owns (c : Thread nD τ) arg19 fullShare xs1 ∗
      (iprop(owns (c : Thread nD τ) arg2 fullShare x0 ∗
      owns (c : Thread nD τ) arg3 fullShare x1 ∗
      owns (c : Thread nD τ) arg4 fullShare x2 ∗
      owns (c : Thread nD τ) arg5 fullShare x3 ∗
      owns (c : Thread nD τ) arg6 fullShare x4 ∗
      owns (c : Thread nD τ) arg7 fullShare x5 ∗
      owns (c : Thread nD τ) arg8 fullShare x6 ∗
      owns (c : Thread nD τ) arg9 fullShare x7 ∗
      owns (c : Thread nD τ) arg10 fullShare x8 ∗
      owns (c : Thread nD τ) arg11 fullShare x9 ∗
      owns (c : Thread nD τ) arg12 fullShare x10 ∗
      owns (c : Thread nD τ) arg13 fullShare x11 ∗
      owns (c : Thread nD τ) arg14 fullShare x12 ∗
      owns (c : Thread nD τ) arg15 fullShare x13 ∗
      (arg17.view.loc (c : Thread nD τ) ↦[arg17.view.set]{fullShare} arg17.view.writes (Elt F) (harg17.unread xo) LO) ∗
      (arg18.view.loc (c : Thread nD τ) ↦[arg18.view.set]{fullShare} arg18.view.writes (Elt F) (harg18.unread xs0) LK) ∗
      (arg19.view.loc (c : Thread nD τ) ↦[arg19.view.set]{fullShare} arg19.view.writes (Elt F) (harg19.unread xs1) LV)) -∗ K ⟨⟩))
    ⊢ wp frame (wpE (defs₀ (F := F)) Variants.none c none) E
        (cc0_sb_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v23) (Memref.isWhole_whole _) arg17 harg17 arg18 harg18 arg19 harg19) K } := by
  refine ⟨?_, ?_, ?_, fun E K => ?run⟩
  case run =>
    simp only [cc0_sb_bwd_eq_skeleton]; unfold cc0_sb_bwd_skel
    simp only [k0_part23_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfo; obtain rfl := harg18.eq_unread hfs0; obtain rfl := harg19.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HO]; · iexact HO
    isplitl [HS0]; · iexact HS0
    iexact HS1

end

end Cert.KernelIdeal.Sb

end
-- ==== Proof.Spec.lean ====
/-
  The gradient of stick-breaking attention of one head, over the real numbers, at row, column and lane numbers: the arrays
  the backward pass goes through, and how their running sums split at a tile boundary.
-/
module

public import Idealize.ShloMosaic.Lib.Pointwise
public import Idealize.ShloMosaic.Lib.ValueIdx

@[expose] public section

noncomputable section

namespace Cert.KernelIdeal.Sb

open Idealize.ShloMosaic Finset

/-- The scale of the scores: what the constant 128 ^ (-1/2) of the two programs reads as. -/
def sc : ℝ := (Ideal.ofBits .f32 0x3DB504F3#32 : EReal).toReal

theorem ofBits_sc : Ideal.ofBits .f32 0x3DB504F3#32 = ((sc : ℝ) : EReal) := by
  refine (EReal.coe_toReal ?_ ?_).symm
  · simp [Ideal.ofBits, Ideal.ieee, -EReal.coe_mul]
  · simp [Ideal.ofBits, Ideal.ieee, -EReal.coe_mul]

/-- The logarithm of the logistic function. -/
def lsig (z : ℝ) : ℝ := min z 0 - Real.log (1 + Real.exp (0 - |z|))

variable (q k v g : ℕ → ℕ → ℝ)

/-- The scaled scores. -/
def Z (a b : ℕ) : ℝ := (∑ d ∈ range 128, q a d * k b d) * sc

/-- The masked logarithm of keeping the stick past a key. -/
def LK (a b : ℕ) : ℝ := if b < a then lsig (Z q k a b) - Z q k a b else 0

/-- The running sum of the row up to a key, the key excluded. -/
def C0 (a n : ℕ) : ℝ := ∑ b ∈ range n, LK q k a b

/-- The row's total. -/
def T (a : ℕ) : ℝ := C0 q k a 2048

/-- The attention weights. -/
def W (a b : ℕ) : ℝ := if b < a then Real.exp (lsig (Z q k a b) + (T q k a - C0 q k a (b + 1))) else 0

/-- The weights' cotangent times the weights. -/
def E (a b : ℕ) : ℝ := (∑ d ∈ range 128, g a d * v b d) * W q k a b

/-- Its running sum along the row, the key excluded. -/
def P (a n : ℕ) : ℝ := ∑ b ∈ range n, E q k v g a b

/-- The scores' cotangent, scaled. -/
def DZ (a b : ℕ) : ℝ :=
  (if b < a then E q k v g a b * (1 - Real.exp (lsig (Z q k a b))) - P q k v g a b * Real.exp (lsig (Z q k a b)) else 0) * sc

/-- The queries' gradient from the first `n` keys. -/
def DQ (n a d : ℕ) : ℝ := ∑ b ∈ range n, DZ q k v g a b * k b d

/-- The keys' gradient from the first `n` queries. -/
def DK (n b d : ℕ) : ℝ := ∑ a ∈ range n, DZ q k v g a b * q a d

/-- The values' gradient from the first `n` queries. -/
def DV (n b d : ℕ) : ℝ := ∑ a ∈ range n, W q k a b * g a d

theorem W_of_le {a b : ℕ} (h : a ≤ b) : W q k a b = 0 := by simp [W, Nat.not_lt.2 h]
theorem E_of_le {a b : ℕ} (h : a ≤ b) : E q k v g a b = 0 := by simp [E, W_of_le q k h]
theorem DZ_of_le {a b : ℕ} (h : a ≤ b) : DZ q k v g a b = 0 := by simp [DZ, Nat.not_lt.2 h]
theorem LK_of_le {a b : ℕ} (h : a ≤ b) : LK q k a b = 0 := by simp [LK, Nat.not_lt.2 h]

/-- A sum with a triangular weight is the sum over the triangle's row. -/
theorem sum_tri (f : ℕ → ℝ) (n m : ℕ) (h : m ≤ n) : (∑ y ∈ range n, f y * (if y < m then 1 else 0)) = ∑ y ∈ range m, f y := by
  simp only [mul_ite, mul_one, mul_zero]
  rw [← sum_filter]
  refine sum_congr ?_ fun _ _ => rfl
  ext y; simp only [mem_filter, mem_range]; omega

/-- A sum over more terms than where the summand vanishes. -/
theorem sum_cut (f : ℕ → ℝ) (n m : ℕ) (h : n ≤ m) (hz : ∀ y, n ≤ y → y < m → f y = 0) : ∑ y ∈ range m, f y = ∑ y ∈ range n, f y := by
  symm
  refine sum_subset (range_mono h) fun y hy hn => hz y ?_ ?_
  · simpa using hn
  · simpa using hy

theorem DK_zero (b d : ℕ) (n : ℕ) (h : n ≤ b + 1) : DK q k v g n b d = 0 :=
  sum_eq_zero fun a ha => by rw [DZ_of_le q k v g (by have := mem_range.1 ha; omega), zero_mul]

theorem DV_zero (b d : ℕ) (n : ℕ) (h : n ≤ b + 1) : DV q k g n b d = 0 :=
  sum_eq_zero fun a ha => by rw [W_of_le q k (by have := mem_range.1 ha; omega), zero_mul]

theorem DQ_cut (n a d : ℕ) (h : a ≤ n) (hn : n ≤ 2048) : DQ q k v g 2048 a d = DQ q k v g n a d :=
  sum_cut _ _ _ hn fun b hb _ => by rw [DZ_of_le q k v g (h.trans hb), zero_mul]

end Cert.KernelIdeal.Sb

end
-- ==== Proof.Tile.lean ====
/-
  One head's tile of the kernel: the pure functions its body stores and carries, and their values when the arrays hold
  real numbers.
-/
module

public import proofs.«01_k».proof.Proof.Gen.KernelIdeal.Skeleton
public import proofs.«01_k».proof.Proof.Spec
public import Idealize.ShloMosaic.Lib.WordCmp

@[expose] public section

set_option maxRecDepth 16384

noncomputable section

namespace Cert.KernelIdeal.Sb

open Idealize.ShloMosaic Finset
open Cert.KernelIdeal.Gen

section functions

variable {F : FTy → Type} [FloatOps F]

/-- The scaled scores of a tile. -/
def tZ (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))

/-- The weights' cotangent. -/
def tDW (g v : FVec F S256x128 .bf16) : FVec F S256x256 .f32 :=
  matmul dot_S256x128_S256x128_S256x256_1_1_0_0_n_n none g v (constant S256x256 .f32 0x00000000#32)

/-- The logarithm of the logistic function of the scores. -/
def tLs (z : FVec F S256x256 .f32) : FVec F S256x256 .f32 :=
  subf (minimumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The mask of the diagonal tile. -/
def tMask (x : FVec F S256x256 .f32) : FVec F S256x256 .f32 :=
  select k0_pay138 x (broadcast S256x256 (Scalar.ofBits .f32 0x00000000#32))

variable (M : FVec F S256x256 .f32 → FVec F S256x256 .f32)

/-- The masked logarithms of keeping the stick. -/
def tLk (q k : FVec F S256x128 .bf16) : FVec F S256x256 .f32 := M (subf (tLs (tZ q k)) (tZ q k))

/-- The running sum up to and with each key, in two products. -/
def tBelow (lk : FVec F S256x256 .f32) (c0 : FVec F S256x1 .f32) : FVec F S256x256 .f32 :=
  addf (addf (broadcastTo S256x256 c0 broadcasts_S256x1_S256x256)
      (matmul dot_S256x256_S256x256_S256x256_1_0_0_1_n_n none (truncf .bf16 lk bitsLt_bf16_f32) k0_pay105 (constant S256x256 .f32 0x00000000#32)))
    (matmul dot_S256x256_S256x256_S256x256_1_0_0_1_n_n none
      (truncf .bf16 (subf lk (extf .f32 (truncf .bf16 lk bitsLt_bf16_f32) bitsLt_bf16_f32)) bitsLt_bf16_f32) k0_pay105 (constant S256x256 .f32 0x00000000#32))

/-- The weights of a tile. -/
def tW (q k : FVec F S256x128 .bf16) (tot c0 : FVec F S256x1 .f32) : FVec F S256x256 .f32 :=
  M (exp (addf (tLs (tZ q k)) (subf (broadcastTo S256x256 tot broadcasts_S256x1_S256x256) (tBelow (tLk M q k) c0))))

/-- The weights times their cotangent. -/
def tE (q k g v : FVec F S256x128 .bf16) (tot c0 : FVec F S256x1 .f32) : FVec F S256x256 .f32 := mulf (tDW g v) (tW M q k tot c0)

/-- The scores' cotangent. -/
def tDz (q k g v : FVec F S256x128 .bf16) (tot c0 c1 : FVec F S256x1 .f32) : FVec F S256x256 .bf16 :=
  truncf .bf16 (mulf (M (subf
      (mulf (tE M q k g v tot c0) (subf (broadcast S256x256 (Scalar.ofBits .f32 0x3F800000#32)) (exp (tLs (tZ q k)))))
      (mulf (addf (broadcastTo S256x256 c1 broadcasts_S256x1_S256x256)
          (matmul dot_S256x256_S256x256_S256x256_1_0_0_1_n_n none (truncf .bf16 (tE M q k g v tot c0) bitsLt_bf16_f32) k0_pay106
            (constant S256x256 .f32 0x00000000#32)))
        (exp (tLs (tZ q k))))))
    (broadcast S256x256 (Scalar.ofBits .f32 0x3DB504F3#32))) bitsLt_bf16_f32

/-- A carried row sum, advanced. -/
def tRow (c : FVec F S256x1 .f32) (x : FVec F S256x256 .f32) : FVec F S256x1 .f32 :=
  addf c (shapeCast S256x1 (multiReduction .add [1] S256 x 0x00000000#32 reduces_S256x256_S256 (.inl rfl) rfl) shapeCasts_S256_S256x1)

/-- The queries' gradient, advanced. -/
def tQ (c : FVec F S256x128 .f32) (dz : FVec F S256x256 .bf16) (k : FVec F S256x128 .bf16) : FVec F S256x128 .f32 :=
  addf c (matmul dot_S256x256_S256x128_S256x128_1_0_0_1_n_n none dz k (constant S256x128 .f32 0x00000000#32))

/-- A block of an accumulator, advanced. -/
def tAcc (x : FVec F S256x256 .bf16) (y : FVec F S256x128 .bf16) (old : FVec F S1x256x128 .f32) : FVec F S1x256x128 .f32 :=
  shapeCast S1x256x128 (addf (shapeCast S256x128 old shapeCasts_S1x256x128_S256x128)
    (matmul dot_S256x256_S256x128_S256x128_0_0_1_1_n_n none x y (constant S256x128 .f32 0x00000000#32))) shapeCasts_S256x128_S1x256x128

end functions

/-! ## Their values -/

/-- The matrix of real numbers `r`, as an array. -/
def up {m n : ℕ} (φ : FTy) (r : ℕ → ℕ → ℝ) : FVec Ideal ⟨2, ![m, n]⟩ φ := fun p => ((r (p 0).val (p 1).val : ℝ) : EReal)

/-- One slab of real numbers, as an array. -/
def up1 {m n : ℕ} (φ : FTy) (r : ℕ → ℕ → ℝ) : FVec Ideal ⟨3, ![1, m, n]⟩ φ := fun p => ((r (p 1).val (p 2).val : ℝ) : EReal)

@[pointwise] theorem up_apply {m n : ℕ} (φ : FTy) (r : ℕ → ℕ → ℝ) (x : Fin m) (y : Fin n) :
    (up φ r : FVec Ideal ⟨2, ![m, n]⟩ φ) (ix2 x y) = ((r x.val y.val : ℝ) : EReal) := rfl

theorem up_congr {m n : ℕ} (φ : FTy) {r r' : ℕ → ℕ → ℝ} (h : ∀ x < m, ∀ y < n, r x y = r' x y) :
    (up φ r : FVec Ideal ⟨2, ![m, n]⟩ φ) = up φ r' := by
  funext p; exact congrArg _ (h _ (p 0).isLt _ (p 1).isLt)

theorem coe_sum (n : ℕ) (f : ℕ → ℝ) : (∑ i : Fin n, ((f i.val : ℝ) : EReal)) = ((∑ i ∈ range n, f i : ℝ) : EReal) := by
  induction n with
  | zero => simp
  | succ n ih => rw [Fin.sum_univ_castSucc, sum_range_succ, EReal.coe_add]; simp only [Fin.val_castSucc, Fin.val_last]; rw [ih]

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

@[pointwise] theorem up1_apply {m n : ℕ} (φ : FTy) (r : ℕ → ℕ → ℝ) (w : Fin 1) (x : Fin m) (y : Fin n) :
    (up1 φ r : FVec Ideal ⟨3, ![1, m, n]⟩ φ) (ix3 w x y) = ((r x.val y.val : ℝ) : EReal) := rfl

theorem tZ_up (q k : ℕ → ℕ → ℝ) : tZ (F := Ideal) (up .bf16 q) (up .bf16 k) = up .f32 fun x y => (∑ d ∈ range 128, q x d * k y d) * sc := by
  funext p; idx_vars p
  pointwise [tZ, ofBits_sc]
  simp only [← EReal.coe_mul]
  rw [coe_sum 128 fun d => q p0 d * k p1 d, ← EReal.coe_mul]

theorem tDW_up (g v : ℕ → ℕ → ℝ) : tDW (F := Ideal) (up .bf16 g) (up .bf16 v) = up .f32 fun x y => ∑ d ∈ range 128, g x d * v y d := by
  funext p; idx_vars p
  pointwise [tDW]
  simp only [← EReal.coe_mul]
  rw [coe_sum 128 fun d => g p0 d * v p1 d]

theorem log_one_add_exp (r : ℝ) : Ideal.log (1 + ((Real.exp r : ℝ) : EReal)) = ((Real.log (1 + Real.exp r) : ℝ) : EReal) := by
  rw [← EReal.coe_one, ← EReal.coe_add, Ideal.log_coe, if_neg (by have := Real.exp_pos r; linarith)]

theorem tLs_up (z : ℕ → ℕ → ℝ) : tLs (F := Ideal) (up .f32 z) = up .f32 fun x y => lsig (z x y) := by
  funext p; idx_vars p
  pointwise [tLs, Ideal.absf_def]
  rw [← EReal.coe_neg, coe_max, ← EReal.coe_zero, ← EReal.coe_sub, Ideal.exp_coe, log_one_add_exp, coe_min, ← EReal.coe_sub]
  rfl

theorem select_bit (b : Bool) {α : Type} (x y : α) : Scalar.select (BitVec.ofBool b) x y = if b then x else y := by cases b <;> rfl

theorem pay105_up : k0_pay105 (F := Ideal) = up .bf16 fun x y => if x < y + 1 then 1 else 0 := by
  funext p; idx_vars p
  pointwise [k0_pay105]
  rw [WordCmp.cmpi_sle_ofNat (by omega) (by omega), select_bit]
  by_cases h : p0.val ≤ p1.val
  · simp [h, Nat.lt_succ_iff]
  · simp [h, Nat.lt_succ_iff]

theorem pay106_up : k0_pay106 (F := Ideal) = up .bf16 fun x y => if x < y then 1 else 0 := by
  funext p; idx_vars p
  pointwise [k0_pay106]
  rw [WordCmp.cmpi_slt_ofNat (by omega) (by omega), select_bit]
  by_cases h : p0.val < p1.val
  · simp [h]
  · simp [h]

theorem tMask_up (r : ℕ → ℕ → ℝ) : tMask (F := Ideal) (up .f32 r) = up .f32 fun x y => if y < x then r x y else 0 := by
  funext p; idx_vars p
  pointwise [tMask, k0_pay138]
  rw [WordCmp.cmpi_slt_ofNat (by omega) (by omega), select_bit]
  by_cases h : p1.val < p0.val
  · simp [h]
  · simp [h]

theorem tRow_up (c x : ℕ → ℕ → ℝ) : tRow (F := Ideal) (up .f32 c) (up .f32 x) = up .f32 fun a b => c a b + ∑ y ∈ range 256, x a y := by
  funext p; idx_vars p
  pointwise [tRow]
  rw [coe_sum 256 fun y => x p0 y, ← EReal.coe_add]

theorem tQ_up (c dz k : ℕ → ℕ → ℝ) :
    tQ (F := Ideal) (up .f32 c) (up .bf16 dz) (up .bf16 k) = up .f32 fun a d => c a d + ∑ y ∈ range 256, dz a y * k y d := by
  funext p; idx_vars p
  pointwise [tQ]
  simp only [← EReal.coe_mul]
  rw [coe_sum 256 fun y => dz p0 y * k y p1, ← EReal.coe_add]

theorem tAcc_up (x y o : ℕ → ℕ → ℝ) :
    tAcc (F := Ideal) (up .bf16 x) (up .bf16 y) (up1 .f32 o) = up1 .f32 fun b d => o b d + ∑ a ∈ range 256, x a b * y a d := by
  funext p; idx_vars p
  pointwise [tAcc]
  simp only [← EReal.coe_mul]
  rw [coe_sum 256 fun a => x a p1 * y a p2, ← EReal.coe_add]

theorem tBelow_up (lk c0 : ℕ → ℕ → ℝ) :
    tBelow (F := Ideal) (up .f32 lk) (up .f32 c0) = up .f32 fun x y => c0 x 0 + ∑ b ∈ range (y + 1), lk x b := by
  funext p; idx_vars p
  pointwise [tBelow, pay105_up]
  simp only [← EReal.coe_mul, ← EReal.coe_sub, sub_self, zero_mul]
  rw [coe_sum 256 fun b => lk p0 b * (if b < p1.val + 1 then 1 else 0), sum_tri _ _ _ (by omega)]
  simp [EReal.coe_add]

/-! ## A tile of the sequence -/

section tile

variable (q k v g : ℕ → ℕ → ℝ) (a0 b0 : ℕ) (M : FVec Ideal S256x256 .f32 → FVec Ideal S256x256 .f32)

/-- The tile's mask keeps the keys before the query. -/
def MaskAt : Prop := ∀ r, M (up .f32 r) = up .f32 fun x y => if b0 + y < a0 + x then r x y else 0

theorem maskAt_id (h : b0 + 256 ≤ a0) : MaskAt a0 b0 id := fun r =>
  up_congr .f32 fun x hx y hy => (if_pos (by omega)).symm

theorem maskAt_diag : MaskAt a0 a0 (tMask (F := Ideal)) := fun r => by
  rw [tMask_up]
  exact up_congr .f32 fun x _ y _ => by simp only [Nat.add_lt_add_iff_left]

/-- Rows `n + x` of a matrix, as an array. -/
def rows {m l : ℕ} (φ : FTy) (n : ℕ) (r : ℕ → ℕ → ℝ) : FVec Ideal ⟨2, ![m, l]⟩ φ := up φ fun x d => r (n + x) d

/-- Entries `n + x` of a vector, as a column. -/
def col {m : ℕ} (φ : FTy) (n : ℕ) (r : ℕ → ℝ) : FVec Ideal ⟨2, ![m, 1]⟩ φ := up φ fun x _ => r (n + x)

/-- The tile of a matrix at row `a` and column `b`, as an array. -/
def tileOf {m n : ℕ} (φ : FTy) (a b : ℕ) (r : ℕ → ℕ → ℝ) : FVec Ideal ⟨2, ![m, n]⟩ φ := up φ fun x y => r (a + x) (b + y)

variable (hM : MaskAt a0 b0 M)
include hM

theorem tLk_eq : tLk M (rows .bf16 a0 q) (rows .bf16 b0 k) = tileOf .f32 a0 b0 (LK q k) := by
  unfold tLk rows
  rw [tZ_up, tLs_up]
  have : subf (F := Ideal) (up (m := 256) (n := 256) .f32 fun x y => lsig ((∑ d ∈ range 128, q (a0 + x) d * k (b0 + y) d) * sc))
      (up .f32 fun x y => (∑ d ∈ range 128, q (a0 + x) d * k (b0 + y) d) * sc)
      = up .f32 fun x y => lsig (Z q k (a0 + x) (b0 + y)) - Z q k (a0 + x) (b0 + y) := by
    funext p; idx_vars p; pointwise []; rw [← EReal.coe_sub]; rfl
  rw [this, hM]; rfl

theorem tW_eq : tW M (rows .bf16 a0 q) (rows .bf16 b0 k) (col .f32 a0 (T q k)) (col .f32 a0 fun a => C0 q k a b0) = tileOf .f32 a0 b0 (W q k) := by
  unfold tW
  rw [tLk_eq q k a0 b0 M hM]
  unfold rows col tileOf
  rw [tZ_up, tLs_up, tBelow_up]
  have : exp (F := Ideal) (addf (up (m := 256) (n := 256) .f32 fun x y => lsig ((∑ d ∈ range 128, q (a0 + x) d * k (b0 + y) d) * sc))
      (subf (broadcastTo S256x256 (up (m := 256) (n := 1) .f32 fun x _ => T q k (a0 + x)) broadcasts_S256x1_S256x256)
        (up .f32 fun x y => C0 q k (a0 + x) b0 + ∑ b ∈ range (y + 1), LK q k (a0 + x) (b0 + b))))
      = up .f32 fun x y => Real.exp (lsig (Z q k (a0 + x) (b0 + y)) + (T q k (a0 + x) - C0 q k (a0 + x) (b0 + y + 1))) := by
    funext p; idx_vars p; pointwise []
    rw [← EReal.coe_sub, ← EReal.coe_add, Ideal.exp_coe, add_assoc b0, C0, C0, sum_range_add _ b0 (p1.val + 1)]; rfl
  rw [this, hM]; rfl

theorem tE_eq : tE M (rows .bf16 a0 q) (rows .bf16 b0 k) (rows .bf16 a0 g) (rows .bf16 b0 v) (col .f32 a0 (T q k)) (col .f32 a0 fun a => C0 q k a b0)
    = tileOf .f32 a0 b0 (E q k v g) := by
  unfold tE
  rw [tW_eq q k a0 b0 M hM]
  unfold rows tileOf
  rw [tDW_up]
  funext p; idx_vars p; pointwise []; rw [← EReal.coe_mul]; rfl

theorem tDz_eq : tDz M (rows .bf16 a0 q) (rows .bf16 b0 k) (rows .bf16 a0 g) (rows .bf16 b0 v) (col .f32 a0 (T q k)) (col .f32 a0 fun a => C0 q k a b0)
      (col .f32 a0 fun a => P q k v g a b0)
    = tileOf .bf16 a0 b0 (DZ q k v g) := by
  unfold tDz
  rw [tE_eq q k v g a0 b0 M hM]
  unfold rows col tileOf
  rw [tZ_up, tLs_up]
  have : subf (F := Ideal)
      (mulf (up (m := 256) (n := 256) .f32 fun x y => E q k v g (a0 + x) (b0 + y)) (subf (broadcast S256x256 (Scalar.ofBits .f32 0x3F800000#32))
        (exp (up (m := 256) (n := 256) .f32 fun x y => lsig ((∑ d ∈ range 128, q (a0 + x) d * k (b0 + y) d) * sc)))))
      (mulf (addf (broadcastTo S256x256 (up (m := 256) (n := 1) .f32 fun x _ => P q k v g (a0 + x) b0) broadcasts_S256x1_S256x256)
          (matmul dot_S256x256_S256x256_S256x256_1_0_0_1_n_n none (truncf .bf16 (up (m := 256) (n := 256) .f32 fun x y => E q k v g (a0 + x) (b0 + y)) bitsLt_bf16_f32) k0_pay106
            (constant S256x256 .f32 0x00000000#32)))
        (exp (up (m := 256) (n := 256) .f32 fun x y => lsig ((∑ d ∈ range 128, q (a0 + x) d * k (b0 + y) d) * sc))))
      = up .f32 fun x y => E q k v g (a0 + x) (b0 + y) * (1 - Real.exp (lsig (Z q k (a0 + x) (b0 + y))))
          - P q k v g (a0 + x) (b0 + y) * Real.exp (lsig (Z q k (a0 + x) (b0 + y))) := by
    funext p; idx_vars p; pointwise [pay106_up]
    simp only [Ideal.exp_coe, ← EReal.coe_mul, ← EReal.coe_one, ← EReal.coe_sub]
    rw [coe_sum 256 fun b => E q k v g (a0 + p0) (b0 + b) * (if b < p1.val then 1 else 0), sum_tri _ _ _ (by omega),
      ← EReal.coe_add, P, P, sum_range_add _ b0 p1.val, ← EReal.coe_mul, ← EReal.coe_sub]; rfl
  rw [this, hM]
  funext p; idx_vars p; pointwise [ofBits_sc]; rw [← EReal.coe_mul]; rfl

end tile

theorem tRow_C0 (q k : ℕ → ℕ → ℝ) (a0 b0 : ℕ) :
    tRow (col .f32 a0 fun a => C0 q k a b0) (tileOf .f32 a0 b0 (LK q k)) = col .f32 a0 fun a => C0 q k a (b0 + 256) := by
  unfold col tileOf
  rw [tRow_up]; simp only [C0, sum_range_add]

theorem tRow_P (q k v g : ℕ → ℕ → ℝ) (a0 b0 : ℕ) :
    tRow (col .f32 a0 fun a => P q k v g a b0) (tileOf .f32 a0 b0 (E q k v g)) = col .f32 a0 fun a => P q k v g a (b0 + 256) := by
  unfold col tileOf
  rw [tRow_up]; simp only [P, sum_range_add]

theorem tQ_DQ (q k v g : ℕ → ℕ → ℝ) (a0 b0 : ℕ) :
    tQ (rows .f32 a0 (DQ q k v g b0)) (tileOf .bf16 a0 b0 (DZ q k v g)) (rows .bf16 b0 k) = rows .f32 a0 (DQ q k v g (b0 + 256)) := by
  unfold rows tileOf
  rw [tQ_up]; simp only [DQ, sum_range_add]

/-- Rows `n + x` of a slab, as an array. -/
def slab {m l : ℕ} (φ : FTy) (n : ℕ) (r : ℕ → ℕ → ℝ) : FVec Ideal ⟨3, ![1, m, l]⟩ φ := up1 φ fun x d => r (n + x) d

theorem tAcc_DK (q k v g : ℕ → ℕ → ℝ) (a0 b0 : ℕ) :
    tAcc (tileOf .bf16 a0 b0 (DZ q k v g)) (rows .bf16 a0 q) (slab .f32 b0 (DK q k v g a0)) = slab .f32 b0 (DK q k v g (a0 + 256)) := by
  unfold rows tileOf slab
  rw [tAcc_up]; simp only [DK, sum_range_add]

theorem tAcc_DV (q k g : ℕ → ℕ → ℝ) (a0 b0 : ℕ) :
    tAcc (truncf .bf16 (tileOf .f32 a0 b0 (W q k)) bitsLt_bf16_f32) (rows .bf16 a0 g) (slab .f32 b0 (DV q k g a0)) = slab .f32 b0 (DV q k g (a0 + 256)) := by
  have : truncf (F := Ideal) .bf16 (tileOf (m := 256) (n := 256) .f32 a0 b0 (W q k)) bitsLt_bf16_f32 = tileOf .bf16 a0 b0 (W q k) := rfl
  rw [this]
  unfold rows tileOf slab
  rw [tAcc_up]; simp only [DV, sum_range_add]

end Cert.KernelIdeal.Sb

end
-- ==== Proof.Loop.lean ====
/-
  The kernel's loop over the earlier key tiles: what one trip stores and yields, as the tile functions of each head, and
  what the carried values and the accumulators are after any number of trips when the arrays hold real numbers.
-/
module

public import proofs.«01_k».proof.Proof.Gen.KernelIdeal.Loops
public import proofs.«01_k».proof.Proof.Tile
public import Idealize.ShloMosaic.Lib.VecWindow

@[expose] public section

set_option maxRecDepth 16384

noncomputable section

namespace Cert.KernelIdeal.Sb

open Idealize.ShloMosaic Idealize.ShloMosaic.TcCoe Idealize.ShloMosaic.Tactic Idealize.SL.Sem
open Cert.KernelIdeal.Gen

/-- The buffers the body is called with. -/
structure Bufs where
  a2 : Memref sig .tc .vmem S256x128 .bf16
  h2 : a2.IsWhole
  a3 : Memref sig .tc .vmem S2048x128 .bf16
  h3 : a3.IsWhole
  a4 : Memref sig .tc .vmem S2048x128 .bf16
  h4 : a4.IsWhole
  a5 : Memref sig .tc .vmem S256x128 .bf16
  h5 : a5.IsWhole
  a6 : Memref sig .tc .vmem S2048x128 .bf16
  h6 : a6.IsWhole
  a7 : Memref sig .tc .vmem S2048x128 .bf16
  h7 : a7.IsWhole
  a8 : Memref sig .tc .vmem S256x128 .bf16
  h8 : a8.IsWhole
  a9 : Memref sig .tc .vmem S2048x128 .bf16
  h9 : a9.IsWhole
  a10 : Memref sig .tc .vmem S2048x128 .bf16
  h10 : a10.IsWhole
  a11 : Memref sig .tc .vmem S256x128 .bf16
  h11 : a11.IsWhole
  a12 : Memref sig .tc .vmem S2048x128 .bf16
  h12 : a12.IsWhole
  a13 : Memref sig .tc .vmem S2048x128 .bf16
  h13 : a13.IsWhole
  a14 : Memref sig .tc .vmem S256x512 .bf16
  h14 : a14.IsWhole
  a15 : Memref sig .tc .vmem S256x128 .f32
  h15 : a15.IsWhole
  a16 : Memref sig .tc .hbm S8x128 .f32
  h16 : a16.IsWhole
  a17 : Memref sig .tc .vmem S2048x1536 .bf16
  h17 : a17.IsWhole
  a18 : Memref sig .tc .vmem S4x2048x128 .f32
  h18 : a18.IsWhole
  a19 : Memref sig .tc .vmem S4x2048x128 .f32
  h19 : a19.IsWhole

section trip

variable {F : FTy → Type} [FloatOps F]

/-- What the loop carries: of each head the two row sums and the queries' gradient. -/
abbrev Acc (F : FTy → Type) := FVec F S256x1 .f32 × FVec F S256x1 .f32 × FVec F S256x128 .f32 × FVec F S256x1 .f32 × FVec F S256x1 .f32 × FVec F S256x128 .f32
  × FVec F S256x1 .f32 × FVec F S256x1 .f32 × FVec F S256x128 .f32 × FVec F S256x1 .f32 × FVec F S256x1 .f32 × FVec F S256x128 .f32

/-- The block of keys or values a trip reads. -/
def kblk (i : grid0.Coords) (k : Fin (k0_t1_loop i).trips) (a : Memref sig .tc .vmem S2048x128 .bf16) (X : BufTy.Contents (Elt F) a.view.ty) : FVec F S256x128 .bf16 :=
  View.readAt (Elt F) a.view (Rect.unit (s := S2048x128) (k0_off1 i k) S256x128.size (k0_off1_inb i k)).toLoadRect X

variable (𝒱 : Variants) (c : Dev nD) (bd : Option 𝒱.V) (i : grid0.Coords) (B : Bufs) (w : BitVec 32)
  (q0 q1 q2 q3 g0 g1 g2 g3 : FVec F S256x128 .bf16) (t0 t1 t2 t3 : FVec F S256x1 .f32) (z : FVec F S256x1 .f32)
  (X3 : BufTy.Contents (Elt F) B.a3.view.ty)  (X4 : BufTy.Contents (Elt F) B.a4.view.ty)  (X6 : BufTy.Contents (Elt F) B.a6.view.ty)  (X7 : BufTy.Contents (Elt F) B.a7.view.ty)  (X9 : BufTy.Contents (Elt F) B.a9.view.ty)  (X10 : BufTy.Contents (Elt F) B.a10.view.ty)  (X12 : BufTy.Contents (Elt F) B.a12.view.ty)  (X13 : BufTy.Contents (Elt F) B.a13.view.ty)

variable (k : Fin (k0_t1_loop i).trips) (acc : Acc F) (f18 : BufTy.Contents (Elt F) B.a18.view.ty) (f19 : BufTy.Contents (Elt F) B.a19.view.ty)

/-- What a trip stores. -/
theorem tripL_eq : tripL_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 k acc f18 f19
    = ([⟨Rect.unit (s := S4x2048x128) (k0_off5 i k) S1x256x128.size (k0_off5_inb i k), tAcc (tDz id q3 (kblk i k B.a12 X12) g3 (kblk i k B.a13 X13) t3 acc.2.2.2.2.2.2.2.2.2.1 acc.2.2.2.2.2.2.2.2.2.2.1) q3 (View.readAt (Elt F) B.a18.view (Rect.unit (s := S4x2048x128) (k0_off5 i k) S1x256x128.size (k0_off5_inb i k)).toLoadRect f18)⟩, ⟨Rect.unit (s := S4x2048x128) (k0_off4 i k) S1x256x128.size (k0_off4_inb i k), tAcc (tDz id q2 (kblk i k B.a9 X9) g2 (kblk i k B.a10 X10) t2 acc.2.2.2.2.2.2.1 acc.2.2.2.2.2.2.2.1) q2 (View.readAt (Elt F) B.a18.view (Rect.unit (s := S4x2048x128) (k0_off4 i k) S1x256x128.size (k0_off4_inb i k)).toLoadRect f18)⟩, ⟨Rect.unit (s := S4x2048x128) (k0_off3 i k) S1x256x128.size (k0_off3_inb i k), tAcc (tDz id q1 (kblk i k B.a6 X6) g1 (kblk i k B.a7 X7) t1 acc.2.2.2.1 acc.2.2.2.2.1) q1 (View.readAt (Elt F) B.a18.view (Rect.unit (s := S4x2048x128) (k0_off3 i k) S1x256x128.size (k0_off3_inb i k)).toLoadRect f18)⟩, ⟨Rect.unit (s := S4x2048x128) (k0_off2 i k) S1x256x128.size (k0_off2_inb i k), tAcc (tDz id q0 (kblk i k B.a3 X3) g0 (kblk i k B.a4 X4) t0 acc.1 acc.2.1) q0 (View.readAt (Elt F) B.a18.view (Rect.unit (s := S4x2048x128) (k0_off2 i k) S1x256x128.size (k0_off2_inb i k)).toLoadRect f18)⟩],
       [⟨Rect.unit (s := S4x2048x128) (k0_off5 i k) S1x256x128.size (k0_off5_inb i k), tAcc (truncf .bf16 (tW id q3 (kblk i k B.a12 X12) t3 acc.2.2.2.2.2.2.2.2.2.1) bitsLt_bf16_f32) g3 (View.readAt (Elt F) B.a19.view (Rect.unit (s := S4x2048x128) (k0_off5 i k) S1x256x128.size (k0_off5_inb i k)).toLoadRect f19)⟩, ⟨Rect.unit (s := S4x2048x128) (k0_off4 i k) S1x256x128.size (k0_off4_inb i k), tAcc (truncf .bf16 (tW id q2 (kblk i k B.a9 X9) t2 acc.2.2.2.2.2.2.1) bitsLt_bf16_f32) g2 (View.readAt (Elt F) B.a19.view (Rect.unit (s := S4x2048x128) (k0_off4 i k) S1x256x128.size (k0_off4_inb i k)).toLoadRect f19)⟩, ⟨Rect.unit (s := S4x2048x128) (k0_off3 i k) S1x256x128.size (k0_off3_inb i k), tAcc (truncf .bf16 (tW id q1 (kblk i k B.a6 X6) t1 acc.2.2.2.1) bitsLt_bf16_f32) g1 (View.readAt (Elt F) B.a19.view (Rect.unit (s := S4x2048x128) (k0_off3 i k) S1x256x128.size (k0_off3_inb i k)).toLoadRect f19)⟩, ⟨Rect.unit (s := S4x2048x128) (k0_off2 i k) S1x256x128.size (k0_off2_inb i k), tAcc (truncf .bf16 (tW id q0 (kblk i k B.a3 X3) t0 acc.1) bitsLt_bf16_f32) g0 (View.readAt (Elt F) B.a19.view (Rect.unit (s := S4x2048x128) (k0_off2 i k) S1x256x128.size (k0_off2_inb i k)).toLoadRect f19)⟩]) := by
  unfold tripL_k0_t1 trip_k0_t1
  dsimp only
  sl_unfold_words
  rfl

/-- What a trip yields. -/
theorem tripR_eq : tripR_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 k acc f18 f19
    = (tRow acc.1 (tLk id q0 (kblk i k B.a3 X3)), tRow acc.2.1 (tE id q0 (kblk i k B.a3 X3) g0 (kblk i k B.a4 X4) t0 acc.1), tQ acc.2.2.1 (tDz id q0 (kblk i k B.a3 X3) g0 (kblk i k B.a4 X4) t0 acc.1 acc.2.1) (kblk i k B.a3 X3), tRow acc.2.2.2.1 (tLk id q1 (kblk i k B.a6 X6)), tRow acc.2.2.2.2.1 (tE id q1 (kblk i k B.a6 X6) g1 (kblk i k B.a7 X7) t1 acc.2.2.2.1), tQ acc.2.2.2.2.2.1 (tDz id q1 (kblk i k B.a6 X6) g1 (kblk i k B.a7 X7) t1 acc.2.2.2.1 acc.2.2.2.2.1) (kblk i k B.a6 X6), tRow acc.2.2.2.2.2.2.1 (tLk id q2 (kblk i k B.a9 X9)), tRow acc.2.2.2.2.2.2.2.1 (tE id q2 (kblk i k B.a9 X9) g2 (kblk i k B.a10 X10) t2 acc.2.2.2.2.2.2.1), tQ acc.2.2.2.2.2.2.2.2.1 (tDz id q2 (kblk i k B.a9 X9) g2 (kblk i k B.a10 X10) t2 acc.2.2.2.2.2.2.1 acc.2.2.2.2.2.2.2.1) (kblk i k B.a9 X9), tRow acc.2.2.2.2.2.2.2.2.2.1 (tLk id q3 (kblk i k B.a12 X12)), tRow acc.2.2.2.2.2.2.2.2.2.2.1 (tE id q3 (kblk i k B.a12 X12) g3 (kblk i k B.a13 X13) t3 acc.2.2.2.2.2.2.2.2.2.1), tQ acc.2.2.2.2.2.2.2.2.2.2.2 (tDz id q3 (kblk i k B.a12 X12) g3 (kblk i k B.a13 X13) t3 acc.2.2.2.2.2.2.2.2.2.1 acc.2.2.2.2.2.2.2.2.2.2.1) (kblk i k B.a12 X12)) := by
  unfold tripR_k0_t1 trip_k0_t1
  dsimp only
  sl_unfold_words
  rfl

end trip

/-! ## Arrays of four heads -/

/-- The array of four heads of the real numbers `f`. -/
def arr4 (f : ℕ → ℕ → ℕ → ℝ) : FVec Ideal S4x2048x128 .f32 := fun p => ((f (p 0).val (p 1).val (p 2).val : ℝ) : EReal)

theorem arr4_congr {f f' : ℕ → ℕ → ℕ → ℝ} (h : ∀ a < 4, ∀ b < 2048, ∀ d < 128, f a b d = f' a b d) : arr4 f = arr4 f' := by
  funext p; exact congrArg _ (h _ (p 0).isLt _ (p 1).isLt _ (p 2).isLt)

theorem window_arr4 (f : ℕ → ℕ → ℕ → ℝ) (h n : ℕ) (inb : ∀ a, (![h, n, 0] : Fin 3 → ℕ) a + S1x256x128.size a ≤ S4x2048x128.size a) :
    VecWindow.window (s := S4x2048x128) (arr4 f) ![h, n, 0] S1x256x128.size inb = slab .f32 n (f h) := by
  funext p
  have e0 : ((Rect.unit (s := S4x2048x128) ![h, n, 0] S1x256x128.size inb).emb p 0).val = h + 1 * (p 0).val := rfl
  have e1 : ((Rect.unit (s := S4x2048x128) ![h, n, 0] S1x256x128.size inb).emb p 1).val = n + 1 * (p 1).val := rfl
  have e2 : ((Rect.unit (s := S4x2048x128) ![h, n, 0] S1x256x128.size inb).emb p 2).val = 0 + 1 * (p 2).val := rfl
  have h0 : (p 0).val < 1 := (p 0).isLt
  unfold VecWindow.window arr4 slab up1
  rw [e0, e1, e2, show h + 1 * (p 0).val = h by omega, one_mul, one_mul, zero_add]

theorem put_arr4 (f r : ℕ → ℕ → ℕ → ℝ) (h n : ℕ) :
    VecWindow.put (s := S4x2048x128) (arr4 f) ![h, n, 0] S1x256x128.size (slab (m := 256) (l := 128) .f32 n (r h))
      = arr4 fun h' x d => if h' = h ∧ n ≤ x ∧ x < n + 256 then r h' x d else f h' x d := by
  funext p
  unfold VecWindow.put
  have hd : (p 2).val < 128 := (p 2).isLt
  by_cases hp : (p 0).val = h ∧ n ≤ (p 1).val ∧ (p 1).val < n + 256
  · have hall : ∀ a, (![h, n, 0] : Fin 3 → ℕ) a ≤ (p a).val ∧ (p a).val < (![h, n, 0] : Fin 3 → ℕ) a + S1x256x128.size a := by
      intro a
      fin_cases a
      · show h ≤ (p 0).val ∧ (p 0).val < h + 1; omega
      · show n ≤ (p 1).val ∧ (p 1).val < n + 256; omega
      · show 0 ≤ (p 2).val ∧ (p 2).val < 0 + 128; omega
    rw [dif_pos hall]
    show _ = ((if (p 0).val = h ∧ n ≤ (p 1).val ∧ (p 1).val < n + 256 then r (p 0).val (p 1).val (p 2).val else f (p 0).val (p 1).val (p 2).val : ℝ) : EReal)
    rw [if_pos hp]
    show ((r h (n + ((p 1).val - n)) ((p 2).val - 0) : ℝ) : EReal) = _
    rw [hp.1, Nat.sub_zero, Nat.add_sub_cancel' hp.2.1]
  · rw [dif_neg (fun hall => hp (by
      have h0 : h ≤ (p 0).val ∧ (p 0).val < h + 1 := hall 0
      have h1 : n ≤ (p 1).val ∧ (p 1).val < n + 256 := hall 1
      omega))]
    show _ = ((if (p 0).val = h ∧ n ≤ (p 1).val ∧ (p 1).val < n + 256 then r (p 0).val (p 1).val (p 2).val else f (p 0).val (p 1).val (p 2).val : ℝ) : EReal)
    rw [if_neg hp]; rfl

/-- Putting the four heads' slabs one after another puts the rows of all heads. -/
theorem put4_arr4 (f r : ℕ → ℕ → ℕ → ℝ) (n : ℕ) :
    VecWindow.put (s := S4x2048x128) (VecWindow.put (VecWindow.put (VecWindow.put (arr4 f)
        ![0, n, 0] S1x256x128.size (slab (m := 256) (l := 128) .f32 n (r 0))) ![1, n, 0] S1x256x128.size (slab (m := 256) (l := 128) .f32 n (r 1)))
        ![2, n, 0] S1x256x128.size (slab (m := 256) (l := 128) .f32 n (r 2))) ![3, n, 0] S1x256x128.size (slab (m := 256) (l := 128) .f32 n (r 3))
      = arr4 fun h x d => if n ≤ x ∧ x < n + 256 then r h x d else f h x d := by
  rw [put_arr4, put_arr4, put_arr4, put_arr4]
  refine arr4_congr fun h hh x _ d _ => ?_
  by_cases hx : n ≤ x ∧ x < n + 256
  · rcases (by omega : h = 0 ∨ h = 1 ∨ h = 2 ∨ h = 3) with e | e | e | e <;> subst e <;> simp [hx]
  · simp [hx]

/-- The four heads' queries, keys, values and output cotangents. -/
structure Heads where
  q : ℕ → ℕ → ℕ → ℝ
  k : ℕ → ℕ → ℕ → ℝ
  v : ℕ → ℕ → ℕ → ℝ
  g : ℕ → ℕ → ℕ → ℝ

/-- The keys' gradients from the first `n` queries. -/
def Heads.dk (H : Heads) (n h x d : ℕ) : ℝ := DK (H.q h) (H.k h) (H.v h) (H.g h) n x d

/-- The values' gradients from the first `n` queries. -/
def Heads.dv (H : Heads) (n h x d : ℕ) : ℝ := DV (H.q h) (H.k h) (H.g h) n x d

/-- What the loop carries at query row `a` after the first `n` keys. -/
def Heads.acc (H : Heads) (a n : ℕ) : Acc Ideal :=
  (col .f32 a (fun x => C0 (H.q 0) (H.k 0) x n), col .f32 a (fun x => P (H.q 0) (H.k 0) (H.v 0) (H.g 0) x n), rows .f32 a (DQ (H.q 0) (H.k 0) (H.v 0) (H.g 0) n),
    col .f32 a (fun x => C0 (H.q 1) (H.k 1) x n), col .f32 a (fun x => P (H.q 1) (H.k 1) (H.v 1) (H.g 1) x n), rows .f32 a (DQ (H.q 1) (H.k 1) (H.v 1) (H.g 1) n),
    col .f32 a (fun x => C0 (H.q 2) (H.k 2) x n), col .f32 a (fun x => P (H.q 2) (H.k 2) (H.v 2) (H.g 2) x n), rows .f32 a (DQ (H.q 2) (H.k 2) (H.v 2) (H.g 2) n),
    col .f32 a (fun x => C0 (H.q 3) (H.k 3) x n), col .f32 a (fun x => P (H.q 3) (H.k 3) (H.v 3) (H.g 3) x n), rows .f32 a (DQ (H.q 3) (H.k 3) (H.v 3) (H.g 3) n))

/-- The rows below `n` of the second, the others of the first. -/
def mix (lo hi : ℕ → ℕ → ℕ → ℝ) (n h x d : ℕ) : ℝ := if x < n then hi h x d else lo h x d

theorem slab_mix (lo hi : ℕ → ℕ → ℕ → ℝ) (n h : ℕ) : slab (m := 256) (l := 128) .f32 n (mix lo hi n h) = slab .f32 n (lo h) := by
  funext p
  unfold slab up1 mix
  exact congrArg _ (if_neg (by omega))

theorem mix_succ (lo hi : ℕ → ℕ → ℕ → ℝ) (n : ℕ) :
    (fun h x d => if n ≤ x ∧ x < n + 256 then hi h x d else mix lo hi n h x d) = mix lo hi (n + 256) := by
  funext h x d
  unfold mix
  by_cases h1 : x < n
  · rw [if_neg (by omega), if_pos h1, if_pos (by omega)]
  · by_cases h2 : x < n + 256
    · rw [if_pos (by omega), if_pos h2]
    · rw [if_neg (by omega), if_neg h1, if_neg h2]

/-- Reading four stores of slabs, one per head, over an array. -/
theorem read_put4 (a : Memref sig .tc .vmem S4x2048x128 .f32) (f : BufTy.Contents (Elt Ideal) a.view.ty) (L : List (View.Piece (Elt Ideal) S4x2048x128 .f32))
    (x r : ℕ → ℕ → ℕ → ℝ) (n : ℕ) (hx : a.view.read (Elt Ideal) (a.view.writes (Elt Ideal) f L) = arr4 x)
    (o0 o1 o2 o3 : Fin 3 → ℕ) (i0 : ∀ a, o0 a + S1x256x128.size a ≤ S4x2048x128.size a) (i1 : ∀ a, o1 a + S1x256x128.size a ≤ S4x2048x128.size a)
    (i2 : ∀ a, o2 a + S1x256x128.size a ≤ S4x2048x128.size a) (i3 : ∀ a, o3 a + S1x256x128.size a ≤ S4x2048x128.size a)
    (h0 : o0 = ![0, n, 0]) (h1 : o1 = ![1, n, 0]) (h2 : o2 = ![2, n, 0]) (h3 : o3 = ![3, n, 0])
    (w0 w1 w2 w3 : FVec Ideal S1x256x128 .f32) (e0 : w0 = slab .f32 n (r 0)) (e1 : w1 = slab .f32 n (r 1)) (e2 : w2 = slab .f32 n (r 2)) (e3 : w3 = slab .f32 n (r 3)) :
    a.view.read (Elt Ideal) (a.view.writes (Elt Ideal) f (⟨Rect.unit (s := S4x2048x128) o3 S1x256x128.size i3, w3⟩ :: ⟨Rect.unit (s := S4x2048x128) o2 S1x256x128.size i2, w2⟩
        :: ⟨Rect.unit (s := S4x2048x128) o1 S1x256x128.size i1, w1⟩ :: ⟨Rect.unit (s := S4x2048x128) o0 S1x256x128.size i0, w0⟩ :: L))
      = arr4 fun h y d => if n ≤ y ∧ y < n + 256 then r h y d else x h y d := by
  subst e0 e1 e2 e3
  rw [View.read_writes_cons_put _ _ i3 _ _ h3, View.read_writes_cons_put _ _ i2 _ _ h2, View.read_writes_cons_put _ _ i1 _ _ h1,
    View.read_writes_cons_put _ _ i0 _ _ h0, hx]
  exact put4_arr4 x r n

/-- Reading a head's block of rows of an array of four heads. -/
theorem readAt_arr4 (a : Memref sig .tc .vmem S4x2048x128 .f32) (f : BufTy.Contents (Elt Ideal) a.view.ty) (x : ℕ → ℕ → ℕ → ℝ)
    (hx : a.view.read (Elt Ideal) f = arr4 x) (h n : ℕ) (o : Fin 3 → ℕ) (inb : ∀ a, o a + S1x256x128.size a ≤ S4x2048x128.size a) (ho : o = ![h, n, 0]) :
    View.readAt (Elt Ideal) a.view (Rect.unit (s := S4x2048x128) o S1x256x128.size inb).toLoadRect f = slab .f32 n (x h) := by
  subst ho
  rw [View.readAt_unit a.view f inb rfl inb, hx]
  exact window_arr4 x h n inb

/-- Reading a block of rows of a matrix. -/
theorem readAt_rows (a : Memref sig .tc .vmem S2048x128 .bf16) (X : BufTy.Contents (Elt Ideal) a.view.ty) (r : ℕ → ℕ → ℝ)
    (hX : a.view.read (Elt Ideal) X = up .bf16 r) (n : ℕ) (o : Fin 2 → ℕ) (inb : ∀ a, o a + S256x128.size a ≤ S2048x128.size a) (ho : o = ![n, 0]) :
    View.readAt (Elt Ideal) a.view (Rect.unit (s := S2048x128) o S256x128.size inb).toLoadRect X = rows .bf16 n r := by
  subst ho
  rw [View.readAt_unit a.view X inb rfl inb, hX]
  funext p
  have e0 : ((Rect.unit (s := S2048x128) ![n, 0] S256x128.size inb).emb p 0).val = n + 1 * (p 0).val := rfl
  have e1 : ((Rect.unit (s := S2048x128) ![n, 0] S256x128.size inb).emb p 1).val = 0 + 1 * (p 1).val := rfl
  unfold VecWindow.window up rows up
  rw [e0, e1, one_mul, one_mul, zero_add]

theorem trips_t1 : ∀ i : grid0.Coords, (k0_t1_loop i).trips = (i 1).val := by decide +kernel

section value

variable (𝒱 : Variants) (c : Dev nD) (bd : Option 𝒱.V) (i : grid0.Coords) (B : Bufs) (w : BitVec 32)
  (q0 q1 q2 q3 g0 g1 g2 g3 : FVec Ideal S256x128 .bf16) (t0 t1 t2 t3 : FVec Ideal S256x1 .f32) (z : FVec Ideal S256x1 .f32)
  (X3 : BufTy.Contents (Elt Ideal) B.a3.view.ty)  (X4 : BufTy.Contents (Elt Ideal) B.a4.view.ty)  (X6 : BufTy.Contents (Elt Ideal) B.a6.view.ty)  (X7 : BufTy.Contents (Elt Ideal) B.a7.view.ty)  (X9 : BufTy.Contents (Elt Ideal) B.a9.view.ty)  (X10 : BufTy.Contents (Elt Ideal) B.a10.view.ty)  (X12 : BufTy.Contents (Elt Ideal) B.a12.view.ty)  (X13 : BufTy.Contents (Elt Ideal) B.a13.view.ty)

variable (H : Heads)
  (G18 : BufTy.Contents (Elt Ideal) B.a18.view.ty) (G19 : BufTy.Contents (Elt Ideal) B.a19.view.ty) (init : Acc Ideal)

/-- What the state before a trip is: the carried values and the accumulators. -/
def Good (S : Acc Ideal × List (View.Piece (Elt Ideal) S4x2048x128 .f32) × List (View.Piece (Elt Ideal) S4x2048x128 .f32)) (n : ℕ) : Prop :=
  S.1 = H.acc (256 * (i 1).val) (256 * n)
    ∧ B.a18.view.read (Elt Ideal) (B.a18.view.writes (Elt Ideal) G18 S.2.1) = arr4 (mix (H.dk (256 * (i 1).val)) (H.dk (256 * (i 1).val + 256)) (256 * n))
    ∧ B.a19.view.read (Elt Ideal) (B.a19.view.writes (Elt Ideal) G19 S.2.2) = arr4 (mix (H.dv (256 * (i 1).val)) (H.dv (256 * (i 1).val + 256)) (256 * n))

/-- A trip advances the state. -/
theorem good_step
  (hq0 : q0 = rows .bf16 (256 * (i 1).val) (H.q 0)) (hg0 : g0 = rows .bf16 (256 * (i 1).val) (H.g 0)) (ht0 : t0 = col .f32 (256 * (i 1).val) (T (H.q 0) (H.k 0)))
  (hk0 : B.a3.view.read (Elt Ideal) X3 = up .bf16 (H.k 0)) (hv0 : B.a4.view.read (Elt Ideal) X4 = up .bf16 (H.v 0))
  (hq1 : q1 = rows .bf16 (256 * (i 1).val) (H.q 1)) (hg1 : g1 = rows .bf16 (256 * (i 1).val) (H.g 1)) (ht1 : t1 = col .f32 (256 * (i 1).val) (T (H.q 1) (H.k 1)))
  (hk1 : B.a6.view.read (Elt Ideal) X6 = up .bf16 (H.k 1)) (hv1 : B.a7.view.read (Elt Ideal) X7 = up .bf16 (H.v 1))
  (hq2 : q2 = rows .bf16 (256 * (i 1).val) (H.q 2)) (hg2 : g2 = rows .bf16 (256 * (i 1).val) (H.g 2)) (ht2 : t2 = col .f32 (256 * (i 1).val) (T (H.q 2) (H.k 2)))
  (hk2 : B.a9.view.read (Elt Ideal) X9 = up .bf16 (H.k 2)) (hv2 : B.a10.view.read (Elt Ideal) X10 = up .bf16 (H.v 2))
  (hq3 : q3 = rows .bf16 (256 * (i 1).val) (H.q 3)) (hg3 : g3 = rows .bf16 (256 * (i 1).val) (H.g 3)) (ht3 : t3 = col .f32 (256 * (i 1).val) (T (H.q 3) (H.k 3)))
  (hk3 : B.a12.view.read (Elt Ideal) X12 = up .bf16 (H.k 3)) (hv3 : B.a13.view.read (Elt Ideal) X13 = up .bf16 (H.v 3))
  (S : Acc Ideal × List (View.Piece (Elt Ideal) S4x2048x128 .f32) × List (View.Piece (Elt Ideal) S4x2048x128 .f32)) (k : Fin (k0_t1_loop i).trips) (hS : Good i B H G18 G19 S k.val) :
    Good i B H G18 G19
      (tripR_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 k S.1 (B.a18.view.writes (Elt Ideal) G18 S.2.1) (B.a19.view.writes (Elt Ideal) G19 S.2.2),
       (tripL_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 k S.1 (B.a18.view.writes (Elt Ideal) G18 S.2.1) (B.a19.view.writes (Elt Ideal) G19 S.2.2)).1 ++ S.2.1,
       (tripL_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 k S.1 (B.a18.view.writes (Elt Ideal) G18 S.2.1) (B.a19.view.writes (Elt Ideal) G19 S.2.2)).2 ++ S.2.2)
      (k.val + 1) := by
  obtain ⟨ih1, ih2, ih3⟩ := hS
  have hk : k.val < (i 1).val := k.isLt.trans_eq (trips_t1 i)
  rw [tripL_eq, tripR_eq, ih1]
  have hM : MaskAt (256 * (i 1).val) (256 * k.val) id := maskAt_id _ _ (by omega)
  have eK0 : kblk i k B.a3 X3 = rows .bf16 (256 * k.val) (H.k 0) := readAt_rows _ _ _ hk0 _ _ _ (k0_off1_eq i k)
  have eV0 : kblk i k B.a4 X4 = rows .bf16 (256 * k.val) (H.v 0) := readAt_rows _ _ _ hv0 _ _ _ (k0_off1_eq i k)
  have eK1 : kblk i k B.a6 X6 = rows .bf16 (256 * k.val) (H.k 1) := readAt_rows _ _ _ hk1 _ _ _ (k0_off1_eq i k)
  have eV1 : kblk i k B.a7 X7 = rows .bf16 (256 * k.val) (H.v 1) := readAt_rows _ _ _ hv1 _ _ _ (k0_off1_eq i k)
  have eK2 : kblk i k B.a9 X9 = rows .bf16 (256 * k.val) (H.k 2) := readAt_rows _ _ _ hk2 _ _ _ (k0_off1_eq i k)
  have eV2 : kblk i k B.a10 X10 = rows .bf16 (256 * k.val) (H.v 2) := readAt_rows _ _ _ hv2 _ _ _ (k0_off1_eq i k)
  have eK3 : kblk i k B.a12 X12 = rows .bf16 (256 * k.val) (H.k 3) := readAt_rows _ _ _ hk3 _ _ _ (k0_off1_eq i k)
  have eV3 : kblk i k B.a13 X13 = rows .bf16 (256 * k.val) (H.v 3) := readAt_rows _ _ _ hv3 _ _ _ (k0_off1_eq i k)
  rw [eK0, eV0, eK1, eV1, eK2, eV2, eK3, eV3, hq0, hg0, ht0, hq1, hg1, ht1, hq2, hg2, ht2, hq3, hg3, ht3]
  simp only [Heads.acc, Good, Nat.mul_succ, List.cons_append, List.nil_append]
  rw [tLk_eq (H.q 0) (H.k 0) _ _ _ hM, tE_eq (H.q 0) (H.k 0) (H.v 0) (H.g 0) _ _ _ hM, tDz_eq (H.q 0) (H.k 0) (H.v 0) (H.g 0) _ _ _ hM, tW_eq (H.q 0) (H.k 0) _ _ _ hM, tRow_C0, tRow_P, tQ_DQ, tLk_eq (H.q 1) (H.k 1) _ _ _ hM, tE_eq (H.q 1) (H.k 1) (H.v 1) (H.g 1) _ _ _ hM, tDz_eq (H.q 1) (H.k 1) (H.v 1) (H.g 1) _ _ _ hM, tW_eq (H.q 1) (H.k 1) _ _ _ hM, tRow_C0, tRow_P, tQ_DQ, tLk_eq (H.q 2) (H.k 2) _ _ _ hM, tE_eq (H.q 2) (H.k 2) (H.v 2) (H.g 2) _ _ _ hM, tDz_eq (H.q 2) (H.k 2) (H.v 2) (H.g 2) _ _ _ hM, tW_eq (H.q 2) (H.k 2) _ _ _ hM, tRow_C0, tRow_P, tQ_DQ, tLk_eq (H.q 3) (H.k 3) _ _ _ hM, tE_eq (H.q 3) (H.k 3) (H.v 3) (H.g 3) _ _ _ hM, tDz_eq (H.q 3) (H.k 3) (H.v 3) (H.g 3) _ _ _ hM, tW_eq (H.q 3) (H.k 3) _ _ _ hM, tRow_C0, tRow_P, tQ_DQ]
  refine ⟨rfl, ?_, ?_⟩
  · rw [← mix_succ]
    refine read_put4 B.a18 G18 _ _ (H.dk (256 * (i 1).val + 256)) (256 * k.val) ih2 _ _ _ _ _ _ _ _ (k0_off2_eq i k) (k0_off3_eq i k) (k0_off4_eq i k) (k0_off5_eq i k) _ _ _ _ ?_ ?_ ?_ ?_
    · rw [readAt_arr4 B.a18 _ _ ih2 0 (256 * k.val) _ _ (k0_off2_eq i k), slab_mix]; exact tAcc_DK _ _ _ _ _ _
    · rw [readAt_arr4 B.a18 _ _ ih2 1 (256 * k.val) _ _ (k0_off3_eq i k), slab_mix]; exact tAcc_DK _ _ _ _ _ _
    · rw [readAt_arr4 B.a18 _ _ ih2 2 (256 * k.val) _ _ (k0_off4_eq i k), slab_mix]; exact tAcc_DK _ _ _ _ _ _
    · rw [readAt_arr4 B.a18 _ _ ih2 3 (256 * k.val) _ _ (k0_off5_eq i k), slab_mix]; exact tAcc_DK _ _ _ _ _ _
  · rw [← mix_succ]
    refine read_put4 B.a19 G19 _ _ (H.dv (256 * (i 1).val + 256)) (256 * k.val) ih3 _ _ _ _ _ _ _ _ (k0_off2_eq i k) (k0_off3_eq i k) (k0_off4_eq i k) (k0_off5_eq i k) _ _ _ _ ?_ ?_ ?_ ?_
    · rw [readAt_arr4 B.a19 _ _ ih3 0 (256 * k.val) _ _ (k0_off2_eq i k), slab_mix]; exact tAcc_DV _ _ _ _ _
    · rw [readAt_arr4 B.a19 _ _ ih3 1 (256 * k.val) _ _ (k0_off3_eq i k), slab_mix]; exact tAcc_DV _ _ _ _ _
    · rw [readAt_arr4 B.a19 _ _ ih3 2 (256 * k.val) _ _ (k0_off4_eq i k), slab_mix]; exact tAcc_DV _ _ _ _ _
    · rw [readAt_arr4 B.a19 _ _ ih3 3 (256 * k.val) _ _ (k0_off5_eq i k), slab_mix]; exact tAcc_DV _ _ _ _ _

/-- The carried values and the accumulators after any number of trips. -/
theorem st_val
  (hq0 : q0 = rows .bf16 (256 * (i 1).val) (H.q 0)) (hg0 : g0 = rows .bf16 (256 * (i 1).val) (H.g 0)) (ht0 : t0 = col .f32 (256 * (i 1).val) (T (H.q 0) (H.k 0)))
  (hk0 : B.a3.view.read (Elt Ideal) X3 = up .bf16 (H.k 0)) (hv0 : B.a4.view.read (Elt Ideal) X4 = up .bf16 (H.v 0))
  (hq1 : q1 = rows .bf16 (256 * (i 1).val) (H.q 1)) (hg1 : g1 = rows .bf16 (256 * (i 1).val) (H.g 1)) (ht1 : t1 = col .f32 (256 * (i 1).val) (T (H.q 1) (H.k 1)))
  (hk1 : B.a6.view.read (Elt Ideal) X6 = up .bf16 (H.k 1)) (hv1 : B.a7.view.read (Elt Ideal) X7 = up .bf16 (H.v 1))
  (hq2 : q2 = rows .bf16 (256 * (i 1).val) (H.q 2)) (hg2 : g2 = rows .bf16 (256 * (i 1).val) (H.g 2)) (ht2 : t2 = col .f32 (256 * (i 1).val) (T (H.q 2) (H.k 2)))
  (hk2 : B.a9.view.read (Elt Ideal) X9 = up .bf16 (H.k 2)) (hv2 : B.a10.view.read (Elt Ideal) X10 = up .bf16 (H.v 2))
  (hq3 : q3 = rows .bf16 (256 * (i 1).val) (H.q 3)) (hg3 : g3 = rows .bf16 (256 * (i 1).val) (H.g 3)) (ht3 : t3 = col .f32 (256 * (i 1).val) (T (H.q 3) (H.k 3)))
  (hk3 : B.a12.view.read (Elt Ideal) X12 = up .bf16 (H.k 3)) (hv3 : B.a13.view.read (Elt Ideal) X13 = up .bf16 (H.v 3))
  (h18 : B.a18.view.read (Elt Ideal) G18 = arr4 (H.dk (256 * (i 1).val))) (h19 : B.a19.view.read (Elt Ideal) G19 = arr4 (H.dv (256 * (i 1).val)))
  (hi : init = H.acc (256 * (i 1).val) 0) (n : ℕ) (hn : n ≤ (i 1).val) :
    Good i B H G18 G19 (st_k0_t1 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 G18 G19 init n) n := by
  induction n with
  | zero => exact ⟨hi, h18, h19⟩
  | succ n ih =>
    have hn' : n < (k0_t1_loop i).trips := by rw [trips_t1]; omega
    exact (st_k0_t1_succ 𝒱 c bd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 w q0 q1 q2 q3 g0 g1 g2 g3 t0 t1 t2 t3 k0_pay105 k0_pay106 z X3 X4 X6 X7 X9 X10 X12 X13 G18 G19 init ⟨n, hn'⟩) ▸
      good_step 𝒱 c bd i B w q0 q1 q2 q3 g0 g1 g2 g3 t0 t1 t2 t3 z X3 X4 X6 X7 X9 X10 X12 X13 H G18 G19 hq0 hg0 ht0 hk0 hv0 hq1 hg1 ht1 hk1 hv1 hq2 hg2 ht2 hk2 hv2 hq3 hg3 ht3 hk3 hv3 _ ⟨n, hn'⟩ (ih (by omega))

end value

end Cert.KernelIdeal.Sb

end
-- ==== Proof.Point.lean ====
/-
  One grid point of the kernel: the pieces its body stores, as the tile functions of the point's blocks.
-/
module

public import proofs.«01_k».proof.Proof.Body
public import proofs.«01_k».proof.Proof.Loop

@[expose] public section

set_option maxRecDepth 16384

noncomputable section

namespace Cert.KernelIdeal.Sb

open Idealize.ShloMosaic Idealize.ShloMosaic.TcCoe Idealize.ShloMosaic.Tactic Idealize.SL.Sem
open Cert.KernelIdeal.Gen

/-- The blocks a grid point is given. -/
structure Ins (F : FTy → Type) where
  x0 : Vec F S256x128 .bf16
  x1 : Vec F S2048x128 .bf16
  x2 : Vec F S2048x128 .bf16
  x3 : Vec F S256x128 .bf16
  x4 : Vec F S2048x128 .bf16
  x5 : Vec F S2048x128 .bf16
  x6 : Vec F S256x128 .bf16
  x7 : Vec F S2048x128 .bf16
  x8 : Vec F S2048x128 .bf16
  x9 : Vec F S256x128 .bf16
  x10 : Vec F S2048x128 .bf16
  x11 : Vec F S2048x128 .bf16
  x12 : Vec F S256x512 .bf16
  x13 : Vec F S256x128 .f32

section pieces

variable {F : FTy → Type} [FloatOps F]

/-- The total of one lane. -/
def tTot (l : BitVec 32) (x : Vec F S256x128 .f32) : FVec F S256x1 .f32 :=
  shapeCast S256x1 (multiReduction .add [1] S256
    (select (cmpi .eq (iota .tc S256x128 32 [1] iota_S256x128_d1_w32) (broadcast S256x128 l)) (shapeCast S256x128 x shapeCasts_S256x128_S256x128)
      (broadcast S256x128 (Scalar.ofBits .f32 0x00000000#32) : FVec F S256x128 .f32))
    0x00000000#32 reduces_S256x128_S256 (.inl rfl) rfl) shapeCasts_S256_S256x1

/-- A head's lane of the totals. -/
def lane (i : grid0.Coords) (h : BitVec 32) : BitVec 32 := Scalar.addi (Scalar.muli 4#32 (BitVec.ofNat 32 (i 0).val)) h

/-- A slab store that advances an accumulator. -/
def putAcc (a : Memref sig .tc .vmem S4x2048x128 .f32) (f : BufTy.Contents (Elt F) a.view.ty) (o : Fin 3 → ℕ)
    (inb : ∀ a, o a + S1x256x128.size a ≤ S4x2048x128.size a) (x : FVec F S256x256 .bf16) (y : FVec F S256x128 .bf16)
    (L : List (View.Piece (Elt F) S4x2048x128 .f32)) : List (View.Piece (Elt F) S4x2048x128 .f32) :=
  ⟨Rect.unit (s := S4x2048x128) o S1x256x128.size inb,
    tAcc x y (View.readAt (Elt F) a.view (Rect.unit (s := S4x2048x128) o S1x256x128.size inb).toLoadRect (a.view.writes (Elt F) f L))⟩ :: L

/-- A head's column of results read off an accumulator. -/
def headOut (a : Memref sig .tc .vmem S4x2048x128 .f32) (f : BufTy.Contents (Elt F) a.view.ty) (o : Fin 3 → ℕ)
    (inb : ∀ a, o a + S1x2048x128.size a ≤ S4x2048x128.size a) : FVec F S2048x128 .bf16 :=
  truncf .bf16 (shapeCast S2048x128 (View.readAt (Elt F) a.view (Rect.unit (s := S4x2048x128) o S1x2048x128.size inb).toLoadRect f) shapeCasts_S1x2048x128_S2048x128) bitsLt_bf16_f32

variable (c : Dev nD) (i : grid0.Coords) (B : Bufs) (I : Ins F)

/-- The block of queries. -/
def qin (a : Memref sig .tc .vmem S256x128 .bf16) (h : a.IsWhole) (x : Vec F S256x128 .bf16) : FVec F S256x128 .bf16 :=
  View.readAt (Elt F) a.view (Rect.unit (s := S256x128) ![0, 0] S256x128.size inb_S256x128_S256x128_0_0).toLoadRect (h.unread x)

/-- The block of totals. -/
def tin (a : Memref sig .tc .vmem S256x128 .f32) (h : a.IsWhole) (x : Vec F S256x128 .f32) : FVec F S256x128 .f32 :=
  View.readAt (Elt F) a.view (Rect.unit (s := S256x128) ![0, 0] S256x128.size inb_S256x128_S256x128_0_0).toLoadRect (h.unread x)

/-- A head's block of output cotangents. -/
def gin (a : Memref sig .tc .vmem S256x512 .bf16) (h : a.IsWhole) (x : Vec F S256x512 .bf16) (o : Fin 2 → ℕ) (inb : ∀ a, o a + S256x128.size a ≤ S256x512.size a) :
    FVec F S256x128 .bf16 :=
  View.readAt (Elt F) a.view (Rect.unit (s := S256x512) o S256x128.size inb).toLoadRect (h.unread x)

/-- The diagonal block of keys or values. -/
def dblk (a : Memref sig .tc .vmem S2048x128 .bf16) (h : a.IsWhole) (x : Vec F S2048x128 .bf16) : FVec F S256x128 .bf16 :=
  View.readAt (Elt F) a.view (Rect.unit (s := S2048x128) (k0_off11 i) S256x128.size (k0_off11_inb i)).toLoadRect (h.unread x)

/-- Head 0's queries, output cotangents, totals, diagonal keys and values. -/
def q0 : FVec F S256x128 .bf16 := qin B.a2 B.h2 I.x0
@[inherit_doc q0] def g0 : FVec F S256x128 .bf16 := gin B.a14 B.h14 I.x12 ![0, 0] inb_S256x512_S256x128_0_0
@[inherit_doc q0] def t0 : FVec F S256x1 .f32 := tTot (lane i 0#32) (tin B.a15 B.h15 I.x13)
@[inherit_doc q0] def k0 : FVec F S256x128 .bf16 := dblk i B.a3 B.h3 I.x1
@[inherit_doc q0] def v0 : FVec F S256x128 .bf16 := dblk i B.a4 B.h4 I.x2

/-- Head 1's queries, output cotangents, totals, diagonal keys and values. -/
def q1 : FVec F S256x128 .bf16 := qin B.a5 B.h5 I.x3
@[inherit_doc q1] def g1 : FVec F S256x128 .bf16 := gin B.a14 B.h14 I.x12 ![0, 128] inb_S256x512_S256x128_0_128
@[inherit_doc q1] def t1 : FVec F S256x1 .f32 := tTot (lane i 1#32) (tin B.a15 B.h15 I.x13)
@[inherit_doc q1] def k1 : FVec F S256x128 .bf16 := dblk i B.a6 B.h6 I.x4
@[inherit_doc q1] def v1 : FVec F S256x128 .bf16 := dblk i B.a7 B.h7 I.x5

/-- Head 2's queries, output cotangents, totals, diagonal keys and values. -/
def q2 : FVec F S256x128 .bf16 := qin B.a8 B.h8 I.x6
@[inherit_doc q2] def g2 : FVec F S256x128 .bf16 := gin B.a14 B.h14 I.x12 ![0, 256] inb_S256x512_S256x128_0_256
@[inherit_doc q2] def t2 : FVec F S256x1 .f32 := tTot (lane i 2#32) (tin B.a15 B.h15 I.x13)
@[inherit_doc q2] def k2 : FVec F S256x128 .bf16 := dblk i B.a9 B.h9 I.x7
@[inherit_doc q2] def v2 : FVec F S256x128 .bf16 := dblk i B.a10 B.h10 I.x8

/-- Head 3's queries, output cotangents, totals, diagonal keys and values. -/
def q3 : FVec F S256x128 .bf16 := qin B.a11 B.h11 I.x9
@[inherit_doc q3] def g3 : FVec F S256x128 .bf16 := gin B.a14 B.h14 I.x12 ![0, 384] inb_S256x512_S256x128_0_384
@[inherit_doc q3] def t3 : FVec F S256x1 .f32 := tTot (lane i 3#32) (tin B.a15 B.h15 I.x13)
@[inherit_doc q3] def k3 : FVec F S256x128 .bf16 := dblk i B.a12 B.h12 I.x10
@[inherit_doc q3] def v3 : FVec F S256x128 .bf16 := dblk i B.a13 B.h13 I.x11

variable (f18 : BufTy.Contents (Elt F) B.a18.view.ty) (f19 : BufTy.Contents (Elt F) B.a19.view.ty)

/-- What the loop starts from. -/
def acc0 : Acc F := (k0_pay107, k0_pay107, k0_pay108, k0_pay107, k0_pay107, k0_pay109, k0_pay107, k0_pay107, k0_pay110, k0_pay107, k0_pay107, k0_pay111)

/-- The state after the loop over the earlier key tiles. -/
def S1 : Acc F × List (View.Piece (Elt F) S4x2048x128 .f32) × List (View.Piece (Elt F) S4x2048x128 .f32) :=
  st_k0_t1 Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 (Memref.whole main_v23) (Memref.isWhole_whole _) B.a17 B.h17 B.a18 B.h18 B.a19 B.h19 (BitVec.ofNat 32 (i 1).val) (q0 B I) (q1 B I) (q2 B I) (q3 B I) (g0 B I) (g1 B I) (g2 B I) (g3 B I) (t0 i B I) (t1 i B I) (t2 i B I) (t3 i B I) k0_pay105 k0_pay106 k0_pay107 (B.h3.unread I.x1) (B.h4.unread I.x2) (B.h6.unread I.x4) (B.h7.unread I.x5) (B.h9.unread I.x7) (B.h10.unread I.x8) (B.h12.unread I.x10) (B.h13.unread I.x11) f18 f19 acc0
    (Scf.trips (k0_t1_loop i).lb (k0_t1_loop i).ub (k0_t1_loop i).st)

/-- The carried values, one by one. -/
def eta (A : Acc F) : Acc F := (A.1, A.2.1, A.2.2.1, A.2.2.2.1, A.2.2.2.2.1, A.2.2.2.2.2.1, A.2.2.2.2.2.2.1, A.2.2.2.2.2.2.2.1, A.2.2.2.2.2.2.2.2.1, A.2.2.2.2.2.2.2.2.2.1, A.2.2.2.2.2.2.2.2.2.2.1, A.2.2.2.2.2.2.2.2.2.2.2)

/-- The state after the loop's remainder, which makes no trip. -/
def S2 (A : Acc F) : Acc F × List (View.Piece (Elt F) S4x2048x128 .f32) × List (View.Piece (Elt F) S4x2048x128 .f32) :=
  st_k0_t2 Variants.none c none i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 (Memref.whole main_v23) (Memref.isWhole_whole _) B.a17 B.h17 B.a18 B.h18 B.a19 B.h19 (BitVec.ofNat 32 (i 1).val) (q0 B I) (q1 B I) (q2 B I) (q3 B I) (g0 B I) (g1 B I) (g2 B I) (g3 B I) (t0 i B I) (t1 i B I) (t2 i B I) (t3 i B I) k0_pay105 k0_pay106 k0_pay107
    (Scalar.addi 0#32 (Scalar.muli (Scalar.divsi (Scalar.subi (BitVec.ofNat 32 (i 1).val) 0#32) 1#32) 1#32)) (B.h3.unread I.x1) (B.h4.unread I.x2) (B.h6.unread I.x4) (B.h7.unread I.x5) (B.h9.unread I.x7) (B.h10.unread I.x8) (B.h12.unread I.x10) (B.h13.unread I.x11) f18 f19 (eta A)
    (Scf.trips (k0_t2_loop i).lb (k0_t2_loop i).ub (k0_t2_loop i).st)

variable (A : Acc F) (L18 L19 : List (View.Piece (Elt F) S4x2048x128 .f32))

/-- Head 0's diagonal tile of the scores' cotangent and of the weights. -/
def z0 : FVec F S256x256 .bf16 := tDz tMask (q0 B I) (k0 i B I) (g0 B I) (v0 i B I) (t0 i B I) A.1 A.2.1
@[inherit_doc z0] def w0 : FVec F S256x256 .bf16 := truncf .bf16 (tW tMask (q0 B I) (k0 i B I) (t0 i B I) A.1) bitsLt_bf16_f32

/-- Head 1's diagonal tile of the scores' cotangent and of the weights. -/
def z1 : FVec F S256x256 .bf16 := tDz tMask (q1 B I) (k1 i B I) (g1 B I) (v1 i B I) (t1 i B I) A.2.2.2.1 A.2.2.2.2.1
@[inherit_doc z1] def w1 : FVec F S256x256 .bf16 := truncf .bf16 (tW tMask (q1 B I) (k1 i B I) (t1 i B I) A.2.2.2.1) bitsLt_bf16_f32

/-- Head 2's diagonal tile of the scores' cotangent and of the weights. -/
def z2 : FVec F S256x256 .bf16 := tDz tMask (q2 B I) (k2 i B I) (g2 B I) (v2 i B I) (t2 i B I) A.2.2.2.2.2.2.1 A.2.2.2.2.2.2.2.1
@[inherit_doc z2] def w2 : FVec F S256x256 .bf16 := truncf .bf16 (tW tMask (q2 B I) (k2 i B I) (t2 i B I) A.2.2.2.2.2.2.1) bitsLt_bf16_f32

/-- Head 3's diagonal tile of the scores' cotangent and of the weights. -/
def z3 : FVec F S256x256 .bf16 := tDz tMask (q3 B I) (k3 i B I) (g3 B I) (v3 i B I) (t3 i B I) A.2.2.2.2.2.2.2.2.2.1 A.2.2.2.2.2.2.2.2.2.2.1
@[inherit_doc z3] def w3 : FVec F S256x256 .bf16 := truncf .bf16 (tW tMask (q3 B I) (k3 i B I) (t3 i B I) A.2.2.2.2.2.2.2.2.2.1) bitsLt_bf16_f32

/-- The stores of the keys' gradients over what the loop left. -/
def dk4 : List (View.Piece (Elt F) S4x2048x128 .f32) :=
  (putAcc B.a18 f18 (k0_off15 i) (k0_off15_inb i) (z3 i B I A) (q3 B I) (putAcc B.a18 f18 (k0_off14 i) (k0_off14_inb i) (z2 i B I A) (q2 B I) (putAcc B.a18 f18 (k0_off13 i) (k0_off13_inb i) (z1 i B I A) (q1 B I) (putAcc B.a18 f18 (k0_off12 i) (k0_off12_inb i) (z0 i B I A) (q0 B I) L18))))

/-- The stores of the values' gradients over what the loop left. -/
def dv4 : List (View.Piece (Elt F) S4x2048x128 .f32) :=
  (putAcc B.a19 f19 (k0_off15 i) (k0_off15_inb i) (w3 i B I A) (g3 B I) (putAcc B.a19 f19 (k0_off14 i) (k0_off14_inb i) (w2 i B I A) (g2 B I) (putAcc B.a19 f19 (k0_off13 i) (k0_off13_inb i) (w1 i B I A) (g1 B I) (putAcc B.a19 f19 (k0_off12 i) (k0_off12_inb i) (w0 i B I A) (g0 B I) L19))))

/-- The stores of the queries' gradients. -/
def dq4 : List (View.Piece (Elt F) S2048x1536 .bf16) :=
  [⟨Rect.unit (s := S2048x1536) (k0_off19 i) S256x128.size (k0_off19_inb i), truncf .bf16 (tQ A.2.2.2.2.2.2.2.2.2.2.2 (z3 i B I A) (k3 i B I)) bitsLt_bf16_f32⟩,
   ⟨Rect.unit (s := S2048x1536) (k0_off18 i) S256x128.size (k0_off18_inb i), truncf .bf16 (tQ A.2.2.2.2.2.2.2.2.1 (z2 i B I A) (k2 i B I)) bitsLt_bf16_f32⟩,
   ⟨Rect.unit (s := S2048x1536) (k0_off17 i) S256x128.size (k0_off17_inb i), truncf .bf16 (tQ A.2.2.2.2.2.1 (z1 i B I A) (k1 i B I)) bitsLt_bf16_f32⟩,
   ⟨Rect.unit (s := S2048x1536) (k0_off16 i) S256x128.size (k0_off16_inb i), truncf .bf16 (tQ A.2.2.1 (z0 i B I A) (k0 i B I)) bitsLt_bf16_f32⟩]

/-- The last tile's stores of the keys' and the values' gradients. -/
def kv8 (LK LV : List (View.Piece (Elt F) S4x2048x128 .f32)) : List (View.Piece (Elt F) S2048x1536 .bf16) :=
  [⟨Rect.unit (s := S2048x1536) ![0, 1408] S2048x128.size inb_S2048x1536_S2048x128_0_1408, headOut B.a19 (B.a19.view.writes (Elt F) f19 LV) ![3, 0, 0] inb_S4x2048x128_S1x2048x128_3_0_0⟩,
   ⟨Rect.unit (s := S2048x1536) ![0, 1280] S2048x128.size inb_S2048x1536_S2048x128_0_1280, headOut B.a18 (B.a18.view.writes (Elt F) f18 LK) ![3, 0, 0] inb_S4x2048x128_S1x2048x128_3_0_0⟩,
   ⟨Rect.unit (s := S2048x1536) ![0, 1024] S2048x128.size inb_S2048x1536_S2048x128_0_1024, headOut B.a19 (B.a19.view.writes (Elt F) f19 LV) ![2, 0, 0] inb_S4x2048x128_S1x2048x128_2_0_0⟩,
   ⟨Rect.unit (s := S2048x1536) ![0, 896] S2048x128.size inb_S2048x1536_S2048x128_0_896, headOut B.a18 (B.a18.view.writes (Elt F) f18 LK) ![2, 0, 0] inb_S4x2048x128_S1x2048x128_2_0_0⟩,
   ⟨Rect.unit (s := S2048x1536) ![0, 640] S2048x128.size inb_S2048x1536_S2048x128_0_640, headOut B.a19 (B.a19.view.writes (Elt F) f19 LV) ![1, 0, 0] inb_S4x2048x128_S1x2048x128_1_0_0⟩,
   ⟨Rect.unit (s := S2048x1536) ![0, 512] S2048x128.size inb_S2048x1536_S2048x128_0_512, headOut B.a18 (B.a18.view.writes (Elt F) f18 LK) ![1, 0, 0] inb_S4x2048x128_S1x2048x128_1_0_0⟩,
   ⟨Rect.unit (s := S2048x1536) ![0, 256] S2048x128.size inb_S2048x1536_S2048x128_0_256, headOut B.a19 (B.a19.view.writes (Elt F) f19 LV) ![0, 0, 0] inb_S4x2048x128_S1x2048x128_0_0_0⟩,
   ⟨Rect.unit (s := S2048x1536) ![0, 128] S2048x128.size inb_S2048x1536_S2048x128_0_128, headOut B.a18 (B.a18.view.writes (Elt F) f18 LK) ![0, 0, 0] inb_S4x2048x128_S1x2048x128_0_0_0⟩]

variable (xo : Vec F S2048x1536 .bf16) (xs0 xs1 : Vec F S4x2048x128 .f32)

/-- The stores of zeros a group starts with. -/
def zero4 (w : FVec F S4x2048x128 .f32) : List (View.Piece (Elt F) S4x2048x128 .f32) :=
  [⟨Rect.unit (s := S4x2048x128) ![0, 0, 0] S4x2048x128.size inb_S4x2048x128_S4x2048x128_0_0_0, w⟩]

attribute [local irreducible] st_k0_t1 st_k0_t2 View.readAt View.writes FloatOps.matmul

theorem runFirst_o (hc0 : isFirst i) (hc1 : ¬isLast i) : (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).1 = dq4 i B I (S2 c i B I (B.a18.view.writes (Elt F) B.a18.view.junk ((S1 c i B I (B.a18.view.writes (Elt F) B.a18.view.junk (zero4 k0_pay97)) (B.a19.view.writes (Elt F) B.a19.view.junk (zero4 k0_pay98))).2.1 ++ zero4 k0_pay97)) (B.a19.view.writes (Elt F) B.a19.view.junk ((S1 c i B I (B.a18.view.writes (Elt F) B.a18.view.junk (zero4 k0_pay97)) (B.a19.view.writes (Elt F) B.a19.view.junk (zero4 k0_pay98))).2.2 ++ zero4 k0_pay98)) (S1 c i B I (B.a18.view.writes (Elt F) B.a18.view.junk (zero4 k0_pay97)) (B.a19.view.writes (Elt F) B.a19.view.junk (zero4 k0_pay98))).1).1 := by
  unfold runFirst
  dsimp only
  sl_unfold_words
  rfl

theorem runFirst_k (hc0 : isFirst i) (hc1 : ¬isLast i) : (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.1 = dk4 i B I B.a18.view.junk (S2 c i B I (B.a18.view.writes (Elt F) B.a18.view.junk ((S1 c i B I (B.a18.view.writes (Elt F) B.a18.view.junk (zero4 k0_pay97)) (B.a19.view.writes (Elt F) B.a19.view.junk (zero4 k0_pay98))).2.1 ++ zero4 k0_pay97)) (B.a19.view.writes (Elt F) B.a19.view.junk ((S1 c i B I (B.a18.view.writes (Elt F) B.a18.view.junk (zero4 k0_pay97)) (B.a19.view.writes (Elt F) B.a19.view.junk (zero4 k0_pay98))).2.2 ++ zero4 k0_pay98)) (S1 c i B I (B.a18.view.writes (Elt F) B.a18.view.junk (zero4 k0_pay97)) (B.a19.view.writes (Elt F) B.a19.view.junk (zero4 k0_pay98))).1).1 ((S2 c i B I (B.a18.view.writes (Elt F) B.a18.view.junk ((S1 c i B I (B.a18.view.writes (Elt F) B.a18.view.junk (zero4 k0_pay97)) (B.a19.view.writes (Elt F) B.a19.view.junk (zero4 k0_pay98))).2.1 ++ zero4 k0_pay97)) (B.a19.view.writes (Elt F) B.a19.view.junk ((S1 c i B I (B.a18.view.writes (Elt F) B.a18.view.junk (zero4 k0_pay97)) (B.a19.view.writes (Elt F) B.a19.view.junk (zero4 k0_pay98))).2.2 ++ zero4 k0_pay98)) (S1 c i B I (B.a18.view.writes (Elt F) B.a18.view.junk (zero4 k0_pay97)) (B.a19.view.writes (Elt F) B.a19.view.junk (zero4 k0_pay98))).1).2.1 ++ ((S1 c i B I (B.a18.view.writes (Elt F) B.a18.view.junk (zero4 k0_pay97)) (B.a19.view.writes (Elt F) B.a19.view.junk (zero4 k0_pay98))).2.1 ++ zero4 k0_pay97)) := by
  unfold runFirst
  dsimp only
  sl_unfold_words
  rfl

theorem runFirst_v (hc0 : isFirst i) (hc1 : ¬isLast i) : (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.2.1 = dv4 i B I B.a19.view.junk (S2 c i B I (B.a18.view.writes (Elt F) B.a18.view.junk ((S1 c i B I (B.a18.view.writes (Elt F) B.a18.view.junk (zero4 k0_pay97)) (B.a19.view.writes (Elt F) B.a19.view.junk (zero4 k0_pay98))).2.1 ++ zero4 k0_pay97)) (B.a19.view.writes (Elt F) B.a19.view.junk ((S1 c i B I (B.a18.view.writes (Elt F) B.a18.view.junk (zero4 k0_pay97)) (B.a19.view.writes (Elt F) B.a19.view.junk (zero4 k0_pay98))).2.2 ++ zero4 k0_pay98)) (S1 c i B I (B.a18.view.writes (Elt F) B.a18.view.junk (zero4 k0_pay97)) (B.a19.view.writes (Elt F) B.a19.view.junk (zero4 k0_pay98))).1).1 ((S2 c i B I (B.a18.view.writes (Elt F) B.a18.view.junk ((S1 c i B I (B.a18.view.writes (Elt F) B.a18.view.junk (zero4 k0_pay97)) (B.a19.view.writes (Elt F) B.a19.view.junk (zero4 k0_pay98))).2.1 ++ zero4 k0_pay97)) (B.a19.view.writes (Elt F) B.a19.view.junk ((S1 c i B I (B.a18.view.writes (Elt F) B.a18.view.junk (zero4 k0_pay97)) (B.a19.view.writes (Elt F) B.a19.view.junk (zero4 k0_pay98))).2.2 ++ zero4 k0_pay98)) (S1 c i B I (B.a18.view.writes (Elt F) B.a18.view.junk (zero4 k0_pay97)) (B.a19.view.writes (Elt F) B.a19.view.junk (zero4 k0_pay98))).1).2.2 ++ ((S1 c i B I (B.a18.view.writes (Elt F) B.a18.view.junk (zero4 k0_pay97)) (B.a19.view.writes (Elt F) B.a19.view.junk (zero4 k0_pay98))).2.2 ++ zero4 k0_pay98)) := by
  unfold runFirst
  dsimp only
  sl_unfold_words
  rfl

theorem runMid_o (hc0 : ¬isFirst i) (hc1 : ¬isLast i) : (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).1 = dq4 i B I (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 := by
  unfold runMid
  dsimp only
  sl_unfold_words
  rfl

theorem runMid_k (hc0 : ¬isFirst i) (hc1 : ¬isLast i) : (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.1 = dk4 i B I (B.h18.unread xs0) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.1 ++ (S1 c i B I (B.h18.unread xs0) (B.h19.unread xs1)).2.1) := by
  unfold runMid
  dsimp only
  sl_unfold_words
  rfl

theorem runMid_v (hc0 : ¬isFirst i) (hc1 : ¬isLast i) : (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.2.1 = dv4 i B I (B.h19.unread xs1) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.2 ++ (S1 c i B I (B.h18.unread xs0) (B.h19.unread xs1)).2.2) := by
  unfold runMid
  dsimp only
  sl_unfold_words
  rfl

theorem runLast_o (hc0 : ¬isFirst i) (hc1 : isLast i) : (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).1 = kv8 B (B.h18.unread xs0) (B.h19.unread xs1) (dk4 i B I (B.h18.unread xs0) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.1 ++ (S1 c i B I (B.h18.unread xs0) (B.h19.unread xs1)).2.1)) (dv4 i B I (B.h19.unread xs1) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.2 ++ (S1 c i B I (B.h18.unread xs0) (B.h19.unread xs1)).2.2)) ++ dq4 i B I (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 := by
  unfold runLast
  dsimp only
  sl_unfold_words
  rfl

theorem runLast_k (hc0 : ¬isFirst i) (hc1 : isLast i) : (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.1 = dk4 i B I (B.h18.unread xs0) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.1 ++ (S1 c i B I (B.h18.unread xs0) (B.h19.unread xs1)).2.1) := by
  unfold runLast
  dsimp only
  sl_unfold_words
  rfl

theorem runLast_v (hc0 : ¬isFirst i) (hc1 : isLast i) : (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 hc0 hc1).2.2.1 = dv4 i B I (B.h19.unread xs1) (S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).1 ((S2 c i B I (B.a18.view.writes (Elt F) (B.h18.unread xs0) (S1 c i B I (B.h18.unread xs0) (B.h19.unread xs1)).2.1) (B.a19.view.writes (Elt F) (B.h19.unread xs1) (S1 c i B I (B.h18.unread xs0) (B.h19.unread xs1)).2.2) (S1 c i B I (B.h18.unread xs0) (B.h19.unread xs1)).1).2.2 ++ (S1 c i B I (B.h18.unread xs0) (B.h19.unread xs1)).2.2) := by
  unfold runLast
  dsimp only
  sl_unfold_words
  rfl

end pieces

end Cert.KernelIdeal.Sb

end
-- ==== Proof.Value.lean ====
/-
  One grid point of the kernel at real numbers: what the accumulators and the output block hold after it.
-/
module

public import proofs.«01_k».proof.Proof.Point

@[expose] public section

set_option maxRecDepth 16384

noncomputable section

namespace Cert.KernelIdeal.Sb

open Idealize.ShloMosaic Idealize.ShloMosaic.TcCoe Idealize.ShloMosaic.Tactic Idealize.SL.Sem
open Cert.KernelIdeal.Gen

open Finset

section value

variable (i : grid0.Coords) (B : Bufs) (I : Ins Ideal) (H : Heads) (tot : ℕ → ℕ → ℝ)

/-- The blocks of a grid point hold the heads' numbers. -/
structure Ins.Ok : Prop where
  hq0 : I.x0 = rows .bf16 (256 * (i 1).val) (H.q 0)
  hk0 : I.x1 = up .bf16 (H.k 0)
  hv0 : I.x2 = up .bf16 (H.v 0)
  ht0 : ∀ x, tot x (4 * (i 0).val + 0) = T (H.q 0) (H.k 0) x
  hq1 : I.x3 = rows .bf16 (256 * (i 1).val) (H.q 1)
  hk1 : I.x4 = up .bf16 (H.k 1)
  hv1 : I.x5 = up .bf16 (H.v 1)
  ht1 : ∀ x, tot x (4 * (i 0).val + 1) = T (H.q 1) (H.k 1) x
  hq2 : I.x6 = rows .bf16 (256 * (i 1).val) (H.q 2)
  hk2 : I.x7 = up .bf16 (H.k 2)
  hv2 : I.x8 = up .bf16 (H.v 2)
  ht2 : ∀ x, tot x (4 * (i 0).val + 2) = T (H.q 2) (H.k 2) x
  hq3 : I.x9 = rows .bf16 (256 * (i 1).val) (H.q 3)
  hk3 : I.x10 = up .bf16 (H.k 3)
  hv3 : I.x11 = up .bf16 (H.v 3)
  ht3 : ∀ x, tot x (4 * (i 0).val + 3) = T (H.q 3) (H.k 3) x
  hg : I.x12 = rows .bf16 (256 * (i 1).val) fun x y => H.g (y / 128) x (y % 128)
  ht : I.x13 = rows .f32 (256 * (i 1).val) tot

/-- The queries' gradients. -/
def Heads.dq (H : Heads) (n h x d : ℕ) : ℝ := DQ (H.q h) (H.k h) (H.v h) (H.g h) n x d

theorem qin_eq (a : Memref sig .tc .vmem S256x128 .bf16) (h : a.IsWhole) (x : Vec Ideal S256x128 .bf16) : qin a h x = x := by
  unfold qin
  exact (View.readAt_full a.view _ inb_S256x128_S256x128_0_0).trans (h.read_unread _)

theorem tin_eq (a : Memref sig .tc .vmem S256x128 .f32) (h : a.IsWhole) (x : Vec Ideal S256x128 .f32) : tin a h x = x := by
  unfold tin
  exact (View.readAt_full a.view _ inb_S256x128_S256x128_0_0).trans (h.read_unread _)

theorem gin_eq (a : Memref sig .tc .vmem S256x512 .bf16) (h : a.IsWhole) (n j : ℕ) (G : ℕ → ℕ → ℕ → ℝ) (o : Fin 2 → ℕ)
    (inb : ∀ a, o a + S256x128.size a ≤ S256x512.size a) (ho : o = ![0, 128 * j]) :
    gin a h (rows .bf16 n fun x y => G (y / 128) x (y % 128)) o inb = rows .bf16 n (G j) := by
  subst ho
  unfold gin
  rw [View.readAt_unit a.view _ inb rfl inb, h.read_unread]
  funext p
  have e0 : ((Rect.unit (s := S256x512) ![0, 128 * j] S256x128.size inb).emb p 0).val = 0 + 1 * (p 0).val := rfl
  have e1 : ((Rect.unit (s := S256x512) ![0, 128 * j] S256x128.size inb).emb p 1).val = 128 * j + 1 * (p 1).val := rfl
  have hd : (p 1).val < 128 := (p 1).isLt
  unfold VecWindow.window rows up
  rw [e0, e1, zero_add, one_mul, one_mul]
  show ((G ((128 * j + (p 1).val) / 128) (n + (p 0).val) ((128 * j + (p 1).val) % 128) : ℝ) : EReal) = ((G j (n + (p 0).val) (p 1).val : ℝ) : EReal)
  rw [show (128 * j + (p 1).val) / 128 = j by omega, show (128 * j + (p 1).val) % 128 = (p 1).val by omega]

theorem lane_eq : ∀ i : grid0.Coords, ∀ h : Fin 4, lane i (BitVec.ofNat 32 h.val) = BitVec.ofNat 32 (4 * (i 0).val + h.val) := by decide +kernel

theorem tTot_up (n : ℕ) (hn : n < 128) (r : ℕ → ℕ → ℝ) : tTot (F := Ideal) (BitVec.ofNat 32 n) (up .f32 r) = up .f32 fun x _ => r x n := by
  funext p; idx_vars p
  pointwise [tTot]
  have hs : ∀ y : Fin 128, Scalar.select (IntOp.cmpi .eq (BitVec.ofNat 32 y.val) (BitVec.ofNat 32 n)) ((r p0.val y.val : ℝ) : EReal) 0
      = ((if y.val = n then r p0.val y.val else 0 : ℝ) : EReal) := by
    intro y
    rw [WordCmp.cmpi_eq_ofNat (by omega) (by omega), select_bit]
    by_cases h : y.val = n
    · simp [h]
    · simp [h]
  simp only [hs]
  rw [coe_sum 128 fun y => if y = n then r p0.val y else 0, Finset.sum_ite_eq' , if_pos (mem_range.2 hn)]

variable {i} {B} {I} {H} {tot} (ok : I.Ok i H tot)

include ok

theorem Ins.Ok.q0_eq : q0 B I = rows .bf16 (256 * (i 1).val) (H.q 0) := (qin_eq _ _ _).trans ok.hq0

theorem Ins.Ok.g0_eq : g0 B I = rows .bf16 (256 * (i 1).val) (H.g 0) := by
  unfold g0; rw [ok.hg]; exact gin_eq _ _ _ 0 H.g _ _ rfl

theorem Ins.Ok.t0_eq : t0 i B I = col .f32 (256 * (i 1).val) (T (H.q 0) (H.k 0)) := by
  unfold t0
  rw [tin_eq, ok.ht, show lane i 0#32 = BitVec.ofNat 32 (4 * (i 0).val + 0) from lane_eq i 0]
  have h0 : (i 0).val < 2 := (i 0).isLt
  exact (tTot_up _ (by omega) _).trans (up_congr _ fun x _ y _ => ok.ht0 _)

theorem Ins.Ok.k0_eq : k0 i B I = rows .bf16 (256 * (i 1).val) (H.k 0) :=
  readAt_rows _ _ _ ((B.h3.read_unread _).trans ok.hk0) _ _ _ (k0_off11_eq i)

theorem Ins.Ok.v0_eq : v0 i B I = rows .bf16 (256 * (i 1).val) (H.v 0) :=
  readAt_rows _ _ _ ((B.h4.read_unread _).trans ok.hv0) _ _ _ (k0_off11_eq i)

theorem Ins.Ok.z0_eq : z0 i B I (H.acc (256 * (i 1).val) (256 * (i 1).val)) = tileOf .bf16 (256 * (i 1).val) (256 * (i 1).val) (DZ (H.q 0) (H.k 0) (H.v 0) (H.g 0)) := by
  unfold z0
  rw [ok.q0_eq, ok.k0_eq, ok.g0_eq, ok.v0_eq, ok.t0_eq]
  exact tDz_eq _ _ _ _ _ _ _ (maskAt_diag _)

theorem Ins.Ok.w0_eq : w0 i B I (H.acc (256 * (i 1).val) (256 * (i 1).val)) = truncf (F := Ideal) .bf16 (tileOf (m := 256) (n := 256) .f32 (256 * (i 1).val) (256 * (i 1).val) (W (H.q 0) (H.k 0))) bitsLt_bf16_f32 := by
  unfold w0
  rw [ok.q0_eq, ok.k0_eq, ok.t0_eq]
  exact congrArg (fun x => truncf (F := Ideal) .bf16 x bitsLt_bf16_f32) (tW_eq _ _ _ _ _ (maskAt_diag _))

theorem Ins.Ok.q1_eq : q1 B I = rows .bf16 (256 * (i 1).val) (H.q 1) := (qin_eq _ _ _).trans ok.hq1

theorem Ins.Ok.g1_eq : g1 B I = rows .bf16 (256 * (i 1).val) (H.g 1) := by
  unfold g1; rw [ok.hg]; exact gin_eq _ _ _ 1 H.g _ _ rfl

theorem Ins.Ok.t1_eq : t1 i B I = col .f32 (256 * (i 1).val) (T (H.q 1) (H.k 1)) := by
  unfold t1
  rw [tin_eq, ok.ht, show lane i 1#32 = BitVec.ofNat 32 (4 * (i 0).val + 1) from lane_eq i 1]
  have h0 : (i 0).val < 2 := (i 0).isLt
  exact (tTot_up _ (by omega) _).trans (up_congr _ fun x _ y _ => ok.ht1 _)

theorem Ins.Ok.k1_eq : k1 i B I = rows .bf16 (256 * (i 1).val) (H.k 1) :=
  readAt_rows _ _ _ ((B.h6.read_unread _).trans ok.hk1) _ _ _ (k0_off11_eq i)

theorem Ins.Ok.v1_eq : v1 i B I = rows .bf16 (256 * (i 1).val) (H.v 1) :=
  readAt_rows _ _ _ ((B.h7.read_unread _).trans ok.hv1) _ _ _ (k0_off11_eq i)

theorem Ins.Ok.z1_eq : z1 i B I (H.acc (256 * (i 1).val) (256 * (i 1).val)) = tileOf .bf16 (256 * (i 1).val) (256 * (i 1).val) (DZ (H.q 1) (H.k 1) (H.v 1) (H.g 1)) := by
  unfold z1
  rw [ok.q1_eq, ok.k1_eq, ok.g1_eq, ok.v1_eq, ok.t1_eq]
  exact tDz_eq _ _ _ _ _ _ _ (maskAt_diag _)

theorem Ins.Ok.w1_eq : w1 i B I (H.acc (256 * (i 1).val) (256 * (i 1).val)) = truncf (F := Ideal) .bf16 (tileOf (m := 256) (n := 256) .f32 (256 * (i 1).val) (256 * (i 1).val) (W (H.q 1) (H.k 1))) bitsLt_bf16_f32 := by
  unfold w1
  rw [ok.q1_eq, ok.k1_eq, ok.t1_eq]
  exact congrArg (fun x => truncf (F := Ideal) .bf16 x bitsLt_bf16_f32) (tW_eq _ _ _ _ _ (maskAt_diag _))

theorem Ins.Ok.q2_eq : q2 B I = rows .bf16 (256 * (i 1).val) (H.q 2) := (qin_eq _ _ _).trans ok.hq2

theorem Ins.Ok.g2_eq : g2 B I = rows .bf16 (256 * (i 1).val) (H.g 2) := by
  unfold g2; rw [ok.hg]; exact gin_eq _ _ _ 2 H.g _ _ rfl

theorem Ins.Ok.t2_eq : t2 i B I = col .f32 (256 * (i 1).val) (T (H.q 2) (H.k 2)) := by
  unfold t2
  rw [tin_eq, ok.ht, show lane i 2#32 = BitVec.ofNat 32 (4 * (i 0).val + 2) from lane_eq i 2]
  have h0 : (i 0).val < 2 := (i 0).isLt
  exact (tTot_up _ (by omega) _).trans (up_congr _ fun x _ y _ => ok.ht2 _)

theorem Ins.Ok.k2_eq : k2 i B I = rows .bf16 (256 * (i 1).val) (H.k 2) :=
  readAt_rows _ _ _ ((B.h9.read_unread _).trans ok.hk2) _ _ _ (k0_off11_eq i)

theorem Ins.Ok.v2_eq : v2 i B I = rows .bf16 (256 * (i 1).val) (H.v 2) :=
  readAt_rows _ _ _ ((B.h10.read_unread _).trans ok.hv2) _ _ _ (k0_off11_eq i)

theorem Ins.Ok.z2_eq : z2 i B I (H.acc (256 * (i 1).val) (256 * (i 1).val)) = tileOf .bf16 (256 * (i 1).val) (256 * (i 1).val) (DZ (H.q 2) (H.k 2) (H.v 2) (H.g 2)) := by
  unfold z2
  rw [ok.q2_eq, ok.k2_eq, ok.g2_eq, ok.v2_eq, ok.t2_eq]
  exact tDz_eq _ _ _ _ _ _ _ (maskAt_diag _)

theorem Ins.Ok.w2_eq : w2 i B I (H.acc (256 * (i 1).val) (256 * (i 1).val)) = truncf (F := Ideal) .bf16 (tileOf (m := 256) (n := 256) .f32 (256 * (i 1).val) (256 * (i 1).val) (W (H.q 2) (H.k 2))) bitsLt_bf16_f32 := by
  unfold w2
  rw [ok.q2_eq, ok.k2_eq, ok.t2_eq]
  exact congrArg (fun x => truncf (F := Ideal) .bf16 x bitsLt_bf16_f32) (tW_eq _ _ _ _ _ (maskAt_diag _))

theorem Ins.Ok.q3_eq : q3 B I = rows .bf16 (256 * (i 1).val) (H.q 3) := (qin_eq _ _ _).trans ok.hq3

theorem Ins.Ok.g3_eq : g3 B I = rows .bf16 (256 * (i 1).val) (H.g 3) := by
  unfold g3; rw [ok.hg]; exact gin_eq _ _ _ 3 H.g _ _ rfl

theorem Ins.Ok.t3_eq : t3 i B I = col .f32 (256 * (i 1).val) (T (H.q 3) (H.k 3)) := by
  unfold t3
  rw [tin_eq, ok.ht, show lane i 3#32 = BitVec.ofNat 32 (4 * (i 0).val + 3) from lane_eq i 3]
  have h0 : (i 0).val < 2 := (i 0).isLt
  exact (tTot_up _ (by omega) _).trans (up_congr _ fun x _ y _ => ok.ht3 _)

theorem Ins.Ok.k3_eq : k3 i B I = rows .bf16 (256 * (i 1).val) (H.k 3) :=
  readAt_rows _ _ _ ((B.h12.read_unread _).trans ok.hk3) _ _ _ (k0_off11_eq i)

theorem Ins.Ok.v3_eq : v3 i B I = rows .bf16 (256 * (i 1).val) (H.v 3) :=
  readAt_rows _ _ _ ((B.h13.read_unread _).trans ok.hv3) _ _ _ (k0_off11_eq i)

theorem Ins.Ok.z3_eq : z3 i B I (H.acc (256 * (i 1).val) (256 * (i 1).val)) = tileOf .bf16 (256 * (i 1).val) (256 * (i 1).val) (DZ (H.q 3) (H.k 3) (H.v 3) (H.g 3)) := by
  unfold z3
  rw [ok.q3_eq, ok.k3_eq, ok.g3_eq, ok.v3_eq, ok.t3_eq]
  exact tDz_eq _ _ _ _ _ _ _ (maskAt_diag _)

theorem Ins.Ok.w3_eq : w3 i B I (H.acc (256 * (i 1).val) (256 * (i 1).val)) = truncf (F := Ideal) .bf16 (tileOf (m := 256) (n := 256) .f32 (256 * (i 1).val) (256 * (i 1).val) (W (H.q 3) (H.k 3))) bitsLt_bf16_f32 := by
  unfold w3
  rw [ok.q3_eq, ok.k3_eq, ok.t3_eq]
  exact congrArg (fun x => truncf (F := Ideal) .bf16 x bitsLt_bf16_f32) (tW_eq _ _ _ _ _ (maskAt_diag _))

omit ok

/-- A slab store that advances an accumulator, read. -/
theorem read_putAcc (a : Memref sig .tc .vmem S4x2048x128 .f32) (f : BufTy.Contents (Elt Ideal) a.view.ty) (L : List (View.Piece (Elt Ideal) S4x2048x128 .f32))
    (x r : ℕ → ℕ → ℕ → ℝ) (hx : a.view.read (Elt Ideal) (a.view.writes (Elt Ideal) f L) = arr4 x) (h n : ℕ) (o : Fin 3 → ℕ)
    (inb : ∀ a, o a + S1x256x128.size a ≤ S4x2048x128.size a) (ho : o = ![h, n, 0]) (u : FVec Ideal S256x256 .bf16) (y : FVec Ideal S256x128 .bf16)
    (e : tAcc u y (slab .f32 n (x h)) = slab .f32 n (r h)) (f' : BufTy.Contents (Elt Ideal) a.view.ty)
    (hx' : a.view.read (Elt Ideal) (a.view.writes (Elt Ideal) f' L) = arr4 x) :
    a.view.read (Elt Ideal) (a.view.writes (Elt Ideal) f' (putAcc a f o inb u y L)) = arr4 fun h' z d => if h' = h ∧ n ≤ z ∧ z < n + 256 then r h' z d else x h' z d := by
  unfold putAcc
  rw [readAt_arr4 a _ x hx h n o inb ho, e, View.read_writes_cons_put _ _ inb _ _ ho, hx']
  exact put_arr4 x r h n

/-- The four heads' slab stores, read. -/
theorem read_putAcc4 (a : Memref sig .tc .vmem S4x2048x128 .f32) (f f' : BufTy.Contents (Elt Ideal) a.view.ty) (L : List (View.Piece (Elt Ideal) S4x2048x128 .f32))
    (lo hi : ℕ → ℕ → ℕ → ℝ) (n : ℕ) (hx : a.view.read (Elt Ideal) (a.view.writes (Elt Ideal) f L) = arr4 (mix lo hi n))
    (hx' : a.view.read (Elt Ideal) (a.view.writes (Elt Ideal) f' L) = arr4 (mix lo hi n))
    (o0 : Fin 3 → ℕ) (o1 : Fin 3 → ℕ) (o2 : Fin 3 → ℕ) (o3 : Fin 3 → ℕ) (i0 : ∀ a, o0 a + S1x256x128.size a ≤ S4x2048x128.size a) (i1 : ∀ a, o1 a + S1x256x128.size a ≤ S4x2048x128.size a) (i2 : ∀ a, o2 a + S1x256x128.size a ≤ S4x2048x128.size a) (i3 : ∀ a, o3 a + S1x256x128.size a ≤ S4x2048x128.size a) (h0 : o0 = ![0, n, 0]) (h1 : o1 = ![1, n, 0]) (h2 : o2 = ![2, n, 0]) (h3 : o3 = ![3, n, 0])
    (u0 u1 u2 u3 : FVec Ideal S256x256 .bf16) (y0 y1 y2 y3 : FVec Ideal S256x128 .bf16)
    (e0 : tAcc u0 y0 (slab .f32 n (lo 0)) = slab .f32 n (hi 0)) (e1 : tAcc u1 y1 (slab .f32 n (lo 1)) = slab .f32 n (hi 1)) (e2 : tAcc u2 y2 (slab .f32 n (lo 2)) = slab .f32 n (hi 2)) (e3 : tAcc u3 y3 (slab .f32 n (lo 3)) = slab .f32 n (hi 3)) (hz : ∀ h x d, n + 256 ≤ x → lo h x d = hi h x d) :
    a.view.read (Elt Ideal) (a.view.writes (Elt Ideal) f' (putAcc a f o3 i3 u3 y3 (putAcc a f o2 i2 u2 y2 (putAcc a f o1 i1 u1 y1 (putAcc a f o0 i0 u0 y0 L))))) = arr4 hi := by
  have s (P : ℕ → ℕ → ℕ → Prop) [∀ h x d, Decidable (P h x d)] (h : ℕ) (x : ℕ → ℕ → ℕ → ℝ) (hx : slab (m := 256) (l := 128) .f32 n (x h) = slab .f32 n (lo h))
      (hP : ∀ x d, ¬ P h x d) : slab (m := 256) (l := 128) .f32 n ((fun h' z d => if P h' z d then hi h' z d else x h' z d) h) = slab .f32 n (lo h) := by
    rw [← hx]; funext p; exact congrArg _ (if_neg (hP _ _))
  have m0 := fun h => slab_mix lo hi n h
  let x1 : ℕ → ℕ → ℕ → ℝ := fun h' z d => if h' = 0 ∧ n ≤ z ∧ z < n + 256 then hi h' z d else mix lo hi n h' z d
  let x2 : ℕ → ℕ → ℕ → ℝ := fun h' z d => if h' = 1 ∧ n ≤ z ∧ z < n + 256 then hi h' z d else x1 h' z d
  let x3 : ℕ → ℕ → ℕ → ℝ := fun h' z d => if h' = 2 ∧ n ≤ z ∧ z < n + 256 then hi h' z d else x2 h' z d
  have r0 := fun g hg => read_putAcc a f L (mix lo hi n) hi hx 0 n o0 i0 h0 u0 y0 (by rw [m0]; exact e0) g hg
  have m1 := fun h (hh : 0 < h) => s (fun h' z _ => h' = 0 ∧ n ≤ z ∧ z < n + 256) h (mix lo hi n) (m0 h) (fun _ _ => by omega)
  have r1 := fun g hg => read_putAcc a f _ x1 hi (r0 f hx) 1 n o1 i1 h1 u1 y1 ((congrArg _ (m1 1 (by omega))).trans e1) g (r0 g hg)
  have m2 := fun h (hh : 1 < h) => s (fun h' z _ => h' = 1 ∧ n ≤ z ∧ z < n + 256) h x1 (m1 h (by omega)) (fun _ _ => by omega)
  have r2 := fun g hg => read_putAcc a f _ x2 hi (r1 f hx) 2 n o2 i2 h2 u2 y2 ((congrArg _ (m2 2 (by omega))).trans e2) g (r1 g hg)
  have m3 := fun h (hh : 2 < h) => s (fun h' z _ => h' = 2 ∧ n ≤ z ∧ z < n + 256) h x2 (m2 h (by omega)) (fun _ _ => by omega)
  have r3 := fun g hg => read_putAcc a f _ x3 hi (r2 f hx) 3 n o3 i3 h3 u3 y3 ((congrArg _ (m3 3 (by omega))).trans e3) g (r2 g hg)
  refine (r3 f' hx').trans (arr4_congr fun h hh x _ d _ => ?_)
  simp only [x3, x2, x1, mix]
  by_cases hx1 : n ≤ x ∧ x < n + 256
  · rcases (by omega : h = 0 ∨ h = 1 ∨ h = 2 ∨ h = 3) with e | e | e | e <;> subst e <;> simp [hx1]
  · by_cases hx2 : x < n
    · simp [hx1, hx2]
    · simp [hx1, hx2, hz _ x d (by omega)]

theorem eta_eq (A : Acc Ideal) : eta A = A := rfl

theorem S2_eq (c : Dev nD) (f18 : BufTy.Contents (Elt Ideal) B.a18.view.ty) (f19 : BufTy.Contents (Elt Ideal) B.a19.view.ty) (A : Acc Ideal) :
    S2 c i B I f18 f19 A = (A, [], []) := by
  unfold S2
  rw [show Scf.trips (k0_t2_loop i).lb (k0_t2_loop i).ub (k0_t2_loop i).st = 0 from Nat.le_zero.1 (k0_t2_abs i).2.1]
  rfl

theorem acc0_eq (a : ℕ) : acc0 = H.acc a 0 := by
  have z1 : k0_pay107 (F := Ideal) = up .f32 fun _ _ => 0 := by funext p; idx_vars p; pointwise [k0_pay107]; rfl
  have d0 : k0_pay108 (F := Ideal) = up .f32 fun _ _ => 0 := by funext p; idx_vars p; pointwise [k0_pay108]; rfl
  have d1 : k0_pay109 (F := Ideal) = up .f32 fun _ _ => 0 := by funext p; idx_vars p; pointwise [k0_pay109]; rfl
  have d2 : k0_pay110 (F := Ideal) = up .f32 fun _ _ => 0 := by funext p; idx_vars p; pointwise [k0_pay110]; rfl
  have d3 : k0_pay111 (F := Ideal) = up .f32 fun _ _ => 0 := by funext p; idx_vars p; pointwise [k0_pay111]; rfl
  unfold acc0 Heads.acc
  rw [z1, d0, d1, d2, d3]
  unfold col rows C0 P DQ
  simp only [range_zero, sum_empty]

include ok

/-- What the loop leaves. -/
theorem Ins.Ok.loop (c : Dev nD) (f18 : BufTy.Contents (Elt Ideal) B.a18.view.ty) (f19 : BufTy.Contents (Elt Ideal) B.a19.view.ty)
    (h18 : B.a18.view.read (Elt Ideal) f18 = arr4 (H.dk (256 * (i 1).val))) (h19 : B.a19.view.read (Elt Ideal) f19 = arr4 (H.dv (256 * (i 1).val))) :
    Good i B H f18 f19 (S1 c i B I f18 f19) (i 1).val := by
  unfold S1
  rw [show Scf.trips (k0_t1_loop i).lb (k0_t1_loop i).ub (k0_t1_loop i).st = (i 1).val from trips_t1 i]
  exact st_val (B := { B with a16 := Memref.whole main_v23, h16 := Memref.isWhole_whole _ }) Variants.none c none i _ _ _ _ _ _ _ _ _ _ _ _ _ _ _ _ _ _ _ _ _ _ H f18 f19 acc0
    ok.q0_eq ok.g0_eq ok.t0_eq ((B.h3.read_unread _).trans ok.hk0) ((B.h4.read_unread _).trans ok.hv0) ok.q1_eq ok.g1_eq ok.t1_eq ((B.h6.read_unread _).trans ok.hk1) ((B.h7.read_unread _).trans ok.hv1) ok.q2_eq ok.g2_eq ok.t2_eq ((B.h9.read_unread _).trans ok.hk2) ((B.h10.read_unread _).trans ok.hv2) ok.q3_eq ok.g3_eq ok.t3_eq ((B.h12.read_unread _).trans ok.hk3) ((B.h13.read_unread _).trans ok.hv3)
    h18 h19 (acc0_eq _) _ le_rfl

/-- The keys' gradients after the point. -/
theorem Ins.Ok.dk4_eq (f f' : BufTy.Contents (Elt Ideal) B.a18.view.ty) (L : List (View.Piece (Elt Ideal) S4x2048x128 .f32))
    (hx : B.a18.view.read (Elt Ideal) (B.a18.view.writes (Elt Ideal) f L) = arr4 (mix (H.dk (256 * (i 1).val)) (H.dk ((256 * (i 1).val) + 256)) (256 * (i 1).val)))
    (hx' : B.a18.view.read (Elt Ideal) (B.a18.view.writes (Elt Ideal) f' L) = arr4 (mix (H.dk (256 * (i 1).val)) (H.dk ((256 * (i 1).val) + 256)) (256 * (i 1).val))) :
    B.a18.view.read (Elt Ideal) (B.a18.view.writes (Elt Ideal) f' (dk4 i B I f (H.acc (256 * (i 1).val) (256 * (i 1).val)) L)) = arr4 (H.dk ((256 * (i 1).val) + 256)) := by
  unfold dk4
  refine read_putAcc4 B.a18 f f' L _ _ _ hx hx' _ _ _ _ _ _ _ _ (k0_off12_eq i) (k0_off13_eq i) (k0_off14_eq i) (k0_off15_eq i) _ _ _ _ _ _ _ _ ?_ ?_ ?_ ?_ fun h x d hx => ?_
  · rw [ok.z0_eq, ok.q0_eq]; exact tAcc_DK _ _ _ _ _ _
  · rw [ok.z1_eq, ok.q1_eq]; exact tAcc_DK _ _ _ _ _ _
  · rw [ok.z2_eq, ok.q2_eq]; exact tAcc_DK _ _ _ _ _ _
  · rw [ok.z3_eq, ok.q3_eq]; exact tAcc_DK _ _ _ _ _ _
  · exact (DK_zero _ _ _ _ _ _ _ (by omega)).trans (DK_zero _ _ _ _ _ _ _ (by omega)).symm

/-- The values' gradients after the point. -/
theorem Ins.Ok.dv4_eq (f f' : BufTy.Contents (Elt Ideal) B.a19.view.ty) (L : List (View.Piece (Elt Ideal) S4x2048x128 .f32))
    (hx : B.a19.view.read (Elt Ideal) (B.a19.view.writes (Elt Ideal) f L) = arr4 (mix (H.dv (256 * (i 1).val)) (H.dv ((256 * (i 1).val) + 256)) (256 * (i 1).val)))
    (hx' : B.a19.view.read (Elt Ideal) (B.a19.view.writes (Elt Ideal) f' L) = arr4 (mix (H.dv (256 * (i 1).val)) (H.dv ((256 * (i 1).val) + 256)) (256 * (i 1).val))) :
    B.a19.view.read (Elt Ideal) (B.a19.view.writes (Elt Ideal) f' (dv4 i B I f (H.acc (256 * (i 1).val) (256 * (i 1).val)) L)) = arr4 (H.dv ((256 * (i 1).val) + 256)) := by
  unfold dv4
  refine read_putAcc4 B.a19 f f' L _ _ _ hx hx' _ _ _ _ _ _ _ _ (k0_off12_eq i) (k0_off13_eq i) (k0_off14_eq i) (k0_off15_eq i) _ _ _ _ _ _ _ _ ?_ ?_ ?_ ?_ fun h x d hx => ?_
  · rw [ok.w0_eq, ok.g0_eq]; exact tAcc_DV _ _ _ _ _
  · rw [ok.w1_eq, ok.g1_eq]; exact tAcc_DV _ _ _ _ _
  · rw [ok.w2_eq, ok.g2_eq]; exact tAcc_DV _ _ _ _ _
  · rw [ok.w3_eq, ok.g3_eq]; exact tAcc_DV _ _ _ _ _
  · exact (DV_zero _ _ _ _ _ _ (by omega)).trans (DV_zero _ _ _ _ _ _ (by omega)).symm

theorem Ins.Ok.dq0_eq : truncf (F := Ideal) .bf16 (tQ (rows .f32 (256 * (i 1).val) (DQ (H.q 0) (H.k 0) (H.v 0) (H.g 0) (256 * (i 1).val))) (z0 i B I (H.acc (256 * (i 1).val) (256 * (i 1).val))) (k0 i B I)) bitsLt_bf16_f32
    = rows .bf16 (256 * (i 1).val) (H.dq 2048 0) := by
  rw [ok.z0_eq, ok.k0_eq, tQ_DQ]
  have h1 : (i 1).val < 8 := (i 1).isLt
  exact up_congr .bf16 fun x hx d _ => (DQ_cut (H.q 0) (H.k 0) (H.v 0) (H.g 0) ((256 * (i 1).val) + 256) ((256 * (i 1).val) + x) d (by omega) (by omega)).symm

theorem Ins.Ok.dq1_eq : truncf (F := Ideal) .bf16 (tQ (rows .f32 (256 * (i 1).val) (DQ (H.q 1) (H.k 1) (H.v 1) (H.g 1) (256 * (i 1).val))) (z1 i B I (H.acc (256 * (i 1).val) (256 * (i 1).val))) (k1 i B I)) bitsLt_bf16_f32
    = rows .bf16 (256 * (i 1).val) (H.dq 2048 1) := by
  rw [ok.z1_eq, ok.k1_eq, tQ_DQ]
  have h1 : (i 1).val < 8 := (i 1).isLt
  exact up_congr .bf16 fun x hx d _ => (DQ_cut (H.q 1) (H.k 1) (H.v 1) (H.g 1) ((256 * (i 1).val) + 256) ((256 * (i 1).val) + x) d (by omega) (by omega)).symm

theorem Ins.Ok.dq2_eq : truncf (F := Ideal) .bf16 (tQ (rows .f32 (256 * (i 1).val) (DQ (H.q 2) (H.k 2) (H.v 2) (H.g 2) (256 * (i 1).val))) (z2 i B I (H.acc (256 * (i 1).val) (256 * (i 1).val))) (k2 i B I)) bitsLt_bf16_f32
    = rows .bf16 (256 * (i 1).val) (H.dq 2048 2) := by
  rw [ok.z2_eq, ok.k2_eq, tQ_DQ]
  have h1 : (i 1).val < 8 := (i 1).isLt
  exact up_congr .bf16 fun x hx d _ => (DQ_cut (H.q 2) (H.k 2) (H.v 2) (H.g 2) ((256 * (i 1).val) + 256) ((256 * (i 1).val) + x) d (by omega) (by omega)).symm

theorem Ins.Ok.dq3_eq : truncf (F := Ideal) .bf16 (tQ (rows .f32 (256 * (i 1).val) (DQ (H.q 3) (H.k 3) (H.v 3) (H.g 3) (256 * (i 1).val))) (z3 i B I (H.acc (256 * (i 1).val) (256 * (i 1).val))) (k3 i B I)) bitsLt_bf16_f32
    = rows .bf16 (256 * (i 1).val) (H.dq 2048 3) := by
  rw [ok.z3_eq, ok.k3_eq, tQ_DQ]
  have h1 : (i 1).val < 8 := (i 1).isLt
  exact up_congr .bf16 fun x hx d _ => (DQ_cut (H.q 3) (H.k 3) (H.v 3) (H.g 3) ((256 * (i 1).val) + 256) ((256 * (i 1).val) + x) d (by omega) (by omega)).symm

/-- The pieces of the queries' gradients. -/
theorem Ins.Ok.dq4_eq : dq4 i B I (H.acc (256 * (i 1).val) (256 * (i 1).val)) =
  [⟨Rect.unit (s := S2048x1536) (k0_off19 i) S256x128.size (k0_off19_inb i), rows (m := 256) (l := 128) .bf16 (256 * (i 1).val) (H.dq 2048 3)⟩,
   ⟨Rect.unit (s := S2048x1536) (k0_off18 i) S256x128.size (k0_off18_inb i), rows (m := 256) (l := 128) .bf16 (256 * (i 1).val) (H.dq 2048 2)⟩,
   ⟨Rect.unit (s := S2048x1536) (k0_off17 i) S256x128.size (k0_off17_inb i), rows (m := 256) (l := 128) .bf16 (256 * (i 1).val) (H.dq 2048 1)⟩,
   ⟨Rect.unit (s := S2048x1536) (k0_off16 i) S256x128.size (k0_off16_inb i), rows (m := 256) (l := 128) .bf16 (256 * (i 1).val) (H.dq 2048 0)⟩] := by
  unfold dq4
  rw [← ok.dq0_eq, ← ok.dq1_eq, ← ok.dq2_eq, ← ok.dq3_eq]
  rfl

end value

end Cert.KernelIdeal.Sb

end
-- ==== Proof.Out.lean ====
/-
  What the three memories hold after one grid point of the kernel, at real numbers: the output block with the tile's rows of
  the queries' gradients (at a group's last tile the keys' and the values' gradients as well), and the two accumulators.
-/
module

public import proofs.«01_k».proof.Proof.Value

@[expose] public section

set_option maxRecDepth 16384

noncomputable section

namespace Cert.KernelIdeal.Sb

open Idealize.ShloMosaic Idealize.ShloMosaic.TcCoe Idealize.ShloMosaic.Tactic Idealize.SL.Sem
open Cert.KernelIdeal.Gen

/-- The output block after a tile: its rows of the queries' gradients, at the last tile the keys' and the values' gradients, and the rest as before. -/
def outStep (H : Heads) (n : ℕ) (last : Prop) [Decidable last] (Y : Vec Ideal S2048x1536 .bf16) : Vec Ideal S2048x1536 .bf16 := fun p =>
  if (p 1).val / 128 % 3 = 0 then
    if n ≤ (p 0).val ∧ (p 0).val < n + 256 then ((H.dq 2048 ((p 1).val / 128 / 3) (p 0).val ((p 1).val % 128) : ℝ) : EReal) else Y p
  else if last then
    if (p 1).val / 128 % 3 = 1 then ((H.dk 2048 ((p 1).val / 128 / 3) (p 0).val ((p 1).val % 128) : ℝ) : EReal)
    else ((H.dv 2048 ((p 1).val / 128 / 3) (p 0).val ((p 1).val % 128) : ℝ) : EReal)
  else Y p

/-- A block of 128 columns put over a part of the rows. -/
theorem put_col (Y : Vec Ideal S2048x1536 .bf16) (m n k : ℕ) (o : Fin 2 → ℕ) (ho : o = ![n, 128 * k]) (r : ℕ → ℕ → ℝ) :
    VecWindow.put (s := S2048x1536) Y o (⟨2, ![m, 128]⟩ : Shape).size (rows (m := m) (l := 128) .bf16 n r)
      = fun p => if (p 1).val / 128 = k ∧ n ≤ (p 0).val ∧ (p 0).val < n + m then ((r (p 0).val ((p 1).val % 128) : ℝ) : EReal) else Y p := by
  subst ho
  funext p
  unfold VecWindow.put
  by_cases hp : (p 1).val / 128 = k ∧ n ≤ (p 0).val ∧ (p 0).val < n + m
  · have hall : ∀ a, (![n, 128 * k] : Fin 2 → ℕ) a ≤ (p a).val ∧ (p a).val < (![n, 128 * k] : Fin 2 → ℕ) a + (⟨2, ![m, 128]⟩ : Shape).size a := by
      intro a
      fin_cases a
      · show n ≤ (p 0).val ∧ (p 0).val < n + m; omega
      · show 128 * k ≤ (p 1).val ∧ (p 1).val < 128 * k + 128; omega
    rw [dif_pos hall, if_pos hp]
    show ((r (n + ((p 0).val - n)) ((p 1).val - 128 * k) : ℝ) : EReal) = _
    rw [Nat.add_sub_cancel' hp.2.1, show (p 1).val - 128 * k = (p 1).val % 128 by omega]
  · rw [dif_neg (fun hall => hp (by
      have h0 : n ≤ (p 0).val ∧ (p 0).val < n + m := hall 0
      have h1 : 128 * k ≤ (p 1).val ∧ (p 1).val < 128 * k + 128 := hall 1
      omega)), if_neg hp]

/-- The four heads' blocks of a tile's rows. -/
theorem put_dq (H : Heads) (n : ℕ) (Y : Vec Ideal S2048x1536 .bf16) (o0 o1 o2 o3 : Fin 2 → ℕ)
    (h0 : o0 = ![n, 384 * 0]) (h1 : o1 = ![n, 384 * 1]) (h2 : o2 = ![n, 384 * 2]) (h3 : o3 = ![n, 384 * 3]) :
    VecWindow.put (s := S2048x1536) (VecWindow.put (s := S2048x1536) (VecWindow.put (s := S2048x1536) (VecWindow.put (s := S2048x1536) Y
        o0 S256x128.size (rows (m := 256) (l := 128) .bf16 n (H.dq 2048 0)))
        o1 S256x128.size (rows (m := 256) (l := 128) .bf16 n (H.dq 2048 1)))
        o2 S256x128.size (rows (m := 256) (l := 128) .bf16 n (H.dq 2048 2)))
        o3 S256x128.size (rows (m := 256) (l := 128) .bf16 n (H.dq 2048 3)) = outStep H n False Y := by
  have e : ∀ h, (![n, 384 * h] : Fin 2 → ℕ) = ![n, 128 * (3 * h)] := fun h => by rw [show 384 * h = 128 * (3 * h) by omega]
  refine (put_col _ 256 n (3 * 3) o3 (h3.trans (e 3)) (H.dq 2048 3)).trans ?_
  rw [show VecWindow.put (s := S2048x1536) _ o2 S256x128.size (rows (m := 256) (l := 128) .bf16 n (H.dq 2048 2)) = _ from put_col _ 256 n (3 * 2) o2 (h2.trans (e 2)) (H.dq 2048 2),
    show VecWindow.put (s := S2048x1536) _ o1 S256x128.size (rows (m := 256) (l := 128) .bf16 n (H.dq 2048 1)) = _ from put_col _ 256 n (3 * 1) o1 (h1.trans (e 1)) (H.dq 2048 1),
    show VecWindow.put (s := S2048x1536) _ o0 S256x128.size (rows (m := 256) (l := 128) .bf16 n (H.dq 2048 0)) = _ from put_col _ 256 n (3 * 0) o0 (h0.trans (e 0)) (H.dq 2048 0)]
  funext p
  have hp : (p 1).val / 128 < 12 := by have h : (p 1).val < 1536 := (p 1).isLt; omega
  unfold outStep
  dsimp only
  generalize (p 1).val / 128 = k at hp
  by_cases hr : n ≤ (p 0).val ∧ (p 0).val < n + 256
  · simp only [hr, and_true, if_true, if_false]
    interval_cases k <;> simp
  · simp only [hr, and_false, if_true, if_false, ite_self]

/-- The eight blocks of the keys' and the values' gradients over the last tile. -/
theorem put_kv (H : Heads) (n : ℕ) (Y Z : Vec Ideal S2048x1536 .bf16) (hY : Y = outStep H n False Z)
    (K V : Fin 4 → FVec Ideal S2048x128 .bf16) (hK : ∀ h, K h = up .bf16 (H.dk 2048 h)) (hV : ∀ h, V h = up .bf16 (H.dv 2048 h)) :
    VecWindow.put (s := S2048x1536) (VecWindow.put (s := S2048x1536) (VecWindow.put (s := S2048x1536) (VecWindow.put (s := S2048x1536)
      (VecWindow.put (s := S2048x1536) (VecWindow.put (s := S2048x1536) (VecWindow.put (s := S2048x1536) (VecWindow.put (s := S2048x1536) Y
        ![0, 128] S2048x128.size (K 0)) ![0, 256] S2048x128.size (V 0)) ![0, 512] S2048x128.size (K 1)) ![0, 640] S2048x128.size (V 1))
        ![0, 896] S2048x128.size (K 2)) ![0, 1024] S2048x128.size (V 2)) ![0, 1280] S2048x128.size (K 3)) ![0, 1408] S2048x128.size (V 3)
      = outStep H n True Z := by
  have hc : ∀ (Y : Vec Ideal S2048x1536 .bf16) (k : ℕ) (o : Fin 2 → ℕ) (ho : o = ![0, 128 * k]) (r : ℕ → ℕ → ℝ) (x : FVec Ideal S2048x128 .bf16), x = up .bf16 r →
      VecWindow.put (s := S2048x1536) Y o S2048x128.size x = fun p => if (p 1).val / 128 = k then ((r (p 0).val ((p 1).val % 128) : ℝ) : EReal) else Y p := by
    intro Y k o ho r x hx
    have hr : x = rows (m := 2048) (l := 128) .bf16 0 r := hx.trans (up_congr _ fun a _ d _ => by rw [zero_add])
    rw [hr]
    refine (put_col Y 2048 0 k o ho r).trans (funext fun p => ?_)
    have h0 : (p 0).val < 2048 := (p 0).isLt
    simp only [Nat.zero_le, zero_add, h0, and_true]
  rw [hc _ 11 _ rfl _ _ (hV 3), hc _ 10 _ rfl _ _ (hK 3), hc _ 8 _ rfl _ _ (hV 2), hc _ 7 _ rfl _ _ (hK 2),
    hc _ 5 _ rfl _ _ (hV 1), hc _ 4 _ rfl _ _ (hK 1), hc _ 2 _ rfl _ _ (hV 0), hc _ 1 _ rfl _ _ (hK 0), hY]
  funext p
  have hp : (p 1).val / 128 < 12 := by have h : (p 1).val < 1536 := (p 1).isLt; omega
  unfold outStep
  dsimp only
  generalize (p 1).val / 128 = k at hp
  interval_cases k <;> simp

theorem shape_col (x : ℕ → ℕ → ℝ) : truncf (F := Ideal) .bf16 (shapeCast S2048x128 (up1 (m := 2048) (n := 128) .f32 x) shapeCasts_S1x2048x128_S2048x128) bitsLt_bf16_f32 = up .bf16 x := by
  funext p; idx_vars p
  pointwise []

theorem window_head (x : ℕ → ℕ → ℕ → ℝ) (h : ℕ) (inb : ∀ a, (![h, 0, 0] : Fin 3 → ℕ) a + S1x2048x128.size a ≤ S4x2048x128.size a) :
    VecWindow.window (s := S4x2048x128) (arr4 x) ![h, 0, 0] S1x2048x128.size inb = up1 (m := 2048) (n := 128) .f32 (x h) := by
  funext p
  have e0 : ((Rect.unit (s := S4x2048x128) ![h, 0, 0] S1x2048x128.size inb).emb p 0).val = h + 1 * (p 0).val := rfl
  have e1 : ((Rect.unit (s := S4x2048x128) ![h, 0, 0] S1x2048x128.size inb).emb p 1).val = 0 + 1 * (p 1).val := rfl
  have e2 : ((Rect.unit (s := S4x2048x128) ![h, 0, 0] S1x2048x128.size inb).emb p 2).val = 0 + 1 * (p 2).val := rfl
  have h0 : (p 0).val < 1 := (p 0).isLt
  unfold VecWindow.window arr4 up1
  rw [e0, e1, e2, show h + 1 * (p 0).val = h by omega, one_mul, one_mul, zero_add, zero_add]

/-- A head's column of an accumulator, written out. -/
theorem headOut_eq (a : Memref sig .tc .vmem S4x2048x128 .f32) (f : BufTy.Contents (Elt Ideal) a.view.ty) (x : ℕ → ℕ → ℕ → ℝ)
    (hx : a.view.read (Elt Ideal) f = arr4 x) (h : ℕ) (o : Fin 3 → ℕ) (inb : ∀ a, o a + S1x2048x128.size a ≤ S4x2048x128.size a) (ho : o = ![h, 0, 0]) :
    headOut a f o inb = up .bf16 (x h) := by
  subst ho
  unfold headOut
  refine Eq.trans (congrArg (fun y => truncf (F := Ideal) .bf16 (shapeCast S2048x128 y shapeCasts_S1x2048x128_S2048x128) bitsLt_bf16_f32) ?_) (shape_col (x h))
  rw [View.readAt_unit a.view f inb rfl inb, hx]
  exact window_head x h inb

theorem zero97 (H : Heads) : k0_pay97 (F := Ideal) = arr4 (H.dk 0) := by
  funext p; idx_vars p; pointwise [k0_pay97, arr4]
  show (0 : EReal) = ((DK _ _ _ _ 0 _ _ : ℝ) : EReal)
  unfold DK; simp

theorem zero98 (H : Heads) : k0_pay98 (F := Ideal) = arr4 (H.dv 0) := by
  funext p; idx_vars p; pointwise [k0_pay98, arr4]
  show (0 : EReal) = ((DV _ _ _ 0 _ _ : ℝ) : EReal)
  unfold DV; simp

theorem read_zero4 (a : Memref sig .tc .vmem S4x2048x128 .f32) (f : BufTy.Contents (Elt Ideal) a.view.ty) (w : FVec Ideal S4x2048x128 .f32) :
    a.view.read (Elt Ideal) (a.view.writes (Elt Ideal) f (zero4 w)) = w := by
  unfold zero4
  exact View.read_writes_full a.view f _ w []

/-- Over the stores of zeros nothing is left of what was there. -/
theorem read_over_zero4 (a : Memref sig .tc .vmem S4x2048x128 .f32) (f f' : BufTy.Contents (Elt Ideal) a.view.ty) (w : FVec Ideal S4x2048x128 .f32)
    (L : List (View.Piece (Elt Ideal) S4x2048x128 .f32)) :
    a.view.read (Elt Ideal) (a.view.writes (Elt Ideal) f (L ++ zero4 w)) = a.view.read (Elt Ideal) (a.view.writes (Elt Ideal) f' (L ++ zero4 w)) :=
  View.read_writes_of_cover _ _ _ _ _ (View.cover_of_wholeMem _ ⟨_, List.mem_append_right _ (List.mem_singleton.2 rfl), rfl⟩)

section point

variable (c : Dev nD) (i : grid0.Coords) (B : Bufs) (I : Ins Ideal) (H : Heads) (tot : ℕ → ℕ → ℝ)
variable (xo : Vec Ideal S2048x1536 .bf16) (xs0 xs1 : Vec Ideal S4x2048x128 .f32)

variable {i} {B} {I} {H} {tot} (ok : I.Ok i H tot)

/-- The accumulators after the point, from any contents `f` over which the pieces were computed and any `f'` they are written over. -/
theorem read_dq4 (ok : I.Ok i H tot) : B.a17.view.read (Elt Ideal) (B.a17.view.writes (Elt Ideal) (B.h17.unread xo) (dq4 i B I (H.acc (256 * (i 1).val) (256 * (i 1).val))))
    = outStep H (256 * (i 1).val) False xo := by
  rw [ok.dq4_eq, View.read_writes_cons_put _ _ _ _ _ (k0_off19_eq i), View.read_writes_cons_put _ _ _ _ _ (k0_off18_eq i),
    View.read_writes_cons_put _ _ _ _ _ (k0_off17_eq i), View.read_writes_cons_put _ _ _ _ _ (k0_off16_eq i),
    show B.a17.view.read (Elt Ideal) (B.a17.view.writes (Elt Ideal) (B.h17.unread xo) []) = xo from B.h17.read_unread xo]
  exact put_dq H _ xo _ _ _ _ rfl rfl rfl rfl

variable (LO : List (View.Piece (Elt Ideal) S2048x1536 .bf16)) (LK LV : List (View.Piece (Elt Ideal) S4x2048x128 .f32))

include ok

/-- After a middle tile. -/
theorem Ins.Ok.mid (h0 : xs0 = arr4 (H.dk (256 * (i 1).val))) (h1 : xs1 = arr4 (H.dv (256 * (i 1).val)))
    (hO : LO = dq4 i B I (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1) (hK : LK = dk4 i B I (B.h18.unread xs0) (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1 ((S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).2.1 ++ (S1 c i B I (B.h18.unread xs0) (B.h19.unread xs1)).2.1)) (hV : LV = dv4 i B I (B.h19.unread xs1) (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1 ((S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).2.2 ++ (S1 c i B I (B.h18.unread xs0) (B.h19.unread xs1)).2.2)) :
    B.a17.view.read (Elt Ideal) (B.a17.view.writes (Elt Ideal) (B.h17.unread xo) LO) = outStep H (256 * (i 1).val) False xo
    ∧ B.a18.view.read (Elt Ideal) (B.a18.view.writes (Elt Ideal) (B.h18.unread xs0) LK) = arr4 (H.dk (256 * (i 1).val + 256))
    ∧ B.a19.view.read (Elt Ideal) (B.a19.view.writes (Elt Ideal) (B.h19.unread xs1) LV) = arr4 (H.dv (256 * (i 1).val + 256)) := by
  obtain ⟨l1, l2, l3⟩ := ok.loop c (B.h18.unread xs0) (B.h19.unread xs1) ((B.h18.read_unread _).trans h0) ((B.h19.read_unread _).trans h1)
  subst hO hK hV
  simp only [S2_eq, List.nil_append]
  rw [l1]
  exact ⟨read_dq4 xo ok, ok.dk4_eq _ _ _ l2 l2, ok.dv4_eq _ _ _ l3 l3⟩

/-- After a group's last tile. -/
theorem Ins.Ok.last (h0 : xs0 = arr4 (H.dk (256 * (i 1).val))) (h1 : xs1 = arr4 (H.dv (256 * (i 1).val))) (h7 : (i 1).val = 7)
    (hO : LO = kv8 B (B.h18.unread xs0) (B.h19.unread xs1) LK LV ++ dq4 i B I (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1)
    (hK : LK = dk4 i B I (B.h18.unread xs0) (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1 ((S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).2.1 ++ (S1 c i B I (B.h18.unread xs0) (B.h19.unread xs1)).2.1)) (hV : LV = dv4 i B I (B.h19.unread xs1) (S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).1 ((S2 c i B I (B.a18.view.writes (Elt Ideal) (B.h18.unread xs0) (S1 c i B I (B.h18.unread xs0) (B.h19.unread xs1)).2.1) (B.a19.view.writes (Elt Ideal) (B.h19.unread xs1) (S1 c i B I (B.h18.unread xs0) (B.h19.unread xs1)).2.2) (S1 c i B I (B.h18.unread xs0) (B.h19.unread xs1)).1).2.2 ++ (S1 c i B I (B.h18.unread xs0) (B.h19.unread xs1)).2.2)) :
    B.a17.view.read (Elt Ideal) (B.a17.view.writes (Elt Ideal) (B.h17.unread xo) LO) = outStep H (256 * (i 1).val) True xo
    ∧ B.a18.view.read (Elt Ideal) (B.a18.view.writes (Elt Ideal) (B.h18.unread xs0) LK) = arr4 (H.dk (256 * (i 1).val + 256))
    ∧ B.a19.view.read (Elt Ideal) (B.a19.view.writes (Elt Ideal) (B.h19.unread xs1) LV) = arr4 (H.dv (256 * (i 1).val + 256)) := by
  obtain ⟨hO', k, v⟩ := ok.mid c xo xs0 xs1 _ LK LV h0 h1 rfl hK hV
  refine ⟨?_, k, v⟩
  have k' := k.trans (show arr4 (H.dk (256 * (i 1).val + 256)) = arr4 (H.dk 2048) by rw [h7])
  have v' := v.trans (show arr4 (H.dv (256 * (i 1).val + 256)) = arr4 (H.dv 2048) by rw [h7])
  clear hK hV k v
  subst hO
  unfold kv8
  generalize dq4 i B I _ = L at hO' ⊢
  simp only [List.cons_append, List.nil_append]
  rw [View.read_writes_cons_put _ _ _ _ _ rfl, View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.read_writes_cons_put _ _ _ _ _ rfl, View.read_writes_cons_put _ _ _ _ _ rfl]
  rw [headOut_eq B.a18 _ _ k' 0 _ _ rfl, headOut_eq B.a18 _ _ k' 1 _ _ rfl, headOut_eq B.a18 _ _ k' 2 _ _ rfl, headOut_eq B.a18 _ _ k' 3 _ _ rfl,
    headOut_eq B.a19 _ _ v' 0 _ _ rfl, headOut_eq B.a19 _ _ v' 1 _ _ rfl, headOut_eq B.a19 _ _ v' 2 _ _ rfl, headOut_eq B.a19 _ _ v' 3 _ _ rfl]
  exact put_kv H _ _ xo hO' (fun h => up .bf16 (H.dk 2048 h)) (fun h => up .bf16 (H.dv 2048 h)) (fun _ => rfl) (fun _ => rfl)

/-- After a group's first tile, whatever the accumulators held. -/
theorem Ins.Ok.first (h00 : (i 1).val = 0) (e0 : BufTy.Contents (Elt Ideal) B.a18.view.ty) (e1 : BufTy.Contents (Elt Ideal) B.a19.view.ty)
    (hO : LO = dq4 i B I (S2 c i B I (B.a18.view.writes (Elt Ideal) B.a18.view.junk ((S1 c i B I (B.a18.view.writes (Elt Ideal) B.a18.view.junk (zero4 k0_pay97)) (B.a19.view.writes (Elt Ideal) B.a19.view.junk (zero4 k0_pay98))).2.1 ++ zero4 k0_pay97)) (B.a19.view.writes (Elt Ideal) B.a19.view.junk ((S1 c i B I (B.a18.view.writes (Elt Ideal) B.a18.view.junk (zero4 k0_pay97)) (B.a19.view.writes (Elt Ideal) B.a19.view.junk (zero4 k0_pay98))).2.2 ++ zero4 k0_pay98)) (S1 c i B I (B.a18.view.writes (Elt Ideal) B.a18.view.junk (zero4 k0_pay97)) (B.a19.view.writes (Elt Ideal) B.a19.view.junk (zero4 k0_pay98))).1).1) (hK : LK = dk4 i B I B.a18.view.junk (S2 c i B I (B.a18.view.writes (Elt Ideal) B.a18.view.junk ((S1 c i B I (B.a18.view.writes (Elt Ideal) B.a18.view.junk (zero4 k0_pay97)) (B.a19.view.writes (Elt Ideal) B.a19.view.junk (zero4 k0_pay98))).2.1 ++ zero4 k0_pay97)) (B.a19.view.writes (Elt Ideal) B.a19.view.junk ((S1 c i B I (B.a18.view.writes (Elt Ideal) B.a18.view.junk (zero4 k0_pay97)) (B.a19.view.writes (Elt Ideal) B.a19.view.junk (zero4 k0_pay98))).2.2 ++ zero4 k0_pay98)) (S1 c i B I (B.a18.view.writes (Elt Ideal) B.a18.view.junk (zero4 k0_pay97)) (B.a19.view.writes (Elt Ideal) B.a19.view.junk (zero4 k0_pay98))).1).1 ((S2 c i B I (B.a18.view.writes (Elt Ideal) B.a18.view.junk ((S1 c i B I (B.a18.view.writes (Elt Ideal) B.a18.view.junk (zero4 k0_pay97)) (B.a19.view.writes (Elt Ideal) B.a19.view.junk (zero4 k0_pay98))).2.1 ++ zero4 k0_pay97)) (B.a19.view.writes (Elt Ideal) B.a19.view.junk ((S1 c i B I (B.a18.view.writes (Elt Ideal) B.a18.view.junk (zero4 k0_pay97)) (B.a19.view.writes (Elt Ideal) B.a19.view.junk (zero4 k0_pay98))).2.2 ++ zero4 k0_pay98)) (S1 c i B I (B.a18.view.writes (Elt Ideal) B.a18.view.junk (zero4 k0_pay97)) (B.a19.view.writes (Elt Ideal) B.a19.view.junk (zero4 k0_pay98))).1).2.1 ++ ((S1 c i B I (B.a18.view.writes (Elt Ideal) B.a18.view.junk (zero4 k0_pay97)) (B.a19.view.writes (Elt Ideal) B.a19.view.junk (zero4 k0_pay98))).2.1 ++ zero4 k0_pay97)))
    (hV : LV = dv4 i B I B.a19.view.junk (S2 c i B I (B.a18.view.writes (Elt Ideal) B.a18.view.junk ((S1 c i B I (B.a18.view.writes (Elt Ideal) B.a18.view.junk (zero4 k0_pay97)) (B.a19.view.writes (Elt Ideal) B.a19.view.junk (zero4 k0_pay98))).2.1 ++ zero4 k0_pay97)) (B.a19.view.writes (Elt Ideal) B.a19.view.junk ((S1 c i B I (B.a18.view.writes (Elt Ideal) B.a18.view.junk (zero4 k0_pay97)) (B.a19.view.writes (Elt Ideal) B.a19.view.junk (zero4 k0_pay98))).2.2 ++ zero4 k0_pay98)) (S1 c i B I (B.a18.view.writes (Elt Ideal) B.a18.view.junk (zero4 k0_pay97)) (B.a19.view.writes (Elt Ideal) B.a19.view.junk (zero4 k0_pay98))).1).1 ((S2 c i B I (B.a18.view.writes (Elt Ideal) B.a18.view.junk ((S1 c i B I (B.a18.view.writes (Elt Ideal) B.a18.view.junk (zero4 k0_pay97)) (B.a19.view.writes (Elt Ideal) B.a19.view.junk (zero4 k0_pay98))).2.1 ++ zero4 k0_pay97)) (B.a19.view.writes (Elt Ideal) B.a19.view.junk ((S1 c i B I (B.a18.view.writes (Elt Ideal) B.a18.view.junk (zero4 k0_pay97)) (B.a19.view.writes (Elt Ideal) B.a19.view.junk (zero4 k0_pay98))).2.2 ++ zero4 k0_pay98)) (S1 c i B I (B.a18.view.writes (Elt Ideal) B.a18.view.junk (zero4 k0_pay97)) (B.a19.view.writes (Elt Ideal) B.a19.view.junk (zero4 k0_pay98))).1).2.2 ++ ((S1 c i B I (B.a18.view.writes (Elt Ideal) B.a18.view.junk (zero4 k0_pay97)) (B.a19.view.writes (Elt Ideal) B.a19.view.junk (zero4 k0_pay98))).2.2 ++ zero4 k0_pay98))) :
    B.a17.view.read (Elt Ideal) (B.a17.view.writes (Elt Ideal) (B.h17.unread xo) LO) = outStep H (256 * (i 1).val) False xo
    ∧ B.a18.view.read (Elt Ideal) (B.a18.view.writes (Elt Ideal) e0 LK) = arr4 (H.dk (256 * (i 1).val + 256))
    ∧ B.a19.view.read (Elt Ideal) (B.a19.view.writes (Elt Ideal) e1 LV) = arr4 (H.dv (256 * (i 1).val + 256)) := by
  obtain ⟨l1, l2, l3⟩ := ok.loop c (B.a18.view.writes (Elt Ideal) B.a18.view.junk (zero4 k0_pay97)) (B.a19.view.writes (Elt Ideal) B.a19.view.junk (zero4 k0_pay98))
    ((read_zero4 _ _ _).trans ((zero97 H).trans (by rw [h00]))) ((read_zero4 _ _ _).trans ((zero98 H).trans (by rw [h00])))
  rw [← View.writes_append] at l2 l3
  subst hO hK hV
  simp only [S2_eq, List.nil_append]
  rw [l1]
  exact ⟨read_dq4 xo ok, ok.dk4_eq _ _ _ l2 ((read_over_zero4 _ _ _ _ _).trans l2), ok.dv4_eq _ _ _ l3 ((read_over_zero4 _ _ _ _ _).trans l3)⟩

end point

end Cert.KernelIdeal.Sb

end
-- ==== Proof.Tail.lean ====
/-
  A run of a kernel region followed by host lines, told with what the host lines write.

  The proof data is relational: each array of the pipeline ends at some contents it may hold after every write-back. The
  host lines after the region compute from the arrays, so the buffers they write are told from the same contents.
-/
module

public import Idealize.ShloMosaic.Lib.Pipeline.FrameSuffix

@[expose] public section

noncomputable section

namespace Cert.Sb.Tail

open Idealize.ShloMosaic Idealize.ShloMosaic.TcCoe Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type} [∀ e, Nonempty (Val e)]
variable {Λ₀ : Labels} {P : Type} [Fintype P] [DecidableEq P]
variable (pcs : P → PCfg sig Λ₀ Val) (a : (p : P) → (pcs p).Adm) (p : P)
  (kit₀ : PLaunchFacts₀ (nD := nD) (τ := τ) pcs p) (defs₀ : Defs nD τ sig Val Λ₀) (𝒱₀ : Variants)

local notation "𝕄" => MT nD τ sig Unit Val ℕ (UR sig nD τ) ℕ

/-- What every buffer outside the pipeline's arrays holds when @main ends, if the arrays hold `A` when the region ends. -/
def ended (rdat : (c : Dev nD) → RDat τ Val Unit ℕ (UR sig nD τ) ℕ (pin pcs a p) c) (V₀ : Dev nD → Valuation τ sig Val)
    (ops : List (HloOp τ sig Val)) (c : Dev nD) (A : (w : Fin (pin pcs a p).W) → Buf Val (((pin pcs a p).win w).arr.view.loc (c.tc : Thread nD τ)))
    (b : Ref sig .tc) : Buf Val ((c.tc : Thread nD τ).loc b) :=
  StableHlo.after ops (withArrays (pin pcs a p).spec c (V₀ c) A) (Proc.devRef .tc b)

/-- What a final state says: every array at contents it may hold, and the other buffers as the host lines leave them. -/
def Ended (rdat : (c : Dev nD) → RDat τ Val Unit ℕ (UR sig nD τ) ℕ (pin pcs a p) c) (V₀ : Dev nD → Valuation τ sig Val)
    (ops : List (HloOp τ sig Val)) (s : MemSt nD τ sig Val) : Prop :=
  ∀ c : Dev nD, (∀ w, (rdat c).ArrAt w (pin pcs a p).N (s.mem (((pin pcs a p).spec w).arr.view.loc (c.tc : Thread nD τ))))
    ∧ ∃ A : (w : Fin (pin pcs a p).W) → Buf Val (((pin pcs a p).win w).arr.view.loc (c.tc : Thread nD τ)),
        (∀ w, (rdat c).ArrAt w (pin pcs a p).N (A w))
          ∧ ∀ b ∈ restRefsP sig (pcs p).pre (pin pcs a p).spec, s.mem ((c.tc : Thread nD τ).loc b) = ended pcs a p rdat V₀ ops c A b

variable (rdat : (c : Dev nD) → RDat τ Val Unit ℕ (UR sig nD τ) ℕ (pin pcs a p) c)

/-- The arrays after every write-back, each at contents it may hold: the contents chosen at once. -/
theorem arraysAt_elim (c : Dev nD) : ((rdat c).arraysAt (pin pcs a p).N : sProp 𝕄)
    ⊢ iprop(∃ A, ⌜∀ w, (rdat c).ArrAt w (pin pcs a p).N (A w)⌝ ∗ (rdat c).arrays A) := by
  unfold RDat.arraysAt RDat.arrays
  refine (BI.bigSep_exists_pi Finset.univ fun w F => iprop(⌜(rdat c).ArrAt w (pin pcs a p).N F⌝
    ∗ ((pin pcs a p).win w).arr.view.loc (c.tc : Thread nD τ) ↦[((pin pcs a p).win w).arr.view.set]{(rdat c).share w} F)).trans ?_
  iintro ⟨%A, H⟩
  ihave H' := (BI.bigSep_pure_sep Finset.univ (fun w => (rdat c).ArrAt w (pin pcs a p).N (A w))
    (fun w => ((pin pcs a p).win w).arr.view.loc (c.tc : Thread nD τ) ↦[((pin pcs a p).win w).arr.view.set]{(rdat c).share w} A w)) $$ H
  icases H' with ⟨%h, H⟩
  iexists A
  isplitr
  · ipureintro; exact fun w => h w (Finset.mem_univ w)
  · iexact H

/-- And back. -/
theorem arraysAt_intro (c : Dev nD) (A) (h : ∀ w, (rdat c).ArrAt w (pin pcs a p).N (A w)) :
    ((rdat c).arrays A : sProp 𝕄) ⊢ (rdat c).arraysAt (pin pcs a p).N := by
  unfold RDat.arraysAt RDat.arrays
  refine BI.bigSep_mono fun w _ => ?_
  show (((pin pcs a p).win w).arr.view.loc (c.tc : Thread nD τ) ↦[((pin pcs a p).win w).arr.view.set]{(rdat c).share w} A w : sProp 𝕄)
    ⊢ iprop(∃ F, ⌜(rdat c).ArrAt w (pin pcs a p).N F⌝ ∗ ((pin pcs a p).win w).arr.view.loc (c.tc : Thread nD τ) ↦[((pin pcs a p).win w).arr.view.set]{(rdat c).share w} F)
  iintro H
  iexists A w
  isplitr
  · ipureintro; exact h w
  · iexact H

include kit₀ in
/-- The run: @main's host lines, the region, the host lines after it; windows may share an array among inputs. -/
theorem run
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g)
      (fun r => Ended pcs a p rdat V₀ opss.flatten r.2 ∧ r.2.sem = fun _ => 0) := by
  classical
  let rest := restRefsP sig (pcs p).pre (pin pcs a p).spec
  let V : (c : Dev nD) → (b : Ref sig .tc) → Buf Val ((c.tc : Thread nD τ).loc b) := fun c b => V₀ c (Proc.devRef .tc b)
  let fam := RDat.familyOf pcs a p rdat
  have hfam : ∀ c, fam p c = rdat c := fun c => RDat.familyOf_self pcs a p rdat c
  exact RDat.θ_run_region_pf_tail_quiescent pcs a fam () (kit₀.cellOf_inj a) p kit₀.win (OwnSemFacts.none (pin pcs a p).spec) kit₀.pre emb₁ defs₀ 𝒱₀ m g main
    (fun _ => chain (opss.map StableHlo.seq)) (fun c => by rw [hfam]; exact hbody c)
    kit₀.block_pos kit₀.arr_whole kit₀.stage_whole (fun c t => by rw [hfam]; exact howed c t)
    (G := fun _ => iprop(emp)) (u₀ := initOf (cells (pin pcs a) (kit₀.cellOf_inj a)) (launchToks (pin pcs a) (kit₀.cellOf_inj a)))
    (hu₀ := by
      iintro Hu; imodintro
      isplitl [Hu]
      · iapply (show (ownU _ : sProp 𝕄) ⊢ BI.own (emb₁ (initOf (cells (pin pcs a) (kit₀.cellOf_inj a)) (launchToks (pin pcs a) (kit₀.cellOf_inj a)))) from .rfl)
        iexact Hu
      · iapply (show (BI.emp : sProp 𝕄) ⊢ bigSep Finset.univ (fun _ : Dev nD => (BI.emp : sProp 𝕄)) from by rw [BI.bigSep_emp_const])
        iempintro)
    (V := V) (hmain := hmain)
    (hsplit := fun c => by rw [hfam]; exact (rdat c).arrays_split_shared kit₀.sharedIn kit₀.arr_whole (hq c) (V c) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c (V c))
    (Z' := fun c => iprop(∃ A, ⌜∀ w, (rdat c).ArrAt w (pin pcs a p).N (A w)⌝
      ∗ unscopedRestP (Ix := Unit) (Name := ℕ) (U := UR sig nD τ) (Lvl := ℕ) (pcs p).pre (pin pcs a p).spec c (ended pcs a p rdat V₀ opss.flatten c A)))
    (hX := fun c => by
      iintro ⟨HU, -, -, Hp, -⟩; imodintro
      isplitl [Hp]; · iexists _; iexact Hp
      iexact HU)
    (hin := fun c => by
      rw [hfam]
      refine Entails.trans ?_ (hin c)
      unfold ΦA ΦT
      iintro ⟨Hp, Ht, Hr⟩
      isplitr [Ht]
      · isplitl [Hr] <;> iassumption
      · iexact Ht)
    (hout := fun c => by
      rw [hfam]
      refine (hout c).trans ?_
      rw [ownSems0_none]; unfold ΦA
      iintro ⟨Hr, Hp⟩
      isplitl [Hp]; · iexact Hp
      isplitr; · iempintro
      iexact Hr)
    (htail := fun c Q' => by
      rw [hfam]
      iintro ⟨Hk, Hb, Ha, HZ⟩
      ihave Ha' := (arraysAt_elim pcs a p rdat c) $$ Ha
      icases Ha' with ⟨%A, %hA', Ha⟩
      have hB : (rdat c).arrays A = arrBufs (pin pcs a p).spec c (fun b => withArrays (pin pcs a p).spec c (V₀ c) A (Proc.devRef .tc b)) :=
        ((rdat c).arrBufs_eq_arrays kit₀.sharedIn kit₀.arr_whole (hq c) _ A fun w =>
          (withArrays_arr_shared (pin pcs a p).spec c (V₀ c) A
            ((rdat c).ArrAt_sharedIn kit₀.sharedIn (V₀ c) (hA c) (pin pcs a p).N A hA') w).symm).symm
      iapply (tail_seqs_bufs_b pcs defs₀ 𝒱₀ (pcs p).pre (pin pcs a p).spec c (V₀ c) A opss hsub hfresh hkeep Q')
      isplitl [Hk]
      · iintro ⟨Hb2, Ha2, Hu⟩
        iapply Hk
        isplitl [Hb2]; · iexact Hb2
        isplitl [Ha2]
        · iapply (arraysAt_intro pcs a p rdat c A hA')
          iapply (Entails.of_eq hB.symm)
          iexact Ha2
        · iexists A
          isplitr
          · ipureintro; exact hA'
          · iexact Hu
      · isplitl [Hb]; · iexact Hb
        isplitl [Ha]
        · iapply (Entails.of_eq hB); iexact Ha
        · iexact HZ)
    (QY := fun c s => ∃ A, (∀ w, (rdat c).ArrAt w (pin pcs a p).N (A w))
      ∧ ∀ b ∈ rest, s.mem ((c.tc : Thread nD τ).loc b) = ended pcs a p rdat V₀ opss.flatten c A b)
    (hY := fun c s' => by
      iintro ⟨-, HZ, HSI⟩
      icases HZ with ⟨%A, %hA', HZ⟩
      unfold unscopedRestP
      ihave HZ' := (pointsTo_read_all rest (fun b => (c.tc : Thread nD τ).loc b) (ended pcs a p rdat V₀ opss.flatten c A) s') $$ [HZ HSI]
      · isplitl [HZ] <;> iassumption
      icases HZ' with ⟨%hZ, HSI⟩
      imodintro
      isplitr
      · ipureintro; exact ⟨A, hA', hZ⟩
      · iexact HSI)
    (hQ := fun s h hz => ⟨fun c => ⟨fun w => by simpa only [hfam] using (h c).1 w, (h c).2.2⟩, hz⟩)

variable (cfgs : P → Cfg sig Λ₀)

/-- The same for pipelines without prefetched tables. -/
def After (q : P) (rd : (c : Dev nD) → RDat τ Val Unit ℕ (UR sig nD τ) ℕ (cfgs q) c) (V₀ : Dev nD → Valuation τ sig Val)
    (ops : List (HloOp τ sig Val)) (s : MemSt nD τ sig Val) : Prop :=
  ∀ c : Dev nD, (∀ w, (rd c).ArrAt w (cfgs q).N (s.mem (((cfgs q).spec w).arr.view.loc (c.tc : Thread nD τ))))
    ∧ ∃ A : (w : Fin (cfgs q).W) → Buf Val (((cfgs q).win w).arr.view.loc (c.tc : Thread nD τ)),
        (∀ w, (rd c).ArrAt w (cfgs q).N (A w))
          ∧ ∀ b ∈ restRefs sig (cfgs q).spec, s.mem ((c.tc : Thread nD τ).loc b) = StableHlo.after ops (withArrays (cfgs q).spec c (V₀ c) A) (Proc.devRef .tc b)

/-- The run of such a pipeline. -/
theorem run_plain (q : P) (kit : LaunchFacts₀ (nD := nD) (τ := τ) cfgs q) (rd : (c : Dev nD) → RDat τ Val Unit ℕ (UR sig nD τ) ℕ (cfgs q) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rd c).BodyObligation defs₀ 𝒱₀ () Set.univ)
    (hq : ∀ c w, ((cfgs q).spec w).isOut = false → (rd c).q w = shareOf (cfgs q).spec w) (howed : ∀ c t, (rd c).owed t = 0)
    (V₀ : Dev nD → Valuation τ sig Val) (opss : List (List (HloOp τ sig Val)))
    (hsub : ∀ ops ∈ opss, ∀ op ∈ ops, op.bufs ⊆ tailRefs sig Prefetch.none (cfgs q).spec)
    (hfresh : ∀ ops ∈ opss, ∀ op ∈ ops, op.fresh = ∅)
    (hkeep : ∀ ops ∈ opss, ∀ op ∈ ops, ∀ w, Proc.devRef .tc (arrRef (cfgs q).spec w) ∉ op.writes)
    (hmain : HMainK (Ix := Unit) (Name := ℕ) (U := UR sig nD τ) (Lvl := ℕ) cfgs q defs₀ 𝒱₀ m main
      (fun c b => V₀ c (Proc.devRef .tc b)) (fun _ => chain (opss.map StableHlo.seq)))
    (hA : ∀ c w, (rd c).A w = V₀ c (Proc.devRef .tc (arrRef (cfgs q).spec w)))
    (hin : ∀ c, ΦA (cfgs q).spec c ⊢ (rd c).Φ 0) (hout : ∀ c, (rd c).Φ (Fin.last (cfgs q).N) ⊢ ΦA (cfgs q).spec c) :
    θ_run (Pipeline.defs (fun p => (cfgs p).toPCfg (Val := Val)) defs₀) (onTc main) (s₀ m g)
      (fun r => After cfgs q rd V₀ opss.flatten r.2 ∧ r.2.sem = fun _ => 0) :=
  (θ_run _ _ _).mono
    (fun r h => ⟨fun c => ⟨(h.1 c).1, (h.1 c).2.imp fun A hA' => ⟨hA'.1, fun b hb => hA'.2 b (Finset.mem_sdiff.2 ⟨hb, by simp [Prefetch.none]⟩)⟩⟩, h.2⟩)
    (run (fun q => (cfgs q).toPCfg (Val := Val)) (fun q => (cfgs q).toPCfg_adm) q kit.toP defs₀ 𝒱₀ rd m g main
      hbody hq howed V₀ opss hsub hfresh hkeep hmain hA (fun _ k => k.elim0)
      (fun c => (show _ ⊢ ΦA (cfgs q).spec c from by iintro ⟨H, -⟩; iexact H).trans (hin c)) hout)

end Cert.Sb.Tail

end
-- ==== Proof.Run.lean ====
/-
  The kernel's run with the numbers: what a grid point leaves, the pipeline's data, and the region's end.
-/
module

public import proofs.«01_k».proof.Proof.Out
public import proofs.«01_k».proof.Proof.Tail

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

theorem isFirst_iff : ∀ i : grid0.Coords, isFirst i ↔ (i 1).val = 0 := by decide +kernel

theorem isLast_iff : ∀ i : grid0.Coords, isLast i ↔ (i 1).val = 7 := by decide +kernel

theorem outStep_congr (H : Heads) (n : ℕ) (p q : Prop) [Decidable p] [Decidable q] (h : p ↔ q) (Y : Vec Ideal S2048x1536 .bf16) :
    outStep H n p Y = outStep H n q Y := by
  funext x
  unfold outStep
  by_cases hq : q
  · simp only [h.2 hq, hq]
  · have hp : ¬p := fun k => hq (h.1 k)
    simp only [hp, hq]

/-- A memory owned at what a piece of it reads. -/
theorem owns_of (c : Dev nD) {s : Shape} {e : EltTy} {l : Space} (M : Memref sig .tc l s e) (f : BufTy.Contents (Elt F) M.view.ty) :
    (M.view.loc (c : Thread nD τ) ↦[M.view.set]{fullShare} f : sProp 𝕄) ⊢ owns (c : Thread nD τ) M fullShare (M.view.read (Elt F) f) := by
  unfold owns
  iintro H
  iexists f
  isplitr
  · ipureintro; rfl
  · iexact H

/-- The input blocks, owned. -/
def inputs (c : Dev nD) (B : Bufs) (I : Ins F) : sProp 𝕄 :=
  iprop(owns (c : Thread nD τ) B.a2 fullShare I.x0 ∗ owns (c : Thread nD τ) B.a3 fullShare I.x1 ∗ owns (c : Thread nD τ) B.a4 fullShare I.x2 ∗ owns (c : Thread nD τ) B.a5 fullShare I.x3 ∗ owns (c : Thread nD τ) B.a6 fullShare I.x4 ∗ owns (c : Thread nD τ) B.a7 fullShare I.x5 ∗ owns (c : Thread nD τ) B.a8 fullShare I.x6 ∗ owns (c : Thread nD τ) B.a9 fullShare I.x7 ∗ owns (c : Thread nD τ) B.a10 fullShare I.x8 ∗ owns (c : Thread nD τ) B.a11 fullShare I.x9 ∗ owns (c : Thread nD τ) B.a12 fullShare I.x10 ∗ owns (c : Thread nD τ) B.a13 fullShare I.x11 ∗ owns (c : Thread nD τ) B.a14 fullShare I.x12 ∗ owns (c : Thread nD τ) B.a15 fullShare I.x13)

/-- What a point leaves: an output block and two accumulators of which something is said. -/
def left (c : Dev nD) (B : Bufs) (I : Ins F) (PO : Vec F S2048x1536 .bf16 → Prop) (PS : Vec F S4x2048x128 .f32 → Vec F S4x2048x128 .f32 → Prop) : sProp 𝕄 :=
  iprop(inputs c B I
    ∗ (∃ X, ⌜PO X⌝ ∗ owns (c : Thread nD τ) B.a17 fullShare X)
    ∗ ∃ y0 y1, ⌜PS y0 y1⌝ ∗ owns (c : Thread nD τ) B.a18 fullShare y0 ∗ owns (c : Thread nD τ) B.a19 fullShare y1)

/-- Something holds of what a point's stores leave. -/
structure Says (c : Dev nD) (i : grid0.Coords) (B : Bufs) (I : Ins F) (PO : Vec F S2048x1536 .bf16 → Prop) (PS : Vec F S4x2048x128 .f32 → Vec F S4x2048x128 .f32 → Prop)
    (xo : Vec F S2048x1536 .bf16) (xs0 xs1 : Vec F S4x2048x128 .f32) : Prop where
  first : ∀ (c0 : isFirst i) (c1 : ¬isLast i) (es0 : BufTy.Contents (Elt F) B.a18.view.ty) (es1 : BufTy.Contents (Elt F) B.a19.view.ty),
    PO (B.a17.view.read (Elt F) (B.a17.view.writes (Elt F) (B.h17.unread xo) (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).1))
    ∧ PS (B.a18.view.read (Elt F) (B.a18.view.writes (Elt F) es0 (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.1)) (B.a19.view.read (Elt F) (B.a19.view.writes (Elt F) es1 (runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.1))
  last : ∀ (c0 : ¬isFirst i) (c1 : isLast i),
    PO (B.a17.view.read (Elt F) (B.a17.view.writes (Elt F) (B.h17.unread xo) (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).1))
    ∧ PS (B.a18.view.read (Elt F) (B.a18.view.writes (Elt F) (B.h18.unread xs0) (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.1)) (B.a19.view.read (Elt F) (B.a19.view.writes (Elt F) (B.h19.unread xs1) (runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.1))
  mid : ∀ (c0 : ¬isFirst i) (c1 : ¬isLast i),
    PO (B.a17.view.read (Elt F) (B.a17.view.writes (Elt F) (B.h17.unread xo) (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).1))
    ∧ PS (B.a18.view.read (Elt F) (B.a18.view.writes (Elt F) (B.h18.unread xs0) (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.1)) (B.a19.view.read (Elt F) (B.a19.view.writes (Elt F) (B.h19.unread xs1) (runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.1))

set_option maxHeartbeats 4000000 in
/-- One grid point. -/
theorem point (c : Dev nD) (i : grid0.Coords) (B : Bufs) (I : Ins F) (PO : Vec F S2048x1536 .bf16 → Prop) (PS : Vec F S4x2048x128 .f32 → Vec F S4x2048x128 .f32 → Prop)
    (xo : Vec F S2048x1536 .bf16) (xs0 xs1 : Vec F S4x2048x128 .f32) (hs : Says c i B I PO PS xo xs0 xs1) (K : PUnit → sProp 𝕄) :
    iprop(inputs c B I ∗ owns (c : Thread nD τ) B.a17 fullShare xo ∗ owns (c : Thread nD τ) B.a18 fullShare xs0 ∗ owns (c : Thread nD τ) B.a19 fullShare xs1
      ∗ (left c B I PO PS -∗ K ⟨⟩))
    ⊢ wp frame (wpE (defs₀ (F := F)) Variants.none c none) Set.univ (cc0_sb_bwd i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 (Memref.whole main_v23) (Memref.isWhole_whole _) B.a17 B.h17 B.a18 B.h18 B.a19 B.h19) K := by
  unfold left inputs
  iintro ⟨⟨H0, H1, H2, H3, H4, H5, H6, H7, H8, H9, H10, H11, H12, H13⟩, HO, HS0, HS1, Hk⟩
  by_cases hf : (i 1).val = 0
  · have c0 : isFirst i := (isFirst_iff i).2 hf
    have c1 : ¬isLast i := fun h => by have := (isLast_iff i).1 h; omega
    iapply ((runFirst c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.2 Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HO]; · iexact HO
    isplitl [HS0]; · iexact HS0
    isplitl [HS1]; · iexact HS1
    iintro ⟨H0, H1, H2, H3, H4, H5, H6, H7, H8, H9, H10, H11, H12, H13, HO, ⟨%es0, HS0⟩, ⟨%es1, HS1⟩⟩
    have hv := hs.first c0 c1 es0 es1
    iapply Hk
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [HO]
    · iexists _; isplitr; swap
      · iapply owns_of; iexact HO
      · ipureintro; exact hv.1
    iexists _; iexists _; isplitr; swap
    · isplitl [HS0]
      · iapply owns_of; iexact HS0
      · iapply owns_of; iexact HS1
    · ipureintro; exact hv.2
  · have c0 : ¬isFirst i := fun h => hf ((isFirst_iff i).1 h)
    by_cases hl : (i 1).val = 7
    · have c1 : isLast i := (isLast_iff i).2 hl
      iapply ((runLast c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.2 Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HO]; · iexact HO
      isplitl [HS0]; · iexact HS0
      isplitl [HS1]; · iexact HS1
      iintro ⟨H0, H1, H2, H3, H4, H5, H6, H7, H8, H9, H10, H11, H12, H13, HO, HS0, HS1⟩
      have hv := hs.last c0 c1
      iapply Hk
      isplitl [H0 H1 H2 H3 H4 H5 H6 H7 H8 H9 H10 H11 H12 H13]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [HO]
      · iexists _; isplitr; swap
        · iapply owns_of; iexact HO
        · ipureintro; exact hv.1
      iexists _; iexists _; isplitr; swap
      · isplitl [HS0]
        · iapply owns_of; iexact HS0
        · iapply owns_of; iexact HS1
      · ipureintro; exact hv.2
    · have c1 : ¬isLast i := fun h => hl ((isLast_iff i).1 h)
      iapply ((runMid c i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a17 B.h17 B.a18 B.h18 B.a19 B.h19 I.x0 I.x3 I.x6 I.x9 I.x1 I.x2 I.x4 I.x5 I.x7 I.x8 I.x10 I.x11 I.x12 I.x13 xo xs0 xs1 c0 c1).2.2.2 Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HO]; · iexact HO
      isplitl [HS0]; · iexact HS0
      isplitl [HS1]; · iexact HS1
      iintro ⟨H0, H1, H2, H3, H4, H5, H6, H7, H8, H9, H10, H11, H12, H13, HO, HS0, HS1⟩
      have hv := hs.mid c0 c1
      iapply Hk
      isplitl [H0 H1 H2 H3 H4 H5 H6 H7 H8 H9 H10 H11 H12 H13]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexact H13
      isplitl [HO]
      · iexists _; isplitr; swap
        · iapply owns_of; iexact HO
        · ipureintro; exact hv.1
      iexists _; iexists _; isplitr; swap
      · isplitl [HS0]
        · iapply owns_of; iexact HS0
        · iapply owns_of; iexact HS1
      · ipureintro; exact hv.2

set_option maxHeartbeats 4000000 in
/-- Blocks that are a group's numbers: a tile's step in the output block, and the accumulators advanced. -/
theorem says_heads (c : Dev nD) (i : grid0.Coords) (B : Bufs) (I : Ins Ideal) (H : Heads) (tot : ℕ → ℕ → ℝ) (G : Prop) (hG : G → I.Ok i H tot)
    (xo : Vec Ideal S2048x1536 .bf16) (xs0 xs1 : Vec Ideal S4x2048x128 .f32)
    (hs : G → (i 1).val ≠ 0 → xs0 = arr4 (H.dk (256 * (i 1).val)) ∧ xs1 = arr4 (H.dv (256 * (i 1).val))) :
    Says c i B I (fun X => G → X = outStep H (256 * (i 1).val) ((i 1).val = 7) xo)
      (fun y0 y1 => G → y0 = arr4 (H.dk (256 * (i 1).val + 256)) ∧ y1 = arr4 (H.dv (256 * (i 1).val + 256))) xo xs0 xs1 := by
  refine ⟨fun c0 c1 es0 es1 => ?_, fun c0 c1 => ?_, fun c0 c1 => ?_⟩
  · have hf := (isFirst_iff i).1 c0
    have hl : (i 1).val ≠ 7 := fun h => c1 ((isLast_iff i).2 h)
    have hv := fun g : G => by
      have h := (hG g).first (B := B) c xo _ _ _ hf es0 es1 (runFirst_o c i B I xo xs0 xs1 c0 c1) (runFirst_k c i B I xo xs0 xs1 c0 c1) (runFirst_v c i B I xo xs0 xs1 c0 c1)
      rwa [outStep_congr H (256 * (i 1).val) False ((i 1).val = 7) (by simp; omega)] at h
    exact ⟨fun g => (hv g).1, fun g => (hv g).2⟩
  · have hf : (i 1).val ≠ 0 := fun h => c0 ((isFirst_iff i).2 h)
    have hl := (isLast_iff i).1 c1
    have hv := fun g : G => by
      have h := (hG g).last (B := B) c xo _ _ _ _ _ (hs g hf).1 (hs g hf).2 hl (runLast_o c i B I xo xs0 xs1 c0 c1) (runLast_k c i B I xo xs0 xs1 c0 c1) (runLast_v c i B I xo xs0 xs1 c0 c1)
      rwa [outStep_congr H (256 * (i 1).val) True ((i 1).val = 7) (by simp; omega)] at h
    exact ⟨fun g => (hv g).1, fun g => (hv g).2⟩
  · have hf : (i 1).val ≠ 0 := fun h => c0 ((isFirst_iff i).2 h)
    have hl : (i 1).val ≠ 7 := fun h => c1 ((isLast_iff i).2 h)
    have hv := fun g : G => by
      have h := (hG g).mid (B := B) c xo _ _ _ _ _ (hs g hf).1 (hs g hf).2 (runMid_o c i B I xo xs0 xs1 c0 c1) (runMid_k c i B I xo xs0 xs1 c0 c1) (runMid_v c i B I xo xs0 xs1 c0 c1)
      rwa [outStep_congr H (256 * (i 1).val) False ((i 1).val = 7) (by simp; omega)] at h
    exact ⟨fun g => (hv g).1, fun g => (hv g).2⟩

end Cert.KernelIdeal.Sb

end
-- ==== Proof.Region.lean ====
/-
  The kernel's region: the pipeline's data, what each point hands on, and the run of the whole program.
-/
module

public import proofs.«01_k».proof.Proof.Run

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

theorem coords_eq : ∀ t : Fin cfg0.N, (grid0.coords t 0).val = t.val / 8 ∧ (grid0.coords t 1).val = t.val % 8 := by decide +kernel

variable (m : (ℓ : Loc nD τ sig) → Buf (Elt F) ℓ)

/-- The blocks of a grid point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The staging buffers of a grid point. -/
def bufsAt (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), Memref.whole main_v23, Memref.isWhole_whole _,
    win0_14.stage (cfg0.slots t 14), hstage0_14 ((cfg0.slots t 14).cast nbuf0_14), Memref.whole cc0_scratch0, Memref.isWhole_whole _, Memref.whole cc0_scratch1, Memref.isWhole_whole _⟩

variable (O : Dev nD → ℕ → Vec F S2048x1536 .bf16 → Vec F S2048x1536 .bf16 → Prop) (S : Dev nD → ℕ → Vec F S4x2048x128 .f32 → Vec F S4x2048x128 .f32 → Prop)

/-- What the core carries between points. -/
def carried (c : Dev nD) (n : ℕ) : sProp 𝕄 :=
  iprop((∃ y0 y1, ⌜S c n y0 y1⌝
    ∗ owns (c : Thread nD τ) (Memref.whole cc0_scratch0) fullShare y0 ∗ owns (c : Thread nD τ) (Memref.whole cc0_scratch1) fullShare y1) ∗ ∃ r, prngReg c r)

/-- The pipeline's data: an input block stays, the output block takes a tile's step. -/
def data (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => X = Y
    | ⟨11, _⟩ => X = Y
    | ⟨12, _⟩ => X = Y
    | ⟨13, _⟩ => X = Y
    | ⟨14, _⟩ => O c t.val Y X
  Φ t := carried S c t.val
  q w := Pipeline.shareOf spec0 w
  owed _ := 0

theorem A_eq (c : Dev nD) (w : Fin cfg0.W) : (data m O S c).A w = V m c (Pipeline.arrRef spec0 w) := by
  dsimp only [data]

theorem in0 (c : Dev nD) (t : Fin cfg0.N) (Y) (h : (data m O S c).Finds 0 t Y) : Y = iblk m c 0 t := by
  obtain ⟨d, rfl⟩ := RDat.finds_in_eq_fetched (data m O S c) 0 rfl (fun _ _ _ => rfl) (fun _ _ _ h => h) t Y h
  unfold RDat.fetched RDat.blockOf iblk
  rw [A_eq]
  rfl

theorem in1 (c : Dev nD) (t : Fin cfg0.N) (Y) (h : (data m O S c).Finds 1 t Y) : Y = iblk m c 1 t := by
  obtain ⟨d, rfl⟩ := RDat.finds_in_eq_fetched (data m O S c) 1 rfl (fun _ _ _ => rfl) (fun _ _ _ h => h) t Y h
  unfold RDat.fetched RDat.blockOf iblk
  rw [A_eq]
  rfl

theorem in2 (c : Dev nD) (t : Fin cfg0.N) (Y) (h : (data m O S c).Finds 2 t Y) : Y = iblk m c 2 t := by
  obtain ⟨d, rfl⟩ := RDat.finds_in_eq_fetched (data m O S c) 2 rfl (fun _ _ _ => rfl) (fun _ _ _ h => h) t Y h
  unfold RDat.fetched RDat.blockOf iblk
  rw [A_eq]
  rfl

theorem in3 (c : Dev nD) (t : Fin cfg0.N) (Y) (h : (data m O S c).Finds 3 t Y) : Y = iblk m c 3 t := by
  obtain ⟨d, rfl⟩ := RDat.finds_in_eq_fetched (data m O S c) 3 rfl (fun _ _ _ => rfl) (fun _ _ _ h => h) t Y h
  unfold RDat.fetched RDat.blockOf iblk
  rw [A_eq]
  rfl

theorem in4 (c : Dev nD) (t : Fin cfg0.N) (Y) (h : (data m O S c).Finds 4 t Y) : Y = iblk m c 4 t := by
  obtain ⟨d, rfl⟩ := RDat.finds_in_eq_fetched (data m O S c) 4 rfl (fun _ _ _ => rfl) (fun _ _ _ h => h) t Y h
  unfold RDat.fetched RDat.blockOf iblk
  rw [A_eq]
  rfl

theorem in5 (c : Dev nD) (t : Fin cfg0.N) (Y) (h : (data m O S c).Finds 5 t Y) : Y = iblk m c 5 t := by
  obtain ⟨d, rfl⟩ := RDat.finds_in_eq_fetched (data m O S c) 5 rfl (fun _ _ _ => rfl) (fun _ _ _ h => h) t Y h
  unfold RDat.fetched RDat.blockOf iblk
  rw [A_eq]
  rfl

theorem in6 (c : Dev nD) (t : Fin cfg0.N) (Y) (h : (data m O S c).Finds 6 t Y) : Y = iblk m c 6 t := by
  obtain ⟨d, rfl⟩ := RDat.finds_in_eq_fetched (data m O S c) 6 rfl (fun _ _ _ => rfl) (fun _ _ _ h => h) t Y h
  unfold RDat.fetched RDat.blockOf iblk
  rw [A_eq]
  rfl

theorem in7 (c : Dev nD) (t : Fin cfg0.N) (Y) (h : (data m O S c).Finds 7 t Y) : Y = iblk m c 7 t := by
  obtain ⟨d, rfl⟩ := RDat.finds_in_eq_fetched (data m O S c) 7 rfl (fun _ _ _ => rfl) (fun _ _ _ h => h) t Y h
  unfold RDat.fetched RDat.blockOf iblk
  rw [A_eq]
  rfl

theorem in8 (c : Dev nD) (t : Fin cfg0.N) (Y) (h : (data m O S c).Finds 8 t Y) : Y = iblk m c 8 t := by
  obtain ⟨d, rfl⟩ := RDat.finds_in_eq_fetched (data m O S c) 8 rfl (fun _ _ _ => rfl) (fun _ _ _ h => h) t Y h
  unfold RDat.fetched RDat.blockOf iblk
  rw [A_eq]
  rfl

theorem in9 (c : Dev nD) (t : Fin cfg0.N) (Y) (h : (data m O S c).Finds 9 t Y) : Y = iblk m c 9 t := by
  obtain ⟨d, rfl⟩ := RDat.finds_in_eq_fetched (data m O S c) 9 rfl (fun _ _ _ => rfl) (fun _ _ _ h => h) t Y h
  unfold RDat.fetched RDat.blockOf iblk
  rw [A_eq]
  rfl

theorem in10 (c : Dev nD) (t : Fin cfg0.N) (Y) (h : (data m O S c).Finds 10 t Y) : Y = iblk m c 10 t := by
  obtain ⟨d, rfl⟩ := RDat.finds_in_eq_fetched (data m O S c) 10 rfl (fun _ _ _ => rfl) (fun _ _ _ h => h) t Y h
  unfold RDat.fetched RDat.blockOf iblk
  rw [A_eq]
  rfl

theorem in11 (c : Dev nD) (t : Fin cfg0.N) (Y) (h : (data m O S c).Finds 11 t Y) : Y = iblk m c 11 t := by
  obtain ⟨d, rfl⟩ := RDat.finds_in_eq_fetched (data m O S c) 11 rfl (fun _ _ _ => rfl) (fun _ _ _ h => h) t Y h
  unfold RDat.fetched RDat.blockOf iblk
  rw [A_eq]
  rfl

theorem in12 (c : Dev nD) (t : Fin cfg0.N) (Y) (h : (data m O S c).Finds 12 t Y) : Y = iblk m c 12 t := by
  obtain ⟨d, rfl⟩ := RDat.finds_in_eq_fetched (data m O S c) 12 rfl (fun _ _ _ => rfl) (fun _ _ _ h => h) t Y h
  unfold RDat.fetched RDat.blockOf iblk
  rw [A_eq]
  rfl

theorem in13 (c : Dev nD) (t : Fin cfg0.N) (Y) (h : (data m O S c).Finds 13 t Y) : Y = iblk m c 13 t := by
  obtain ⟨d, rfl⟩ := RDat.finds_in_eq_fetched (data m O S c) 13 rfl (fun _ _ _ => rfl) (fun _ _ _ h => h) t Y h
  unfold RDat.fetched RDat.blockOf iblk
  rw [A_eq]
  rfl

theorem defs₀_row (t : Fin cfg0.N) : defs₀ (F := F) .tc cfg0.body (cfg0.bodyArgs t (cfg0.slots t)) = bodyAt0 t := by
  unfold defs₀; rw [Defs.onTc_tc]

/-- What is said of a point's output block and of the accumulators passes from point to point. -/
def Steps : Prop := ∀ c (t : Fin cfg0.N) xo xs0 xs1, S c t.val xs0 xs1 →
  Says c (grid0.coords t) (bufsAt t) (insAt m c t) (O c t.val xo) (S c (t.val + 1)) xo xs0 xs1

variable {m O S}

/-- The body's obligation. -/
theorem body (hst : Steps m O S) (c : Dev nD) : (data m O S c).BodyObligation (defs₀ (F := F)) Variants.none () Set.univ := by
  intro t Y hY
  let I : Ins F := ⟨Y 0, Y 1, Y 2, Y 3, Y 4, Y 5, Y 6, Y 7, Y 8, Y 9, Y 10, Y 11, Y 12, Y 13⟩
  have hI : I = insAt m c t := by
    show (⟨Y 0, Y 1, Y 2, Y 3, Y 4, Y 5, Y 6, Y 7, Y 8, Y 9, Y 10, Y 11, Y 12, Y 13⟩ : Ins F) = insAt m c t
    rw [in0 m O S c t _ (hY 0), in1 m O S c t _ (hY 1), in2 m O S c t _ (hY 2), in3 m O S c t _ (hY 3), in4 m O S c t _ (hY 4), in5 m O S c t _ (hY 5), in6 m O S c t _ (hY 6), in7 m O S c t _ (hY 7), in8 m O S c t _ (hY 8), in9 m O S c t _ (hY 9), in10 m O S c t _ (hY 10), in11 m O S c t _ (hY 11), in12 m O S c t _ (hY 12), in13 m O S c t _ (hY 13)]
    rfl
  rw [bigSep_W0, bigSep_W0, defs₀_row, show (data m O S c).Φ t.castSucc = carried S c t.val from rfl, show (data m O S c).Φ t.succ = carried S c (t.val + 1) from rfl]
  unfold carried
  iintro ⟨⟨⟨%y0, %y1, %hy, HS0, HS1⟩, Hr⟩, Ho, H0, H1, H2, H3, H4, H5, H6, H7, H8, H9, H10, H11, H12, H13, H14⟩
  iapply (point c (grid0.coords t) (bufsAt t) I (O c t.val (Y 14)) (S c (t.val + 1)) (Y 14) y0 y1 (by rw [hI]; exact hst c t _ _ _ hy) _)
  unfold left inputs
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  isplitl [HS0]; · iexact HS0
  isplitl [HS1]; · iexact HS1
  iintro ⟨⟨H0, H1, H2, H3, H4, H5, H6, H7, H8, H9, H10, H11, H12, H13⟩, ⟨%X, %hX, H14⟩, ⟨%z0, %z1, %hz, HS0, HS1⟩⟩
  isplitl [HS0 HS1 Hr]
  · isplitl [HS0 HS1]
    · iexists z0; iexists z1
      isplitr
      · ipureintro; exact hz
      · isplitl [HS0]; · iexact HS0
        iexact HS1
    · iexact Hr
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  isplitl [H3]
  · iexists Y 3; isplitr; · ipureintro; exact rfl
    iexact H3
  isplitl [H4]
  · iexists Y 4; isplitr; · ipureintro; exact rfl
    iexact H4
  isplitl [H5]
  · iexists Y 5; isplitr; · ipureintro; exact rfl
    iexact H5
  isplitl [H6]
  · iexists Y 6; isplitr; · ipureintro; exact rfl
    iexact H6
  isplitl [H7]
  · iexists Y 7; isplitr; · ipureintro; exact rfl
    iexact H7
  isplitl [H8]
  · iexists Y 8; isplitr; · ipureintro; exact rfl
    iexact H8
  isplitl [H9]
  · iexists Y 9; isplitr; · ipureintro; exact rfl
    iexact H9
  isplitl [H10]
  · iexists Y 10; isplitr; · ipureintro; exact rfl
    iexact H10
  isplitl [H11]
  · iexists Y 11; isplitr; · ipureintro; exact rfl
    iexact H11
  isplitl [H12]
  · iexists Y 12; isplitr; · ipureintro; exact rfl
    iexact H12
  isplitl [H13]
  · iexists Y 13; isplitr; · ipureintro; exact rfl
    iexact H13
  iexists X
  isplitr
  · ipureintro; exact hX
  · iexact H14

theorem phi_in (h0 : ∀ c y0 y1, S c 0 y0 y1) (c : Dev nD) : Pipeline.ΦA spec0 c ⊢ (data m O S c).Φ 0 := by
  show _ ⊢ carried S c 0
  unfold Pipeline.ΦA carried
  rw [scopedRest0_eq]
  iintro ⟨⟨⟨%f0, HS0⟩, ⟨%f1, HS1⟩⟩, Hr⟩
  isplitl [HS0 HS1]
  · iexists f0; iexists f1
    isplitr
    · ipureintro; exact h0 c f0 f1
    · rw [owns_whole, owns_whole]
      isplitl [HS0]; · iexact HS0
      iexact HS1
  · iexact Hr

theorem phi_out (c : Dev nD) : (data m O S c).Φ (Fin.last cfg0.N) ⊢ Pipeline.ΦA spec0 c := by
  show carried S c _ ⊢ _
  unfold Pipeline.ΦA carried
  rw [scopedRest0_eq]
  simp only [owns_whole]
  iintro ⟨⟨%y0, %y1, -, HS0, HS1⟩, Hr⟩
  isplitl [HS0 HS1]
  · isplitl [HS0]
    · iexists y0; iexact HS0
    · iexists y1; iexact HS1
  · iexact Hr

set_option backward.isDefEq.respectTransparency.types false in
variable (m O S) in
/-- What the final state says. -/
abbrev Ended (s : MemSt nD τ sig (Elt F)) : Prop :=
  Cert.Sb.Tail.After cfgs (0 : Fin 1) (data m O S) (V0 m) [hostOps1].flatten s

set_option backward.isDefEq.respectTransparency.types false in
set_option maxHeartbeats 800000 in
/-- The run of the program. -/
theorem run_ended (hst : Steps m O S) (h0 : ∀ c y0 y1, S c 0 y0 y1) (ρ : Dev nD → PrngReg) :
    θ_run defs (onTc (τ := τ) (main (F := F))) (s₀ m ρ) (fun r => Ended m O S r.2 ∧ r.2.sem = fun _ => 0) :=
  Cert.Sb.Tail.run_plain defs₀ Variants.none cfgs (0 : Fin 1) launch₀0 (data m O S) m ρ main
    (body hst) (fun _ _ _ => rfl) (fun _ _ => rfl) (V0 m) [hostOps1] sfx_sub sfx_fresh sfx_keeps (hmain m Variants.none) (A_eq m O S)
    (phi_in h0) phi_out

/-- The arguments at the end. -/
theorem kept (s : MemSt nD τ sig (Elt F)) (h : Ended m O S s) (c : Dev nD) :
    s.mem ((c.tc : Thread nD τ).loc main_arg0) = m ((c.tc : Thread nD τ).loc main_arg0)
      ∧ s.mem ((c.tc : Thread nD τ).loc main_arg1) = m ((c.tc : Thread nD τ).loc main_arg1) := by
  have h11 := (h c).1 11
  have h12 := (h c).1 12
  rw [RDat.ArrAt_in _ 11 rfl] at h11
  rw [RDat.ArrAt_in _ 12 rfl] at h12
  exact ⟨h11.trans ((A_eq m O S c 11).trans (V_main_arg0 m c)), h12.trans ((A_eq m O S c 12).trans (V_main_arg1 m c))⟩

/-- The run leaves its arguments and counters as they were. -/
theorem run_kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => kept r.2 h.1 c, h.2⟩)
    (run_ended (m := m) (O := fun _ _ _ _ => True) (S := fun _ _ _ _ => True)
      (fun _ _ _ _ _ _ => ⟨fun _ _ _ _ => ⟨trivial, trivial⟩, fun _ _ => ⟨trivial, trivial⟩, fun _ _ => ⟨trivial, trivial⟩⟩) (fun _ _ _ => trivial) ρ)

section numbers

variable (H : Dev nD → ℕ → Heads) (m : (ℓ : Loc nD τ sig) → Buf (Elt Ideal) ℓ)

/-- The arrays hold the heads' numbers. -/
def Hold : Prop := ∀ c t, ∃ tot, (insAt m c t).Ok (grid0.coords t) (H c (t.val / 8)) tot

/-- What a point makes of the output block. -/
def outOf (c : Dev nD) (n : ℕ) (Y X : Vec Ideal S2048x1536 .bf16) : Prop :=
  Hold H m → X = outStep (H c (n / 8)) (256 * (n % 8)) (n % 8 = 7) Y

/-- What the accumulators hold before a point. -/
def accOf (c : Dev nD) (n : ℕ) (y0 y1 : Vec Ideal S4x2048x128 .f32) : Prop :=
  Hold H m → n % 8 ≠ 0 → y0 = arr4 ((H c (n / 8)).dk (256 * (n % 8))) ∧ y1 = arr4 ((H c (n / 8)).dv (256 * (n % 8)))

theorem steps : Steps m (outOf H m) (accOf H m) := by
  intro c t xo xs0 xs1 hy
  obtain ⟨e0, e1⟩ := coords_eq t
  have key : ∃ tot, Hold H m → (insAt m c t).Ok (grid0.coords t) (H c (t.val / 8)) tot := by
    by_cases hg : Hold H m
    · exact (hg c t).imp fun _ h _ => h
    · exact ⟨fun _ _ => 0, fun g => absurd g hg⟩
  obtain ⟨tot, ok⟩ := key
  have h := says_heads c (grid0.coords t) (bufsAt t) (insAt m c t) (H c (t.val / 8)) tot (Hold H m) ok xo xs0 xs1 (fun g h => by
    rw [e1] at h ⊢; exact hy g h)
  have eO : (fun X => Hold H m → X = outStep (H c (t.val / 8)) (256 * (grid0.coords t 1).val) ((grid0.coords t 1).val = 7) xo) = outOf H m c t.val xo := by
    funext X
    unfold outOf
    rw [outStep_congr _ (256 * (grid0.coords t 1).val) ((grid0.coords t 1).val = 7) (t.val % 8 = 7) (by rw [e1]), e1]
  have hS : ∀ y0 y1, (Hold H m → y0 = arr4 ((H c (t.val / 8)).dk (256 * (grid0.coords t 1).val + 256)) ∧ y1 = arr4 ((H c (t.val / 8)).dv (256 * (grid0.coords t 1).val + 256)))
      → accOf H m c (t.val + 1) y0 y1 := by
    intro y0 y1 hz g h
    rw [show (t.val + 1) / 8 = t.val / 8 by omega, show 256 * ((t.val + 1) % 8) = 256 * (grid0.coords t 1).val + 256 by rw [e1]; omega]
    exact hz g
  rw [eO] at h
  exact ⟨fun c0 c1 es0 es1 => (h.first c0 c1 es0 es1).imp id (hS _ _), fun c0 c1 => (h.last c0 c1).imp id (hS _ _), fun c0 c1 => (h.mid c0 c1).imp id (hS _ _)⟩

/-- The pipeline's data with the heads' numbers. -/
abbrev rdat (c : Dev nD) := data m (outOf H m) (accOf H m) c

set_option backward.isDefEq.respectTransparency.types false in
/-- What the final state says, with the heads' numbers. -/
abbrev Final (s : MemSt nD τ sig (Elt Ideal)) : Prop := Ended m (outOf H m) (accOf H m) s

theorem run_final (ρ : Dev nD → PrngReg) :
    θ_run defs (onTc (τ := τ) (main (F := Ideal))) (s₀ m ρ) (fun r => Final H m r.2 ∧ r.2.sem = fun _ => 0) :=
  run_ended (steps H m) (fun _ _ _ _ h => absurd rfl h) ρ

end numbers

end Cert.KernelIdeal.Sb

end
-- ==== Proof.Sig.lean ====
/-
  Scalars and running sums of the host lines that the kernel's caller and the reference share, at real numbers.
-/
module

public import proofs.«01_k».proof.Proof.Tile
public import Idealize.ShloMosaic.Lib.IdealHost
public import Idealize.ShloMosaic.Lib.Pointwise

@[expose] public section

set_option maxRecDepth 16384

noncomputable section

namespace Cert.KernelIdeal.Sb

open Idealize.ShloMosaic Finset

/-- A stack of matrices of real numbers, as an array. -/
def up3 {l m n : ℕ} (φ : FTy) (r : ℕ → ℕ → ℕ → ℝ) : FVec Ideal ⟨3, ![l, m, n]⟩ φ :=
  fun p => ((r (p 0).val (p 1).val (p 2).val : ℝ) : EReal)

@[pointwise] theorem up3_apply {l m n : ℕ} (φ : FTy) (r : ℕ → ℕ → ℕ → ℝ) (w : Fin l) (x : Fin m) (y : Fin n) :
    (up3 φ r : FVec Ideal ⟨3, ![l, m, n]⟩ φ) (ix3 w x y) = ((r w.val x.val y.val : ℝ) : EReal) := rfl

theorem up3_congr {l m n : ℕ} (φ : FTy) {r r' : ℕ → ℕ → ℕ → ℝ} (h : ∀ w < l, ∀ x < m, ∀ y < n, r w x y = r' w x y) :
    (up3 φ r : FVec Ideal ⟨3, ![l, m, n]⟩ φ) = up3 φ r' := by
  funext p; exact congrArg _ (h _ (p 0).isLt _ (p 1).isLt _ (p 2).isLt)

/-- The logarithm of one plus the exponential. -/
def sp (z : ℝ) : ℝ := max z 0 + Real.log (1 + Real.exp (-|z|))

theorem sp_eq (z : ℝ) : sp z = z - lsig z := by
  unfold sp lsig
  rw [zero_sub]
  have : max z 0 + min z 0 = z + 0 := max_add_min z 0
  linarith

theorem sp_neg (z : ℝ) : sp (-z) = - lsig z := by
  unfold sp lsig
  rw [zero_sub, abs_neg]
  have : max (-z) 0 = - min z 0 := by rw [← neg_zero, max_neg_neg, neg_zero]
  rw [this]; ring

/-- The exponential of the logarithm of the logistic function is one over one plus the exponential. -/
theorem exp_lsig (z : ℝ) : Real.exp (lsig z) = Real.exp z / (1 + Real.exp z) := by
  have hp : (0 : ℝ) < 1 + Real.exp (0 - |z|) := by positivity
  unfold lsig
  rw [Real.exp_sub, Real.exp_log hp]
  rcases le_total 0 z with h | h
  · rw [min_eq_right h, abs_of_nonneg h, Real.exp_zero, zero_sub, Real.exp_neg]
    have := Real.exp_pos z
    field_simp
    ring
  · rw [min_eq_left h, abs_of_nonpos h, zero_sub, neg_neg]

theorem exp_sub_sp (z : ℝ) : Real.exp (z - sp z) = Real.exp (lsig z) := by rw [sp_eq]; ring_nf

theorem exp_neg_sub_sp (z : ℝ) : Real.exp (-z - sp (-z)) = 1 - Real.exp (lsig z) := by
  rw [sp_neg, show -z - -lsig z = lsig z - z by ring, Real.exp_sub, exp_lsig]
  have := Real.exp_pos z
  field_simp
  ring

theorem ofBits_zero : Ideal.ofBits .f32 0x00000000#32 = (0 : EReal) := by simp [Ideal.ofBits, Ideal.ieee]

theorem ofBits_inf : Ideal.ofBits .f32 0x7F800000#32 = (⊤ : EReal) := by simp [Ideal.ofBits, Ideal.ieee]

/-- The host's softplus of a real number, its guard against a value that is not a number included. -/
theorem softplus (x d : Ideal .f32) (w : ℝ) (hx : x = ((w : ℝ) : EReal)) :
    Scalar.select (FloatOps.cmpf .une (FloatOps.subf x (FloatOps.ofBits .f32 0x00000000#32)) (FloatOps.subf x (FloatOps.ofBits .f32 0x00000000#32))) d
      (FloatOps.addf (FloatOps.maximumf x (FloatOps.ofBits .f32 0x00000000#32)) (FloatOps.hostUnary .log1p (FloatOps.hostUnary .exp
        (FloatOps.hostNegf (FloatOps.hostAbsf (FloatOps.subf x (FloatOps.ofBits .f32 0x00000000#32)))))))
      = ((sp w : ℝ) : EReal) := by
  subst hx
  show Scalar.select (BitVec.ofBool (decide ((w : EReal) - Ideal.ofBits .f32 0x00000000#32 ≠ (w : EReal) - Ideal.ofBits .f32 0x00000000#32))) d
    (max (w : EReal) (Ideal.ofBits .f32 0x00000000#32) + Ideal.log (1 + Ideal.exp (-(max ((w : EReal) - Ideal.ofBits .f32 0x00000000#32)
      (-((w : EReal) - Ideal.ofBits .f32 0x00000000#32)))))) = _
  rw [show Ideal.ofBits .f32 0x00000000#32 = ((0 : ℝ) : EReal) by simp [Ideal.ofBits, Ideal.ieee], ← EReal.coe_sub, sub_zero, ← EReal.coe_neg, coe_max w 0,
    coe_max w (-w), ← EReal.coe_neg, Ideal.exp_coe, log_one_add_exp, ← EReal.coe_add]
  simp [select_bit]
  rfl

/-- The gradient of the host's softplus, its guards against the infinite included. -/
theorem softplus_grad (x s : Ideal .f32) (w : ℝ) (hx : x = ((w : ℝ) : EReal)) (hs : s = ((sp w : ℝ) : EReal)) :
    FloatOps.hostUnary .exp (FloatOps.subf
      (Scalar.select (FloatOps.cmpf .oeq x (FloatOps.ofBits .f32 0x7F800000#32)) (FloatOps.ofBits .f32 0x00000000#32) x)
      (Scalar.select (FloatOps.cmpf .oeq s (FloatOps.ofBits .f32 0x7F800000#32)) (FloatOps.ofBits .f32 0x00000000#32) s))
      = ((Real.exp (w - sp w) : ℝ) : EReal) := by
  subst hx hs
  show Ideal.exp (Scalar.select (BitVec.ofBool (decide ((w : EReal) = Ideal.ofBits .f32 0x7F800000#32))) (Ideal.ofBits .f32 0x00000000#32) (w : EReal)
    - Scalar.select (BitVec.ofBool (decide (((sp w : ℝ) : EReal) = Ideal.ofBits .f32 0x7F800000#32))) (Ideal.ofBits .f32 0x00000000#32) ((sp w : ℝ) : EReal)) = _
  rw [ofBits_inf, select_bit, select_bit]
  simp only [EReal.coe_ne_top, decide_false, Bool.false_eq_true, if_false]
  rw [← EReal.coe_sub, Ideal.exp_coe]

/-- A fold of additions is the sum. -/
theorem fold_add {n : ℕ} (f : Fin n → EReal) (v : EReal) : (List.finRange n).foldl (fun r k => r + f k) v = v + ∑ k, f k := by
  rw [← List.sum_ofFn, List.ofFn_eq_map]
  generalize List.finRange n = l
  induction l generalizing v with
  | nil => simp
  | cons a l ih => rw [List.foldl_cons, ih, List.map_cons, List.sum_cons, add_assoc]

theorem sum_window (f : ℕ → ℝ) (p : ℕ → Prop) [DecidablePred p] (g : ℕ → ℕ) :
    (∑ k : Fin 2048, if p k.val then ((f (g k.val) : ℝ) : EReal) else 0) = ((∑ k ∈ range 2048, if p k then f (g k) else 0 : ℝ) : EReal) := by
  rw [← coe_sum 2048 fun k => if p k then f (g k) else 0]
  refine sum_congr rfl fun k _ => ?_
  split <;> simp

theorem shift_right (f : ℕ → ℝ) (y : ℕ) (hy : y < 2048) :
    (∑ k ∈ range 2048, if y + k < 2048 then f (y + k) else 0) = ∑ b ∈ range 2048, if y ≤ b then f b else 0 := by
  rw [← sum_filter, ← sum_filter]
  refine sum_bij (fun k _ => y + k) (fun k hk => ?_) (fun a _ b _ h => by omega) (fun b hb => ?_) (fun _ _ => rfl)
  · simp only [mem_filter, mem_range] at hk ⊢; omega
  · simp only [mem_filter, mem_range] at hb
    exact ⟨b - y, by simp only [mem_filter, mem_range]; omega, by omega⟩

theorem shift_left (f : ℕ → ℝ) (y : ℕ) (hy : y < 2048) :
    (∑ k ∈ range 2048, if 2047 ≤ y + k then f (y + k - 2047) else 0) = ∑ b ∈ range (y + 1), f b := by
  rw [← sum_filter]
  refine sum_bij (fun k _ => y + k - 2047) (fun k hk => ?_) (fun a ha b hb h => ?_) (fun b hb => ?_) (fun _ _ => rfl)
  · simp only [mem_filter, mem_range] at hk ⊢; omega
  · simp only [mem_filter, mem_range] at ha hb; omega
  · simp only [mem_range] at hb
    exact ⟨b + 2047 - y, by simp only [mem_filter, mem_range]; omega, by omega⟩

/-- A sum over windows of the row's length, `L` entries of padding on the left. -/
theorem sum_windows (L R : ℕ) (r : ℕ → ℕ → ℕ → ℝ) (init : FVec Ideal ⟨0, ![]⟩ .f32) (hi : ∀ i, init i = 0)
    (h : (⟨3, ![8, 2048, 2048]⟩ : Shape).ReduceWindows ![1, 1, 2048] ![1, 1, 1] ![0, 0, L] ![0, 0, R] ⟨3, ![8, 2048, 2048]⟩)
    (hu : 0 < (⟨0, ![]⟩ : Shape).numel) :
    Host.reduceWindowAdd ![1, 1, 2048] ![1, 1, 1] ![0, 0, L] ![0, 0, R] (up3 .f32 r : FVec Ideal ⟨3, ![8, 2048, 2048]⟩ .f32) init h hu
      = up3 .f32 fun j x y => ∑ k ∈ range 2048, if L ≤ y + k ∧ y + k - L < 2048 then r j x (y + k - L) else 0 := by
  funext p
  obtain ⟨j, x, y, rfl⟩ : ∃ (j : Fin 8) (x y : Fin 2048), p = ix3 j x y := ⟨p 0, p 1, p 2, eq_ix3 p⟩
  unfold Host.reduceWindowAdd
  rw [Ideal.hostReduceWindowAdd_def, hi]
  unfold Ideal.hostReduceWindowAdd Host.reduceWindow
  dsimp only
  rw [fold_add, zero_add]
  have key := Equiv.sum_comp (⟨3, ![1, 1, 2048]⟩ : Shape).rowMajor.symm (fun w : (⟨3, ![1, 1, 2048]⟩ : Shape).Idx =>
    if L ≤ y.val + (w 2).val ∧ y.val + (w 2).val - L < 2048 then ((r j x (y.val + (w 2).val - L) : ℝ) : EReal) else 0)
  refine Eq.trans (sum_congr rfl fun k _ => ?_) (key.trans ?_)
  · have w0 : ((⟨3, ![1, 1, 2048]⟩ : Shape).rowMajor.symm k 0).val = 0 := Nat.lt_one_iff.1 ((⟨3, ![1, 1, 2048]⟩ : Shape).rowMajor.symm k 0).isLt
    have w1 : ((⟨3, ![1, 1, 2048]⟩ : Shape).rowMajor.symm k 1).val = 0 := Nat.lt_one_iff.1 ((⟨3, ![1, 1, 2048]⟩ : Shape).rowMajor.symm k 1).isLt
    have hj := j.isLt
    have hx := x.isLt
    by_cases c : L ≤ y.val + ((⟨3, ![1, 1, 2048]⟩ : Shape).rowMajor.symm k 2).val ∧ y.val + ((⟨3, ![1, 1, 2048]⟩ : Shape).rowMajor.symm k 2).val - L < 2048
    · rw [if_pos c, dif_pos fun a => by
        match a with
        | ⟨0, _⟩ =>
          show 0 ≤ j.val * 1 + ((⟨3, ![1, 1, 2048]⟩ : Shape).rowMajor.symm k 0).val ∧ j.val * 1 + ((⟨3, ![1, 1, 2048]⟩ : Shape).rowMajor.symm k 0).val - 0 < 8
          omega
        | ⟨1, _⟩ =>
          show 0 ≤ x.val * 1 + ((⟨3, ![1, 1, 2048]⟩ : Shape).rowMajor.symm k 1).val ∧ x.val * 1 + ((⟨3, ![1, 1, 2048]⟩ : Shape).rowMajor.symm k 1).val - 0 < 2048
          omega
        | ⟨2, _⟩ =>
          show L ≤ y.val * 1 + ((⟨3, ![1, 1, 2048]⟩ : Shape).rowMajor.symm k 2).val ∧ y.val * 1 + ((⟨3, ![1, 1, 2048]⟩ : Shape).rowMajor.symm k 2).val - L < 2048
          omega]
      show ((r (j.val * 1 + ((⟨3, ![1, 1, 2048]⟩ : Shape).rowMajor.symm k 0).val - 0) (x.val * 1 + ((⟨3, ![1, 1, 2048]⟩ : Shape).rowMajor.symm k 1).val - 0)
        (y.val * 1 + ((⟨3, ![1, 1, 2048]⟩ : Shape).rowMajor.symm k 2).val - L) : ℝ) : EReal) = _
      rw [w0, w1, Nat.mul_one, Nat.mul_one, Nat.mul_one]
      rfl
    · rw [if_neg c, dif_neg fun hin => c ?_]
      have h2 := hin 2
      change L ≤ y.val * 1 + ((⟨3, ![1, 1, 2048]⟩ : Shape).rowMajor.symm k 2).val ∧ y.val * 1 + ((⟨3, ![1, 1, 2048]⟩ : Shape).rowMajor.symm k 2).val - L < 2048 at h2
      omega
  · rw [sum_idx3]
    simp only [Fin.sum_univ_one]
    exact sum_window (r j x) (fun k => L ≤ y.val + k ∧ y.val + k - L < 2048) fun k => y.val + k - L

/-- The running sum from the right end of each row: a window of the row's length, padded on the right. -/
theorem sum_from (r : ℕ → ℕ → ℕ → ℝ) (init : FVec Ideal ⟨0, ![]⟩ .f32) (hi : ∀ i, init i = 0)
    (h : (⟨3, ![8, 2048, 2048]⟩ : Shape).ReduceWindows ![1, 1, 2048] ![1, 1, 1] ![0, 0, 0] ![0, 0, 2047] ⟨3, ![8, 2048, 2048]⟩)
    (hu : 0 < (⟨0, ![]⟩ : Shape).numel) :
    Host.reduceWindowAdd ![1, 1, 2048] ![1, 1, 1] ![0, 0, 0] ![0, 0, 2047] (up3 .f32 r : FVec Ideal ⟨3, ![8, 2048, 2048]⟩ .f32) init h hu
      = up3 .f32 fun j x y => ∑ b ∈ range 2048, if y ≤ b then r j x b else 0 := by
  rw [sum_windows 0 2047 r init hi h hu]
  refine up3_congr _ fun j _ x _ y hy => ?_
  rw [← shift_right _ _ hy]
  simp

/-- The running sum from the left end of each row. -/
theorem sum_to (r : ℕ → ℕ → ℕ → ℝ) (init : FVec Ideal ⟨0, ![]⟩ .f32) (hi : ∀ i, init i = 0)
    (h : (⟨3, ![8, 2048, 2048]⟩ : Shape).ReduceWindows ![1, 1, 2048] ![1, 1, 1] ![0, 0, 2047] ![0, 0, 0] ⟨3, ![8, 2048, 2048]⟩)
    (hu : 0 < (⟨0, ![]⟩ : Shape).numel) :
    Host.reduceWindowAdd ![1, 1, 2048] ![1, 1, 1] ![0, 0, 2047] ![0, 0, 0] (up3 .f32 r : FVec Ideal ⟨3, ![8, 2048, 2048]⟩ .f32) init h hu
      = up3 .f32 fun j x y => ∑ b ∈ range (y + 1), r j x b := by
  rw [sum_windows 2047 0 r init hi h hu]
  refine up3_congr _ fun j _ x _ y hy => ?_
  rw [← shift_left _ _ hy]
  refine sum_congr rfl fun k hk => ?_
  have := mem_range.1 hk
  by_cases c : 2047 ≤ y + k
  · rw [if_pos c, if_pos ⟨c, by omega⟩]
  · rw [if_neg c, if_neg fun h => c h.1]

end Cert.KernelIdeal.Sb

end
-- ==== Proof.Refs.lean ====
/-
  The reference's result at real numbers: the gradients that its lines compute, stage by stage.
-/
module

public import proofs.«01_k».proof.Proof.Gen.ReferenceIdeal.Read
public import proofs.«01_k».proof.Proof.Sig
public import proofs.«01_k».proof.Proof.Spec
public import Idealize.ShloMosaic.Lib.Pipeline.ValueKit.Tiles

@[expose] public section

set_option maxRecDepth 16384

noncomputable section

namespace Cert.ReferenceIdeal.Sb

open Idealize.ShloMosaic Finset
open Cert.ReferenceIdeal.Read Cert.KernelIdeal.Sb

/-- The queries, keys, values and cotangents of the attention heads, cut out of the two arguments. -/
def qOf (R : ℕ → ℕ → ℝ) (j x d : ℕ) : ℝ := R x (384 * j + d)
def kOf (R : ℕ → ℕ → ℝ) (j x d : ℕ) : ℝ := R x (384 * j + 128 + d)
def vOf (R : ℕ → ℕ → ℝ) (j x d : ℕ) : ℝ := R x (384 * j + 256 + d)
def gOf (D : ℕ → ℕ → ℝ) (j x d : ℕ) : ℝ := D x (128 * j + d)

variable (R D : ℕ → ℕ → ℝ) (x0 : (⟨S2048x6144, .bf16⟩ : BufTy).Contents (Elt Ideal)) (x1 : (⟨S2048x1024, .bf16⟩ : BufTy).Contents (Elt Ideal))

/-- The first half of the projections' columns and every cotangent are real numbers. -/
structure Real : Prop where
  hx : ∀ i : S2048x6144.Idx, (i 1).val < 3072 → x0 i = ((R (i 0).val (i 1).val : ℝ) : EReal)
  hg : ∀ i : S2048x1024.Idx, x1 i = ((D (i 0).val (i 1).val : ℝ) : EReal)

variable {R D x0 x1} (h : Real R D x0 x1)

include h

theorem v3_eq (j : Fin 8) (c : Fin 3) (x : Fin 2048) (d : Fin 128) :
    val_main_v3 (F := Ideal) x0 (ix4 c j x d) = ((R x.val (384 * j.val + 128 * c.val + d.val) : ℝ) : EReal) := by
  rw [val_main_v3_apply, val_main_v2_apply, val_main_v1_apply, val_main_v0_apply]
  have e0 : (idx_main_v1 (idx_main_v2 (idx_main_v3 (ix4 c j x d))) 0).val = x.val := by
    show (((x.val * 16 + j.val) * 3 + c.val) * 128 + d.val) / 6144 = x.val
    omega
  have e1 : (idx_main_v1 (idx_main_v2 (idx_main_v3 (ix4 c j x d))) 1).val = 384 * j.val + 128 * c.val + d.val := by
    show (((x.val * 16 + j.val) * 3 + c.val) * 128 + d.val) % 6144 = 384 * j.val + 128 * c.val + d.val
    omega
  refine (h.hx _ (by rw [e1]; omega)).trans ?_
  rw [e0, e1]

/-- An index of the cut projections whose last three coordinates are those of a head's entry. -/
theorem at_head (c : Fin 3) (p : S8x2048x128.Idx) (i : S3x8x2048x128.Idx) (h0 : (i 0).val = c.val)
    (h1 : (i 1).val = (((p 0).val * 2048 + (p 1).val) * 128 + (p 2).val) / 262144 % 8)
    (h2 : (i 2).val = (((p 0).val * 2048 + (p 1).val) * 128 + (p 2).val) / 128 % 2048)
    (h3 : (i 3).val = (((p 0).val * 2048 + (p 1).val) * 128 + (p 2).val) % 128) :
    val_main_v3 (F := Ideal) x0 i = ((R (p 1).val (384 * (p 0).val + 128 * c.val + (p 2).val) : ℝ) : EReal) := by
  have p0 : (p 0).val < 8 := (p 0).isLt
  have p1 : (p 1).val < 2048 := (p 1).isLt
  have p2 : (p 2).val < 128 := (p 2).isLt
  have e : i = ix4 c (p 0) (p 1) (p 2) := by
    funext a
    refine Fin.ext ?_
    match a with
    | ⟨0, _⟩ => exact h0
    | ⟨1, _⟩ => refine h1.trans ?_; show _ = (p 0).val; omega
    | ⟨2, _⟩ => refine h2.trans ?_; show _ = (p 1).val; omega
    | ⟨3, _⟩ => refine h3.trans ?_; show _ = (p 2).val; omega
  rw [e]
  exact v3_eq h (p 0) c (p 1) (p 2)

/-- The queries of all heads. -/
theorem q_eq : val_main_v8 (F := Ideal) x0 = up3 .f32 (qOf R) := by
  funext p
  rw [val_main_v8_apply, val_main_v7_apply, at_head h 0 p _ rfl rfl rfl rfl]
  rfl

/-- The keys of all heads. -/
theorem k_eq : val_main_v10 (F := Ideal) x0 = up3 .f32 (kOf R) := by
  funext p
  rw [val_main_v10_apply, val_main_v9_apply, at_head h 1 p _ rfl rfl rfl rfl]
  rfl

/-- The values of all heads. -/
theorem v_eq : val_main_v12 (F := Ideal) x0 = up3 .f32 (vOf R) := by
  funext p
  rw [val_main_v12_apply, val_main_v11_apply, at_head h 2 p _ rfl rfl rfl rfl]
  rfl

theorem g_eq : val_main_v6 (F := Ideal) x1 = up3 .f32 (gOf D) := by
  funext p
  obtain ⟨j, x, d, rfl⟩ : ∃ (j : Fin 8) (x : Fin 2048) (d : Fin 128), p = ix3 j x d := ⟨p 0, p 1, p 2, eq_ix3 p⟩
  rw [val_main_v6_apply, val_main_v5_apply, val_main_v4_apply]
  have e0 : (idx_main_v5 (idx_main_v6 (ix3 j x d)) 0).val = x.val := by
    show ((x.val * 8 + j.val) * 128 + d.val) / 1024 = x.val
    omega
  have e1 : (idx_main_v5 (idx_main_v6 (ix3 j x d)) 1).val = 128 * j.val + d.val := by
    show ((x.val * 8 + j.val) * 128 + d.val) % 1024 = 128 * j.val + d.val
    omega
  refine (h.hg _).trans ?_
  rw [e0, e1]
  rfl

/-- The scaled scores. -/
theorem z_eq : val_main_v15 (F := Ideal) x0 = up3 .f32 fun j => Z (qOf R j) (kOf R j) := by
  funext p
  obtain ⟨j, x, y, rfl⟩ : ∃ (j : Fin 8) (x y : Fin 2048), p = ix3 j x y := ⟨p 0, p 1, p 2, eq_ix3 p⟩
  rw [val_main_v15_apply, val_main_v13_apply, val_main_v14_apply, val_main_cst_apply, q_eq h, k_eq h]
  show (∑ k : Fin 128, ((qOf R j.val x.val k.val : ℝ) : EReal) * ((kOf R j.val y.val k.val : ℝ) : EReal)) * Ideal.ofBits .f32 0x3DB504F3#32 = _
  simp only [← EReal.coe_mul]
  rw [coe_sum 128 fun k => qOf R j.val x.val k * kOf R j.val y.val k, ofBits_sc, ← EReal.coe_mul]
  rfl

omit h in
/-- The mask keeps the keys before the query. -/
theorem mask_eq (j : Fin 8) (x y : Fin 2048) : val_main_v25_1 (F := Ideal) (ix3 j x y) = BitVec.ofBool (decide (y.val < x.val)) := by
  rw [val_main_v25_1_apply, val_main_v22_apply, val_main_v20_apply, val_main_v21_apply, val_main_v17_apply, val_main_v19_apply,
    val_main_v16_apply, val_main_v18_apply]
  exact WordCmp.cmpi_slt_ofNat (a := y.val) (b := x.val) (by omega) (by omega)

/-- The logarithm of the logistic function of the scores' negatives, and the gradient it leaves behind. -/
theorem sft_eq : val_main_call0_v1_0 (F := Ideal) x0 = up3 .f32 fun j x y => sp (Z (qOf R j) (kOf R j) x y) := by
  funext p
  obtain ⟨j, x, y, rfl⟩ : ∃ (j : Fin 8) (x y : Fin 2048), p = ix3 j x y := ⟨p 0, p 1, p 2, eq_ix3 p⟩
  simp only [val_main_call0_v1_0_apply, val_main_call0_call0_v4_apply, val_main_call0_call0_v6_apply,
    val_main_call0_call0_v11_apply, val_main_call0_call0_v1_apply, val_main_call0_call0_v10_apply, val_main_call0_call0_v9_apply,
    val_main_call0_call0_v8_apply, val_main_call0_call0_v7_apply, val_main_call0_call0_v3_apply, val_main_call0_call0_v2_apply,
    val_main_call0_call0_v0_apply, val_main_call0_call0_cst_apply]
  refine softplus _ _ _ ?_
  simp only [val_main_call0_v0_apply, val_main_v23_apply, z_eq h, up3_apply]
  exact neg_neg _

theorem lsn_eq : val_main_v24_0 (F := Ideal) x0 = up3 .f32 fun j x y => - sp (Z (qOf R j) (kOf R j) x y) := by
  funext p
  rw [val_main_v24_0_apply, sft_eq h]
  exact (EReal.coe_neg _).symm

theorem sig_eq : val_main_v24_1 (F := Ideal) x0 = up3 .f32 fun j x y => Real.exp (lsig (Z (qOf R j) (kOf R j) x y)) := by
  funext p
  obtain ⟨j, x, y, rfl⟩ : ∃ (j : Fin 8) (x y : Fin 2048), p = ix3 j x y := ⟨p 0, p 1, p 2, eq_ix3 p⟩
  simp only [val_main_v24_1_apply, val_main_call0_call0_v21_apply, val_main_call0_call0_v16_apply, val_main_call0_call0_v14_apply,
    val_main_call0_call0_v13_apply, val_main_call0_call0_cst_0_apply, val_main_call0_call0_v15_apply, val_main_call0_call0_cst_1_apply,
    val_main_call0_call0_v20_apply, val_main_call0_call0_v18_apply, val_main_call0_call0_v17_apply, val_main_call0_call0_cst_2_apply,
    val_main_call0_call0_v19_apply, val_main_call0_call0_cst_3_apply]
  refine (softplus_grad _ _ (Z (qOf R j.val) (kOf R j.val) x.val y.val) ?_ (by rw [sft_eq h]; rfl)).trans ?_
  · simp only [val_main_call0_v0_apply, val_main_v23_apply, z_eq h, up3_apply]
    exact neg_neg _
  · rw [exp_sub_sp]; rfl

/-- The same of the scores. -/
theorem spn_eq : val_main_call3_v1_0 (F := Ideal) x0 = up3 .f32 fun j x y => sp (- Z (qOf R j) (kOf R j) x y) := by
  funext p
  obtain ⟨j, x, y, rfl⟩ : ∃ (j : Fin 8) (x y : Fin 2048), p = ix3 j x y := ⟨p 0, p 1, p 2, eq_ix3 p⟩
  simp only [val_main_call3_v1_0_apply, val_main_call3_call0_v4_apply, val_main_call3_call0_v6_apply,
    val_main_call3_call0_v11_apply, val_main_call3_call0_v1_apply, val_main_call3_call0_v10_apply, val_main_call3_call0_v9_apply,
    val_main_call3_call0_v8_apply, val_main_call3_call0_v7_apply, val_main_call3_call0_v3_apply, val_main_call3_call0_v2_apply,
    val_main_call3_call0_v0_apply, val_main_call3_call0_cst_apply]
  refine softplus _ _ _ ?_
  simp only [val_main_call3_v0_apply, z_eq h, up3_apply]
  exact (EReal.coe_neg _).symm

theorem ls_eq : val_main_v28_0 (F := Ideal) x0 = up3 .f32 fun j x y => lsig (Z (qOf R j) (kOf R j) x y) := by
  funext p
  rw [val_main_v28_0_apply, spn_eq h]
  refine (EReal.coe_neg _).symm.trans (congrArg _ ?_)
  show -sp (-_) = _
  rw [sp_neg, neg_neg]

theorem one_sub_sig_eq : val_main_v28_1 (F := Ideal) x0 = up3 .f32 fun j x y => 1 - Real.exp (lsig (Z (qOf R j) (kOf R j) x y)) := by
  funext p
  obtain ⟨j, x, y, rfl⟩ : ∃ (j : Fin 8) (x y : Fin 2048), p = ix3 j x y := ⟨p 0, p 1, p 2, eq_ix3 p⟩
  simp only [val_main_v28_1_apply, val_main_call3_call0_v21_apply, val_main_call3_call0_v16_apply, val_main_call3_call0_v14_apply,
    val_main_call3_call0_v13_apply, val_main_call3_call0_cst_0_apply, val_main_call3_call0_v15_apply, val_main_call3_call0_cst_1_apply,
    val_main_call3_call0_v20_apply, val_main_call3_call0_v18_apply, val_main_call3_call0_v17_apply, val_main_call3_call0_cst_2_apply,
    val_main_call3_call0_v19_apply, val_main_call3_call0_cst_3_apply]
  refine (softplus_grad _ _ (- Z (qOf R j.val) (kOf R j.val) x.val y.val) ?_ (by rw [spn_eq h]; rfl)).trans ?_
  · simp only [val_main_call3_v0_apply, z_eq h, up3_apply]
    exact (EReal.coe_neg _).symm
  · rw [exp_neg_sub_sp]; rfl

omit h in
/-- A masked array. -/
theorem masked (j : Fin 8) (x y : Fin 2048) (a b : Ideal .f32) (r : ℝ) (ha : a = ((r : ℝ) : EReal)) (hb : b = Ideal.ofBits .f32 0x00000000#32) :
    Scalar.select (val_main_v25_1 (F := Ideal) (ix3 j x y)) a b = (((if y.val < x.val then r else 0 : ℝ) : ℝ) : EReal) := by
  subst ha hb
  rw [mask_eq, select_bit, show Ideal.ofBits .f32 0x00000000#32 = ((0 : ℝ) : EReal) by simp [Ideal.ofBits, Ideal.ieee]]
  by_cases c : y.val < x.val <;> simp [c]

theorem lk_eq : val_main_v25_0 (F := Ideal) x0 = up3 .f32 fun j => LK (qOf R j) (kOf R j) := by
  funext p
  obtain ⟨j, x, y, rfl⟩ : ∃ (j : Fin 8) (x y : Fin 2048), p = ix3 j x y := ⟨p 0, p 1, p 2, eq_ix3 p⟩
  rw [val_main_v25_0_apply]
  refine (masked j x y _ _ (- sp (Z (qOf R j.val) (kOf R j.val) x.val y.val)) (by rw [lsn_eq h]; rfl) ?_).trans ?_
  · simp only [val_main_call1_v2_apply, val_main_call1_v0_apply, val_main_cst_0_apply]; rfl
  · rw [Cert.KernelIdeal.Sb.sp_eq, neg_sub]; rfl

omit h in
theorem tail_sum (f : ℕ → ℝ) (y : ℕ) (hy : y < 2048) :
    (∑ b ∈ range 2048, if y ≤ b then f b else 0) - f y = (∑ b ∈ range 2048, f b) - ∑ b ∈ range (y + 1), f b := by
  have e : (∑ b ∈ range 2048, f b) = (∑ b ∈ range 2048, if y ≤ b then f b else 0) + ∑ b ∈ range y, f b := by
    rw [← sum_tri f 2048 y hy.le, ← sum_add_distrib]
    refine sum_congr rfl fun b _ => ?_
    by_cases c : y ≤ b
    · simp [c, Nat.not_lt.2 c]
    · simp [c, Nat.lt_of_not_le c]
  rw [e, sum_range_succ _ y]
  ring

theorem after_eq : val_main_v27 (F := Ideal) x0
    = up3 .f32 fun j x y => T (qOf R j) (kOf R j) x - C0 (qOf R j) (kOf R j) x (y + 1) := by
  have e : val_main_v26 (F := Ideal) x0
      = up3 .f32 fun j x y => ∑ b ∈ range 2048, if y ≤ b then LK (qOf R j) (kOf R j) x b else 0 := by
    unfold val_main_v26
    rw [lk_eq h]
    exact sum_from _ _ (fun i => by rw [val_main_call2_v0_apply, val_main_call2_cst_apply]; exact ofBits_zero) _ _
  funext p
  rw [val_main_v27_apply, e, lk_eq h]
  have hp : (p 2).val < 2048 := (p 2).isLt
  refine (EReal.coe_sub _ _).symm.trans (congrArg _ ?_)
  exact tail_sum (LK (qOf R (p 0).val) (kOf R (p 0).val) (p 1).val) _ hp

/-- The exponentials that the mask turns into the weights. -/
theorem ew_eq : val_main_v30 (F := Ideal) x0
    = up3 .f32 fun j x y => Real.exp (lsig (Z (qOf R j) (kOf R j) x y) + (T (qOf R j) (kOf R j) x - C0 (qOf R j) (kOf R j) x (y + 1))) := by
  funext p
  rw [val_main_v30_apply, val_main_v29_apply, ls_eq h, after_eq h]
  exact (congrArg Ideal.exp (EReal.coe_add _ _).symm).trans (Ideal.exp_coe _)

theorem w_eq : val_main_v31_0 (F := Ideal) x0 = up3 .f32 fun j => W (qOf R j) (kOf R j) := by
  funext p
  obtain ⟨j, x, y, rfl⟩ : ∃ (j : Fin 8) (x y : Fin 2048), p = ix3 j x y := ⟨p 0, p 1, p 2, eq_ix3 p⟩
  rw [val_main_v31_0_apply]
  exact masked j x y _ _ _ (by rw [ew_eq h]; rfl) (by rw [val_main_call4_v2_apply, val_main_call4_v0_apply, val_main_cst_1_apply]; rfl)

/-- The values' gradients. -/
theorem dv_eq : val_main_v34 (F := Ideal) x0 x1 = up3 .f32 fun j => DV (qOf R j) (kOf R j) (gOf D j) 2048 := by
  funext p
  obtain ⟨j, x, d, rfl⟩ : ∃ (j : Fin 8) (x : Fin 2048) (d : Fin 128), p = ix3 j x d := ⟨p 0, p 1, p 2, eq_ix3 p⟩
  rw [val_main_v34_apply, val_main_v33_apply, g_eq h, w_eq h]
  refine Eq.trans (sum_congr rfl fun a _ => (EReal.coe_mul _ _).symm) ?_
  refine (coe_sum 2048 fun a => gOf D j.val a d.val * W (qOf R j.val) (kOf R j.val) a x.val).trans (congrArg _ ?_)
  exact sum_congr rfl fun a _ => mul_comm _ _

/-- The weights' cotangent times the weights. -/
theorem e_eq : val_main_v37 (F := Ideal) x0 x1 = up3 .f32 fun j => E (qOf R j) (kOf R j) (vOf R j) (gOf D j) := by
  funext p
  obtain ⟨j, x, y, rfl⟩ : ∃ (j : Fin 8) (x y : Fin 2048), p = ix3 j x y := ⟨p 0, p 1, p 2, eq_ix3 p⟩
  have e : val_main_v35 (F := Ideal) x0 x1 (ix3 j x y) = ((∑ d ∈ range 128, gOf D j.val x.val d * vOf R j.val y.val d : ℝ) : EReal) := by
    rw [val_main_v35_apply, g_eq h, v_eq h]
    refine Eq.trans (sum_congr rfl fun d _ => (EReal.coe_mul _ _).symm) ?_
    exact coe_sum 128 fun d => gOf D j.val x.val d * vOf R j.val y.val d
  rw [val_main_v37_apply, val_main_v36_apply, ew_eq h]
  have m := masked j x y _ (val_main_call5_v0 (F := Ideal) (ix3 j x y)) _ e (by rw [val_main_call5_v0_apply, val_main_call5_cst_apply]; rfl)
  refine (congrArg (fun t => FloatOps.mulf t _) m).trans ((EReal.coe_mul _ _).symm.trans (congrArg _ ?_))
  show (if y.val < x.val then _ else (0 : ℝ)) * _ = (∑ d ∈ range 128, gOf D j.val x.val d * vOf R j.val y.val d) * W (qOf R j.val) (kOf R j.val) x.val y.val
  unfold W
  by_cases c : y.val < x.val <;> simp [c]

/-- The running sums of these, the key excluded. -/
theorem p_eq : val_main_v41 (F := Ideal) x0 x1 = up3 .f32 fun j => P (qOf R j) (kOf R j) (vOf R j) (gOf D j) := by
  have e : val_main_v40 (F := Ideal) x0 x1
      = up3 .f32 fun j x y => ∑ b ∈ range (y + 1), E (qOf R j) (kOf R j) (vOf R j) (gOf D j) x b := by
    unfold val_main_v40
    rw [e_eq h]
    exact sum_to _ _ (fun i => by rw [val_main_call7_v0_apply, val_main_call7_cst_apply]; exact ofBits_zero) _ _
  funext p
  rw [val_main_v41_apply, val_main_v39_apply, e, e_eq h]
  refine (congrArg (fun t => FloatOps.addf t _) (EReal.coe_neg _).symm).trans ((EReal.coe_add _ _).symm.trans (congrArg _ ?_))
  show -E _ _ _ _ _ _ + ∑ b ∈ range ((p 2).val + 1), E _ _ _ _ _ b = ∑ b ∈ range (p 2).val, E _ _ _ _ _ b
  rw [sum_range_succ]
  ring

/-- The scores' cotangent, scaled. -/
theorem dz_eq : val_main_v47 (F := Ideal) x0 x1 = up3 .f32 fun j => DZ (qOf R j) (kOf R j) (vOf R j) (gOf D j) := by
  funext p
  obtain ⟨j, x, y, rfl⟩ : ∃ (j : Fin 8) (x y : Fin 2048), p = ix3 j x y := ⟨p 0, p 1, p 2, eq_ix3 p⟩
  have m : val_main_v42 (F := Ideal) x0 x1 (ix3 j x y)
      = (((if y.val < x.val then P (qOf R j.val) (kOf R j.val) (vOf R j.val) (gOf D j.val) x.val y.val else 0 : ℝ) : ℝ) : EReal) := by
    rw [val_main_v42_apply]
    exact masked j x y _ _ _ (by rw [p_eq h]; rfl) (by rw [val_main_call8_v0_apply, val_main_call8_cst_apply]; rfl)
  simp only [val_main_v47_apply, val_main_v45_apply, val_main_v46_apply, val_main_cst_2_apply, val_main_v44_apply, val_main_v43_apply,
    val_main_call9_v1_apply, val_main_call9_v0_apply, val_main_v38_apply, val_main_call6_v1_apply, val_main_call6_v0_apply, m, e_eq h,
    sig_eq h, one_sub_sig_eq h, up3_apply]
  show (-(-((E (qOf R j.val) (kOf R j.val) (vOf R j.val) (gOf D j.val) x.val y.val : ℝ) : EReal)
      * ((1 - Real.exp (lsig (Z (qOf R j.val) (kOf R j.val) x.val y.val)) : ℝ) : EReal))
    + -(-(-(((if y.val < x.val then P (qOf R j.val) (kOf R j.val) (vOf R j.val) (gOf D j.val) x.val y.val else 0 : ℝ) : ℝ) : EReal)
      * ((Real.exp (lsig (Z (qOf R j.val) (kOf R j.val) x.val y.val)) : ℝ) : EReal)))) * Ideal.ofBits .f32 0x3DB504F3#32 = _
  rw [ofBits_sc]
  simp only [← EReal.coe_neg, ← EReal.coe_mul, ← EReal.coe_add]
  refine congrArg _ ?_
  unfold DZ
  by_cases c : y.val < x.val
  · simp only [c, if_true]; ring
  · simp [c, E_of_le _ _ _ _ (Nat.le_of_not_lt c)]

/-- The keys' gradients. -/
theorem dk_eq : val_main_v48 (F := Ideal) x0 x1 = up3 .f32 fun j => DK (qOf R j) (kOf R j) (vOf R j) (gOf D j) 2048 := by
  funext p
  obtain ⟨j, x, d, rfl⟩ : ∃ (j : Fin 8) (x : Fin 2048) (d : Fin 128), p = ix3 j x d := ⟨p 0, p 1, p 2, eq_ix3 p⟩
  rw [val_main_v48_apply, q_eq h, dz_eq h]
  refine Eq.trans (sum_congr rfl fun a _ => (EReal.coe_mul _ _).symm) ?_
  exact coe_sum 2048 fun a => DZ (qOf R j.val) (kOf R j.val) (vOf R j.val) (gOf D j.val) a x.val * qOf R j.val a d.val

/-- The queries' gradients. -/
theorem dq_eq : val_main_v49 (F := Ideal) x0 x1 = up3 .f32 fun j => DQ (qOf R j) (kOf R j) (vOf R j) (gOf D j) 2048 := by
  funext p
  obtain ⟨j, x, d, rfl⟩ : ∃ (j : Fin 8) (x : Fin 2048) (d : Fin 128), p = ix3 j x d := ⟨p 0, p 1, p 2, eq_ix3 p⟩
  rw [val_main_v49_apply, k_eq h, dz_eq h]
  refine Eq.trans (sum_congr rfl fun a _ => (EReal.coe_mul _ _).symm) ?_
  exact coe_sum 2048 fun a => DZ (qOf R j.val) (kOf R j.val) (vOf R j.val) (gOf D j.val) x.val a * kOf R j.val a d.val

/-- The three gradients of every head, as the projections' columns hold them. -/
def grads (R D : ℕ → ℕ → ℝ) (x y : ℕ) : ℝ :=
  if y / 128 % 3 = 0 then DQ (qOf R (y / 384)) (kOf R (y / 384)) (vOf R (y / 384)) (gOf D (y / 384)) 2048 x (y % 128)
  else if y / 128 % 3 = 1 then DK (qOf R (y / 384)) (kOf R (y / 384)) (vOf R (y / 384)) (gOf D (y / 384)) 2048 x (y % 128)
  else DV (qOf R (y / 384)) (kOf R (y / 384)) (gOf D (y / 384)) 2048 x (y % 128)

/-- The joined gradients at one place. -/
theorem joined_eq (j : S3x8x2048x128.Idx) : val_main_v53 (F := Ideal) x0 x1 j
    = (((if (j 0).val = 0 then DQ (qOf R (j 1).val) (kOf R (j 1).val) (vOf R (j 1).val) (gOf D (j 1).val) 2048 (j 2).val (j 3).val
      else if (j 0).val = 1 then DK (qOf R (j 1).val) (kOf R (j 1).val) (vOf R (j 1).val) (gOf D (j 1).val) 2048 (j 2).val (j 3).val
      else DV (qOf R (j 1).val) (kOf R (j 1).val) (gOf D (j 1).val) 2048 (j 2).val (j 3).val : ℝ) : ℝ) : EReal) := by
  unfold val_main_v53
  refine concatenate_unit_eq _ _ _ j _ rfl ⟨?_, ?_, ?_, trivial⟩
  · intro h0 hr i hi hb
    have b1 := hb 1 (by decide)
    have b2 := hb 2 (by decide)
    have b3 := hb 3 (by decide)
    rw [show (j 0).val = 0 from h0, if_pos rfl, ← b1, ← b2, ← b3]
    show val_main_v50 (F := Ideal) x0 x1 i = _
    rw [val_main_v50_apply, dq_eq h]
    rfl
  · intro h0 hr i hi hb
    have b1 := hb 1 (by decide)
    have b2 := hb 2 (by decide)
    have b3 := hb 3 (by decide)
    rw [show (j 0).val = 1 from h0, if_neg (by decide), if_pos rfl, ← b1, ← b2, ← b3]
    show val_main_v51 (F := Ideal) x0 x1 i = _
    rw [val_main_v51_apply, dk_eq h]
    rfl
  · intro h0 hr i hi hb
    have b1 := hb 1 (by decide)
    have b2 := hb 2 (by decide)
    have b3 := hb 3 (by decide)
    rw [show (j 0).val = 2 from h0, if_neg (by decide), if_neg (by decide), ← b1, ← b2, ← b3]
    show val_main_v52 (F := Ideal) x0 x1 i = _
    rw [val_main_v52_apply, dv_eq h]
    rfl

/-- What the reference gives, in real numbers. -/
theorem grads_eq (i : S2048x3072.Idx) : val_main_v56 (F := Ideal) x0 x1 i = ((grads R D (i 0).val (i 1).val : ℝ) : EReal) := by
  rw [val_main_v56_apply, val_main_v55_apply, val_main_v54_apply, joined_eq h]
  have h0 : (i 0).val < 2048 := (i 0).isLt
  have h1 : (i 1).val < 3072 := (i 1).isLt
  have e0 : ((i 0).val * 3072 + (i 1).val) / 3072 = (i 0).val := by omega
  have e1 : ((i 0).val * 3072 + (i 1).val) / 384 % 8 = (i 1).val / 384 := by omega
  have e2 : ((i 0).val * 3072 + (i 1).val) / 128 % 3 = (i 1).val / 128 % 3 := by omega
  have e3 : ((i 0).val * 3072 + (i 1).val) % 128 = (i 1).val % 128 := by omega
  show (((if ((i 0).val * 3072 + (i 1).val) / 128 % 3 = 0 then _ else _ : ℝ) : ℝ) : EReal) = _
  refine congrArg _ ?_
  unfold grads
  show (if ((i 0).val * 3072 + (i 1).val) / 128 % 3 = 0 then
      DQ (qOf R (((i 0).val * 3072 + (i 1).val) / 384 % 8)) (kOf R (((i 0).val * 3072 + (i 1).val) / 384 % 8)) (vOf R (((i 0).val * 3072 + (i 1).val) / 384 % 8)) (gOf D (((i 0).val * 3072 + (i 1).val) / 384 % 8)) 2048 (((i 0).val * 3072 + (i 1).val) / 3072) (((i 0).val * 3072 + (i 1).val) % 128)
    else if ((i 0).val * 3072 + (i 1).val) / 128 % 3 = 1 then
      DK (qOf R (((i 0).val * 3072 + (i 1).val) / 384 % 8)) (kOf R (((i 0).val * 3072 + (i 1).val) / 384 % 8)) (vOf R (((i 0).val * 3072 + (i 1).val) / 384 % 8)) (gOf D (((i 0).val * 3072 + (i 1).val) / 384 % 8)) 2048 (((i 0).val * 3072 + (i 1).val) / 3072) (((i 0).val * 3072 + (i 1).val) % 128)
    else DV (qOf R (((i 0).val * 3072 + (i 1).val) / 384 % 8)) (kOf R (((i 0).val * 3072 + (i 1).val) / 384 % 8)) (gOf D (((i 0).val * 3072 + (i 1).val) / 384 % 8)) 2048 (((i 0).val * 3072 + (i 1).val) / 3072) (((i 0).val * 3072 + (i 1).val) % 128)) = _
  rw [e0, e1, e2, e3]

end Cert.ReferenceIdeal.Sb

end
-- ==== Proof.Entry.lean ====
/-
  What the host lines before the region give it: each row's total of the logarithms of keeping.
-/
module

public import proofs.«01_k».proof.Proof.Region
public import proofs.«01_k».proof.Proof.Refs
public import Idealize.ShloMosaic.Lib.Claim

@[expose] public section

set_option maxRecDepth 16384

noncomputable section

namespace Cert.KernelIdeal.Sb

open Idealize.ShloMosaic Idealize.ShloMosaic.TcCoe Idealize.ShloMosaic.Tactic Idealize.SL.Sem
open Idealize.ShloMosaic.Rounds Idealize.ShloMosaic.Pipeline
open Cert.KernelIdeal.Gen
open Finset
open Cert.ReferenceIdeal.Sb (qOf kOf vOf gOf)

variable (m : (ℓ : Loc nD τ sig) → Buf (Elt Ideal) ℓ)

/-- The scores without their sign turned. -/
theorem win0 (σ : Valuation τ sig (Elt Ideal)) (R : ℕ → ℕ → ℝ)
    (hx : ∀ i : S2048x6144.Idx, (i 1).val < 3072 → (σ (Proc.tc.devRef main_arg0) : (⟨S2048x6144, .bf16⟩ : BufTy).Contents (Elt Ideal)) i = ((R (i 0).val (i 1).val : ℝ) : EReal)) :
    StableHlo.after hostOps0 σ (Proc.tc.devRef main_v17) = up3 .f32 fun j x y => -Z (qOf R j) (kOf R j) x y := by
  after_results_simp
  generalize (σ (Proc.tc.devRef main_arg0)) = A at hx ⊢
  change S2048x6144.Idx → EReal at A
  funext p
  idx_vars p
  pointwise
  have e : ∀ d : Fin 128, (A (ValueIdx.ix2 p1 ⟨p0.val * 384 + d.val, by omega⟩) : EReal) * (A (ValueIdx.ix2 p2 ⟨p0.val * 384 + 128 + d.val, by omega⟩) : EReal)
      = ((qOf R p0.val p1.val d.val * kOf R p0.val p2.val d.val : ℝ) : EReal) := by
    intro d
    rw [hx (ValueIdx.ix2 p1 ⟨p0.val * 384 + d.val, by omega⟩) (by show p0.val * 384 + d.val < 3072; omega),
      hx (ValueIdx.ix2 p2 ⟨p0.val * 384 + 128 + d.val, by omega⟩) (by show p0.val * 384 + 128 + d.val < 3072; omega)]
    refine (EReal.coe_mul _ _).symm.trans ?_
    show ((R p1.val (p0.val * 384 + d.val) * R p2.val (p0.val * 384 + 128 + d.val) : ℝ) : EReal) = ((R p1.val (384 * p0.val + d.val) * R p2.val (384 * p0.val + 128 + d.val) : ℝ) : EReal)
    rw [mul_comm p0.val 384]
  refine (congrArg (fun s : EReal => -(s * Ideal.ofBits .f32 0x3DB504F3#32)) ((sum_congr rfl fun d _ => e d).trans
    (coe_sum 128 fun d => qOf R p0.val p1.val d * kOf R p0.val p2.val d))).trans ?_
  rw [ofBits_sc, ← EReal.coe_mul, ← EReal.coe_neg]
  rfl

theorem win0' (σ : Valuation τ sig (Elt Ideal)) (x y : Fin 2048) :
    StableHlo.after hostOps0 σ (Proc.tc.devRef main_v16) (ValueIdx.ix2 x y) = BitVec.ofBool (decide (y.val < x.val)) := by
  after_results_simp
  pointwise
  show IntOp.cmpi .slt (BitVec.ofNat 32 y.val) (BitVec.ofNat 32 x.val) = _
  exact WordCmp.cmpi_slt_ofNat (a := y.val) (b := x.val) (by omega) (by omega)

theorem win1 (σ : Valuation τ sig (Elt Ideal)) (z : ℕ → ℕ → ℕ → ℝ) (hz : σ (Proc.tc.devRef main_v17) = up3 .f32 fun j x y => -z j x y) :
    StableHlo.after hostOps0_1 σ (Proc.tc.devRef main_v18) = up3 .f32 fun j x y => lsig (z j x y) - z j x y := by
  simp only [hostOps0_1, StableHlo.TRef.unary, StableHlo.TRef.binary, StableHlo.TRef.nullary, StableHlo.TRef.ternary, StableHlo.TRef.toBuf, StableHlo.TRef.ofBuf, cast_eq]
  after_results_simp
  rw [hz]
  funext p
  refine (congrArg FloatOps.hostNegf (softplus _ _ (z (p 0).val (p 1).val (p 2).val) ?_)).trans ?_
  · refine (EReal.coe_neg _).symm.trans ?_
    rw [neg_neg]
  · refine (EReal.coe_neg _).symm.trans ?_
    rw [sp_eq, neg_sub]
    rfl

theorem win3 (σ : Valuation τ sig (Elt Ideal)) (q k : ℕ → ℕ → ℕ → ℝ)
    (hb : ∀ x y : Fin 2048, σ (Proc.tc.devRef main_v16) (ValueIdx.ix2 x y) = BitVec.ofBool (decide (y.val < x.val)))
    (hv : σ (Proc.tc.devRef main_v18) = up3 .f32 fun j x y => lsig (Z (q j) (k j) x y) - Z (q j) (k j) x y) :
    StableHlo.after ([hostOps0_2, hostOps0_3, hostOps0_4, hostOps0_5, hostOps0_6].flatten) σ (Proc.tc.devRef main_v22)
      = up .f32 fun x y => if y < 8 then T (q y) (k y) x else 0 := by
  simp only [List.flatten_cons, List.flatten_nil, List.cons_append, List.nil_append, hostOps0_3, hostOps0_5, StableHlo.TRef.unary, StableHlo.TRef.binary, StableHlo.TRef.nullary, StableHlo.TRef.ternary, StableHlo.TRef.toBuf, StableHlo.TRef.ofBuf, cast_eq]
  after_results_simp
  rw [hv]
  generalize (σ (Proc.tc.devRef main_v16)) = B at hb ⊢
  have e : (Host.reduceAdd
      (select (broadcastInDim S8x2048x2048 ![1, 2] bcast_S2048x2048_S8x2048x2048_1_2 B)
        (up3 .f32 fun j x y => lsig (Z (q j) (k j) x y) - Z (q j) (k j) x y)
        (broadcastInDim S8x2048x2048 ![] bcast_S_S8x2048x2048 (id (constant S_ FTy.f32 0#32))))
      (constant (F := Ideal) S_ FTy.f32 0#32) reducesTo_S8x2048x2048_S8x2048_d2 h_S_ : (⟨S8x2048, .f32⟩ : BufTy).Contents (Elt Ideal))
      = up .f32 fun j x => T (q j) (k j) x := by
    funext p
    idx_vars p
    pointwise
    have e : ∀ b : Fin 2048, (Scalar.select (B (ValueIdx.ix2 p1 b)) ((lsig (Z (q p0.val) (k p0.val) p1.val b.val) - Z (q p0.val) (k p0.val) p1.val b.val : ℝ) : EReal)
        (id (constant (F := Ideal) S_ FTy.f32 0#32) ValueIdx.ix0) : EReal) = ((LK (q p0.val) (k p0.val) p1.val b.val : ℝ) : EReal) := by
      intro b
      have z : id (constant (F := Ideal) S_ FTy.f32 0#32) ValueIdx.ix0 = (0 : EReal) := ofBits_zero
      rw [hb, z, select_bit]
      unfold LK
      by_cases c : b.val < p1.val <;> simp [c]
    exact (sum_congr rfl fun b _ => e b).trans <| coe_sum 2048 fun b => LK (q p0.val) (k p0.val) p1.val b
  rw [e]
  funext p
  idx_vars p
  pointwise
  by_cases c : p1.val < 8
  · rw [dif_pos c, if_pos c]
  · rw [dif_neg c, if_neg c]
    show (((0#32 : BitVec 32).toInt : ℝ) : EReal) = _
    simp

end Cert.KernelIdeal.Sb

end
-- ==== Proof.Blocks.lean ====
/-
  The blocks that the region's points see, as the heads' numbers.
-/
module

public import proofs.«01_k».proof.Proof.Entry
public import Idealize.ShloMosaic.Lib.Pipeline.ValueKit.Geometry

@[expose] public section

set_option maxRecDepth 16384

noncomputable section

namespace Cert.KernelIdeal.Sb

open Idealize.ShloMosaic Idealize.ShloMosaic.TcCoe Idealize.ShloMosaic.Tactic Idealize.SL.Sem
open Idealize.ShloMosaic.Rounds Idealize.ShloMosaic.Pipeline
open Cert.KernelIdeal.Gen
open Cert.ReferenceIdeal.Sb (qOf kOf vOf gOf)

variable (R D : Dev nD → ℕ → ℕ → ℝ) (m : (ℓ : Loc nD τ sig) → Buf (Elt Ideal) ℓ)

/-- The launch's two arguments hold real numbers where the attention reads them. -/
def Launched : Prop := ∀ c : Dev nD, Cert.ReferenceIdeal.Sb.Real (R c) (D c) (m ((c : Thread nD τ).loc main_arg0)) (m ((c : Thread nD τ).loc main_arg1))

/-- The four heads of a group. -/
def headsOf (c : Dev nD) (n : ℕ) : Heads where
  q j := qOf (R c) (4 * n + j)
  k j := kOf (R c) (4 * n + j)
  v j := vOf (R c) (4 * n + j)
  g j := gOf (D c) (4 * n + j)

variable {R D m} (h : Launched R D m) (c : Dev nD)

include h

/-- The rows' totals, one column a head. -/
theorem V_main_v22 : V m c main_v22 = up .f32 fun x y => if y < 8 then T (qOf (R c) y) (kOf (R c) y) x else 0 := by
  have e : V m c main_v22 = StableHlo.after [hostOps0_2, hostOps0_3, hostOps0_4, hostOps0_5, hostOps0_6].flatten
      (StableHlo.after hostOps0_1 (StableHlo.after hostOps0 fun b => m (c, b))) (Proc.tc.devRef main_v22) := by
    show StableHlo.after (List.flatten [hostOps0, hostOps0_1, hostOps0_2, hostOps0_3, hostOps0_4, hostOps0_5, hostOps0_6]) _ _ = _
    rw [← StableHlo.after_append, ← StableHlo.after_append]
    rfl
  rw [e]
  refine win3 _ (qOf (R c)) (kOf (R c)) (fun x y => ?_) ?_
  · rw [show StableHlo.after hostOps0_1 (StableHlo.after hostOps0 fun b => m (c, b)) (Proc.tc.devRef main_v16) = StableHlo.after hostOps0 (fun b => m (c, b)) (Proc.tc.devRef main_v16) by
      generalize StableHlo.after hostOps0 (fun b => m (c, b)) = σ
      simp only [hostOps0_1, StableHlo.TRef.unary, StableHlo.TRef.binary, StableHlo.TRef.nullary, StableHlo.TRef.ternary, StableHlo.TRef.toBuf, StableHlo.TRef.ofBuf, cast_eq]
      after_results_simp]
    exact win0' _ x y
  · exact win1 _ _ (win0 _ (R c) (h c).hx)

theorem at_arg0 (i : S2048x6144.Idx) (x y : ℕ) (hx : (i 0).val = x) (hy : (i 1).val = y) (hlt : y < 3072) :
    (V m c main_arg0 : (⟨S2048x6144, .bf16⟩ : BufTy).Contents (Elt Ideal)) i = ((R c x y : ℝ) : EReal) := by
  subst hx hy
  rw [V_main_arg0]
  exact (h c).hx i hlt

/-- A block of a projection's columns, its place in the array given. -/
theorem rows_of (n : ℕ) (f : ℕ → ℕ → ℝ) (b : ℕ) (hf : ∀ x d, f x d = R c x (128 * b + d)) (hb : b < 24)
    (e : S256x128.Idx → S2048x6144.Idx) (h0 : ∀ p, (e p 0).val = n + (p 0).val) (h1 : ∀ p, (e p 1).val = b * 128 + (p 1).val) :
    (fun p => (V m c main_arg0 : (⟨S2048x6144, .bf16⟩ : BufTy).Contents (Elt Ideal)) (e p)) = rows .bf16 n f := by
  funext p
  have hp : (p 1).val < 128 := (p 1).isLt
  refine (at_arg0 h c _ (n + (p 0).val) (128 * b + (p 1).val) (h0 p) (by rw [h1 p]; omega) (by omega)).trans ?_
  exact congrArg _ (hf _ _).symm

theorem up_of (f : ℕ → ℕ → ℝ) (b : ℕ) (hf : ∀ x d, f x d = R c x (128 * b + d)) (hb : b < 24)
    (e : S2048x128.Idx → S2048x6144.Idx) (h0 : ∀ p, (e p 0).val = 0 * 2048 + (p 0).val) (h1 : ∀ p, (e p 1).val = b * 128 + (p 1).val) :
    (fun p => (V m c main_arg0 : (⟨S2048x6144, .bf16⟩ : BufTy).Contents (Elt Ideal)) (e p)) = up .bf16 f := by
  funext p
  have hp : (p 1).val < 128 := (p 1).isLt
  refine (at_arg0 h c _ (p 0).val (128 * b + (p 1).val) (by rw [h0 p]; omega) (by rw [h1 p]; omega) (by omega)).trans ?_
  exact congrArg _ (hf _ _).symm

omit h c in
theorem idx_heads : ∀ t : Fin cfg0.N, (win0_0.index t 0 = t.val % 8 ∧ win0_0.index t 1 = 3 * (4 * (t.val / 8) + 0) + 0)
    ∧ (win0_1.index t 0 = 0 ∧ win0_1.index t 1 = 3 * (4 * (t.val / 8) + 0) + 1)
    ∧ (win0_2.index t 0 = 0 ∧ win0_2.index t 1 = 3 * (4 * (t.val / 8) + 0) + 2)
    ∧ (win0_3.index t 0 = t.val % 8 ∧ win0_3.index t 1 = 3 * (4 * (t.val / 8) + 1) + 0)
    ∧ (win0_4.index t 0 = 0 ∧ win0_4.index t 1 = 3 * (4 * (t.val / 8) + 1) + 1)
    ∧ (win0_5.index t 0 = 0 ∧ win0_5.index t 1 = 3 * (4 * (t.val / 8) + 1) + 2)
    ∧ (win0_6.index t 0 = t.val % 8 ∧ win0_6.index t 1 = 3 * (4 * (t.val / 8) + 2) + 0)
    ∧ (win0_7.index t 0 = 0 ∧ win0_7.index t 1 = 3 * (4 * (t.val / 8) + 2) + 1)
    ∧ (win0_8.index t 0 = 0 ∧ win0_8.index t 1 = 3 * (4 * (t.val / 8) + 2) + 2)
    ∧ (win0_9.index t 0 = t.val % 8 ∧ win0_9.index t 1 = 3 * (4 * (t.val / 8) + 3) + 0)
    ∧ (win0_10.index t 0 = 0 ∧ win0_10.index t 1 = 3 * (4 * (t.val / 8) + 3) + 1)
    ∧ (win0_11.index t 0 = 0 ∧ win0_11.index t 1 = 3 * (4 * (t.val / 8) + 3) + 2) := by decide +kernel

omit h c in
theorem idx_rest : ∀ t : Fin cfg0.N, (win0_12.index t 0 = t.val % 8 ∧ win0_12.index t 1 = t.val / 8) ∧ (win0_13.index t 0 = t.val % 8 ∧ win0_13.index t 1 = 0) := by decide +kernel

omit h c in
theorem lt_groups (t : Fin cfg0.N) : t.val / 8 < 2 := by
  have h : t.val < 16 := t.isLt
  omega

set_option maxHeartbeats 2000000 in
/-- A grid point's blocks hold what its four heads need. -/
theorem hold : Hold (headsOf R D) m := by
  intro c t
  have lt := lt_groups t
  obtain ⟨c0, c1⟩ := coords_eq t
  obtain ⟨⟨i00, i01⟩, ⟨i10, i11⟩, ⟨i20, i21⟩, ⟨i30, i31⟩, ⟨i40, i41⟩, ⟨i50, i51⟩, ⟨i60, i61⟩, ⟨i70, i71⟩, ⟨i80, i81⟩, ⟨i90, i91⟩, ⟨i100, i101⟩, ⟨i110, i111⟩⟩ := idx_heads t
  obtain ⟨⟨ig0, ig1⟩, ⟨it0, it1⟩⟩ := idx_rest t
  refine ⟨fun x y => if y < 8 then T (qOf (R c) y) (kOf (R c) y) x else 0, ?_⟩
  constructor
  · rw [c1]
    exact rows_of h c _ _ (3 * (4 * (t.val / 8) + 0) + 0) (fun x d => congrArg (R c x) (by omega)) (by omega) ((cfg0.win 0).blk t).view.emb
      (fun p => by blk_simp; omega) (fun p => by blk_simp; omega)
  · exact up_of h c _ (3 * (4 * (t.val / 8) + 0) + 1) (fun x d => congrArg (R c x) (by omega)) (by omega) ((cfg0.win 1).blk t).view.emb
      (fun p => by blk_simp; omega) (fun p => by blk_simp; omega)
  · exact up_of h c _ (3 * (4 * (t.val / 8) + 0) + 2) (fun x d => congrArg (R c x) (by omega)) (by omega) ((cfg0.win 2).blk t).view.emb
      (fun p => by blk_simp; omega) (fun p => by blk_simp; omega)
  · intro x
    rw [c0, if_pos (by omega)]
    rfl
  · rw [c1]
    exact rows_of h c _ _ (3 * (4 * (t.val / 8) + 1) + 0) (fun x d => congrArg (R c x) (by omega)) (by omega) ((cfg0.win 3).blk t).view.emb
      (fun p => by blk_simp; omega) (fun p => by blk_simp; omega)
  · exact up_of h c _ (3 * (4 * (t.val / 8) + 1) + 1) (fun x d => congrArg (R c x) (by omega)) (by omega) ((cfg0.win 4).blk t).view.emb
      (fun p => by blk_simp; omega) (fun p => by blk_simp; omega)
  · exact up_of h c _ (3 * (4 * (t.val / 8) + 1) + 2) (fun x d => congrArg (R c x) (by omega)) (by omega) ((cfg0.win 5).blk t).view.emb
      (fun p => by blk_simp; omega) (fun p => by blk_simp; omega)
  · intro x
    rw [c0, if_pos (by omega)]
    rfl
  · rw [c1]
    exact rows_of h c _ _ (3 * (4 * (t.val / 8) + 2) + 0) (fun x d => congrArg (R c x) (by omega)) (by omega) ((cfg0.win 6).blk t).view.emb
      (fun p => by blk_simp; omega) (fun p => by blk_simp; omega)
  · exact up_of h c _ (3 * (4 * (t.val / 8) + 2) + 1) (fun x d => congrArg (R c x) (by omega)) (by omega) ((cfg0.win 7).blk t).view.emb
      (fun p => by blk_simp; omega) (fun p => by blk_simp; omega)
  · exact up_of h c _ (3 * (4 * (t.val / 8) + 2) + 2) (fun x d => congrArg (R c x) (by omega)) (by omega) ((cfg0.win 8).blk t).view.emb
      (fun p => by blk_simp; omega) (fun p => by blk_simp; omega)
  · intro x
    rw [c0, if_pos (by omega)]
    rfl
  · rw [c1]
    exact rows_of h c _ _ (3 * (4 * (t.val / 8) + 3) + 0) (fun x d => congrArg (R c x) (by omega)) (by omega) ((cfg0.win 9).blk t).view.emb
      (fun p => by blk_simp; omega) (fun p => by blk_simp; omega)
  · exact up_of h c _ (3 * (4 * (t.val / 8) + 3) + 1) (fun x d => congrArg (R c x) (by omega)) (by omega) ((cfg0.win 10).blk t).view.emb
      (fun p => by blk_simp; omega) (fun p => by blk_simp; omega)
  · exact up_of h c _ (3 * (4 * (t.val / 8) + 3) + 2) (fun x d => congrArg (R c x) (by omega)) (by omega) ((cfg0.win 11).blk t).view.emb
      (fun p => by blk_simp; omega) (fun p => by blk_simp; omega)
  · intro x
    rw [c0, if_pos (by omega)]
    rfl
  · rw [c1]
    funext p
    have hp : (p 1).val < 512 := (p 1).isLt
    show (V m c main_arg1 : (⟨S2048x1024, .bf16⟩ : BufTy).Contents (Elt Ideal)) (((cfg0.win 12).blk t).view.emb p) = _
    rw [V_main_arg1]
    refine ((h c).hg _).trans ?_
    have e0 : (((cfg0.win 12).blk t).view.emb p 0).val = 256 * (t.val % 8) + (p 0).val := by
      blk_simp
      omega
    have e1 : (((cfg0.win 12).blk t).view.emb p 1).val = 128 * (4 * (t.val / 8) + (p 1).val / 128) + (p 1).val % 128 := by
      blk_simp
      omega
    have e : D c _ _ = D c _ _ := congr (congrArg (D c) e0) e1
    exact congrArg _ e
  · rw [c1]
    funext p
    show (V m c main_v22 : (⟨S2048x128, .f32⟩ : BufTy).Contents (Elt Ideal)) (((cfg0.win 13).blk t).view.emb p) = _
    rw [V_main_v22 h]
    have e0 : (((cfg0.win 13).blk t).view.emb p 0).val = 256 * (t.val % 8) + (p 0).val := by
      blk_simp
      omega
    have e1 : (((cfg0.win 13).blk t).view.emb p 1).val = (p 1).val := by
      blk_simp
      omega
    show (((if _ < 8 then T (qOf (R c) (((cfg0.win 13).blk t).view.emb p 1).val) _ (((cfg0.win 13).blk t).view.emb p 0).val else 0 : ℝ) : ℝ) : EReal) = _
    rw [e0, e1]
    rfl

end Cert.KernelIdeal.Sb

end
-- ==== Proof.Ends.lean ====
/-
  What the region's output array holds at its end: the heads' gradients, block by block.
-/
module

public import proofs.«01_k».proof.Proof.Region
public import Idealize.ShloMosaic.Lib.Pipeline.ArrRel
public import Idealize.ShloMosaic.Lib.Pipeline.ValueKit.Partial

@[expose] public section

set_option maxRecDepth 16384

noncomputable section

namespace Cert.KernelIdeal.Sb

open Idealize.ShloMosaic Idealize.ShloMosaic.TcCoe Idealize.ShloMosaic.Tactic Idealize.SL.Sem
open Idealize.ShloMosaic.Rounds Idealize.ShloMosaic.Pipeline
open Cert.KernelIdeal.Gen

variable (H : Dev nD → ℕ → Heads) (m : (ℓ : Loc nD τ sig) → Buf (Elt Ideal) ℓ)

/-- A group's gradients: at each head the queries', the keys' and the values' columns. -/
def full (H : Heads) (x y : ℕ) : ℝ :=
  if y / 128 % 3 = 0 then H.dq 2048 (y / 128 / 3) x (y % 128)
  else if y / 128 % 3 = 1 then H.dk 2048 (y / 128 / 3) x (y % 128) else H.dv 2048 (y / 128 / 3) x (y % 128)

theorem fetch_out (t : Fin cfg0.N) : (cfg0.win 14).fetch t = false := rfl

/-- The output block after a point: the rows of the queries' gradients done so far, and at a group's end everything. -/
theorem leaves_out (hg : Hold H m) (c : Dev nD) : ∀ (t : Fin cfg0.N) (X : Vec Ideal S2048x1536 .bf16), (rdat H m c).Leaves 14 t X →
    ∀ p : S2048x1536.Idx, ((p 1).val / 128 % 3 = 0 → (p 0).val < 256 * (t.val % 8) + 256 → X p = ((full (H c (t.val / 8)) (p 0).val (p 1).val : ℝ) : EReal))
      ∧ ((p 1).val / 128 % 3 ≠ 0 → t.val % 8 = 7 → X p = ((full (H c (t.val / 8)) (p 0).val (p 1).val : ℝ) : EReal)) := by
  intro t
  induction hn : t.val using Nat.strong_induction_on generalizing t with
  | _ n ih =>
    subst hn
    rintro X ⟨Y, hY, hX⟩ p
    have hX' : X = outStep (H c (t.val / 8)) (256 * (t.val % 8)) (t.val % 8 = 7) Y := hX hg
    refine ⟨fun hp hlt => ?_, fun hp h7 => ?_⟩
    · rw [hX']
      unfold outStep full
      rw [if_pos hp, if_pos hp]
      by_cases hr : 256 * (t.val % 8) ≤ (p 0).val
      · rw [if_pos ⟨hr, hlt⟩]
      · rw [if_neg (fun h => hr h.1)]
        have h0 : t.val ≠ 0 := fun h => hr (by rw [h]; omega)
        have hN : t.val - 1 < cfg0.N := by have := t.isLt; omega
        have hfl : win0_14.flush ⟨t.val - 1, hN⟩ = true ↔ (t.val - 1) % 8 = 7 := flush0_14 ⟨t.val - 1, hN⟩
        rcases ((rdat H m c).finds_of_pos (fetch_out t) h0 Y).1 hY with hf | hL
        · have := hfl.1 hf; omega
        · have h := (ih (t.val - 1) (by omega) ⟨t.val - 1, hN⟩ rfl Y hL p).1 hp (by show (p 0).val < 256 * ((t.val - 1) % 8) + 256; omega)
          rw [h, show (⟨t.val - 1, hN⟩ : Fin cfg0.N).val / 8 = t.val / 8 by show (t.val - 1) / 8 = _; omega]
          unfold full
          rw [if_pos hp]
    · rw [hX']
      unfold outStep full
      rw [if_neg hp, if_neg hp, if_pos h7]
      split_ifs <;> rfl

theorem index_out : ∀ t : Fin cfg0.N, win0_14.index t 1 = t.val / 8 ∧ win0_14.index t 0 = 0 := by decide +kernel

/-- The output array after the region, on the columns the blocks cover. -/
theorem array_out (hg : Hold H m) (c : Dev nD) (A : (⟨S2048x6144, .bf16⟩ : BufTy).Contents (Elt Ideal)) (hA : (rdat H m c).ArrAt 14 cfg0.N A)
    (i : S2048x6144.Idx) (hi : (i 1).val < 3072) : A i = ((full (H c ((i 1).val / 1536)) (i 0).val ((i 1).val % 1536) : ℝ) : EReal) := by
  obtain ⟨X, hX, hE⟩ := RDat.ArrAt.exists_exact hA
  have e := hE (Function.update (fun _ _ => Classical.arbitrary _) 14 X) (fun u _ _ => by rw [Function.update_self])
  have hc : (cfg0.win 14).CoversWhere (fun β => β (1 : Fin 2) < 2) := by decide +kernel
  have key := Dat.arrAt_forall_of_coversWhere ((rdat H m c).withAfter (Function.update (fun _ _ => Classical.arbitrary _) 14 X)) 14
    (fun (i : S2048x6144.Idx) (v : EReal) => (i 1).val < 3072 → v = ((full (H c ((i 1).val / 1536)) (i 0).val ((i 1).val % 1536) : ℝ) : EReal))
    (fun β => β (1 : Fin 2) < 2) hc (fun t hf y => ?_) (fun j hj => ?_) i (Memref.isWhole_whole _)
  · rw [e]; exact key hi
  · rw [RDat.withAfter_after, Function.update_self]
    have h7 : t.val % 8 = 7 := (flush0_14 t).1 hf
    have hl := leaves_out H m hg c t (X t) (hX t t.isLt hf)
    blk_simp
    rintro -
    obtain ⟨i1, i0⟩ := index_out t
    have hy0 : (y 0).val < 2048 := (y 0).isLt
    have hy1 : (y 1).val < 1536 := (y 1).isLt
    rw [i1, i0, show (t.val / 8 * 1536 + (y 1).val) / 1536 = t.val / 8 by omega, show (t.val / 8 * 1536 + (y 1).val) % 1536 = (y 1).val by omega,
      show 0 * 2048 + (y 0).val = (y 0).val by omega]
    by_cases h : (y 1).val / 128 % 3 = 0
    · exact (hl y).1 h (by rw [h7]; exact lt_of_lt_of_eq hy0 rfl)
    · exact (hl y).2 h h7
  · blk_simp [Pipeline.Window.cell_apply] at hj
    intro h
    have h' : (j 1).val < 3072 := h
    omega

/-- The program's result at the end. -/
theorem result (hg : Hold H m) (s : MemSt nD τ sig (Elt Ideal)) (h : Final H m s) (c : Dev nD) (i : S2048x3072.Idx) :
    (s.mem ((c.tc : Thread nD τ).loc main_v25) : (⟨S2048x3072, .bf16⟩ : BufTy).Contents (Elt Ideal)) i
      = ((full (H c ((i 1).val / 1536)) (i 0).val ((i 1).val % 1536) : ℝ) : EReal) := by
  obtain ⟨-, A, hA, hb⟩ := h c
  rw [hb main_v25 (mem_restRefs_of main_v25 rfl (by decide))]
  have hw : withArrays (cfgs 0).spec c (V0 m c) A (Proc.devRef .tc main_v24) = A 14 :=
    withArrays_arr_shared (cfgs 0).spec c (V0 m c) A ((rdat H m c).ArrAt_sharedIn sharedIn0 (V0 m c) (A_eq m (outOf H m) (accOf H m) c) cfg0.N A hA) 14
  have e : StableHlo.after [hostOps1].flatten (withArrays (cfgs 0).spec c (V0 m c) A) (Proc.devRef .tc main_v25)
      = extractStridedSlice S2048x3072 ![0, 0] (withArrays (cfgs 0).spec c (V0 m c) A (Proc.devRef .tc main_v24)) slices_S2048x6144_S2048x3072_0_0 := by
    show StableHlo.after [_] _ _ = _
    rw [StableHlo.after_cons, StableHlo.after_nil, StableHlo.unary_result']
  rw [e, hw]
  have h0 : (i 1).val < 3072 := (i 1).isLt
  idx_vars i
  pointwise []
  exact array_out H m hg c (A 14) (hA 14) _ h0

end Cert.KernelIdeal.Sb

end
-- ==== Proof.Pre.lean ====
/-
  What the precondition says: the columns and the cotangents that the attention reads are real numbers.
-/
module

public import proofs.«01_k».proof.Defs
public import proofs.«01_k».proof.Proof.Refs
public import Idealize.ShloMosaic.Lib.Claim

@[expose] public section

set_option maxRecDepth 16384

noncomputable section

namespace Cert.Pre_finite_inputs

open Idealize.ShloMosaic Idealize.ShloMosaic.Tactic

instance facts : Facts where
  slices_S2048x6144_S2048x3072_0_0 := by decide
  bitsLt_bf16_f32 := by decide
  bcast_S_S2048x3072 := by decide
  bcast_S_S2048x1024 := by decide

theorem real_of (x : Ideal .f32) (h : FloatOps.cmpf .olt (FloatOps.hostAbsf x) (FloatOps.ofBits .f32 0x7F800000#32) = 1#1) :
    x = ((EReal.toReal x : ℝ) : EReal) := by
  change EReal at x
  have h' : BitVec.ofBool (decide (max x (-x) < Ideal.ofBits .f32 0x7F800000#32)) = 1#1 := h
  rw [Cert.KernelIdeal.Sb.ofBits_inf] at h'
  induction x using EReal.rec with
  | bot => simp at h'
  | top => simp at h'
  | coe r => rfl

theorem fst_at (A : FVec Ideal S2048x6144 .bf16) (B : FVec Ideal S2048x1024 .bf16) (x : Fin 2048) (y : Fin 3072) :
    (fn A B).1 (ValueIdx.ix2 x y) = FloatOps.cmpf (F := Ideal) (φ := .f32) .olt (FloatOps.hostAbsf (A (ValueIdx.ix2 x ⟨y.val, by omega⟩))) (FloatOps.ofBits .f32 0x7F800000#32) := by
  dsimp only [fn]
  pointwise
  rfl

theorem snd_at (A : FVec Ideal S2048x6144 .bf16) (B : FVec Ideal S2048x1024 .bf16) (i : S2048x1024.Idx) :
    (fn A B).2 i = FloatOps.cmpf (F := Ideal) (φ := .f32) .olt (FloatOps.hostAbsf (B i)) (FloatOps.ofBits .f32 0x7F800000#32) := rfl

/-- An array's entries as real numbers, nought outside the array. -/
def numbers {a b : ℕ} (A : FVec Ideal ⟨2, ![a, b]⟩ .bf16) (x y : ℕ) : ℝ :=
  if h : x < a ∧ y < b then EReal.toReal (A (ValueIdx.ix2 ⟨x, h.1⟩ ⟨y, h.2⟩)) else 0

theorem numbers_at {a b : ℕ} (A : FVec Ideal ⟨2, ![a, b]⟩ .bf16) (i : (⟨2, ![a, b]⟩ : Shape).Idx) :
    numbers A (i 0).val (i 1).val = EReal.toReal (A i) := by
  unfold numbers
  rw [dif_pos ⟨(i 0).isLt, (i 1).isLt⟩]
  exact congrArg EReal.toReal (congrArg A (ValueIdx.eq_ix2 i).symm)

/-- Arguments that pass the precondition are real numbers where they are read. -/
theorem real (A : FVec Ideal S2048x6144 .bf16) (B : FVec Ideal S2048x1024 .bf16)
    (h : (fn A B).1 = (fun _ => 1#1) ∧ (fn A B).2 = fun _ => 1#1) : Cert.ReferenceIdeal.Sb.Real (numbers A) (numbers B) A B where
  hx i hi := by
    rw [numbers_at A i]
    refine real_of _ ?_
    have e := (fst_at A B (i 0) ⟨(i 1).val, hi⟩).symm.trans (congrFun h.1 _)
    rw [ValueIdx.eq_ix2 i]
    exact e
  hg i := by
    rw [numbers_at B i]
    exact real_of _ ((snd_at A B i).symm.trans (congrFun h.2 i))

end Cert.Pre_finite_inputs

end
-- ==== Proof.Pre2.lean ====
/-
  What the precondition of the gated product's gradient says: the cotangent, the weights and the up projection are real.
-/
module

public import proofs.«01_k».proof.Proof.Pre

@[expose] public section

noncomputable section

namespace Cert.Pre_finite2

open Idealize.ShloMosaic

instance facts : Facts where
  bitsLt_bf16_f32 := by decide
  bcast_S_S2048x2048 := by decide
  bcast_S_S8x704x2048 := by decide
  bcast_S_S8x2048x704 := by decide

variable (A : FVec Ideal S2048x2048 .bf16) (B : FVec Ideal S8x704x2048 .bf16) (C D : FVec Ideal S8x2048x704 .bf16)

/-- The cotangent is real. -/
theorem real_fst (h : (fn A B C D).1 = fun _ => 1#1) (i : S2048x2048.Idx) : ∃ r : ℝ, A i = (r : EReal) :=
  ⟨_, Cert.Pre_finite_inputs.real_of (A i) (congrFun h i)⟩

/-- The weights are real. -/
theorem real_snd (h : (fn A B C D).2.1 = fun _ => 1#1) (i : S8x704x2048.Idx) : ∃ r : ℝ, B i = (r : EReal) :=
  ⟨_, Cert.Pre_finite_inputs.real_of (B i) (congrFun h i)⟩

/-- The up projection is real. -/
theorem real_thd (h : (fn A B C D).2.2 = fun _ => 1#1) (i : S8x2048x704.Idx) : ∃ r : ℝ, D i = (r : EReal) :=
  ⟨_, Cert.Pre_finite_inputs.real_of (D i) (congrFun h i)⟩

end Cert.Pre_finite2

end
-- ==== Proof.DownBwd.lean ====
/-
  The gradient of the gated product, from the cotangent of the down projection: block by block.
-/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Idealize.ShloMosaic.Pipeline
open Cert.Kernel2Ideal.Gen Cert.Reference2Ideal.Read

variable (m : (ℓ : Loc nD τ sig) → Buf (Elt Ideal) ℓ)

/-- Where the blocks of a grid point lie. -/
theorem idx : ∀ t : Fin cfg0.N, win0_0.index t = ![t.val / 8, 0] ∧ win0_1.index t = ![t.val % 8, 0, 0] ∧ win0_2.index t = ![t.val % 8, t.val / 8, 0]
    ∧ win0_3.index t = ![t.val % 8, t.val / 8, 0] ∧ win0_4.index t = ![t.val % 8, t.val / 8, 0] ∧ win0_5.index t = ![t.val % 8, t.val / 8, 0] :=
  (by decide +kernel : ∀ t : Fin grid0.N, _)

/-- The row that an entry of the joined array has in the product. -/
theorem at_row (i : Cert.Reference2Ideal.S8x2048x704.Idx) : (idx_main_v16 (idx_main_v17 i) 0).val = (i 1).val := by
  have h0 : (i 0).val < 8 := (i 0).isLt
  have h2 : (i 2).val < 704 := (i 2).isLt
  show (((i 1).val * 8 + (i 0).val) * 704 + (i 2).val) / 5632 = (i 1).val
  omega

/-- The column that it has. -/
theorem at_col (i : Cert.Reference2Ideal.S8x2048x704.Idx) : (idx_main_v16 (idx_main_v17 i) 1).val = (i 0).val * 704 + (i 2).val := by
  have h0 : (i 0).val < 8 := (i 0).isLt
  have h2 : (i 2).val < 704 := (i 2).isLt
  show (((i 1).val * 8 + (i 0).val) * 704 + (i 2).val) % 5632 = (i 0).val * 704 + (i 2).val
  omega

/-- Half a block of the product, rows from `o` on. -/
theorem prod (c : Dev nD) (t : Fin cfg0.N) (o : ℕ) (h : ∀ a, ![o, 0] a + ![512, 2048] a ≤ S1024x2048.size a) (p : S512x704.Idx) (q : Cert.Reference2Ideal.S2048x5632.Idx)
    (h0 : (q 0).val = t.val / 8 * 1024 + (o + (p 0).val)) (h1 : (q 1).val = t.val % 8 * 704 + (p 1).val) :
    k0_pay2 (F := Ideal) (View.ld (iblk m c 0 t) (Rect.unit ![o, 0] ![512, 2048] h)) (iblk m c 1 t) p = val_main_v12 (F := Ideal) (m ((c : Thread nD τ).loc main_arg0)) (m ((c : Thread nD τ).loc main_arg1)) q := by
  obtain ⟨e0, e1, -⟩ := idx t
  rw [val_main_v12_apply]
  simp only [val_main_v11_apply, val_main_v1_apply, val_main_v0_apply]
  pointwise [k0_pay2]
  refine Fin.sum_fin_congr fun k => congrArg₂ (fun a b : EReal => a * b) ?_ ?_ <;>
  blk_point [iblk, V, e0, e1, h0, h1, idx_main_v1, lidx_main_v12, ridx_main_v12]

/-- The second half, as the call names it. -/
theorem prod_low (c : Dev nD) (t : Fin cfg0.N) (p : S512x704.Idx) (q : Cert.Reference2Ideal.S2048x5632.Idx)
    (h0 : (q 0).val = t.val / 8 * 1024 + (512 + (p 0).val)) (h1 : (q 1).val = t.val % 8 * 704 + (p 1).val) :
    k0_pay14 (F := Ideal) (iblk m c 0 t) (iblk m c 1 t) (iblk m c 2 t) (iblk m c 3 t) p = val_main_v12 (F := Ideal) (m ((c : Thread nD τ).loc main_arg0)) (m ((c : Thread nD τ).loc main_arg1)) q := by
  unfold k0_pay14
  frame_out
  exact prod m c t 512 _ p q h0 h1

/-- A block of the gate holds the gate's own entries. -/
theorem gate_at (c : Dev nD) (t : Fin cfg0.N) (p : S1x1024x704.Idx) (q : Cert.Reference2Ideal.S2048x5632.Idx)
    (h0 : (q 0).val = t.val / 8 * 1024 + (p 1).val) (h1 : (q 1).val = t.val % 8 * 704 + (p 2).val) :
    iblk m c 2 t p = m ((c : Thread nD τ).loc main_arg2) (idx_main_v3 (idx_main_v4 q)) := by
  obtain ⟨-, -, e2, -⟩ := idx t
  blk_point [iblk, V, e2, h0, h1, idx_main_v3, idx_main_v4]

/-- A block of the up projection holds its own entries. -/
theorem up_at (c : Dev nD) (t : Fin cfg0.N) (p : S1x1024x704.Idx) (q : Cert.Reference2Ideal.S2048x5632.Idx)
    (h0 : (q 0).val = t.val / 8 * 1024 + (p 1).val) (h1 : (q 1).val = t.val % 8 * 704 + (p 2).val) :
    iblk m c 3 t p = m ((c : Thread nD τ).loc main_arg3) (idx_main_v6 (idx_main_v7 q)) := by
  obtain ⟨-, -, -, e3, -⟩ := idx t
  blk_point [iblk, V, e3, h0, h1, idx_main_v6, idx_main_v7]

/-- A sum of real numbers is one. -/
theorem sum_real {n : ℕ} (f : Fin n → EReal) (h : ∀ i, ∃ r : ℝ, f i = r) : ∃ r : ℝ, ∑ i, f i = r := by
  choose g e using h
  exact ⟨∑ i, g i, (Finset.sum_congr rfl fun i _ => e i).trans (map_sum (⟨⟨fun r : ℝ => (r : EReal), EReal.coe_zero⟩, EReal.coe_add⟩ : ℝ →+ EReal) g Finset.univ).symm⟩

/-- The product of real arrays is real. -/
theorem prod_real (A : (⟨S2048x2048, .bf16⟩ : BufTy).Contents (Elt Ideal)) (B : (⟨S8x704x2048, .bf16⟩ : BufTy).Contents (Elt Ideal))
    (hA : ∀ i, ∃ r : ℝ, A i = (r : EReal)) (hB : ∀ i, ∃ r : ℝ, B i = (r : EReal)) (q : Cert.Reference2Ideal.S2048x5632.Idx) :
    ∃ r : ℝ, val_main_v12 (F := Ideal) A B q = (r : EReal) := by
  rw [val_main_v12_apply]
  simp only [val_main_v11_apply, val_main_v1_apply, val_main_v0_apply]
  refine sum_real _ fun k => ?_
  obtain ⟨a, ha⟩ := hA (lidx_main_v12 q k)
  obtain ⟨b, hb⟩ := hB (idx_main_v1 (ridx_main_v12 q k))
  exact ⟨a * b, (congrArg₂ (fun a b : EReal => a * b) ha hb).trans (EReal.coe_mul a b).symm⟩

/-- The kernel's way of writing the gate's gradient is the reference's. -/
theorem gate_grad (t u : ℝ) (g : EReal) :
    (t : EReal) * (u : EReal) * Ideal.div 1 (1 + Ideal.exp (0 - g)) * (1 + g * (1 - Ideal.div 1 (1 + Ideal.exp (0 - g))))
      = (t : EReal) * (u : EReal) * Ideal.div 1 (1 + Ideal.exp (-g)) + g * ((t : EReal) * (u : EReal)) * (Ideal.div 1 (1 + Ideal.exp (-g)) * (1 - Ideal.div 1 (1 + Ideal.exp (-g)))) := by
  rw [zero_sub]
  induction g using EReal.rec with
  | bot =>
    have e : Ideal.div 1 (1 + Ideal.exp (-⊥)) = 0 := by
      rw [EReal.neg_bot]
      show Ideal.div 1 (1 + (⊤ : EReal)) = 0
      rw [EReal.add_top_of_ne_bot (by decide)]
      simp [Ideal.div]
    rw [e]; simp
  | top =>
    have e : Ideal.div 1 (1 + Ideal.exp (-⊤)) = 1 := by
      rw [EReal.neg_top]
      show Ideal.div 1 (1 + (0 : EReal)) = 1
      rw [add_zero, Ideal.div, if_neg one_ne_zero, one_mul, ← EReal.coe_one, ← EReal.coe_inv, inv_one]
    have z : (1 : EReal) - 1 = 0 := by rw [← EReal.coe_one, ← EReal.coe_sub, sub_self, EReal.coe_zero]
    rw [e, z]; simp
  | coe r =>
    have p : 1 + Real.exp (-r) ≠ 0 := by positivity
    have e : Ideal.div 1 (1 + Ideal.exp (-(r : EReal))) = (((1 + Real.exp (-r))⁻¹ : ℝ) : EReal) := by
      rw [← EReal.coe_neg]
      show Ideal.div ((1 : ℝ) : EReal) (((1 : ℝ) : EReal) + ((Real.exp (-r) : ℝ) : EReal)) = _
      rw [← EReal.coe_add, Ideal.div, if_neg (by exact_mod_cast p), ← EReal.coe_inv, ← EReal.coe_mul, one_mul]
    rw [e]
    generalize (1 + Real.exp (-r))⁻¹ = s
    norm_cast
    ring

/-- The gate's gradient from entries that are the reference's. -/
theorem gate_eq (T T' U U' G G' : EReal) (hT : T = T') (hU : U = U') (hG : G = G') (t : ∃ r : ℝ, T' = r) (u : ∃ r : ℝ, U' = r) :
    T * U * Ideal.div 1 (1 + Ideal.exp (0 - G)) * (1 + G * (1 - Ideal.div 1 (1 + Ideal.exp (0 - G))))
      = T' * U' * Ideal.div 1 (1 + Ideal.exp (-G')) + G' * (T' * U') * (Ideal.div 1 (1 + Ideal.exp (-G')) * (1 - Ideal.div 1 (1 + Ideal.exp (-G')))) := by
  obtain ⟨t, rfl⟩ := t
  obtain ⟨u, rfl⟩ := u
  rw [hT, hU, hG]
  exact gate_grad t u G'

/-- The array of the gate's gradient. -/
theorem dgate (c : Dev nD) (hd : ∀ i, ∃ r : ℝ, (m ((c : Thread nD τ).loc main_arg0) : (⟨S2048x2048, .bf16⟩ : BufTy).Contents (Elt Ideal)) i = (r : EReal))
    (hw : ∀ i, ∃ r : ℝ, (m ((c : Thread nD τ).loc main_arg1) : (⟨S8x704x2048, .bf16⟩ : BufTy).Contents (Elt Ideal)) i = (r : EReal))
    (hu : ∀ i, ∃ r : ℝ, (m ((c : Thread nD τ).loc main_arg3) : (⟨S8x2048x704, .bf16⟩ : BufTy).Contents (Elt Ideal)) i = (r : EReal)) :
    (dats m 0 c).arrAt 4 cfg0.N = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨e0, e1, e2, e3, e4, e5⟩ := idx t
  blk_simp
  rw [after0_4, val_main_v18_apply, val_main_v17_apply, val_main_v16_apply]
  simp only [val_main_v15_apply, val_main_call1_v2_apply, val_main_call1_v1_apply, val_main_call1_v0_apply, val_main_v14_apply, val_main_v8_1_apply, val_main_call0_v7_apply, val_main_call0_v6_apply, val_main_call0_cst_1_apply, val_main_v8_2_apply, val_main_call0_v4_apply, val_main_call0_v3_apply, val_main_call0_v2_apply, val_main_call0_v1_apply, val_main_call0_v0_apply, val_main_call0_cst_apply, val_main_call0_cst_0_apply, val_main_v7_apply, val_main_v6_apply, val_main_v5_apply, val_main_v4_apply, val_main_v3_apply, val_main_v2_apply]
  have hr := at_row (((View.whole main_v0_0).slice (win0_4.rect t)).emb y)
  have hc := at_col (((View.whole main_v0_0).slice (win0_4.rect t)).emb y)
  blk_simp [e4] at hr hc
  have ht := prod_real _ _ hd hw (idx_main_v16 (idx_main_v17 (((View.whole main_v0_0).slice (win0_4.rect t)).emb y)))
  have hv := hu (idx_main_v6 (idx_main_v7 (idx_main_v16 (idx_main_v17 (((View.whole main_v0_0).slice (win0_4.rect t)).emb y)))))
  frame_out
  canon_tiles x h
  · pointwise [k0_pay1, k0_pay13, k0_pay10, k0_pay11]
    refine gate_eq _ _ _ _ _ _ (prod_low m c t _ _ ?_ ?_) (up_at m c t _ _ ?_ ?_) (gate_at m c t _ _ ?_ ?_) ht hv <;> [refine hr.trans ?_; refine hc.trans ?_; refine hr.trans ?_; refine hc.trans ?_; refine hr.trans ?_; refine hc.trans ?_] <;> (blk_simp; try dsimp only; try omega)
  · pointwise [k0_pay9, k0_pay7, k0_pay8, k0_pay5, k0_pay4]
    refine gate_eq _ _ _ _ _ _ (prod m c t 0 _ _ _ ?_ ?_) (up_at m c t _ _ ?_ ?_) (gate_at m c t _ _ ?_ ?_) ht hv <;> [refine hr.trans ?_; refine hc.trans ?_; refine hr.trans ?_; refine hc.trans ?_; refine hr.trans ?_; refine hc.trans ?_] <;> (blk_simp; try dsimp only; try omega)

/-- The up projection's gradient from entries that are the reference's. -/
theorem up_eq (T T' G G' : EReal) (hT : T = T') (hG : G = G') :
    T * G * Ideal.div 1 (1 + Ideal.exp (0 - G)) = G' * Ideal.div 1 (1 + Ideal.exp (-G')) * T' := by
  rw [hT, hG, zero_sub, mul_assoc, mul_comm]

/-- The array of the up projection's gradient. -/
theorem dup (c : Dev nD) : (dats m 0 c).arrAt 5 cfg0.N = val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5⟩ := idx t
  blk_simp
  rw [after0_5, val_main_v21_apply, val_main_v20_apply, val_main_v19_apply]
  simp only [val_main_v13_apply, val_main_v8_0_apply, val_main_v8_2_apply, val_main_call0_v4_apply, val_main_call0_v3_apply, val_main_call0_v2_apply, val_main_call0_v1_apply, val_main_call0_v0_apply, val_main_call0_cst_apply, val_main_call0_cst_0_apply, val_main_v4_apply, val_main_v3_apply, val_main_v2_apply]
  have hr := at_row (((View.whole main_v0_1).slice (win0_5.rect t)).emb y)
  have hc := at_col (((View.whole main_v0_1).slice (win0_5.rect t)).emb y)
  blk_simp [e5] at hr hc
  frame_out
  canon_tiles x h
  · pointwise [k0_pay12, k0_pay10, k0_pay11]
    refine up_eq _ _ _ _ (prod_low m c t _ _ ?_ ?_) (gate_at m c t _ _ ?_ ?_) <;> [refine hr.trans ?_; refine hc.trans ?_; refine hr.trans ?_; refine hc.trans ?_] <;> (blk_simp; try dsimp only; try omega)
  · pointwise [k0_pay6, k0_pay5, k0_pay4]
    refine up_eq _ _ _ _ (prod m c t 0 _ _ _ ?_ ?_) (gate_at m c t _ _ ?_ ?_) <;> [refine hr.trans ?_; refine hc.trans ?_; refine hr.trans ?_; refine hc.trans ?_] <;> (blk_simp; try dsimp only; try omega)

end Cert.Kernel2Ideal.Ffn

end
-- ==== Proof.Du.lean ====
/-
  The gradient of the feed-forward part's input: two products over the hidden columns, block by block of them.
-/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Kernel3Ideal.Ffn

open Idealize.ShloMosaic Idealize.ShloMosaic.TcCoe Idealize.SL.Sem
open Idealize.ShloMosaic.Pipeline
open Cert.Kernel3Ideal.Gen Cert.Reference3Ideal.Read

variable (m : (ℓ : Loc nD τ sig) → Buf (Elt Ideal) ℓ)

/-- Where the blocks of a grid point lie. -/
theorem idx : ∀ t : Fin cfg0.N, win0_0.index t = ![t.val % 8, t.val / 8, 0] ∧ win0_1.index t = ![t.val % 8, 0, 0] ∧ win0_2.index t = ![t.val % 8, t.val / 8, 0] ∧ win0_3.index t = ![t.val % 8, 0, 0] ∧ win0_4.index t = ![t.val / 8, 0] :=
  (by decide +kernel : ∀ t : Fin grid0.N, _)

/-- Where the blocks of a row's points lie. -/
theorem run_idx (t : Fin cfg0.N) (h : t.val % 8 = 8 - 1) (s : Fin 8) :
    win0_0.index ⟨8 * (t.val / 8) + s.val, run_point_lt_of_flush t h s⟩ = ![s.val, t.val / 8, 0] ∧ win0_1.index ⟨8 * (t.val / 8) + s.val, run_point_lt_of_flush t h s⟩ = ![s.val, 0, 0]
    ∧ win0_2.index ⟨8 * (t.val / 8) + s.val, run_point_lt_of_flush t h s⟩ = ![s.val, t.val / 8, 0] ∧ win0_3.index ⟨8 * (t.val / 8) + s.val, run_point_lt_of_flush t h s⟩ = ![s.val, 0, 0] := by
  obtain ⟨e0, e1, e2, e3, -⟩ := idx ⟨8 * (t.val / 8) + s.val, run_point_lt_of_flush t h s⟩
  rw [e0, e1, e2, e3]
  have a : (8 * (t.val / 8) + s.val) % 8 = s.val := by omega
  have b : (8 * (t.val / 8) + s.val) / 8 = t.val / 8 := by omega
  dsimp only
  rw [a, b]
  exact ⟨rfl, rfl, rfl, rfl⟩

/-- A block's two products at an index. -/
theorem part (x : Vec Ideal S1x1024x704 .bf16) (w : Vec Ideal S1x2048x704 .bf16) (x' : Vec Ideal S1x1024x704 .bf16) (w' : Vec Ideal S1x2048x704 .bf16) (i : S1024x2048.Idx) :
    k0_pay1 (F := Ideal) x w x' w' i = ∑ k : Fin 704, x (ix3 0 (i 0) k) * w (ix3 0 (i 1) k) + ∑ k : Fin 704, x' (ix3 0 (i 0) k) * w' (ix3 0 (i 1) k) := by
  pointwise [k0_pay1]

/-- After a row of blocks the accumulator has the products of all of them. -/
theorem total (c : Dev nD) (t : Fin cfg0.N) (h : t.val % 8 = 8 - 1) (i : S1024x2048.Idx) :
    (outsAt0 m c t.val t.isLt).2 i = ∑ s : Fin 8, k0_pay1 (F := Ideal) (iblk m c 0 ⟨8 * (t.val / 8) + s.val, run_point_lt_of_flush t h s⟩) (iblk m c 1 ⟨8 * (t.val / 8) + s.val, run_point_lt_of_flush t h s⟩) (iblk m c 2 ⟨8 * (t.val / 8) + s.val, run_point_lt_of_flush t h s⟩) (iblk m c 3 ⟨8 * (t.val / 8) + s.val, run_point_lt_of_flush t h s⟩) i := by
  rw [eq_sum_fin_of_reset_step_apply_of_flush (fun n h => (outsAt0 m c n h).2) 8 (fun _ => (0 : EReal)) (fun t => k0_pay1 (F := Ideal) (iblk m c 0 t) (iblk m c 1 t) (iblk m c 2 t) (iblk m c 3 t)) ?_ ?_ t h i]
  · exact zero_add _
  · intro t h i
    rw [outsAt0_A m c t h (by omega) (by omega)]
    frame_out
    pointwise [k0_pay2]
  · intro t h i
    by_cases h7 : t.val % 8 = 7
    · rw [outsAt0_C m c t h (by omega) h7]
      frame_out
      pointwise [k0_pay3]
      rw [(Memref.isWhole_whole _).read_unread]
    · rw [outsAt0_B m c t h (by omega) h7]
      frame_out
      pointwise [k0_pay3]
      rw [(Memref.isWhole_whole _).read_unread]

/-- The array that the call leaves is the reference's. -/
theorem final (c : Dev nD) : (dats m 0 c).arrAt 4 cfg0.N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 8 = 7 := (flush0_4 t).mp hf
  have same : (outsAt0 m c t.val t.isLt).1 = (outsAt0 m c t.val t.isLt).2 := by
    rw [outsAt0_C m c t (by omega) (by omega) h]
    frame_out
  have e := (idx t).2.2.2.2
  blk_simp
  rw [after0_4, same, total m c t h]
  simp only [part]
  rw [val_main_v17_apply, val_main_v16_apply, val_main_v15_apply]
  simp only [val_main_v14_apply, val_main_v13_apply, val_main_v12_apply, val_main_v11_apply, val_main_v10_apply, val_main_v9_apply, val_main_v5_apply, val_main_v4_apply, val_main_v3_apply, val_main_v2_apply, val_main_v1_apply, val_main_v0_apply]
  refine (Finset.sum_add_distrib (M := EReal)).trans ((add_comm (_ : EReal) _).trans (congrArg₂ (fun a b : EReal => a + b) ?_ ?_))
  all_goals
    refine Fin.sum_mul_add_congr fun s k hl => ?_
    obtain ⟨f0, f1, f2, f3⟩ := run_idx t h s
    refine congrArg₂ (fun a b : EReal => a * b) ?_ ?_ <;>
    blk_point [iblk, V, f0, f1, f2, f3, e, idx_main_v1, idx_main_v2, idx_main_v4, idx_main_v5, idx_main_v10, idx_main_v11, idx_main_v13, idx_main_v14, lidx_main_v15, ridx_main_v15, lidx_main_v16, ridx_main_v16]

end Cert.Kernel3Ideal.Ffn

end
-- ==== Proof.DwUp.lean ====
/-
  The gradient of an up projection's weights: one product per block.
-/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Kernel4Ideal.Ffn

open Idealize.ShloMosaic Idealize.ShloMosaic.TcCoe Idealize.SL.Sem
open Idealize.ShloMosaic.Pipeline
open Cert.Kernel4Ideal.Gen Cert.Reference4Ideal.Read

variable (m : (ℓ : Loc nD τ sig) → Buf (Elt Ideal) ℓ)

/-- Where the blocks of a grid point lie. -/
theorem idx : ∀ t : Fin cfg0.N, win0_0.index t = ![t.val % 2, 0] ∧ win0_1.index t = ![t.val / 2, 0, 0] ∧ win0_2.index t = ![t.val / 2, t.val % 2, 0] :=
  (by decide +kernel : ∀ t : Fin grid0.N, _)

/-- The array that the call leaves is the reference's. -/
theorem final (c : Dev nD) : (dats m 0 c).arrAt 2 cfg0.N = val_main_v11 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v11_apply, val_main_v10_apply, val_main_v9_apply, val_main_v8_apply, val_main_v7_apply]
  simp only [val_main_v4_apply, val_main_v3_apply, val_main_v2_apply, val_main_v1_apply, val_main_v0_apply]
  pointwise [k0_pay1]
  refine Fin.sum_fin_congr fun k => Eq.trans (mul_comm (_ : EReal) _) ?_
  blk_point [iblk, V, e0, e1, e2, idx_main_v1, idx_main_v3, idx_main_v4, lidx_main_v7, ridx_main_v7, idx_main_v8, idx_main_v9, idx_main_v10]

end Cert.Kernel4Ideal.Ffn

end
-- ==== Proof.DwDown.lean ====
/-
  The gradient of the down projection's weights: one product per block.
-/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.Ffn

open Idealize.ShloMosaic Idealize.ShloMosaic.TcCoe Idealize.SL.Sem
open Idealize.ShloMosaic.Pipeline
open Cert.Kernel5Ideal.Gen Cert.Reference5Ideal.Read

variable (m : (ℓ : Loc nD τ sig) → Buf (Elt Ideal) ℓ)

/-- Where the blocks of a grid point lie. -/
theorem idx : ∀ t : Fin cfg0.N, win0_0.index t = ![t.val / 2, 0, 0] ∧ win0_1.index t = ![0, t.val % 2] ∧ win0_2.index t = ![t.val / 2, 0, t.val % 2] :=
  (by decide +kernel : ∀ t : Fin grid0.N, _)

/-- The array that the call leaves is the reference's. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v9_apply, val_main_v8_apply, val_main_v7_apply, val_main_v6_apply]
  simp only [val_main_v5_apply, val_main_v2_apply, val_main_v1_apply, val_main_v0_apply]
  pointwise [k0_pay1]
  refine Fin.sum_fin_congr fun k => Eq.trans (mul_comm (_ : EReal) _) ?_
  blk_point [iblk, V, e0, e1, e2, idx_main_v1, idx_main_v2, lidx_main_v6, ridx_main_v6, idx_main_v7, idx_main_v8]

end Cert.Kernel5Ideal.Ffn

end
-- ==== Proof.Up.lean ====
/-
  The gate, the up projection and what they give together, block by block.
-/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Kernel6Ideal.Ffn

open Idealize.ShloMosaic Idealize.ShloMosaic.TcCoe Idealize.SL.Sem
open Idealize.ShloMosaic.Pipeline
open Cert.Kernel6Ideal.Gen Cert.Reference6Ideal.Read

variable (m : (ℓ : Loc nD τ sig) → Buf (Elt Ideal) ℓ)

/-- Where the blocks of a grid point lie. -/
theorem idx : ∀ t : Fin cfg0.N, win0_0.index t = ![t.val / 8, 0] ∧ win0_1.index t = ![t.val % 8, 0, 0] ∧ win0_2.index t = ![t.val % 8, 0, 0]
    ∧ win0_3.index t = ![t.val % 8, t.val / 8, 0] ∧ win0_4.index t = ![t.val % 8, t.val / 8, 0] ∧ win0_5.index t = ![t.val % 8, t.val / 8, 0] ∧ win0_6.index t = ![t.val % 8, 0, t.val / 8] :=
  (by decide +kernel : ∀ t : Fin grid0.N, _)

/-- The row that an entry of the joined array has in the product. -/
theorem at_row (i : Cert.Reference6Ideal.S8x2048x704.Idx) : (idx_main_v14 (idx_main_v15 i) 0).val = (i 1).val := by
  have h0 : (i 0).val < 8 := (i 0).isLt
  have h2 : (i 2).val < 704 := (i 2).isLt
  show (((i 1).val * 8 + (i 0).val) * 704 + (i 2).val) / 5632 = (i 1).val
  omega

/-- The column that it has. -/
theorem at_col (i : Cert.Reference6Ideal.S8x2048x704.Idx) : (idx_main_v14 (idx_main_v15 i) 1).val = (i 0).val * 704 + (i 2).val := by
  have h0 : (i 0).val < 8 := (i 0).isLt
  have h2 : (i 2).val < 704 := (i 2).isLt
  show (((i 1).val * 8 + (i 0).val) * 704 + (i 2).val) % 5632 = (i 0).val * 704 + (i 2).val
  omega

/-- The row of an entry of the array with rows and columns exchanged. -/
theorem at_row_t (i : Cert.Reference6Ideal.S8x704x2048.Idx) : (idx_main_v14 (idx_main_v15 (idx_main_v20 i)) 0).val = (i 2).val := at_row _

/-- Its column. -/
theorem at_col_t (i : Cert.Reference6Ideal.S8x704x2048.Idx) : (idx_main_v14 (idx_main_v15 (idx_main_v20 i)) 1).val = (i 0).val * 704 + (i 1).val := at_col _

/-- Half a block of the gate's product, rows from `o` on. -/
theorem prod_gate (c : Dev nD) (t : Fin cfg0.N) (o : ℕ) (h : ∀ a, ![o, 0] a + ![512, 2048] a ≤ S1024x2048.size a) (p : S512x704.Idx) (q : Cert.Reference6Ideal.S2048x5632.Idx)
    (h0 : (q 0).val = t.val / 8 * 1024 + (o + (p 0).val)) (h1 : (q 1).val = t.val % 8 * 704 + (p 1).val) :
    k0_pay3 (F := Ideal) (View.ld (iblk m c 0 t) (Rect.unit ![o, 0] ![512, 2048] h)) (iblk m c 1 t) p = val_main_v4 (F := Ideal) (m ((c : Thread nD τ).loc main_arg0)) (m ((c : Thread nD τ).loc main_arg1)) q := by
  obtain ⟨e0, e1, e2, -⟩ := idx t
  rw [val_main_v4_apply]
  simp only [val_main_v3_apply, val_main_v2_apply, val_main_v1_apply, val_main_v0_apply]
  pointwise [k0_pay3]
  refine Fin.sum_fin_congr fun k => congrArg₂ (fun a b : EReal => a * b) ?_ ?_ <;>
  blk_point [iblk, V, e0, e1, h0, h1, idx_main_v2, idx_main_v3, lidx_main_v4, ridx_main_v4]

/-- Half a block of the up projection's product, rows from `o` on. -/
theorem prod_up (c : Dev nD) (t : Fin cfg0.N) (o : ℕ) (h : ∀ a, ![o, 0] a + ![512, 2048] a ≤ S1024x2048.size a) (p : S512x704.Idx) (q : Cert.Reference6Ideal.S2048x5632.Idx)
    (h0 : (q 0).val = t.val / 8 * 1024 + (o + (p 0).val)) (h1 : (q 1).val = t.val % 8 * 704 + (p 1).val) :
    k0_pay3 (F := Ideal) (View.ld (iblk m c 0 t) (Rect.unit ![o, 0] ![512, 2048] h)) (iblk m c 2 t) p = val_main_v8 (F := Ideal) (m ((c : Thread nD τ).loc main_arg0)) (m ((c : Thread nD τ).loc main_arg2)) q := by
  obtain ⟨e0, e1, e2, -⟩ := idx t
  rw [val_main_v8_apply]
  simp only [val_main_v7_apply, val_main_v6_apply, val_main_v5_apply, val_main_v0_apply]
  pointwise [k0_pay3]
  refine Fin.sum_fin_congr fun k => congrArg₂ (fun a b : EReal => a * b) ?_ ?_ <;>
  blk_point [iblk, V, e0, e2, h0, h1, idx_main_v6, idx_main_v7, lidx_main_v8, ridx_main_v8]

/-- The array of the gate. -/
theorem gate (c : Dev nD) : (dats m 0 c).arrAt 3 cfg0.N = val_main_v16 (F := Ideal) (m ((c : Thread nD τ).loc main_arg0)) (m ((c : Thread nD τ).loc main_arg1)) := by
  refine (dats m 0 c).arrAt_eq_of_covers 3 _ (by decide +kernel) fun t hf y => ?_
  obtain ⟨e0, e1, e2, e3, e4, e5, e6⟩ := idx t
  blk_simp
  rw [after0_3, val_main_v16_apply, val_main_v15_apply, val_main_v14_apply]
  dsimp only [outsAt0]
  frame_out
  canon_tiles x h
  · pointwise [k0_pay13]
    refine prod_gate m c t 512 _ _ _ ?_ ?_ <;> [refine (at_row _).trans ?_; refine (at_col _).trans ?_] <;> (blk_simp [e3]; try omega)
  · pointwise [k0_pay7]
    refine prod_gate m c t 0 _ _ _ ?_ ?_ <;> [refine (at_row _).trans ?_; refine (at_col _).trans ?_] <;> (blk_simp [e3]; try omega)

/-- The array of the up projection. -/
theorem up (c : Dev nD) : (dats m 0 c).arrAt 4 cfg0.N = val_main_v19 (F := Ideal) (m ((c : Thread nD τ).loc main_arg0)) (m ((c : Thread nD τ).loc main_arg2)) := by
  refine (dats m 0 c).arrAt_eq_of_covers 4 _ (by decide +kernel) fun t hf y => ?_
  obtain ⟨e0, e1, e2, e3, e4, e5, e6⟩ := idx t
  blk_simp
  rw [after0_4, val_main_v19_apply, val_main_v18_apply, val_main_v17_apply]
  dsimp only [outsAt0]
  frame_out
  canon_tiles x h
  · pointwise [k0_pay14]
    refine prod_up m c t 512 _ _ _ ?_ ?_ <;> [refine (at_row _).trans ?_; refine (at_col _).trans ?_] <;> (blk_simp [e4]; try omega)
  · pointwise [k0_pay8]
    refine prod_up m c t 0 _ _ _ ?_ ?_ <;> [refine (at_row _).trans ?_; refine (at_col _).trans ?_] <;> (blk_simp [e4]; try omega)

/-- The kernel's way of writing the gated product is the reference's. -/
theorem silu_mul {a b a' b' : EReal} (ha : a = a') (hb : b = b') :
    a * Ideal.div 1 (1 + Ideal.exp (0 - a)) * b = a' * Ideal.div 1 (1 + Ideal.exp (-a')) * b' := by
  rw [ha, hb, zero_sub]

/-- The array of the product. -/
theorem act (c : Dev nD) : (dats m 0 c).arrAt 5 cfg0.N = val_main_v13 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5, e6⟩ := idx t
  blk_simp
  rw [after0_5, val_main_v13_apply, val_main_v12_apply, val_main_v11_apply, val_main_v10_apply]
  simp only [val_main_v9_apply, val_main_call0_v5_apply, val_main_call0_v4_apply, val_main_call0_v3_apply, val_main_call0_v2_apply, val_main_call0_v1_apply, val_main_call0_v0_apply, val_main_call0_cst_apply, val_main_call0_cst_0_apply]
  dsimp only [outsAt0]
  frame_out
  canon_tiles x h
  · pointwise [k0_pay1, k0_pay15]
    refine silu_mul (prod_gate m c t 512 _ _ _ ?_ ?_) (prod_up m c t 512 _ _ _ ?_ ?_) <;> [refine (at_row _).trans ?_; refine (at_col _).trans ?_; refine (at_row _).trans ?_; refine (at_col _).trans ?_] <;> (blk_simp [e5]; try omega)
  · pointwise [k0_pay11, k0_pay10, k0_pay9]
    refine silu_mul (prod_gate m c t 0 _ _ _ ?_ ?_) (prod_up m c t 0 _ _ _ ?_ ?_) <;> [refine (at_row _).trans ?_; refine (at_col _).trans ?_; refine (at_row _).trans ?_; refine (at_col _).trans ?_] <;> (blk_simp [e5]; try omega)

/-- The same array with rows and columns exchanged. -/
theorem act_t (c : Dev nD) : (dats m 0 c).arrAt 6 cfg0.N = val_main_v20 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e0, e1, e2, e3, e4, e5, e6⟩ := idx t
  blk_simp
  rw [after0_6, val_main_v20_apply, val_main_v13_apply, val_main_v12_apply, val_main_v11_apply, val_main_v10_apply]
  simp only [val_main_v9_apply, val_main_call0_v5_apply, val_main_call0_v4_apply, val_main_call0_v3_apply, val_main_call0_v2_apply, val_main_call0_v1_apply, val_main_call0_v0_apply, val_main_call0_cst_apply, val_main_call0_cst_0_apply]
  dsimp only [outsAt0]
  frame_out
  canon_tiles x h
  · pointwise [k0_pay2, k0_pay15]
    refine silu_mul (prod_gate m c t 512 _ _ _ ?_ ?_) (prod_up m c t 512 _ _ _ ?_ ?_) <;> [refine (at_row_t _).trans ?_; refine (at_col_t _).trans ?_; refine (at_row_t _).trans ?_; refine (at_col_t _).trans ?_] <;> (blk_simp [e6]; try omega)
  · pointwise [k0_pay12, k0_pay10, k0_pay9]
    refine silu_mul (prod_gate m c t 0 _ _ _ ?_ ?_) (prod_up m c t 0 _ _ _ ?_ ?_) <;> [refine (at_row_t _).trans ?_; refine (at_col_t _).trans ?_; refine (at_row_t _).trans ?_; refine (at_col_t _).trans ?_] <;> (blk_simp [e6]; try omega)

end Cert.Kernel6Ideal.Ffn

end
-- ==== Proof.Down.lean ====
/-
  The down projection: the product over the hidden columns, block by block of them.
-/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Kernel7Ideal.Ffn

open Idealize.ShloMosaic Idealize.ShloMosaic.TcCoe Idealize.SL.Sem
open Idealize.ShloMosaic.Pipeline
open Cert.Kernel7Ideal.Gen Cert.Reference7Ideal.Read

variable (m : (ℓ : Loc nD τ sig) → Buf (Elt Ideal) ℓ)

/-- Where the blocks of a grid point lie. -/
theorem idx : ∀ t : Fin cfg0.N, win0_0.index t = ![t.val % 8, t.val / 8, 0] ∧ win0_1.index t = ![t.val % 8, 0, 0] ∧ win0_2.index t = ![t.val / 8, 0] :=
  (by decide +kernel : ∀ t : Fin grid0.N, _)

/-- Where the blocks of a row's points lie. -/
theorem run_idx (t : Fin cfg0.N) (h : t.val % 8 = 8 - 1) (s : Fin 8) :
    win0_0.index ⟨8 * (t.val / 8) + s.val, run_point_lt_of_flush t h s⟩ = ![s.val, t.val / 8, 0] ∧ win0_1.index ⟨8 * (t.val / 8) + s.val, run_point_lt_of_flush t h s⟩ = ![s.val, 0, 0] := by
  obtain ⟨e0, e1, -⟩ := idx ⟨8 * (t.val / 8) + s.val, run_point_lt_of_flush t h s⟩
  rw [e0, e1]
  have a : (8 * (t.val / 8) + s.val) % 8 = s.val := by omega
  have b : (8 * (t.val / 8) + s.val) / 8 = t.val / 8 := by omega
  dsimp only
  rw [a, b]
  exact ⟨rfl, rfl⟩

/-- A block's product at an index. -/
theorem part (x : Vec Ideal S1x1024x704 .bf16) (w : Vec Ideal S1x704x2048 .bf16) (i : S1024x2048.Idx) :
    k0_pay1 (F := Ideal) x w i = ∑ k : Fin 704, x (ix3 0 (i 0) k) * w (ix3 0 k (i 1)) := by
  pointwise [k0_pay1]

/-- After a row of blocks the accumulator has the products of all of them. -/
theorem total (c : Dev nD) (t : Fin cfg0.N) (h : t.val % 8 = 8 - 1) (i : S1024x2048.Idx) :
    (outsAt0 m c t.val t.isLt).2 i = ∑ s : Fin 8, k0_pay1 (F := Ideal) (iblk m c 0 ⟨8 * (t.val / 8) + s.val, run_point_lt_of_flush t h s⟩) (iblk m c 1 ⟨8 * (t.val / 8) + s.val, run_point_lt_of_flush t h s⟩) i := by
  rw [eq_sum_fin_of_reset_step_apply_of_flush (fun n h => (outsAt0 m c n h).2) 8 (fun _ => (0 : EReal)) (fun t => k0_pay1 (F := Ideal) (iblk m c 0 t) (iblk m c 1 t)) ?_ ?_ t h i]
  · exact zero_add _
  · intro t h i
    rw [outsAt0_A m c t h (by omega) (by omega)]
    frame_out
    pointwise [k0_pay2]
  · intro t h i
    by_cases h7 : t.val % 8 = 7
    · rw [outsAt0_C m c t h (by omega) h7]
      frame_out
      pointwise [k0_pay3]
      rw [(Memref.isWhole_whole _).read_unread]
    · rw [outsAt0_B m c t h (by omega) h7]
      frame_out
      pointwise [k0_pay3]
      rw [(Memref.isWhole_whole _).read_unread]

/-- The array that the call leaves is the reference's. -/
theorem final (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  have same : (outsAt0 m c t.val t.isLt).1 = (outsAt0 m c t.val t.isLt).2 := by
    rw [outsAt0_C m c t (by omega) (by omega) h]
    frame_out
  obtain ⟨e0, e1, e2⟩ := idx t
  blk_simp
  rw [after0_2, same, total m c t h, val_main_v5_apply]
  simp only [val_main_v4_apply, val_main_v3_apply, val_main_v2_apply, val_main_v1_apply, val_main_v0_apply, part]
  refine Fin.sum_mul_add_congr fun s k hl => ?_
  obtain ⟨f0, f1⟩ := run_idx t h s
  refine congrArg₂ (fun a b : EReal => a * b) ?_ ?_ <;>
  blk_point [iblk, V, f0, f1, e2, idx_main_v1, idx_main_v2, idx_main_v4, lidx_main_v5, ridx_main_v5]

end Cert.Kernel7Ideal.Ffn

end
-- ==== Proof.MergeBwd.lean ====
/-
  The gradients of the two branches and of the gates, block by block.
-/
module

public import proofs.«01_k».proof.Proof.Gen.Kernel8Ideal.Frame
public import proofs.«01_k».proof.Proof.Gen.Reference8Ideal.Read
public import Idealize.ShloMosaic.Lib.Pipeline.ValueKit

@[expose] public section

set_option maxRecDepth 16384

noncomputable section

namespace Cert.Kernel8Ideal.Mix

open Idealize.ShloMosaic Idealize.ShloMosaic.TcCoe Idealize.SL.Sem
open Idealize.ShloMosaic.Pipeline
open Cert.Kernel8Ideal.Gen Cert.Reference8Ideal.Read

variable (m : (ℓ : Loc nD τ sig) → Buf (Elt Ideal) ℓ)

/-- Where the blocks of a grid point lie. -/
theorem idx : ∀ t : Fin cfg0.N, win0_0.index t = ![t.val / 8, 0] ∧ win0_1.index t = ![t.val % 8, 0] ∧ win0_2.index t = ![t.val / 8, t.val % 8] ∧ win0_3.index t = ![t.val / 8, t.val % 8]
    ∧ win0_4.index t = ![t.val / 8, t.val % 8] ∧ win0_5.index t = ![t.val / 8, t.val % 8] ∧ win0_6.index t = ![t.val / 8, t.val % 8] ∧ win0_7.index t = ![t.val / 8, t.val % 8] :=
  (by decide +kernel : ∀ t : Fin grid0.N, _)

/-- Where a column of one branch's gates lies among the gates. -/
theorem turn (q : Cert.Reference8Ideal.S2048x2048.Idx) :
    (idx_main_v4 q 0).val = (q 0).val ∧ (idx_main_v4 q 1).val = (q 1).val / 256 ∧ (idx_main_v4 q 2).val = (q 1).val % 256 := by
  have h0 : (q 0).val < 2048 := (q 0).isLt
  have h1 : (q 1).val < 2048 := (q 1).isLt
  refine ⟨?_, ?_, ?_⟩
  · show ((q 0).val * 2048 + (q 1).val) / 2048 = (q 0).val
    omega
  · show ((q 0).val * 2048 + (q 1).val) / 256 % 8 = (q 1).val / 256
    omega
  · show ((q 0).val * 2048 + (q 1).val) % 256 = (q 1).val % 256
    omega

/-- The same with an axis of one entry between. -/
theorem turn_one (q : Cert.Reference8Ideal.S2048x8x256.Idx) :
    (idx_main_v3 q 0).val = (q 0).val ∧ (idx_main_v3 q 1).val = (q 1).val ∧ (idx_main_v3 q 2).val = 0 ∧ (idx_main_v3 q 3).val = (q 2).val := by
  have h0 : (q 0).val < 2048 := (q 0).isLt
  have h1 : (q 1).val < 8 := (q 1).isLt
  have h2 : (q 2).val < 256 := (q 2).isLt
  refine ⟨?_, ?_, rfl, ?_⟩
  · show (((q 0).val * 8 + (q 1).val) * 256 + (q 2).val) / 2048 = (q 0).val
    omega
  · show (((q 0).val * 8 + (q 1).val) * 256 + (q 2).val) / 256 % 8 = (q 1).val
    omega
  · show (((q 0).val * 8 + (q 1).val) * 256 + (q 2).val) % 256 = (q 2).val
    omega

/-- A gate's row and column among all the gates. -/
theorem joined (q : Cert.Reference8Ideal.S2048x8x2x256.Idx) :
    (idx_main_v1 q 0).val = (q 0).val ∧ (idx_main_v1 q 1).val = (q 1).val * 512 + (q 2).val * 256 + (q 3).val := by
  have h0 : (q 0).val < 2048 := (q 0).isLt
  have h1 : (q 1).val < 8 := (q 1).isLt
  have h2 : (q 2).val < 2 := (q 2).isLt
  have h3 : (q 3).val < 256 := (q 3).isLt
  constructor
  · show ((((q 0).val * 8 + (q 1).val) * 2 + (q 2).val) * 256 + (q 3).val) / 4096 = (q 0).val
    omega
  · show ((((q 0).val * 8 + (q 1).val) * 2 + (q 2).val) * 256 + (q 3).val) % 4096 = (q 1).val * 512 + (q 2).val * 256 + (q 3).val
    omega

/-- Where an entry of the first branch's gates lies. -/
theorem at_sb (q : Cert.Reference8Ideal.S2048x2048.Idx) :
    (idx_main_v0 (idx_main_v1 (idx_main_v2 (idx_main_v3 (idx_main_v4 q)))) 0).val = (q 0).val
    ∧ (idx_main_v0 (idx_main_v1 (idx_main_v2 (idx_main_v3 (idx_main_v4 q)))) 1).val = (q 1).val / 256 * 512 + (q 1).val % 256 := by
  obtain ⟨a0, a1, a2⟩ := turn q
  obtain ⟨b0, b1, b2, b3⟩ := turn_one (idx_main_v4 q)
  obtain ⟨d0, d1⟩ := joined (idx_main_v2 (idx_main_v3 (idx_main_v4 q)))
  constructor
  · exact d0.trans (b0.trans a0)
  · refine d1.trans ?_
    show (idx_main_v3 (idx_main_v4 q) 1).val * 512 + (idx_main_v3 (idx_main_v4 q) 2).val * 256 + (idx_main_v3 (idx_main_v4 q) 3).val = _
    rw [b1, b2, b3, a1, a2]
    omega

/-- Where an entry of the second branch's gates lies. -/
theorem at_fx (q : Cert.Reference8Ideal.S2048x2048.Idx) :
    (idx_main_v0 (idx_main_v1 (idx_main_v5 (idx_main_v6 (idx_main_v7 q)))) 0).val = (q 0).val
    ∧ (idx_main_v0 (idx_main_v1 (idx_main_v5 (idx_main_v6 (idx_main_v7 q)))) 1).val = (q 1).val / 256 * 512 + 256 + (q 1).val % 256 := by
  obtain ⟨a0, a1, a2⟩ := turn q
  obtain ⟨b0, b1, b2, b3⟩ := turn_one (idx_main_v4 q)
  obtain ⟨d0, d1⟩ := joined (idx_main_v5 (idx_main_v6 (idx_main_v7 q)))
  constructor
  · exact d0.trans (b0.trans a0)
  · refine d1.trans ?_
    show (idx_main_v3 (idx_main_v4 q) 1).val * 512 + (1 + (idx_main_v3 (idx_main_v4 q) 2).val) * 256 + (idx_main_v3 (idx_main_v4 q) 3).val = _
    rw [b1, b2, b3, a1, a2]

/-- A block of the gates at an index. -/
theorem gates_at (c : Dev nD) (t : Fin cfg0.N) (j : S1024x512.Idx) (q : S2048x4608.Idx) (h0 : (q 0).val = t.val / 8 * 1024 + (j 0).val) (h1 : (q 1).val = t.val % 8 * 512 + (j 1).val) :
    iblk m c 2 t j = m ((c : Thread nD τ).loc main_arg2) q := by
  obtain ⟨-, -, e2, -⟩ := idx t
  refine Eq.trans ?_ (congrFun (V_main_arg2 m c) q)
  blk_point [iblk, e2, h0, h1]

section Block

variable (c : Dev nD) (t : Fin cfg0.N) (p : S1024x256.Idx) (q : Cert.Reference8Ideal.S2048x2048.Idx)
  (h0 : (q 0).val = t.val / 8 * 1024 + (p 0).val) (h1 : (q 1).val = t.val % 8 * 256 + (p 1).val)

include h0 h1

/-- The gradient of the gated sum at a block's index. -/
theorem grad_at : k0_pay2 (F := Ideal) (iblk m c 0 t) (iblk m c 1 t) p = val_main_v34 (F := Ideal) (m ((c : Thread nD τ).loc main_arg0)) (m ((c : Thread nD τ).loc main_arg1)) q := by
  obtain ⟨e0, e1, -⟩ := idx t
  rw [val_main_v34_apply]
  simp only [val_main_v33_apply, val_main_v31_apply]
  pointwise [k0_pay2]
  refine Fin.sum_fin_congr fun k => congrArg₂ (fun a b : EReal => a * b) (Eq.trans ?_ (congrFun (V_main_arg0 m c) _)) (Eq.trans ?_ (congrFun (V_main_arg1 m c) _)) <;>
  blk_point [iblk, e0, e1, h0, h1, lidx_main_v34, ridx_main_v34]

/-- The first branch's sigmoid at a block's index. -/
theorem gate_sb : k0_pay4 (F := Ideal) (iblk m c 2 t) p = val_main_v15 (F := Ideal) (m ((c : Thread nD τ).loc main_arg2)) q := by
  have hp : (p 1).val < 256 := (p 1).isLt
  obtain ⟨b0, b1⟩ := at_sb q
  rw [val_main_v15_apply, val_main_v14_apply, val_main_v13_apply, val_main_v12_apply, val_main_v11_apply, val_main_v10_apply, val_main_v4_apply, val_main_v3_apply, val_main_v2_apply, val_main_v1_apply,
    val_main_v0_apply, val_main_cst_apply, val_main_cst_0_apply]
  pointwise [k0_pay4]
  rw [← gates_at m c t (ix2 ⟨(p 0).val, (p 0).isLt⟩ ⟨(p 1).val, by omega⟩) _ (by rw [b0]; exact h0) (by rw [b1]; show _ = t.val % 8 * 512 + (p 1).val; omega), zero_sub]
  rfl

/-- The second branch's sigmoid at a block's index. -/
theorem gate_fx : k0_pay5 (F := Ideal) (iblk m c 2 t) p = val_main_v25 (F := Ideal) (m ((c : Thread nD τ).loc main_arg2)) q := by
  have hp : (p 1).val < 256 := (p 1).isLt
  obtain ⟨b0, b1⟩ := at_fx q
  rw [val_main_v25_apply, val_main_v24_apply, val_main_v23_apply, val_main_v22_apply, val_main_v21_apply, val_main_v20_apply, val_main_v7_apply, val_main_v6_apply, val_main_v5_apply, val_main_v1_apply,
    val_main_v0_apply, val_main_cst_2_apply, val_main_cst_3_apply]
  pointwise [k0_pay5]
  rw [← gates_at m c t (ix2 ⟨(p 0).val, (p 0).isLt⟩ ⟨256 + (p 1).val, by omega⟩) _ (by rw [b0]; exact h0) (by rw [b1]; show _ = t.val % 8 * 512 + (256 + (p 1).val); omega), zero_sub]
  rfl

/-- The first branch's value at a block's index. -/
theorem value_sb : iblk m c 3 t p = m ((c : Thread nD τ).loc main_arg3) q := by
  obtain ⟨-, -, -, e3, e4, -⟩ := idx t
  refine Eq.trans ?_ (congrFun (V_main_arg3 m c) q)
  blk_point [iblk, e3, h0, h1]

/-- The second branch's value at a block's index. -/
theorem value_fx : iblk m c 4 t p = m ((c : Thread nD τ).loc main_arg4) q := by
  obtain ⟨-, -, -, e3, e4, -⟩ := idx t
  refine Eq.trans ?_ (congrFun (V_main_arg4 m c) q)
  blk_point [iblk, e4, h0, h1]

/-- The gradient of the first branch's gate. -/
theorem slope_sb : k0_pay8 (F := Ideal) (iblk m c 0 t) (iblk m c 1 t) (iblk m c 2 t) (iblk m c 3 t) p * (1 - k0_pay4 (F := Ideal) (iblk m c 2 t) p : EReal)
    = val_main_v40 (F := Ideal) (m ((c : Thread nD τ).loc main_arg0)) (m ((c : Thread nD τ).loc main_arg1)) (m ((c : Thread nD τ).loc main_arg2)) (m ((c : Thread nD τ).loc main_arg3)) q := by
  rw [val_main_v40_apply, val_main_v39_apply, val_main_v18_apply, val_main_v17_apply, val_main_v16_apply, val_main_v8_apply, val_main_cst_1_apply,
    ← grad_at m c t p q h0 h1, ← gate_sb m c t p q h0 h1, ← value_sb m c t p q h0 h1]
  pointwise [k0_pay8]
  exact mul_assoc (_ : EReal) _ _

/-- The gradient of the second branch's gate. -/
theorem slope_fx : k0_pay2 (F := Ideal) (iblk m c 0 t) (iblk m c 1 t) p * k0_pay3 (F := Ideal) (iblk m c 4 t) p * k0_pay5 (F := Ideal) (iblk m c 2 t) p * (1 - k0_pay5 (F := Ideal) (iblk m c 2 t) p : EReal)
    = val_main_v37 (F := Ideal) (m ((c : Thread nD τ).loc main_arg0)) (m ((c : Thread nD τ).loc main_arg1)) (m ((c : Thread nD τ).loc main_arg2)) (m ((c : Thread nD τ).loc main_arg4)) q := by
  rw [val_main_v37_apply, val_main_v36_apply, val_main_v28_apply, val_main_v27_apply, val_main_v26_apply, val_main_v9_apply, val_main_cst_4_apply,
    ← grad_at m c t p q h0 h1, ← gate_fx m c t p q h0 h1, ← value_fx m c t p q h0 h1]
  pointwise [k0_pay3]
  exact mul_assoc (_ : EReal) _ _

end Block

/-- The array of the first branch's gradient. -/
theorem branch_sb (c : Dev nD) : (dats m 0 c).arrAt 5 cfg0.N = val_main_v43 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨-, -, -, -, -, e5, e6, e7⟩ := idx t
  blk_simp
  rw [after0_5, val_main_v43_apply, val_main_v38_apply]
  dsimp only [outsAt0]
  frame_out
  pointwise [k0_pay6]
  refine Eq.trans (mul_comm (_ : EReal) _) (congrArg₂ (fun a b : EReal => a * b) (gate_sb m c t _ _ ?_ ?_) (grad_at m c t _ _ ?_ ?_)) <;> blk_simp [e5]

/-- The array of the second branch's gradient. -/
theorem branch_fx (c : Dev nD) : (dats m 0 c).arrAt 6 cfg0.N = val_main_v44 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨-, -, -, -, -, e5, e6, e7⟩ := idx t
  blk_simp
  rw [after0_6, val_main_v44_apply, val_main_v35_apply]
  dsimp only [outsAt0]
  frame_out
  pointwise [k0_pay7]
  refine Eq.trans (mul_comm (_ : EReal) _) (congrArg₂ (fun a b : EReal => a * b) (gate_fx m c t _ _ ?_ ?_) (grad_at m c t _ _ ?_ ?_)) <;> blk_simp [e6]

/-- Where an entry of the gates' gradient lies among both branches' gradients. -/
theorem apart (q : Cert.Reference8Ideal.S2048x4096.Idx) :
    (idx_main_v48 q 0).val = (q 0).val ∧ (idx_main_v48 q 1).val = (q 1).val / 512 ∧ (idx_main_v48 q 2).val = (q 1).val / 256 % 2 ∧ (idx_main_v48 q 3).val = (q 1).val % 256 := by
  have h0 : (q 0).val < 2048 := (q 0).isLt
  have h1 : (q 1).val < 4096 := (q 1).isLt
  refine ⟨?_, ?_, ?_, ?_⟩
  · show ((q 0).val * 4096 + (q 1).val) / 4096 = (q 0).val
    omega
  · show ((q 0).val * 4096 + (q 1).val) / 512 % 8 = (q 1).val / 512
    omega
  · show ((q 0).val * 4096 + (q 1).val) / 256 % 2 = (q 1).val / 256 % 2
    omega
  · show ((q 0).val * 4096 + (q 1).val) % 256 = (q 1).val % 256
    omega

/-- Where an entry of one branch's gradient lies. -/
theorem back (q : Cert.Reference8Ideal.S2048x8x256.Idx) : (idx_main_v41 q 0).val = (q 0).val ∧ (idx_main_v41 q 1).val = (q 1).val * 256 + (q 2).val := by
  have h0 : (q 0).val < 2048 := (q 0).isLt
  have h1 : (q 1).val < 8 := (q 1).isLt
  have h2 : (q 2).val < 256 := (q 2).isLt
  constructor
  · show (((q 0).val * 8 + (q 1).val) * 256 + (q 2).val) / 2048 = (q 0).val
    omega
  · show (((q 0).val * 8 + (q 1).val) * 256 + (q 2).val) % 2048 = (q 1).val * 256 + (q 2).val
    omega

section Gates

variable (x0 x1 x3 x4 : FVec Ideal Cert.Reference8Ideal.S2048x2048 .bf16) (x2 : FVec Ideal Cert.Reference8Ideal.S2048x4608 .f32)
  (q : Cert.Reference8Ideal.S2048x4096.Idx) (p : Cert.Reference8Ideal.S2048x2048.Idx) (h0 : (p 0).val = (q 0).val) (h1 : (p 1).val = (q 1).val / 512 * 256 + (q 1).val % 256)

include h0 h1

/-- The gates' gradient in the first half of a block of columns. -/
theorem gates_left (h : (q 1).val / 256 % 2 = 0) : val_main_v49 (F := Ideal) x0 x1 x2 x3 x4 q = val_main_v40 (F := Ideal) x0 x1 x2 x3 p := by
  obtain ⟨a0, a1, a2, a3⟩ := apart q
  rw [val_main_v49_apply, val_main_v48_apply]
  have e : val_main_v47 (F := Ideal) x0 x1 x2 x3 x4 (idx_main_v48 q) = val_main_v45 (F := Ideal) x0 x1 x2 x3 (ix4 (idx_main_v48 q 0) (idx_main_v48 q 1) (0 : Fin 1) (idx_main_v48 q 3)) := by
    unfold val_main_v47
    refine concatenate_pair_apply_left (s₁ := Cert.Reference8Ideal.S2048x8x1x256) (s₂ := Cert.Reference8Ideal.S2048x8x1x256) (2 : Fin Cert.Reference8Ideal.S2048x8x2x256.rank) _ _ _ (idx_main_v48 q) rfl _ fun a => ?_
    · match a with
      | ⟨0, _⟩ => rfl
      | ⟨1, _⟩ => rfl
      | ⟨2, _⟩ => exact (a2.trans h).symm
      | ⟨3, _⟩ => rfl
  refine (congrArg (FloatOps.truncf (F := Ideal) .bf16 _) e).trans ?_
  · rw [val_main_v45_apply, val_main_v41_apply]
    refine congrArg (val_main_v40 (F := Ideal) x0 x1 x2 x3) (funext fun a => Fin.ext ?_)
    match a with
    | ⟨0, _⟩ => exact ((back _).1.trans a0).trans h0.symm
    | ⟨1, _⟩ => exact ((back _).2.trans (by show (idx_main_v48 q 1).val * 256 + (idx_main_v48 q 3).val = _; rw [a1, a3])).trans h1.symm

/-- The gates' gradient in the second half of a block of columns. -/
theorem gates_right (h : (q 1).val / 256 % 2 = 1) : val_main_v49 (F := Ideal) x0 x1 x2 x3 x4 q = val_main_v37 (F := Ideal) x0 x1 x2 x4 p := by
  obtain ⟨a0, a1, a2, a3⟩ := apart q
  rw [val_main_v49_apply, val_main_v48_apply]
  have e : val_main_v47 (F := Ideal) x0 x1 x2 x3 x4 (idx_main_v48 q) = val_main_v46 (F := Ideal) x0 x1 x2 x4 (ix4 (idx_main_v48 q 0) (idx_main_v48 q 1) (0 : Fin 1) (idx_main_v48 q 3)) := by
    unfold val_main_v47
    refine concatenate_pair_apply_right (s₁ := Cert.Reference8Ideal.S2048x8x1x256) (s₂ := Cert.Reference8Ideal.S2048x8x1x256) (2 : Fin Cert.Reference8Ideal.S2048x8x2x256.rank) _ _ _ (idx_main_v48 q) rfl rfl _ (fun a ha => ?_) ?_
    · match a with
      | ⟨0, _⟩ => rfl
      | ⟨1, _⟩ => rfl
      | ⟨2, _⟩ => exact absurd rfl ha
      | ⟨3, _⟩ => rfl
    · exact (a2.trans h).symm
  refine (congrArg (FloatOps.truncf (F := Ideal) .bf16 _) e).trans ?_
  · rw [val_main_v46_apply, val_main_v42_apply]
    refine congrArg (val_main_v37 (F := Ideal) x0 x1 x2 x4) (funext fun a => Fin.ext ?_)
    match a with
    | ⟨0, _⟩ => exact ((back _).1.trans a0).trans h0.symm
    | ⟨1, _⟩ => exact ((back _).2.trans (by show (idx_main_v48 q 1).val * 256 + (idx_main_v48 q 3).val = _; rw [a1, a3])).trans h1.symm

end Gates

/-- The gradient of the gates, on as many columns as the gates' array has. -/
def wide (c : Dev nD) : FVec Ideal S2048x4608 .bf16 := fun i =>
  val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (ix2 ⟨(i 0).val, (i 0).isLt⟩ ⟨(i 1).val % 4096, Nat.mod_lt _ (by decide)⟩)

/-- A block of the gates' gradient. -/
theorem gates_block (c : Dev nD) (t : Fin cfg0.N) (y : S1024x512.Idx) (i : S2048x4608.Idx) (h0 : (i 0).val = t.val / 8 * 1024 + (y 0).val) (h1 : (i 1).val = t.val % 8 * 512 + (y 1).val) :
    k0_pay1 (F := Ideal) (k0_pay2 (iblk m c 0 t) (iblk m c 1 t)) (k0_pay3 (iblk m c 4 t)) (k0_pay4 (iblk m c 2 t)) (k0_pay5 (iblk m c 2 t)) (k0_pay8 (iblk m c 0 t) (iblk m c 1 t) (iblk m c 2 t) (iblk m c 3 t)) k0_pay9 y
      = wide m c i := by
  have ht : t.val < 16 := t.isLt
  have i0 : (i 0).val < 2048 := (i 0).isLt
  have y0 : (y 0).val < 1024 := (y 0).isLt
  have y1 : (y 1).val < 512 := (y 1).isLt
  unfold wide
  by_cases h : (y 1).val < 256
  · rw [gates_left _ _ _ _ _ _ (ix2 ⟨(i 0).val, i0⟩ ⟨t.val % 8 * 256 + (y 1).val, by omega⟩) rfl (by show t.val % 8 * 256 + (y 1).val = (i 1).val % 4096 / 512 * 256 + (i 1).val % 4096 % 256; omega) (by show (i 1).val % 4096 / 256 % 2 = 0; omega)]
    rw [← slope_sb m c t (ix2 ⟨(y 0).val, y0⟩ ⟨(y 1).val, h⟩) _ h0 rfl]
    pointwise [k0_pay1, k0_pay9]
    rw [dif_pos h]
  · rw [gates_right _ _ _ _ _ _ (ix2 ⟨(i 0).val, i0⟩ ⟨t.val % 8 * 256 + ((y 1).val - 256), by omega⟩) rfl (by show t.val % 8 * 256 + ((y 1).val - 256) = (i 1).val % 4096 / 512 * 256 + (i 1).val % 4096 % 256; omega) (by show (i 1).val % 4096 / 256 % 2 = 1; omega)]
    rw [← slope_fx m c t (ix2 ⟨(y 0).val, y0⟩ ⟨(y 1).val - 256, by omega⟩) _ h0 rfl]
    pointwise [k0_pay1, k0_pay9]
    rw [dif_neg h]

/-- The gates' gradient where the call writes it. -/
theorem gates (c : Dev nD) : (dats m 0 c).arrAt 7 cfg0.N = fun i => if (i (1 : Fin 2)).val / 512 < 8 then wide m c i else (dats m 0 c).A 7 i := by
  refine (dats m 0 c).arrAt_eq_of_coversWhere 7 (wide m c) (fun β => β (1 : Fin _) < 8) (by decide +kernel) (fun t hf y => ?_) (fun j => Iff.rfl)
  obtain ⟨-, -, -, -, -, e5, e6, e7⟩ := idx t
  blk_simp
  rw [after0_7]
  dsimp only [outsAt0]
  frame_out
  refine gates_block m c t _ _ ?_ ?_ <;> blk_simp [e7]

/-- The program's third result at the end. -/
theorem result (s : MemSt nD τ sig (Elt Ideal)) (c : Dev nD)
    (h : ∀ b ∈ restRefs sig (cfgs 0).spec, s.mem ((c.tc : Thread nD τ).loc b) = afterTail₀ cfgs (dats m) 0 (V0 m) [hostOps1] c b) :
    s.mem ((c.tc : Thread nD τ).loc main_v2) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [h main_v2 (mem_restRefs_of main_v2 rfl (by decide))]
  unfold afterTail₀
  have hw : withArrays (cfgs 0).spec c (V0 m c) (fun w => (dats m 0 c).arrAt w (cfgs 0).N) (Proc.devRef .tc main_v1_2) = (dats m 0 c).arrAt 7 cfg0.N :=
    withArrays_arr (cfgs 0).spec (by decide) c (V0 m c) (fun w => (dats m 0 c).arrAt w (cfgs 0).N) 7
  have e : StableHlo.after [hostOps1].flatten (withArrays (cfgs 0).spec c (V0 m c) fun w => (dats m 0 c).arrAt w (cfgs 0).N) (Proc.devRef .tc main_v2)
      = extractStridedSlice S2048x4096 ![0, 0] (withArrays (cfgs 0).spec c (V0 m c) (fun w => (dats m 0 c).arrAt w (cfgs 0).N) (Proc.devRef .tc main_v1_2)) slices_S2048x4608_S2048x4096_0_0 := by
    show StableHlo.after [_] _ _ = _
    rw [StableHlo.after_cons, StableHlo.after_nil, StableHlo.unary_result']
  rw [e, hw, gates m c]
  funext i
  have h1 : (i 1).val < 4096 := (i 1).isLt
  refine (extractStridedSlice_apply ![0, 0] _ slices_S2048x4608_S2048x4096_0_0 i (ix2 ⟨(i 0).val, (i 0).isLt⟩ ⟨(i 1).val, by omega⟩) fun a => ?_).trans ?_
  · match a with
    | ⟨0, _⟩ => exact (Nat.zero_add _).symm
    | ⟨1, _⟩ => exact (Nat.zero_add _).symm
  · show (if (i 1).val / 512 < 8 then _ else _) = _
    rw [if_pos (by omega)]
    unfold wide
    refine congrArg _ (funext fun a => Fin.ext ?_)
    match a with
    | ⟨0, _⟩ => rfl
    | ⟨1, _⟩ => exact Nat.mod_eq_of_lt h1

end Cert.Kernel8Ideal.Mix

end
-- ==== Proof.DwProj.lean ====
/-
  The gradients of the projections' weights: one product per block, over all the rows.
-/
module

public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline

/-! ## The weights of queries, keys and values -/

namespace Cert.Kernel9Ideal.Mix

open Cert.Kernel9Ideal.Gen Cert.Reference9Ideal.Read

variable (m : (ℓ : Loc nD τ sig) → Buf (Elt Ideal) ℓ)

/-- Where the blocks of a grid point lie. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array that the call leaves is the reference's. -/
theorem final (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v7_apply, val_main_v6_apply, val_main_v5_apply]
  simp only [val_main_v4_apply, val_main_v1_apply, val_main_v0_apply]
  pointwise [k0_pay1]
  refine Fin.sum_fin_congr fun k => Eq.trans (mul_comm (_ : EReal) _) ?_
  blk_point [iblk, V, e0, e1, e2, idx_main_v1, lidx_main_v5, ridx_main_v5, idx_main_v6]

end Cert.Kernel9Ideal.Mix

/-! ## The weights of the gates -/

namespace Cert.Kernel10Ideal.Mix

open Cert.Kernel10Ideal.Gen Cert.Reference10Ideal.Read

variable (m : (ℓ : Loc nD τ sig) → Buf (Elt Ideal) ℓ)

/-- Where the blocks of a grid point lie. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The array that the call leaves is the reference's. -/
theorem final (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v7_apply, val_main_v6_apply, val_main_v5_apply]
  simp only [val_main_v4_apply, val_main_v1_apply, val_main_v0_apply]
  pointwise [k0_pay1]
  refine Fin.sum_fin_congr fun k => Eq.trans (mul_comm (_ : EReal) _) ?_
  blk_point [iblk, V, e0, e1, e2, idx_main_v1, lidx_main_v5, ridx_main_v5, idx_main_v6]

end Cert.Kernel10Ideal.Mix

/-! ## The weights of the output projection -/

namespace Cert.Kernel11Ideal.Mix

open Cert.Kernel11Ideal.Gen Cert.Reference11Ideal.Read

variable (m : (ℓ : Loc nD τ sig) → Buf (Elt Ideal) ℓ)

/-- Where the blocks of a grid point lie. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The array that the call leaves is the reference's. -/
theorem final (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v7_apply, val_main_v6_apply, val_main_v5_apply]
  simp only [val_main_v4_apply, val_main_v1_apply, val_main_v0_apply]
  pointwise [k0_pay1]
  refine Fin.sum_fin_congr fun k => Eq.trans (mul_comm (_ : EReal) _) ?_
  blk_point [iblk, V, e0, e1, e2, idx_main_v1, lidx_main_v5, ridx_main_v5, idx_main_v6]

end Cert.Kernel11Ideal.Mix

/-! ## A branch's weights, in their eight blocks of columns -/

namespace Cert.Kernel15Ideal.Mix

open Cert.Kernel15Ideal.Gen Cert.Reference15Ideal.Read

variable (m : (ℓ : Loc nD τ sig) → Buf (Elt Ideal) ℓ)

/-- Where the blocks of a grid point lie. -/
theorem idx : ∀ t : Fin cfg0.N, win0_0.index t = ![0, 0] ∧ win0_1.index t = ![0, t.val] ∧ win0_2.index t = ![t.val, 0, 0] :=
  (by decide +kernel : ∀ t : Fin grid0.N, _)

/-- The array that the call leaves is the reference's. -/
theorem final (c : Dev nD) : (dats m 0 c).arrAt 2 cfg0.N = val_main_v9 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v9_apply, val_main_v8_apply, val_main_v7_apply, val_main_v6_apply, val_main_v5_apply]
  simp only [val_main_v4_apply, val_main_v1_apply, val_main_v0_apply]
  pointwise [k0_pay1]
  refine Fin.sum_fin_congr fun k => Eq.trans (mul_comm (_ : EReal) _) ?_
  blk_point [iblk, V, e0, e1, e2, idx_main_v1, lidx_main_v5, ridx_main_v5, idx_main_v6, idx_main_v7, idx_main_v8]

end Cert.Kernel15Ideal.Mix

end
-- ==== Proof.DuProj.lean ====
/-
  The gradient that comes back through the projections: the product with the weights' rows and columns exchanged, in
  three blocks of the inner axis.
-/
module

public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline

/-! ## From queries, keys and values -/

namespace Cert.Kernel12Ideal.Mix

open Cert.Kernel12Ideal.Gen Cert.Reference12Ideal.Read

variable (m : (ℓ : Loc nD τ sig) → Buf (Elt Ideal) ℓ)

/-- Where the blocks of a grid point lie. -/
theorem idx : ∀ t : Fin cfg0.N, win0_0.index t = ![t.val / 6, t.val % 3] ∧ win0_1.index t = ![t.val / 3 % 2, t.val % 3] ∧ win0_2.index t = ![t.val / 6, t.val / 3 % 2] :=
  (by decide +kernel : ∀ t : Fin grid0.N, _)

/-- Where the blocks of a run's points lie. -/
theorem run_idx (t : Fin cfg0.N) (h : t.val % 3 = 3 - 1) (s : Fin 3) :
    win0_0.index ⟨3 * (t.val / 3) + s.val, run_point_lt_of_flush t h s⟩ = ![t.val / 6, s.val] ∧ win0_1.index ⟨3 * (t.val / 3) + s.val, run_point_lt_of_flush t h s⟩ = ![t.val / 3 % 2, s.val] := by
  obtain ⟨e0, e1, -⟩ := idx ⟨3 * (t.val / 3) + s.val, run_point_lt_of_flush t h s⟩
  rw [e0, e1]
  have a : (3 * (t.val / 3) + s.val) % 3 = s.val := by omega
  have b : (3 * (t.val / 3) + s.val) / 3 = t.val / 3 := by omega
  have d : (3 * (t.val / 3) + s.val) / 6 = t.val / 6 := by omega
  dsimp only
  rw [a, b, d]
  exact ⟨rfl, rfl⟩

/-- The block of the gradient that a point reads. -/
theorem grad_at (c : Dev nD) (t : Fin cfg0.N) (j : S1024x2048.Idx) (q : S2048x6144.Idx) (h0 : (q 0).val = win0_0.index t 0 * 1024 + (j 0).val) (h1 : (q 1).val = win0_0.index t 1 * 2048 + (j 1).val) :
    iblk m c 0 t j = m ((c : Thread nD τ).loc main_arg0) q := by
  refine Eq.trans ?_ (congrFun (V_main_arg0 m c) q)
  blk_point [iblk, h0, h1]

/-- The block of the weights that a point reads: no block is cut. -/
theorem weight_at (c : Dev nD) (t : Fin cfg0.N) (j : S1024x2048.Idx) (q : S2048x10752.Idx) (h0 : (q 0).val = win0_1.index t 0 * 1024 + (j 0).val) (h1 : (q 1).val = win0_1.index t 1 * 2048 + (j 1).val) :
    X0_1 m c t j = m ((c : Thread nD τ).loc main_arg1) q := by
  refine Eq.trans ?_ (congrFun (V_main_arg1 m c) q)
  unfold X0_1 Pipeline.Window.fill
  rw [dif_pos (moved0_1 t j)]
  blk_point [iblk, h0, h1]

/-- A block's product at an index. -/
theorem part (x w : Vec Ideal S1024x2048 .bf16) (i : S1024x1024.Idx) :
    k0_pay1 (F := Ideal) x w i = ∑ k : Fin 2048, x (ix2 (i 0) k) * w (ix2 (i 1) k) := by
  pointwise [k0_pay1]

/-- After a run the accumulator has the products of all its blocks. -/
theorem total (c : Dev nD) (t : Fin cfg0.N) (h : t.val % 3 = 3 - 1) (i : S1024x1024.Idx) :
    (outsAt0 m c t.val t.isLt).2 i = ∑ s : Fin 3, k0_pay1 (F := Ideal) (iblk m c 0 ⟨3 * (t.val / 3) + s.val, run_point_lt_of_flush t h s⟩) (X0_1 m c ⟨3 * (t.val / 3) + s.val, run_point_lt_of_flush t h s⟩) i := by
  rw [eq_sum_fin_of_reset_step_apply_of_flush (fun n h => (outsAt0 m c n h).2) 3 (fun _ => (0 : EReal)) (fun t => k0_pay1 (F := Ideal) (iblk m c 0 t) (X0_1 m c t)) ?_ ?_ t h i]
  · exact zero_add _
  · intro t h i
    rw [outsAt0_A m c t h (by omega) (by omega)]
    frame_out
    pointwise [k0_pay2]
  · intro t h i
    by_cases h2 : t.val % 3 = 2
    · rw [outsAt0_C m c t h (by omega) h2]
      frame_out
      pointwise [k0_pay3]
      rw [(Memref.isWhole_whole _).read_unread]
    · rw [outsAt0_B m c t h (by omega) h2]
      frame_out
      pointwise [k0_pay3]
      rw [(Memref.isWhole_whole _).read_unread]

/-- The array that the call leaves is the reference's. -/
theorem final (c : Dev nD) : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have h : t.val % 3 = 2 := (flush0_2 t).mp hf
  have same : (outsAt0 m c t.val t.isLt).1 = (outsAt0 m c t.val t.isLt).2 := by
    rw [outsAt0_C m c t (by omega) (by omega) h]
    frame_out
  obtain ⟨e0, e1, e2⟩ := idx t
  blk_simp
  rw [after0_2, same, total m c t h, val_main_v5_apply]
  simp only [val_main_v4_apply, val_main_v1_apply, val_main_v0_apply, part]
  refine Fin.sum_mul_add_congr fun s k hl => ?_
  obtain ⟨f0, f1⟩ := run_idx t h s
  refine congrArg₂ (fun a b : EReal => a * b) (grad_at m c _ _ _ ?_ ?_) (weight_at m c _ _ _ ?_ ?_) <;>
  (blk_simp [f0, f1, e2, idx_main_v0, lidx_main_v5, ridx_main_v5]; try dsimp only; try omega)

end Cert.Kernel12Ideal.Mix

/-! ## From the gates, added to what is there -/

namespace Cert.Kernel13Ideal.Mix

open Cert.Kernel13Ideal.Gen Cert.Reference13Ideal.Read

variable (m : (ℓ : Loc nD τ sig) → Buf (Elt Ideal) ℓ)

/-- Where the blocks of a grid point lie: the gates' columns of the weights come after the first four blocks. -/
theorem idx : ∀ t : Fin cfg0.N, win0_0.index t = ![t.val / 6, t.val % 3] ∧ win0_1.index t = ![t.val / 3 % 2, t.val % 3 + 4]
    ∧ win0_2.index t = ![t.val / 6, t.val / 3 % 2] ∧ win0_3.index t = ![t.val / 6, t.val / 3 % 2] :=
  (by decide +kernel : ∀ t : Fin grid0.N, _)

/-- Where the blocks of a run's points lie. -/
theorem run_idx (t : Fin cfg0.N) (h : t.val % 3 = 3 - 1) (s : Fin 3) :
    win0_0.index ⟨3 * (t.val / 3) + s.val, run_point_lt_of_flush t h s⟩ = ![t.val / 6, s.val] ∧ win0_1.index ⟨3 * (t.val / 3) + s.val, run_point_lt_of_flush t h s⟩ = ![t.val / 3 % 2, s.val + 4]
    ∧ win0_2.index ⟨3 * (t.val / 3) + s.val, run_point_lt_of_flush t h s⟩ = ![t.val / 6, t.val / 3 % 2] := by
  obtain ⟨e0, e1, e2, -⟩ := idx ⟨3 * (t.val / 3) + s.val, run_point_lt_of_flush t h s⟩
  rw [e0, e1, e2]
  have a : (3 * (t.val / 3) + s.val) % 3 = s.val := by omega
  have b : (3 * (t.val / 3) + s.val) / 3 = t.val / 3 := by omega
  have d : (3 * (t.val / 3) + s.val) / 6 = t.val / 6 := by omega
  dsimp only
  rw [a, b, d]
  exact ⟨rfl, rfl, rfl⟩

/-- The block of the gradient that a point reads. -/
theorem grad_at (c : Dev nD) (t : Fin cfg0.N) (j : S1024x1536.Idx) (q : S2048x4608.Idx) (h0 : (q 0).val = win0_0.index t 0 * 1024 + (j 0).val) (h1 : (q 1).val = win0_0.index t 1 * 1536 + (j 1).val) :
    iblk m c 0 t j = m ((c : Thread nD τ).loc main_arg1) q := by
  refine Eq.trans ?_ (congrFun (V_main_arg1 m c) q)
  blk_point [iblk, h0, h1]

/-- The block of the weights that a point reads. -/
theorem weight_at (c : Dev nD) (t : Fin cfg0.N) (j : S1024x1536.Idx) (q : S2048x10752.Idx) (h0 : (q 0).val = win0_1.index t 0 * 1024 + (j 0).val) (h1 : (q 1).val = win0_1.index t 1 * 1536 + (j 1).val) :
    iblk m c 1 t j = m ((c : Thread nD τ).loc main_arg2) q := by
  refine Eq.trans ?_ (congrFun (V_main_arg2 m c) q)
  blk_point [iblk, h0, h1]

/-- The block of the first summand that a point reads. -/
theorem start_at (c : Dev nD) (t : Fin cfg0.N) (j : S1024x1024.Idx) (q : S2048x2048.Idx) (h0 : (q 0).val = win0_2.index t 0 * 1024 + (j 0).val) (h1 : (q 1).val = win0_2.index t 1 * 1024 + (j 1).val) :
    iblk m c 2 t j = m ((c : Thread nD τ).loc main_arg0) q := by
  refine Eq.trans ?_ (congrFun (V_main_arg0 m c) q)
  blk_point [iblk, h0, h1]

/-- A block's product at an index. -/
theorem part (x w : Vec Ideal S1024x1536 .bf16) (i : S1024x1024.Idx) :
    k0_pay1 (F := Ideal) x w i = ∑ k : Fin 1536, x (ix2 (i 0) k) * w (ix2 (i 1) k) := by
  pointwise [k0_pay1]

/-- The summand's block at an index. -/
abbrev start (c : Dev nD) (t : Fin cfg0.N) (i : S1024x1024.Idx) : EReal := iblk m c 2 t i

/-- The first point of a run adds its product to the summand's block. -/
theorem first (c : Dev nD) (t : Fin cfg0.N) (h : t.val % 3 = 0) (i : S1024x1024.Idx) :
    (outsAt0 m c t.val t.isLt).2 i = (start m c t i + k0_pay1 (F := Ideal) (iblk m c 0 t) (iblk m c 1 t) i : EReal) := by
  rw [outsAt0_A m c t h (by omega) (by omega)]
  frame_out
  pointwise [k0_pay2]

/-- A later point adds its product to what the point before has left. -/
theorem next (c : Dev nD) (t : Fin cfg0.N) (h : ¬t.val % 3 = 0) (i : S1024x1024.Idx) :
    (outsAt0 m c t.val t.isLt).2 i = ((outsAt0 m c (t.val - 1) (Nat.lt_of_le_of_lt (Nat.sub_le _ _) t.isLt)).2 i + k0_pay1 (F := Ideal) (iblk m c 0 t) (iblk m c 1 t) i : EReal) := by
  by_cases h2 : t.val % 3 = 2
  · rw [outsAt0_C m c t h (by omega) h2]
    frame_out
    pointwise [k0_pay3]
    rw [(Memref.isWhole_whole _).read_unread]
  · rw [outsAt0_B m c t h (by omega) h2]
    frame_out
    pointwise [k0_pay3]
    rw [(Memref.isWhole_whole _).read_unread]

/-- After a run the accumulator has the summand's block and the products of all its blocks. -/
theorem total (c : Dev nD) (t : Fin cfg0.N) (h : t.val % 3 = 3 - 1) (i : S1024x1024.Idx) :
    (outsAt0 m c t.val t.isLt).2 i = (start m c ⟨3 * (t.val / 3) + (0 : Fin 3).val, run_point_lt_of_flush t h 0⟩ i
      + ∑ s : Fin 3, k0_pay1 (F := Ideal) (iblk m c 0 ⟨3 * (t.val / 3) + s.val, run_point_lt_of_flush t h s⟩) (iblk m c 1 ⟨3 * (t.val / 3) + s.val, run_point_lt_of_flush t h s⟩) i : EReal) := by
  have p0 : (⟨3 * (t.val / 3) + (0 : Fin 3).val, run_point_lt_of_flush t h 0⟩ : Fin cfg0.N) = ⟨t.val - 1 - 1, by omega⟩ := Fin.ext (by show 3 * (t.val / 3) + 0 = t.val - 1 - 1; omega)
  have p1 : (⟨3 * (t.val / 3) + (1 : Fin 3).val, run_point_lt_of_flush t h 1⟩ : Fin cfg0.N) = ⟨t.val - 1, by omega⟩ := Fin.ext (by show 3 * (t.val / 3) + 1 = t.val - 1; omega)
  have p2 : (⟨3 * (t.val / 3) + (2 : Fin 3).val, run_point_lt_of_flush t h 2⟩ : Fin cfg0.N) = t := Fin.ext (by show 3 * (t.val / 3) + 2 = t.val; omega)
  rw [Fin.sum_univ_three, p0, p1, p2, next m c t (by omega), next m c ⟨t.val - 1, by omega⟩ (by dsimp only; omega), first m c ⟨t.val - 1 - 1, by omega⟩ (by dsimp only; omega), add_assoc, add_assoc, add_assoc]

/-- The array that the call leaves is the reference's. -/
theorem final (c : Dev nD) : (dats m 0 c).arrAt 3 cfg0.N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 3 = 2 := (flush0_3 t).mp hf
  have same : (outsAt0 m c t.val t.isLt).1 = (outsAt0 m c t.val t.isLt).2 := by
    rw [outsAt0_C m c t (by omega) (by omega) h]
    frame_out
  obtain ⟨-, -, -, e3⟩ := idx t
  blk_simp
  rw [after0_3, same, total m c t h, val_main_v6_apply, val_main_v5_apply]
  simp only [val_main_v4_apply, val_main_v1_apply, val_main_v0_apply, part]
  obtain ⟨-, -, g2⟩ := run_idx t h 0
  refine congrArg₂ (fun a b : EReal => a + b) (start_at m c _ _ _ ?_ ?_) (Fin.sum_mul_add_congr fun s k hl => ?_)
  · blk_simp [g2, e3]
  · blk_simp [g2, e3]
  obtain ⟨f0, f1, f2⟩ := run_idx t h s
  refine congrArg₂ (fun a b : EReal => a * b) (grad_at m c _ _ _ ?_ ?_) (weight_at m c _ _ _ ?_ ?_) <;>
  (blk_simp [f0, f1, e3, idx_main_v0, lidx_main_v5, ridx_main_v5]; try dsimp only; try omega)

end Cert.Kernel13Ideal.Mix

end
-- ==== Proof.DoBranch.lean ====
/-
  The gradient of a branch's output: the product with the branch's weights, in their eight blocks of columns.
-/
module

public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Cert.Kernel14Ideal.Mix

open Idealize.ShloMosaic Idealize.ShloMosaic.TcCoe Idealize.SL.Sem
open Idealize.ShloMosaic.Pipeline
open Cert.Kernel14Ideal.Gen Cert.Reference14Ideal.Read

variable (m : (ℓ : Loc nD τ sig) → Buf (Elt Ideal) ℓ)

/-- Where the blocks of a grid point lie. -/
theorem idx : ∀ t : Fin cfg0.N, win0_0.index t = ![t.val / 8, t.val % 8] ∧ win0_1.index t = ![t.val % 8, 0, 0] ∧ win0_2.index t = ![t.val / 8, 0] :=
  (by decide +kernel : ∀ t : Fin grid0.N, _)

/-- Where the blocks of a row's points lie. -/
theorem run_idx (t : Fin cfg0.N) (h : t.val % 8 = 8 - 1) (s : Fin 8) :
    win0_0.index ⟨8 * (t.val / 8) + s.val, run_point_lt_of_flush t h s⟩ = ![t.val / 8, s.val] ∧ win0_1.index ⟨8 * (t.val / 8) + s.val, run_point_lt_of_flush t h s⟩ = ![s.val, 0, 0] := by
  obtain ⟨e0, e1, -⟩ := idx ⟨8 * (t.val / 8) + s.val, run_point_lt_of_flush t h s⟩
  rw [e0, e1]
  have a : (8 * (t.val / 8) + s.val) % 8 = s.val := by omega
  have b : (8 * (t.val / 8) + s.val) / 8 = t.val / 8 := by omega
  dsimp only
  rw [a, b]
  exact ⟨rfl, rfl⟩

/-- A block's product at an index. -/
theorem part (x : Vec Ideal S1024x256 .bf16) (w : Vec Ideal S1x1024x256 .bf16) (i : S1024x1024.Idx) :
    k0_pay1 (F := Ideal) x w i = ∑ k : Fin 256, x (ix2 (i 0) k) * w (ix3 0 (i 1) k) := by
  pointwise [k0_pay1]

/-- After a row of blocks the accumulator has the products of all of them. -/
theorem total (c : Dev nD) (t : Fin cfg0.N) (h : t.val % 8 = 8 - 1) (i : S1024x1024.Idx) :
    (outsAt0 m c t.val t.isLt).2 i = ∑ s : Fin 8, k0_pay1 (F := Ideal) (iblk m c 0 ⟨8 * (t.val / 8) + s.val, run_point_lt_of_flush t h s⟩) (iblk m c 1 ⟨8 * (t.val / 8) + s.val, run_point_lt_of_flush t h s⟩) i := by
  rw [eq_sum_fin_of_reset_step_apply_of_flush (fun n h => (outsAt0 m c n h).2) 8 (fun _ => (0 : EReal)) (fun t => k0_pay1 (F := Ideal) (iblk m c 0 t) (iblk m c 1 t)) ?_ ?_ t h i]
  · exact zero_add _
  · intro t h i
    rw [outsAt0_A m c t h (by omega) (by omega)]
    frame_out
    pointwise [k0_pay2]
  · intro t h i
    by_cases h7 : t.val % 8 = 7
    · rw [outsAt0_C m c t h (by omega) h7]
      frame_out
      pointwise [k0_pay3]
      rw [(Memref.isWhole_whole _).read_unread]
    · rw [outsAt0_B m c t h (by omega) h7]
      frame_out
      pointwise [k0_pay3]
      rw [(Memref.isWhole_whole _).read_unread]

/-- The array that the call leaves is the reference's. -/
theorem final (c : Dev nD) : (dats m 0 c).arrAt 2 cfg0.N = val_main_v7 (F := Ideal) (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  have same (i : S1024x1024.Idx) : (outsAt0 m c t.val t.isLt).1 i = (outsAt0 m c t.val t.isLt).2 i := by
    rw [outsAt0_C m c t (by omega) (by omega) h]
    frame_out
    pointwise [k0_pay4]
  obtain ⟨e0, e1, e2⟩ := idx t
  blk_simp
  rw [after0_2, same, total m c t h, val_main_v7_apply, val_main_v6_apply]
  simp only [val_main_v5_apply, val_main_v2_apply, val_main_v1_apply, val_main_v0_apply, part]
  refine Fin.sum_mul_add_congr fun s k hl => ?_
  obtain ⟨f0, f1⟩ := run_idx t h s
  refine congrArg₂ (fun a b : EReal => a * b) ?_ ?_ <;>
  blk_point [iblk, V, f0, f1, e2, idx_main_v1, idx_main_v2, lidx_main_v6, ridx_main_v6]

end Cert.Kernel14Ideal.Mix

end
-- ==== Proof.Proj.lean ====
/-
  The projections of the forward pass: one product per block, over the whole inner axis.
-/
module

public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline

/-! ## Queries, keys and values -/

namespace Cert.Kernel16Ideal.Mix

open Cert.Kernel16Ideal.Gen Cert.Reference16Ideal.Read

variable (m : (ℓ : Loc nD τ sig) → Buf (Elt Ideal) ℓ)

/-- Where the blocks of a grid point lie. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array that the call leaves is the reference's. -/
theorem final (c : Dev nD) : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v4_apply, val_main_v3_apply]
  simp only [val_main_v2_apply, val_main_v1_apply, val_main_v0_apply]
  pointwise [k0_pay1]
  refine Fin.sum_fin_congr fun k => ?_
  blk_point [iblk, V, e0, e1, e2, idx_main_v1, lidx_main_v3, ridx_main_v3]

end Cert.Kernel16Ideal.Mix

/-! ## The gates -/

namespace Cert.Kernel17Ideal.Mix

open Cert.Kernel17Ideal.Gen Cert.Reference17Ideal.Read

variable (m : (ℓ : Loc nD τ sig) → Buf (Elt Ideal) ℓ)

/-- Where the blocks of a grid point lie: the gates' columns of the weights come after the first four blocks. -/
theorem idx : ∀ t : Fin cfg0.N, win0_0.index t = ![t.val / 3, 0] ∧ win0_1.index t = ![0, t.val % 3 + 4] ∧ win0_2.index t = ![t.val / 3, t.val % 3] :=
  (by decide +kernel : ∀ t : Fin grid0.N, _)

/-- The array that the call leaves is the reference's. -/
theorem final (c : Dev nD) : (dats m 0 c).arrAt 2 cfg0.N = val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  frame_out
  rw [val_main_v3_apply]
  simp only [val_main_v2_apply, val_main_v1_apply, val_main_v0_apply]
  pointwise [k0_pay1]
  refine Fin.sum_fin_congr fun k => ?_
  blk_point [iblk, V, e0, e1, e2, idx_main_v1, lidx_main_v3, ridx_main_v3]

end Cert.Kernel17Ideal.Mix

/-! ## The output projection -/

namespace Cert.Kernel18Ideal.Mix

open Cert.Kernel18Ideal.Gen Cert.Reference18Ideal.Read

variable (m : (ℓ : Loc nD τ sig) → Buf (Elt Ideal) ℓ)

/-- Where the blocks of a grid point lie. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The array that the call leaves is the reference's. -/
theorem final (c : Dev nD) : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx t
  blk_simp
  rw [after0_2]
  dsimp only [outsAt0]
  frame_out
  rw [val_main_v2_apply]
  simp only [val_main_v1_apply, val_main_v0_apply]
  pointwise [k0_pay1]
  refine Fin.sum_fin_congr fun k => congrArg₂ (fun a b : EReal => a * b) (Eq.trans ?_ (congrFun (V_main_arg0 m c) _)) (Eq.trans ?_ (congrFun (V_main_arg1 m c) _)) <;>
  blk_point [iblk, e0, e1, e2, lidx_main_v2, ridx_main_v2]

end Cert.Kernel18Ideal.Mix

end
-- ==== Proof.BranchMerge.lean ====
/-
  The two branches' products and their gated sum, block by block.
-/
module

public import proofs.«01_k».proof.Proof.Gen.Kernel19Ideal.Value
public import proofs.«01_k».proof.Proof.Gen.Reference19Ideal.Read
public import Idealize.ShloMosaic.Lib.Pipeline.ValueKit

@[expose] public section

set_option maxRecDepth 16384

noncomputable section

namespace Cert.Kernel19Ideal.Mix

open Idealize.ShloMosaic Idealize.ShloMosaic.TcCoe Idealize.SL.Sem
open Idealize.ShloMosaic.Pipeline
open Cert.Kernel19Ideal.Gen Cert.Reference19Ideal.Read

variable (m : (ℓ : Loc nD τ sig) → Buf (Elt Ideal) ℓ)

/-- Where the blocks of a grid point lie. -/
theorem idx : ∀ t : Fin cfg0.N, win0_0.index t = ![t.val / 8, 0] ∧ win0_1.index t = ![t.val / 8, 0] ∧ win0_2.index t = ![t.val % 8, 0, 0] ∧ win0_3.index t = ![t.val % 8, 0, 0]
    ∧ win0_4.index t = ![t.val / 8, t.val % 8] ∧ win0_5.index t = ![t.val / 8, t.val % 8] ∧ win0_6.index t = ![t.val % 8, t.val / 8] ∧ win0_7.index t = ![t.val / 8, t.val % 8] ∧ win0_8.index t = ![t.val / 8, t.val % 8] :=
  (by decide +kernel : ∀ t : Fin grid0.N, _)

/-- Where a column of one branch's gates lies among the gates. -/
theorem turn (q : Cert.Reference19Ideal.S2048x2048.Idx) :
    (idx_main_v14 q 0).val = (q 0).val ∧ (idx_main_v14 q 1).val = (q 1).val / 256 ∧ (idx_main_v14 q 2).val = (q 1).val % 256 := by
  have h0 : (q 0).val < 2048 := (q 0).isLt
  have h1 : (q 1).val < 2048 := (q 1).isLt
  refine ⟨?_, ?_, ?_⟩
  · show ((q 0).val * 2048 + (q 1).val) / 2048 = (q 0).val
    omega
  · show ((q 0).val * 2048 + (q 1).val) / 256 % 8 = (q 1).val / 256
    omega
  · show ((q 0).val * 2048 + (q 1).val) % 256 = (q 1).val % 256
    omega

/-- The same with an axis of one entry between. -/
theorem turn_one (q : Cert.Reference19Ideal.S2048x8x256.Idx) :
    (idx_main_v13 q 0).val = (q 0).val ∧ (idx_main_v13 q 1).val = (q 1).val ∧ (idx_main_v13 q 2).val = 0 ∧ (idx_main_v13 q 3).val = (q 2).val := by
  have h0 : (q 0).val < 2048 := (q 0).isLt
  have h1 : (q 1).val < 8 := (q 1).isLt
  have h2 : (q 2).val < 256 := (q 2).isLt
  refine ⟨?_, ?_, rfl, ?_⟩
  · show (((q 0).val * 8 + (q 1).val) * 256 + (q 2).val) / 2048 = (q 0).val
    omega
  · show (((q 0).val * 8 + (q 1).val) * 256 + (q 2).val) / 256 % 8 = (q 1).val
    omega
  · show (((q 0).val * 8 + (q 1).val) * 256 + (q 2).val) % 256 = (q 2).val
    omega

/-- A gate's row and column among all the gates. -/
theorem joined (q : Cert.Reference19Ideal.S2048x8x2x256.Idx) :
    (idx_main_v11 q 0).val = (q 0).val ∧ (idx_main_v11 q 1).val = (q 1).val * 512 + (q 2).val * 256 + (q 3).val := by
  have h0 : (q 0).val < 2048 := (q 0).isLt
  have h1 : (q 1).val < 8 := (q 1).isLt
  have h2 : (q 2).val < 2 := (q 2).isLt
  have h3 : (q 3).val < 256 := (q 3).isLt
  constructor
  · show ((((q 0).val * 8 + (q 1).val) * 2 + (q 2).val) * 256 + (q 3).val) / 4096 = (q 0).val
    omega
  · show ((((q 0).val * 8 + (q 1).val) * 2 + (q 2).val) * 256 + (q 3).val) % 4096 = (q 1).val * 512 + (q 2).val * 256 + (q 3).val
    omega

/-- Where an entry of the first branch's gates lies. -/
theorem at_sb (q : Cert.Reference19Ideal.S2048x2048.Idx) :
    (idx_main_v10 (idx_main_v11 (idx_main_v12 (idx_main_v13 (idx_main_v14 q)))) 0).val = (q 0).val
    ∧ (idx_main_v10 (idx_main_v11 (idx_main_v12 (idx_main_v13 (idx_main_v14 q)))) 1).val = (q 1).val / 256 * 512 + (q 1).val % 256 := by
  obtain ⟨a0, a1, a2⟩ := turn q
  obtain ⟨b0, b1, b2, b3⟩ := turn_one (idx_main_v14 q)
  obtain ⟨d0, d1⟩ := joined (idx_main_v12 (idx_main_v13 (idx_main_v14 q)))
  constructor
  · exact d0.trans (b0.trans a0)
  · refine d1.trans ?_
    show (idx_main_v13 (idx_main_v14 q) 1).val * 512 + (idx_main_v13 (idx_main_v14 q) 2).val * 256 + (idx_main_v13 (idx_main_v14 q) 3).val = _
    rw [b1, b2, b3, a1, a2]
    omega

/-- Where an entry of the second branch's gates lies. -/
theorem at_fx (q : Cert.Reference19Ideal.S2048x2048.Idx) :
    (idx_main_v10 (idx_main_v11 (idx_main_v15 (idx_main_v16 (idx_main_v17 q)))) 0).val = (q 0).val
    ∧ (idx_main_v10 (idx_main_v11 (idx_main_v15 (idx_main_v16 (idx_main_v17 q)))) 1).val = (q 1).val / 256 * 512 + 256 + (q 1).val % 256 := by
  obtain ⟨a0, a1, a2⟩ := turn q
  obtain ⟨b0, b1, b2, b3⟩ := turn_one (idx_main_v14 q)
  obtain ⟨d0, d1⟩ := joined (idx_main_v15 (idx_main_v16 (idx_main_v17 q)))
  constructor
  · exact d0.trans (b0.trans a0)
  · refine d1.trans ?_
    show (idx_main_v13 (idx_main_v14 q) 1).val * 512 + (1 + (idx_main_v13 (idx_main_v14 q) 2).val) * 256 + (idx_main_v13 (idx_main_v14 q) 3).val = _
    rw [b1, b2, b3, a1, a2]

/-- A block of the gates at an index. -/
theorem gates_at (c : Dev nD) (t : Fin cfg0.N) (j : S1024x512.Idx) (q : S2048x4608.Idx) (h0 : (q 0).val = t.val / 8 * 1024 + (j 0).val) (h1 : (q 1).val = t.val % 8 * 512 + (j 1).val) :
    iblk m c 4 t j = m ((c : Thread nD τ).loc main_arg4) q := by
  obtain ⟨-, -, -, -, e4, -⟩ := idx t
  refine Eq.trans ?_ (congrFun (V_main_arg4 m c) q)
  blk_point [iblk, e4, h0, h1]

/-- The first branch's gate at a block's index. -/
theorem gate_sb (c : Dev nD) (t : Fin cfg0.N) (p : S1024x256.Idx) (j : S1024x512.Idx) (q : Cert.Reference19Ideal.S2048x2048.Idx) (j0 : (j 0).val = (p 0).val) (j1 : (j 1).val = (p 1).val)
    (h0 : (q 0).val = t.val / 8 * 1024 + (p 0).val) (h1 : (q 1).val = t.val % 8 * 256 + (p 1).val) :
    iblk m c 4 t j = val_main_v14 (F := Ideal) (m ((c : Thread nD τ).loc main_arg4)) q := by
  rw [val_main_v14_apply, val_main_v13_apply, val_main_v12_apply, val_main_v11_apply, val_main_v10_apply]
  have hp : (p 1).val < 256 := (p 1).isLt
  refine gates_at m c t j _ ?_ ?_
  · rw [(at_sb q).1]; omega
  · rw [(at_sb q).2]; omega

/-- The second branch's gate at a block's index. -/
theorem gate_fx (c : Dev nD) (t : Fin cfg0.N) (p : S1024x256.Idx) (j : S1024x512.Idx) (q : Cert.Reference19Ideal.S2048x2048.Idx) (j0 : (j 0).val = (p 0).val) (j1 : (j 1).val = 256 + (p 1).val)
    (h0 : (q 0).val = t.val / 8 * 1024 + (p 0).val) (h1 : (q 1).val = t.val % 8 * 256 + (p 1).val) :
    iblk m c 4 t j = val_main_v17 (F := Ideal) (m ((c : Thread nD τ).loc main_arg4)) q := by
  rw [val_main_v17_apply, val_main_v16_apply, val_main_v15_apply, val_main_v11_apply, val_main_v10_apply]
  have hp : (p 1).val < 256 := (p 1).isLt
  refine gates_at m c t j _ ?_ ?_
  · rw [(at_fx q).1]; omega
  · rw [(at_fx q).2]; omega

/-- A block of the first branch's product. -/
theorem prod_sb (c : Dev nD) (t : Fin cfg0.N) (p : S1024x256.Idx) (q : Cert.Reference19Ideal.S2048x2048.Idx)
    (h0 : (q 0).val = t.val / 8 * 1024 + (p 0).val) (h1 : (q 1).val = t.val % 8 * 256 + (p 1).val) :
    k0_pay3 (F := Ideal) (iblk m c 0 t) (iblk m c 2 t) p = val_main_v4 (F := Ideal) (m ((c : Thread nD τ).loc main_arg0)) (m ((c : Thread nD τ).loc main_arg2)) q := by
  obtain ⟨e0, -, e2, -⟩ := idx t
  rw [val_main_v4_apply]
  simp only [val_main_v3_apply, val_main_v2_apply, val_main_v1_apply, val_main_v0_apply]
  pointwise [k0_pay3]
  refine Fin.sum_fin_congr fun k => congrArg₂ (fun a b : EReal => a * b) (Eq.trans ?_ (congrFun (V_main_arg0 m c) _)) (Eq.trans ?_ (congrFun (V_main_arg2 m c) _)) <;>
  blk_point [iblk, e0, e2, h0, h1, idx_main_v2, idx_main_v3, lidx_main_v4, ridx_main_v4]

/-- A block of the second branch's product. -/
theorem prod_fx (c : Dev nD) (t : Fin cfg0.N) (p : S1024x256.Idx) (q : Cert.Reference19Ideal.S2048x2048.Idx)
    (h0 : (q 0).val = t.val / 8 * 1024 + (p 0).val) (h1 : (q 1).val = t.val % 8 * 256 + (p 1).val) :
    k0_pay4 (F := Ideal) (iblk m c 1 t) (iblk m c 3 t) p = val_main_v9 (F := Ideal) (m ((c : Thread nD τ).loc main_arg1)) (m ((c : Thread nD τ).loc main_arg3)) q := by
  obtain ⟨-, e1, -, e3, -⟩ := idx t
  rw [val_main_v9_apply]
  simp only [val_main_v8_apply, val_main_v7_apply, val_main_v6_apply, val_main_v5_apply]
  pointwise [k0_pay4]
  refine Fin.sum_fin_congr fun k => congrArg₂ (fun a b : EReal => a * b) (Eq.trans ?_ (congrFun (V_main_arg1 m c) _)) (Eq.trans ?_ (congrFun (V_main_arg3 m c) _)) <;>
  blk_point [iblk, e1, e3, h0, h1, idx_main_v7, idx_main_v8, lidx_main_v9, ridx_main_v9]

/-- The kernel's way of writing a gated sum is the reference's. -/
theorem gated_sum {g x h y g' x' h' y' : EReal} (hg : g = g') (hx : x = x') (hh : h = h') (hy : y = y') :
    Ideal.div 1 (1 + Ideal.exp (0 - g)) * x + Ideal.div 1 (1 + Ideal.exp (0 - h)) * y = Ideal.div 1 (1 + Ideal.exp (-g')) * x' + Ideal.div 1 (1 + Ideal.exp (-h')) * y' := by
  rw [hg, hx, hh, hy, zero_sub, zero_sub]

/-- The first branch's array. -/
theorem branch_sb (c : Dev nD) : (dats m 0 c).arrAt 7 cfg0.N = val_main_v35 (F := Ideal) (m ((c : Thread nD τ).loc main_arg0)) (m ((c : Thread nD τ).loc main_arg2)) := by
  refine (dats m 0 c).arrAt_eq_of_covers 7 _ (by decide +kernel) fun t hf y => ?_
  obtain ⟨-, -, -, -, -, -, -, e7, e8⟩ := idx t
  blk_simp
  rw [after0_7, val_main_v35_apply]
  dsimp only [outsAt0]
  frame_out
  pointwise [k0_pay1]
  refine prod_sb m c t _ _ ?_ ?_ <;> blk_simp [e7]

/-- The second branch's array. -/
theorem branch_fx (c : Dev nD) : (dats m 0 c).arrAt 8 cfg0.N = val_main_v36 (F := Ideal) (m ((c : Thread nD τ).loc main_arg1)) (m ((c : Thread nD τ).loc main_arg3)) := by
  refine (dats m 0 c).arrAt_eq_of_covers 8 _ (by decide +kernel) fun t hf y => ?_
  obtain ⟨-, -, -, -, -, -, -, e7, e8⟩ := idx t
  blk_simp
  rw [after0_8, val_main_v36_apply]
  dsimp only [outsAt0]
  frame_out
  pointwise [k0_pay2]
  refine prod_fx m c t _ _ ?_ ?_ <;> blk_simp [e8]

/-- A block of the gated sum. -/
theorem sum_at (c : Dev nD) (t : Fin cfg0.N) (p : S1024x256.Idx) (q : Cert.Reference19Ideal.S2048x2048.Idx)
    (h0 : (q 0).val = t.val / 8 * 1024 + (p 0).val) (h1 : (q 1).val = t.val % 8 * 256 + (p 1).val) :
    k0_pay5 (F := Ideal) (iblk m c 0 t) (iblk m c 2 t) (iblk m c 1 t) (iblk m c 3 t) (iblk m c 4 t) p = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) q := by
  rw [val_main_v33_apply, val_main_v32_apply, val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply]
  simp only [val_main_cst_apply, val_main_cst_0_apply, val_main_cst_1_apply, val_main_cst_2_apply]
  pointwise [k0_pay5]
  refine gated_sum (gate_sb m c t p _ q ?_ ?_ h0 h1) (prod_sb m c t p q h0 h1) (gate_fx m c t p _ q ?_ ?_ h0 h1) (prod_fx m c t p q h0 h1) <;> (try blk_simp) <;> (try rfl) <;> (try omega)

/-- The array of the gated sum. -/
theorem merged (c : Dev nD) : (dats m 0 c).arrAt 5 cfg0.N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨-, -, -, -, -, e5, e6, -⟩ := idx t
  blk_simp
  rw [after0_5]
  dsimp only [outsAt0]
  frame_out
  refine sum_at m c t _ _ ?_ ?_ <;> blk_simp [e5]

/-- The same array with rows and columns exchanged. -/
theorem merged_t (c : Dev nD) : (dats m 0 c).arrAt 6 cfg0.N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨-, -, -, -, -, e5, e6, -⟩ := idx t
  blk_simp
  rw [after0_6, val_main_v34_apply]
  dsimp only [outsAt0]
  frame_out
  pointwise [k0_pay6]
  refine sum_at m c t _ _ ?_ ?_ <;> (blk_simp [e6, idx_main_v34])

end Cert.Kernel19Ideal.Mix

end
-- ==== Proof.Rows.lean ====
/-
  A row divided by the root of the mean of its squares, and the gradient that comes back through that. Nothing here asks
  for finite entries: the sum of a row's squares is a number or infinite, and in the second case both gradients are zero.
-/
module

public import Idealize.ShloMosaic.PureOps.Ideal.Laws
public import Idealize.ShloMosaic.Lib.Pipeline.ValueKit

@[expose] public section

noncomputable section

namespace Cert.Rows

open Idealize.ShloMosaic

theorem size_eq : Ideal.ofBits .f32 0x45000000#32 = ((2048 : ℝ) : EReal) := by
  simp [Ideal.ofBits, Ideal.ieee]
  rw [← EReal.coe_mul]
  norm_num

theorem eps_eq : ∃ e : ℝ, 0 < e ∧ Ideal.ofBits .f32 0x358637BD#32 = (e : EReal) := by
  refine ⟨_, ?_, by simp [Ideal.ofBits, Ideal.ieee]; rfl⟩
  positivity

theorem half_neg_eq : Ideal.ofBits .f32 0xBF000000#32 = ((-(1 / 2) : ℝ) : EReal) := by
  simp [Ideal.ofBits, Ideal.ieee]
  rw [← EReal.coe_mul]
  norm_num

/-- The mean of a row's squares, a small number added. -/
def mean (v : Fin 2048 → EReal) : EReal := Ideal.div (∑ k, v k * v k) (Ideal.ofBits .f32 0x45000000#32) + Ideal.ofBits .f32 0x358637BD#32

/-- What the row is multiplied by. -/
def root (v : Fin 2048 → EReal) : EReal := Ideal.rsqrt (mean v)

/-- The gradient of the row, `t` being the gradient of the divided row. -/
def back (v t : Fin 2048 → EReal) (j : Fin 2048) : EReal :=
  root v * (t j - v j * root v * Ideal.div (∑ k, t k * (v k * root v)) (Ideal.ofBits .f32 0x45000000#32))

theorem root_congr {v w : Fin 2048 → EReal} (h : ∀ k, v k = w k) : root v = root w :=
  congrArg root (funext h)

theorem back_congr {v w t u : Fin 2048 → EReal} {i j : Fin 2048} (h : ∀ k, v k = w k) (g : ∀ k, t k = u k) (e : i = j) :
    back v t i = back w u j := by
  rw [funext h, funext g, e]

/-- A square is not negative. -/
theorem sq_nonneg (x : EReal) : 0 ≤ x * x := by
  induction x using EReal.rec with
  | bot => simp
  | coe r => exact_mod_cast mul_self_nonneg r
  | top => simp

/-- The mean is a positive number, or infinite. -/
theorem mean_cases (v : Fin 2048 → EReal) : mean v = ⊤ ∨ ∃ a : ℝ, 0 < a ∧ mean v = (a : EReal) := by
  obtain ⟨e, he, h⟩ := eps_eq
  have hs : 0 ≤ ∑ k, v k * v k := Finset.sum_nonneg fun k _ => sq_nonneg (v k)
  unfold mean
  rw [h, size_eq, Ideal.div_coe (by norm_num)]
  generalize ∑ k, v k * v k = s at hs
  induction s using EReal.rec with
  | bot => simp at hs
  | coe r =>
    right
    have hr : (0 : ℝ) ≤ r := by exact_mod_cast hs
    exact ⟨r * (1 / 2048) + e, by positivity, by rw [EReal.coe_add, EReal.coe_mul]⟩
  | top => left; rw [EReal.top_mul_coe_of_pos (by norm_num), EReal.top_add_coe]

/-- A positive number comes out of a sum. -/
theorem sum_mul_coe {n : ℕ} (f : Fin n → EReal) {r : ℝ} (hr : 0 < r) :
    ∑ k, f k * (r : EReal) = (∑ k, f k) * (r : EReal) := by
  induction n with
  | zero => simp
  | succ n ih =>
    rw [Fin.sum_univ_succ, Fin.sum_univ_succ, ih,
      EReal.right_distrib_of_nonneg_of_ne_top (by exact_mod_cast hr.le) (EReal.coe_ne_top r)]

/-- Two halves of a multiple taken away. -/
theorem halves (z : EReal) (c : ℝ) (hc : 0 < c) :
    z * ((-(c / 2) : ℝ) : EReal) + z * ((-(c / 2) : ℝ) : EReal) = -(z * (c : EReal)) := by
  have hn : -(c / 2) < 0 := by linarith
  induction z using EReal.rec with
  | bot => rw [EReal.bot_mul_coe_of_neg hn, EReal.bot_mul_coe_of_pos hc]; rfl
  | coe x => norm_cast; ring_nf
  | top => rw [EReal.top_mul_coe_of_neg hn, EReal.top_mul_coe_of_pos hc]; rfl

/-- The gradient of the row in the words of the product rule: the factor's gradient, twice times the row, and the row's. -/
theorem back_eq (v t : Fin 2048 → EReal) (j : Fin 2048) (d : EReal)
    (hd : d = Ideal.div ((∑ k, v k * t k) * (Ideal.ofBits .f32 0xBF000000#32 * Ideal.div (root v) (mean v))) (Ideal.ofBits .f32 0x45000000#32)) :
    t j * root v + v j * d + d * v j = back v t j := by
  subst hd
  unfold back
  rw [size_eq, half_neg_eq, Ideal.div_coe (by norm_num), Ideal.div_coe (by norm_num)]
  rcases mean_cases v with h | ⟨a, ha, h⟩
  · have r0 : root v = 0 := by rw [root, h, Ideal.rsqrt_top]
    have q0 : Ideal.div 0 ⊤ = 0 := by simp [Ideal.div]
    rw [r0, h, q0]
    simp
  · have r1 : root v = (((Real.sqrt a)⁻¹ : ℝ) : EReal) := by
      rw [root, h, Ideal.rsqrt_coe, if_neg (not_lt.mpr ha.le), if_neg ha.ne']
    have hp : 0 < (Real.sqrt a)⁻¹ := inv_pos.mpr (Real.sqrt_pos.mpr ha)
    have hq : (Real.sqrt a)⁻¹ * (Real.sqrt a)⁻¹ = 1 / a := by rw [← mul_inv, Real.mul_self_sqrt ha.le, one_div]
    rw [r1, h, Ideal.div_coe ha.ne']
    generalize (Real.sqrt a)⁻¹ = ρ at hp hq
    have e1 : ∑ k, t k * (v k * (ρ : EReal)) = (∑ k, v k * t k) * (ρ : EReal) := by
      rw [← sum_mul_coe _ hp]
      exact Finset.sum_congr rfl fun k _ => by rw [← mul_assoc, mul_comm (t k)]
    rw [e1, ← hq]
    generalize ∑ k, v k * t k = s
    generalize t j = y
    generalize v j = x
    have hc : 0 < ρ * ρ * ρ / 2048 := by positivity
    have e2 : s * (((-(1 / 2) : ℝ) : EReal) * ((ρ : EReal) * ((ρ * ρ : ℝ) : EReal))) * ((1 / 2048 : ℝ) : EReal)
        = s * ((-(ρ * ρ * ρ / 2048 / 2) : ℝ) : EReal) := by
      rw [← EReal.coe_mul, ← EReal.coe_mul, mul_assoc, ← EReal.coe_mul]
      congr 2
      ring
    have e3 : (ρ : EReal) * (x * (ρ : EReal) * (s * (ρ : EReal) * ((1 / 2048 : ℝ) : EReal)))
        = x * s * ((ρ * ρ * ρ / 2048 : ℝ) : EReal) := by
      rw [show ρ * ρ * ρ / 2048 = ρ * ρ * ρ * (1 / 2048) by ring, EReal.coe_mul, EReal.coe_mul, EReal.coe_mul]
      ac_rfl
    rw [e2, mul_comm (s * _) x, ← mul_assoc, add_assoc, halves _ _ hc, sub_eq_add_neg, mul_comm (ρ : EReal),
      EReal.right_distrib_of_nonneg_of_ne_top (by exact_mod_cast hp.le) (EReal.coe_ne_top ρ), EReal.neg_mul,
      mul_comm _ (ρ : EReal), mul_comm (x * _ * _) (ρ : EReal), e3]

end Cert.Rows

end
-- ==== Proof.NormBwd.lean ====
/-
  The gradient that comes back through a normalisation of rows.
-/
module

public import proofs.«01_k».proof.Proof.Gen.Kernel20Ideal.Value
public import proofs.«01_k».proof.Proof.Gen.Reference20Ideal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline

/-! ## The reference -/

namespace Cert.Reference20Ideal.Mix

open Cert.Reference20Ideal.Gen Cert.Reference20Ideal.Read

variable (x0 x1 x2 : (⟨S2048x2048, .f32⟩ : BufTy).Contents (Elt Ideal)) (x3 : (⟨S1x2048, .f32⟩ : BufTy).Contents (Elt Ideal))

theorem mean_at (q : S2048x1.Idx) : val_main_v6 (F := Ideal) x2 q = Cert.Rows.mean (fun k => x2 (ix2 (q 0) k)) := by
  pointwise [val_main_v6_apply, val_main_v5_apply, val_main_v4_apply, val_main_v3_apply, val_main_v2_apply, val_main_v1_apply, val_main_v0_apply, val_main_cst_0_apply, val_main_cst_1_apply, val_main_cst_apply]
  exact congrArg₂ (fun a b : EReal => a + b) (congrArg₂ Ideal.div (Finset.sum_congr rfl fun k _ => congrArg (fun i => (x2 i : EReal) * x2 i) (eq_ix2 _)) rfl) rfl

/-- What a row is multiplied by. -/
theorem root_at (q : S2048x1.Idx) : val_main_v7 (F := Ideal) x2 q = Cert.Rows.root (fun k => x2 (ix2 (q 0) k)) := by
  rw [val_main_v7_apply, mean_at]
  rfl

/-- The gradient of what a row is multiplied by. -/
theorem coef_at (q : S2048x2048.Idx) :
    val_main_v29 (F := Ideal) x1 x2 x3 q = Ideal.div ((∑ k, (x2 (ix2 (q 0) k) : EReal) * ((x1 (ix2 (q 0) k) : EReal) * x3 (ix2 0 k)))
      * (Ideal.ofBits .f32 0xBF000000#32 * Ideal.div (Cert.Rows.root fun k => x2 (ix2 (q 0) k)) (Cert.Rows.mean fun k => x2 (ix2 (q 0) k)))) (Ideal.ofBits .f32 0x45000000#32) := by
  pointwise [val_main_v29_apply, val_main_v28_apply, val_main_v27_apply, val_main_v26_apply, val_main_v25_apply, val_main_v22_apply, val_main_v21_apply, val_main_v20_apply, val_main_v19_apply, val_main_v18_apply, val_main_v10_apply, val_main_v9_apply, val_main_v8_apply, mean_at, root_at, Fin.sum_univ_one, val_main_cst_2_apply, val_main_cst_4_apply, val_main_cst_5_apply, val_main_cst_6_apply]
  refine congrArg₂ Ideal.div (congrArg₂ (fun a b : EReal => a * b) (Finset.sum_congr rfl fun k _ => ?_) rfl) rfl
  have e : idx_main_v21 (idx_main_v22 (idx_main_v28 (idx_main_v29 q) 0)) k = ix2 (q 0) k :=
    funext fun a => Fin.ext (by
      match a with
      | ⟨0, _⟩ => show (q 0).val * 1 + 0 = (q 0).val; omega
      | ⟨1, _⟩ => rfl)
  rw [e]
  exact congrArg (fun i => (x2 (ix2 (q 0) k) : EReal) * ((x1 (ix2 (q 0) k) : EReal) * x3 i)) (eq_ix2 (idx_main_v18 (ix2 (q 0) k)))

/-- The gradient of the rows. -/
theorem back_at (q : S2048x2048.Idx) :
    val_main_v33 (F := Ideal) x1 x2 x3 q = Cert.Rows.back (fun k => x2 (ix2 (q 0) k)) (fun k => (x1 (ix2 (q 0) k) : EReal) * x3 (ix2 0 k)) (q 1) := by
  refine Eq.trans ?_ (Cert.Rows.back_eq (fun k => x2 (ix2 (q 0) k)) (fun k => (x1 (ix2 (q 0) k) : EReal) * x3 (ix2 0 k)) (q 1) _ (coef_at x1 x2 x3 q))
  pointwise [val_main_v33_apply, val_main_v32_apply, val_main_v31_apply, val_main_v30_apply, val_main_v24_apply, val_main_v23_apply, val_main_v19_apply, val_main_v18_apply, root_at]
  rw [show idx_main_v18 q = ix2 0 (q 1) from eq_ix2 _]
  rfl

/-- The gradient of the rows, added to the one beside it. -/
theorem grad_at (q : S2048x2048.Idx) :
    val_main_v34 (F := Ideal) x0 x1 x2 x3 q
      = (x0 q : EReal) + Cert.Rows.back (fun k => x2 (ix2 (q 0) k)) (fun k => (x1 (ix2 (q 0) k) : EReal) * x3 (ix2 0 k)) (q 1) :=
  congrArg (fun a : EReal => x0 q + a) (back_at x1 x2 x3 q)

/-- The gradient of the gains. -/
theorem gain_at (q : S1x2048.Idx) :
    val_main_v17 (F := Ideal) x1 x2 q = ∑ k : Fin 2048, (x1 (ix2 k (q 1)) : EReal) * ((x2 (ix2 k (q 1)) : EReal) * Cert.Rows.root fun l => x2 (ix2 k l)) := by
  pointwise [val_main_v17_apply, val_main_v16_apply, val_main_v15_apply, val_main_v12_apply, val_main_v11_apply, root_at, val_main_cst_3_apply]
  refine Finset.sum_congr rfl fun k _ => ?_
  have e : idx_main_v16 (idx_main_v17 q) k = ix2 k (q 1) :=
    funext fun a => Fin.ext (by
      match a with
      | ⟨0, _⟩ => rfl
      | ⟨1, _⟩ => show (q 0).val * 2048 + (q 1).val = (q 1).val; have : (q 0).val < 1 := (q 0).isLt; omega)
  rw [e, mul_comm]
  rfl

end Cert.Reference20Ideal.Mix

namespace Cert.Kernel20Ideal.Mix

open Cert.Kernel20Ideal.Gen Cert.Reference20Ideal.Read

variable (m : (ℓ : Loc nD τ sig) → Buf (Elt Ideal) ℓ)

/-- Where the blocks of a grid point lie. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

/-- Where the blocks of a run's points lie. -/
theorem run_idx (t : Fin cfg0.N) (h : t.val % 8 = 8 - 1) (s : Fin 8) :
    win0_1.index ⟨8 * (t.val / 8) + s.val, run_point_lt_of_flush t h s⟩ = ![s.val, 0] ∧ win0_2.index ⟨8 * (t.val / 8) + s.val, run_point_lt_of_flush t h s⟩ = ![s.val, 0] := by
  obtain ⟨-, e1, e2, -⟩ := idx ⟨8 * (t.val / 8) + s.val, run_point_lt_of_flush t h s⟩
  have a : 8 * (t.val / 8) + s.val = s.val := by
    have : t.val < 8 := t.isLt
    omega
  rw [e1, e2]
  dsimp only
  rw [a]
  exact ⟨rfl, rfl⟩

/-- What a block's rows are multiplied by. -/
theorem root_at (x : Vec Ideal S256x2048 .f32) (i : S256x1.Idx) :
    k0_pay1 (F := Ideal) x i = Cert.Rows.root fun k => x (ix2 (i 0) k) := by
  pointwise [k0_pay1]
  rfl

theorem rows_at (x : Vec Ideal S256x2048 .f32) (i : S256x2048.Idx) :
    k0_pay2 (F := Ideal) x i = (x i : EReal) * Cert.Rows.root fun k => x (ix2 (i 0) k) := by
  pointwise [k0_pay2, root_at]

/-- The gradient of a block's rows. -/
theorem grad_at (x d : Vec Ideal S256x2048 .f32) (g : Vec Ideal S1x2048 .f32) (b : Vec Ideal S256x2048 .f32) (i : S256x2048.Idx) :
    k0_pay3 (F := Ideal) x d g b i
      = (b i : EReal) + Cert.Rows.back (fun k => x (ix2 (i 0) k)) (fun k => (d (ix2 (i 0) k) : EReal) * g (ix2 0 k)) (i 1) := by
  pointwise [k0_pay3, rows_at, root_at]
  rw [show d i = d (ix2 (i 0) (i 1)) from congrArg d (eq_ix2 i), show x i = x (ix2 (i 0) (i 1)) from congrArg x (eq_ix2 i)]
  rfl

/-- A block's part of the gradient of the gains. -/
def part (x d : Vec Ideal S256x2048 .f32) (i : S1x2048.Idx) : EReal :=
  ∑ s : Fin 256, (d (ix2 s (i 1)) : EReal) * ((x (ix2 s (i 1)) : EReal) * Cert.Rows.root fun k => x (ix2 s k))

/-- After a run the accumulator has the parts of all the blocks. -/
theorem total (c : Dev nD) (t : Fin cfg0.N) (h : t.val % 8 = 8 - 1) (i : S1x2048.Idx) :
    (outsAt0 m c t.val t.isLt).2 i = ∑ s : Fin 8, part (iblk m c 2 ⟨8 * (t.val / 8) + s.val, run_point_lt_of_flush t h s⟩) (iblk m c 1 ⟨8 * (t.val / 8) + s.val, run_point_lt_of_flush t h s⟩) i := by
  rw [eq_sum_fin_of_reset_step_apply_of_flush (fun n h => (outsAt0 m c n h).2) 8 (fun _ => (0 : EReal)) (fun t => part (iblk m c 2 t) (iblk m c 1 t)) ?_ ?_ t h i]
  · exact zero_add _
  · intro t h i
    rw [outsAt0_A m c t h]
    frame_out
    pointwise [k0_pay4, k0_pay5, rows_at]
    rfl
  · intro t h i
    rw [outsAt0_B m c t (by omega)]
    frame_out
    pointwise [k0_pay5, rows_at]
    rfl

/-- The gradient of the rows that the call leaves is the reference's. -/
theorem final4 (c : Dev nD) : (dats m 0 c).arrAt 4 cfg0.N = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have same : (outsAt0 m c t.val t.isLt).1 = k0_pay3 (F := Ideal) (iblk m c 2 t) (iblk m c 1 t) (iblk m c 3 t) (iblk m c 0 t) := by
    by_cases h : t.val % 8 = 0
    · rw [outsAt0_A m c t h]
      frame_out
    · rw [outsAt0_B m c t h]
      frame_out
  obtain ⟨e0, e1, e2, e3, e4, e5⟩ := idx t
  blk_simp
  rw [after0_4, same, grad_at]
  rw [Cert.Reference20Ideal.Mix.grad_at]
  refine congrArg₂ (fun a b : EReal => a + b) ?_ (Cert.Rows.back_congr (fun k => ?_) (fun k => congrArg₂ (fun a b : EReal => a * b) ?_ ?_) ?_)
  · refine Eq.trans ?_ (congrFun (V_main_arg0 m c) _)
    blk_point [iblk, e0, e4]
  · refine Eq.trans ?_ (congrFun (V_main_arg2 m c) _)
    blk_point [iblk, e2, e4]
  · refine Eq.trans ?_ (congrFun (V_main_arg1 m c) _)
    blk_point [iblk, e1, e4]
  · refine Eq.trans ?_ (congrFun (V_main_arg3 m c) _)
    blk_point [iblk, e3, e4]
  · refine Fin.ext ?_
    blk_simp [e4]

/-- The gradient of the gains that the call leaves is the reference's. -/
theorem final5 (c : Dev nD) : (dats m 0 c).arrAt 5 cfg0.N = val_main_v17 (F := Ideal) (m ((c : Thread nD τ).loc main_arg1)) (m ((c : Thread nD τ).loc main_arg2)) := by
  refine (dats m 0 c).arrAt_eq_of_covers 5 _ (by decide +kernel) fun t hf y => ?_
  have h : t.val % 8 = 7 := (flush0_5 t).mp hf
  obtain ⟨-, -, -, -, -, e5⟩ := idx t
  blk_simp
  rw [after0_5, total m c t h]
  rw [Cert.Reference20Ideal.Mix.gain_at]
  unfold part
  refine Fin.sum_mul_add_congr fun s k hl => ?_
  obtain ⟨f1, f2⟩ := run_idx t h s
  refine congrArg₂ (fun a b : EReal => a * b) ?_ (congrArg₂ (fun a b : EReal => a * b) ?_ (Cert.Rows.root_congr fun k => ?_))
  · refine Eq.trans ?_ (congrFun (V_main_arg1 m c) _)
    blk_point [iblk, f1, e5]
  · refine Eq.trans ?_ (congrFun (V_main_arg2 m c) _)
    blk_point [iblk, f2, e5]
  · refine Eq.trans ?_ (congrFun (V_main_arg2 m c) _)
    blk_point [iblk, f2, e5]

end Cert.Kernel20Ideal.Mix

end
-- ==== Proof.NormFwd.lean ====
/-
  The normalisations of rows of the forward pass.
-/
module

public import proofs.«01_k».proof.Proof.Gen.Kernel23Ideal.Value
public import proofs.«01_k».proof.Proof.Gen.Kernel24Ideal.Value
public import proofs.«01_k».proof.Proof.Gen.Reference23Ideal.Read
public import proofs.«01_k».proof.Proof.Gen.Reference24Ideal.Read
public import proofs.«01_k».proof.Proof.NormBwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline

namespace Cert.Rows

/-- An entry of a row that is normalised and multiplied by its gain. -/
def out (v : Fin 2048 → EReal) (g : EReal) (j : Fin 2048) : EReal := v j * root v * g

theorem out_congr {v w : Fin 2048 → EReal} {g h : EReal} {i j : Fin 2048} (hv : ∀ k, v k = w k) (hg : g = h) (hj : i = j) : out v g i = out w h j := by
  rw [funext hv, hg, hj]

/-- A row and the normalised row that is added to it. -/
def sum (x v g : Fin 2048 → EReal) (j : Fin 2048) : EReal := x j + out v (g j) j

theorem sum_congr {x y v w g h : Fin 2048 → EReal} {i j : Fin 2048} (hx : ∀ k, x k = y k) (hv : ∀ k, v k = w k) (hg : ∀ k, g k = h k) (hj : i = j) : sum x v g i = sum y w h j := by
  rw [funext hx, funext hv, funext hg, hj]

end Cert.Rows

/-! ## The first normalisation -/

namespace Cert.Reference23Ideal.Mix

open Cert.Reference23Ideal.Gen Cert.Reference23Ideal.Read

variable (x0 : (⟨S2048x2048, .f32⟩ : BufTy).Contents (Elt Ideal)) (x1 : (⟨S1x2048, .f32⟩ : BufTy).Contents (Elt Ideal))

theorem root_at (q : S2048x1.Idx) : val_main_v7 (F := Ideal) x0 q = Cert.Rows.root (fun k => x0 (ix2 (q 0) k)) :=
  Cert.Reference20Ideal.Mix.root_at x0 q

theorem out_at (q : S2048x2048.Idx) : val_main_v12 (F := Ideal) x0 x1 q = Cert.Rows.out (fun k => x0 (ix2 (q 0) k)) (x1 (ix2 0 (q 1))) (q 1) := by
  pointwise [val_main_v12_apply, val_main_v11_apply, val_main_v10_apply, val_main_v9_apply, val_main_v8_apply, root_at]
  rw [show idx_main_v10 q = ix2 0 (q 1) from eq_ix2 _, show x0 q = x0 (ix2 (q 0) (q 1)) from congrArg x0 (eq_ix2 q)]
  rfl

theorem flip_at (q : S2048x2048.Idx) : val_main_v13 (F := Ideal) x0 x1 q = Cert.Rows.out (fun k => x0 (ix2 (q 1) k)) (x1 (ix2 0 (q 0))) (q 0) := by
  rw [val_main_v13_apply, out_at]
  rfl

end Cert.Reference23Ideal.Mix

namespace Cert.Kernel23Ideal.Mix

open Cert.Kernel23Ideal.Gen Cert.Reference23Ideal.Read

variable (m : (ℓ : Loc nD τ sig) → Buf (Elt Ideal) ℓ)

/-- Where the blocks of a grid point lie. -/
theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

/-- A block of normalised rows. -/
theorem out_at (x : Vec Ideal S256x2048 .f32) (g : Vec Ideal S1x2048 .f32) (i : S256x2048.Idx) :
    k0_pay1 (F := Ideal) x g i = Cert.Rows.out (fun k => x (ix2 (i 0) k)) (g (ix2 0 (i 1))) (i 1) := by
  pointwise [k0_pay1]
  rw [show x i = x (ix2 (i 0) (i 1)) from congrArg x (eq_ix2 i)]
  rfl

theorem flip_at (x : Vec Ideal S256x2048 .f32) (g : Vec Ideal S1x2048 .f32) (i : S2048x256.Idx) :
    k0_pay2 (F := Ideal) x g i = Cert.Rows.out (fun k => x (ix2 (i 1) k)) (g (ix2 0 (i 0))) (i 0) := by
  pointwise [k0_pay2, out_at]

/-- The normalised rows that the call leaves are the reference's. -/
theorem final2 (c : Dev nD) : (dats m 0 c).arrAt 2 cfg0.N = val_main_v12 (F := Ideal) (m ((c : Thread nD τ).loc main_arg0)) (m ((c : Thread nD τ).loc main_arg1)) := by
  refine (dats m 0 c).arrAt_eq_of_covers 2 _ (by decide +kernel) fun t hf y => ?_
  obtain ⟨e0, e1, e2, e3⟩ := idx t
  blk_simp
  rw [after0_2, Cert.Reference23Ideal.Mix.out_at]
  dsimp only [outsAt0]
  frame_out
  rw [out_at]
  refine Cert.Rows.out_congr (fun k => ?_) ?_ ?_
  · refine Eq.trans ?_ (congrFun (V_main_arg0 m c) _)
    blk_point [iblk, e0, e2]
  · refine Eq.trans ?_ (congrFun (V_main_arg1 m c) _)
    blk_point [iblk, e1, e2]
  · refine Fin.ext ?_
    blk_simp [e2]

/-- So are their columns. -/
theorem final3 (c : Dev nD) : (dats m 0 c).arrAt 3 cfg0.N = val_main_v13 (F := Ideal) (m ((c : Thread nD τ).loc main_arg0)) (m ((c : Thread nD τ).loc main_arg1)) := by
  refine (dats m 0 c).arrAt_eq_of_covers 3 _ (by decide +kernel) fun t hf y => ?_
  obtain ⟨e0, e1, e2, e3⟩ := idx t
  blk_simp
  rw [after0_3, Cert.Reference23Ideal.Mix.flip_at]
  dsimp only [outsAt0]
  frame_out
  rw [flip_at]
  refine Cert.Rows.out_congr (fun k => ?_) ?_ ?_
  · refine Eq.trans ?_ (congrFun (V_main_arg0 m c) _)
    blk_point [iblk, e0, e3]
  · refine Eq.trans ?_ (congrFun (V_main_arg1 m c) _)
    blk_point [iblk, e1, e3]
  · refine Fin.ext ?_
    blk_simp [e3]

end Cert.Kernel23Ideal.Mix

/-! ## The two normalisations between the layers -/

namespace Cert.Reference24Ideal.Mix

open Cert.Reference24Ideal.Gen Cert.Reference24Ideal.Read

variable (x0 x1 : (⟨S2048x2048, .f32⟩ : BufTy).Contents (Elt Ideal)) (x2 x3 : (⟨S1x2048, .f32⟩ : BufTy).Contents (Elt Ideal))

/-- The sum is the first array and the second one normalised. -/
theorem sum_at (q : S2048x2048.Idx) : val_main_v12 (F := Ideal) x0 x1 x2 q
    = Cert.Rows.sum (fun k => x0 (ix2 (q 0) k)) (fun k => x1 (ix2 (q 0) k)) (fun k => x2 (ix2 0 k)) (q 1) := by
  refine congrArg₂ (fun a b : EReal => a + b) (congrArg x0 (eq_ix2 q)) (Cert.Reference23Ideal.Mix.out_at x1 x2 q)

/-- The second array is the sum, normalised. -/
theorem out_at (q : S2048x2048.Idx) : val_main_v25 (F := Ideal) x0 x1 x2 x3 q
    = Cert.Rows.out (Cert.Rows.sum (fun k => x0 (ix2 (q 0) k)) (fun k => x1 (ix2 (q 0) k)) fun k => x2 (ix2 0 k)) (x3 (ix2 0 (q 1))) (q 1) := by
  refine Eq.trans (Cert.Reference23Ideal.Mix.out_at (val_main_v12 (F := Ideal) x0 x1 x2) x3 q) (Cert.Rows.out_congr (fun k => ?_) rfl rfl)
  rw [sum_at]
  rfl

theorem flip_at (q : S2048x2048.Idx) : val_main_v26 (F := Ideal) x0 x1 x2 x3 q
    = Cert.Rows.out (Cert.Rows.sum (fun k => x0 (ix2 (q 1) k)) (fun k => x1 (ix2 (q 1) k)) fun k => x2 (ix2 0 k)) (x3 (ix2 0 (q 0))) (q 0) := by
  rw [val_main_v26_apply, out_at]
  rfl

end Cert.Reference24Ideal.Mix

namespace Cert.Kernel24Ideal.Mix

open Cert.Kernel24Ideal.Gen Cert.Reference24Ideal.Read

variable (m : (ℓ : Loc nD τ sig) → Buf (Elt Ideal) ℓ)

/-- Where the blocks of a grid point lie. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, _)

variable (v x : Vec Ideal S256x2048 .f32) (g p : Vec Ideal S1x2048 .f32)

/-- A block of the sum. -/
theorem sum_at (i : S256x2048.Idx) :
    k0_pay1 (F := Ideal) v x g i = Cert.Rows.sum (fun k => x (ix2 (i 0) k)) (fun k => v (ix2 (i 0) k)) (fun k => g (ix2 0 k)) (i 1) := by
  pointwise [k0_pay1]
  rw [show v i = v (ix2 (i 0) (i 1)) from congrArg v (eq_ix2 i), show x i = x (ix2 (i 0) (i 1)) from congrArg x (eq_ix2 i)]
  rfl

/-- A block of the sum's rows, normalised. -/
theorem out_at (i : S256x2048.Idx) : k0_pay2 (F := Ideal) v x g p i
    = Cert.Rows.out (Cert.Rows.sum (fun k => x (ix2 (i 0) k)) (fun k => v (ix2 (i 0) k)) fun k => g (ix2 0 k)) (p (ix2 0 (i 1))) (i 1) := by
  pointwise [k0_pay2, sum_at]
  rfl

theorem flip_at (i : S2048x256.Idx) : k0_pay3 (F := Ideal) v x g p i
    = Cert.Rows.out (Cert.Rows.sum (fun k => x (ix2 (i 1) k)) (fun k => v (ix2 (i 1) k)) fun k => g (ix2 0 k)) (p (ix2 0 (i 0))) (i 0) := by
  pointwise [k0_pay3, out_at]

/-- The sum that the call leaves is the reference's. -/
theorem final4 (c : Dev nD) : (dats m 0 c).arrAt 4 cfg0.N = val_main_v12 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5, e6⟩ := idx t
  blk_simp
  rw [after0_4, Cert.Reference24Ideal.Mix.sum_at]
  frame_out
  rw [sum_at]
  refine Cert.Rows.sum_congr (fun k => ?_) (fun k => ?_) (fun k => ?_) ?_
  · refine Eq.trans ?_ (congrFun (V_main_arg0 m c) _)
    blk_point [iblk, e0, e4]
  · refine Eq.trans ?_ (congrFun (V_main_arg1 m c) _)
    blk_point [iblk, e1, e4]
  · refine Eq.trans ?_ (congrFun (V_main_arg2 m c) _)
    blk_point [iblk, e2, e4]
  · refine Fin.ext ?_
    blk_simp [e4]

/-- The normalised rows that the call leaves are the reference's. -/
theorem final5 (c : Dev nD) : (dats m 0 c).arrAt 5 cfg0.N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨e0, e1, e2, e3, e4, e5, e6⟩ := idx t
  blk_simp
  rw [after0_5, Cert.Reference24Ideal.Mix.out_at]
  frame_out
  rw [out_at]
  refine Cert.Rows.out_congr (fun k => Cert.Rows.sum_congr (fun k => ?_) (fun k => ?_) (fun k => ?_) rfl) ?_ ?_
  · refine Eq.trans ?_ (congrFun (V_main_arg0 m c) _)
    blk_point [iblk, e0, e5]
  · refine Eq.trans ?_ (congrFun (V_main_arg1 m c) _)
    blk_point [iblk, e1, e5]
  · refine Eq.trans ?_ (congrFun (V_main_arg2 m c) _)
    blk_point [iblk, e2, e5]
  · refine Eq.trans ?_ (congrFun (V_main_arg3 m c) _)
    blk_point [iblk, e3, e5]
  · refine Fin.ext ?_
    blk_simp [e5]

/-- So are their columns. -/
theorem final6 (c : Dev nD) : (dats m 0 c).arrAt 6 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨e0, e1, e2, e3, e4, e5, e6⟩ := idx t
  blk_simp
  rw [after0_6, Cert.Reference24Ideal.Mix.flip_at]
  frame_out
  rw [flip_at]
  refine Cert.Rows.out_congr (fun k => Cert.Rows.sum_congr (fun k => ?_) (fun k => ?_) (fun k => ?_) rfl) ?_ ?_
  · refine Eq.trans ?_ (congrFun (V_main_arg0 m c) _)
    blk_point [iblk, e0, e6]
  · refine Eq.trans ?_ (congrFun (V_main_arg1 m c) _)
    blk_point [iblk, e1, e6]
  · refine Eq.trans ?_ (congrFun (V_main_arg2 m c) _)
    blk_point [iblk, e2, e6]
  · refine Eq.trans ?_ (congrFun (V_main_arg3 m c) _)
    blk_point [iblk, e3, e6]
  · refine Fin.ext ?_
    blk_simp [e6]

end Cert.Kernel24Ideal.Mix

end
-- ==== Proof.MidNormsBwd.lean ====
/-
  The gradients that come back through the two normalisations between the layers.
-/
module

public import proofs.«01_k».proof.Proof.Gen.Kernel21Ideal.Value
public import proofs.«01_k».proof.Proof.Gen.Reference21Ideal.Read
public import proofs.«01_k».proof.Proof.NormBwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline

/-! ## The reference -/

namespace Cert.Reference21Ideal.Mix

open Cert.Reference21Ideal.Gen Cert.Reference21Ideal.Read

variable (x0 x1 x2 x3 : (⟨S2048x2048, .f32⟩ : BufTy).Contents (Elt Ideal)) (x4 x5 : (⟨S1x2048, .f32⟩ : BufTy).Contents (Elt Ideal))

/-- The gradient of the sum of the layers. -/
theorem grad_at (q : S2048x2048.Idx) : val_main_v34 (F := Ideal) x0 x1 x2 x4 q
    = (x0 q : EReal) + Cert.Rows.back (fun k => x2 (ix2 (q 0) k)) (fun k => (x1 (ix2 (q 0) k) : EReal) * x4 (ix2 0 k)) (q 1) :=
  Cert.Reference20Ideal.Mix.grad_at x0 x1 x2 x4 q

theorem gain_at (q : S1x2048.Idx) : val_main_v17 (F := Ideal) x1 x2 q
    = ∑ k : Fin 2048, (x1 (ix2 k (q 1)) : EReal) * ((x2 (ix2 k (q 1)) : EReal) * Cert.Rows.root fun l => x2 (ix2 k l)) :=
  Cert.Reference20Ideal.Mix.gain_at x1 x2 q

/-- The gradient of the layer, from that of the sum. -/
theorem layer_at (q : S2048x2048.Idx) : val_main_v69 (F := Ideal) x0 x1 x2 x3 x4 x5 q
    = Cert.Rows.back (fun k => x3 (ix2 (q 0) k)) (fun k => (val_main_v34 (F := Ideal) x0 x1 x2 x4 (ix2 (q 0) k) : EReal) * x5 (ix2 0 k)) (q 1) :=
  Cert.Reference20Ideal.Mix.back_at (val_main_v34 (F := Ideal) x0 x1 x2 x4) x3 x5 q

theorem layer_gain_at (q : S1x2048.Idx) : val_main_v52 (F := Ideal) x0 x1 x2 x3 x4 q
    = ∑ k : Fin 2048, (val_main_v34 (F := Ideal) x0 x1 x2 x4 (ix2 k (q 1)) : EReal) * ((x3 (ix2 k (q 1)) : EReal) * Cert.Rows.root fun l => x3 (ix2 k l)) :=
  Cert.Reference20Ideal.Mix.gain_at (val_main_v34 (F := Ideal) x0 x1 x2 x4) x3 q

end Cert.Reference21Ideal.Mix

/-! ## The call -/

namespace Cert.Kernel21Ideal.Mix

open Cert.Kernel21Ideal.Gen Cert.Reference21Ideal.Read
open Cert.Kernel20Ideal.Mix (part)

variable (m : (ℓ : Loc nD τ sig) → Buf (Elt Ideal) ℓ)

/-- Where the blocks of a grid point lie. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![0, 0] ∧ win0_9.index t = ![0, 0] :=
  (by decide +kernel : ∀ t : Fin grid0.N, _)

theorem run_idx (t : Fin cfg0.N) (h : t.val % 8 = 8 - 1) (s : Fin 8) :
    win0_1.index ⟨8 * (t.val / 8) + s.val, run_point_lt_of_flush t h s⟩ = ![s.val, 0] ∧ win0_2.index ⟨8 * (t.val / 8) + s.val, run_point_lt_of_flush t h s⟩ = ![s.val, 0]
    ∧ win0_3.index ⟨8 * (t.val / 8) + s.val, run_point_lt_of_flush t h s⟩ = ![s.val, 0] := by
  obtain ⟨-, e1, e2, e3, -⟩ := idx ⟨8 * (t.val / 8) + s.val, run_point_lt_of_flush t h s⟩
  have a : 8 * (t.val / 8) + s.val = s.val := by
    have : t.val < 8 := t.isLt
    omega
  rw [e1, e2, e3]
  dsimp only
  rw [a]
  exact ⟨rfl, rfl, rfl⟩

/-- The gradient of a block's rows, and the one beside it. -/
theorem grad_at (x d : Vec Ideal S256x2048 .f32) (g : Vec Ideal S1x2048 .f32) (b : Vec Ideal S256x2048 .f32) (i : S256x2048.Idx) :
    k0_pay3 (F := Ideal) x d g b i
      = (b i : EReal) + Cert.Rows.back (fun k => x (ix2 (i 0) k)) (fun k => (d (ix2 (i 0) k) : EReal) * g (ix2 0 k)) (i 1) := by
  rw [← Cert.Kernel20Ideal.Mix.grad_at x d g b i]
  exact add_comm (G := EReal) _ _

theorem root_at (x : Vec Ideal S256x2048 .f32) (i : S256x1.Idx) :
    k0_pay6 (F := Ideal) x i = Cert.Rows.root fun k => x (ix2 (i 0) k) :=
  Cert.Kernel20Ideal.Mix.root_at x i

theorem rows_at (x : Vec Ideal S256x2048 .f32) (i : S256x2048.Idx) :
    k0_pay7 (F := Ideal) x i = (x i : EReal) * Cert.Rows.root fun k => x (ix2 (i 0) k) :=
  Cert.Kernel20Ideal.Mix.rows_at x i

theorem sum_rows_at (x : Vec Ideal S256x2048 .f32) (i : S256x2048.Idx) :
    k0_pay2 (F := Ideal) x i = (x i : EReal) * Cert.Rows.root fun k => x (ix2 (i 0) k) :=
  Cert.Kernel20Ideal.Mix.rows_at x i

/-- The gradient of a block's rows in the lower precision. -/
theorem layer_at (d x : Vec Ideal S256x2048 .f32) (g : Vec Ideal S1x2048 .f32) (i : S256x2048.Idx) :
    k0_pay8 (F := Ideal) d x g i = Cert.Rows.back (fun k => x (ix2 (i 0) k)) (fun k => (d (ix2 (i 0) k) : EReal) * g (ix2 0 k)) (i 1) := by
  pointwise [k0_pay8, rows_at, root_at]
  rw [show d i = d (ix2 (i 0) (i 1)) from congrArg d (eq_ix2 i), show x i = x (ix2 (i 0) (i 1)) from congrArg x (eq_ix2 i)]
  rfl

/-- A point's block of the gradient of the sum. -/
def grad (c : Dev nD) (t : Fin cfg0.N) : Vec Ideal S256x2048 .f32 :=
  k0_pay3 (F := Ideal) (iblk m c 2 t) (iblk m c 1 t) (iblk m c 4 t) (iblk m c 0 t)

/-- It is the reference's. -/
theorem grad_blk (c : Dev nD) (t : Fin cfg0.N) (j : S256x2048.Idx) (q : S2048x2048.Idx) (h0 : (q 0).val = t.val * 256 + (j 0).val) (h1 : (q 1).val = (j 1).val) :
    grad m c t j = val_main_v34 (F := Ideal) (m ((c : Thread nD τ).loc main_arg0)) (m ((c : Thread nD τ).loc main_arg1)) (m ((c : Thread nD τ).loc main_arg2)) (m ((c : Thread nD τ).loc main_arg4)) q := by
  obtain ⟨e0, e1, e2, -, e4, -⟩ := idx t
  rw [Cert.Reference21Ideal.Mix.grad_at]
  refine Eq.trans (grad_at _ _ _ _ j) ?_
  refine congrArg₂ (fun a b : EReal => a + b) ?_ (Cert.Rows.back_congr (fun k => ?_) (fun k => congrArg₂ (fun a b : EReal => a * b) ?_ ?_) ?_)
  · refine Eq.trans ?_ (congrFun (V_main_arg0 m c) _)
    blk_point [iblk, e0, h0, h1]
  · refine Eq.trans ?_ (congrFun (V_main_arg2 m c) _)
    blk_point [iblk, e2, h0]
  · refine Eq.trans ?_ (congrFun (V_main_arg1 m c) _)
    blk_point [iblk, e1, h0]
  · refine Eq.trans ?_ (congrFun (V_main_arg4 m c) _)
    blk_point [iblk, e4]
  · exact Fin.ext h1.symm

/-- What a point leaves in the blocks of the two gradients. -/
theorem same (c : Dev nD) (t : Fin cfg0.N) :
    (outsAt0 m c t.val t.isLt).1 = grad m c t ∧ (outsAt0 m c t.val t.isLt).2.1 = k0_pay8 (F := Ideal) (grad m c t) (iblk m c 3 t) (iblk m c 5 t) := by
  unfold grad
  by_cases h : t.val % 8 = 0
  · rw [outsAt0_A m c t h h]
    constructor <;> frame_out
  · rw [outsAt0_B m c t h h]
    constructor <;> frame_out

/-- After a run the accumulators have the parts of all the blocks. -/
theorem total (c : Dev nD) (t : Fin cfg0.N) (h : t.val % 8 = 8 - 1) (i : S1x2048.Idx) :
    (outsAt0 m c t.val t.isLt).2.2.1 i = ∑ s : Fin 8, part (iblk m c 2 ⟨8 * (t.val / 8) + s.val, run_point_lt_of_flush t h s⟩) (iblk m c 1 ⟨8 * (t.val / 8) + s.val, run_point_lt_of_flush t h s⟩) i := by
  rw [eq_sum_fin_of_reset_step_apply_of_flush (fun n h => (outsAt0 m c n h).2.2.1) 8 (fun _ => (0 : EReal)) (fun t => part (iblk m c 2 t) (iblk m c 1 t)) ?_ ?_ t h i]
  · exact zero_add _
  · intro t h i
    rw [outsAt0_A m c t h h]
    frame_out
    pointwise [k0_pay4, k0_pay5, sum_rows_at]
    rfl
  · intro t h i
    rw [outsAt0_B m c t (by omega) (by omega)]
    frame_out
    pointwise [k0_pay5, sum_rows_at]
    rfl

theorem layer_total (c : Dev nD) (t : Fin cfg0.N) (h : t.val % 8 = 8 - 1) (i : S1x2048.Idx) :
    (outsAt0 m c t.val t.isLt).2.2.2 i = ∑ s : Fin 8, part (iblk m c 3 ⟨8 * (t.val / 8) + s.val, run_point_lt_of_flush t h s⟩) (grad m c ⟨8 * (t.val / 8) + s.val, run_point_lt_of_flush t h s⟩) i := by
  rw [eq_sum_fin_of_reset_step_apply_of_flush (fun n h => (outsAt0 m c n h).2.2.2) 8 (fun _ => (0 : EReal)) (fun t => part (iblk m c 3 t) (grad m c t)) ?_ ?_ t h i]
  · exact zero_add _
  · intro t h i
    rw [outsAt0_A m c t h h]
    frame_out
    pointwise [k0_pay9, k0_pay10, rows_at]
    rfl
  · intro t h i
    rw [outsAt0_B m c t (by omega) (by omega)]
    frame_out
    pointwise [k0_pay10, rows_at]
    rfl

/-- The gradient of the sum that the call leaves is the reference's. -/
theorem final6 (c : Dev nD) : (dats m 0 c).arrAt 6 cfg0.N = val_main_v34 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  obtain ⟨-, -, -, -, -, -, e6, -⟩ := idx t
  blk_simp
  rw [after0_6, (same m c t).1]
  exact grad_blk m c t y _ (by blk_simp [e6]) (by blk_simp [e6])

/-- The gradient of the layer that the call leaves is the reference's. -/
theorem final7 (c : Dev nD) : (dats m 0 c).arrAt 7 cfg0.N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  obtain ⟨-, -, -, e3, -, e5, -, e7, -⟩ := idx t
  blk_simp
  rw [after0_7, (same m c t).2, layer_at, Cert.Reference21Ideal.Mix.layer_at]
  refine Cert.Rows.back_congr (fun k => ?_) (fun k => congrArg₂ (fun a b : EReal => a * b) ?_ ?_) ?_
  · refine Eq.trans ?_ (congrFun (V_main_arg3 m c) _)
    blk_point [iblk, e3, e7]
  · exact grad_blk m c t _ _ (by blk_simp [e7]) (by blk_simp [e7])
  · refine Eq.trans ?_ (congrFun (V_main_arg5 m c) _)
    blk_point [iblk, e5, e7]
  · refine Fin.ext ?_
    blk_simp [e7]

/-- The gradient of the second gains that the call leaves is the reference's. -/
theorem final8 (c : Dev nD) : (dats m 0 c).arrAt 8 cfg0.N = val_main_v17 (F := Ideal) (m ((c : Thread nD τ).loc main_arg1)) (m ((c : Thread nD τ).loc main_arg2)) := by
  refine (dats m 0 c).arrAt_eq_of_covers 8 _ (by decide +kernel) fun t hf y => ?_
  have h : t.val % 8 = 7 := (flush0_8 t).mp hf
  obtain ⟨-, -, -, -, -, -, -, -, e8, -⟩ := idx t
  blk_simp
  rw [after0_8, total m c t h, Cert.Reference21Ideal.Mix.gain_at]
  unfold part
  refine Fin.sum_mul_add_congr fun s k hl => ?_
  obtain ⟨f1, f2, -⟩ := run_idx t h s
  refine congrArg₂ (fun a b : EReal => a * b) ?_ (congrArg₂ (fun a b : EReal => a * b) ?_ (Cert.Rows.root_congr fun k => ?_))
  · refine Eq.trans ?_ (congrFun (V_main_arg1 m c) _)
    blk_point [iblk, f1, e8]
  · refine Eq.trans ?_ (congrFun (V_main_arg2 m c) _)
    blk_point [iblk, f2, e8]
  · refine Eq.trans ?_ (congrFun (V_main_arg2 m c) _)
    blk_point [iblk, f2, e8]

/-- The gradient of the first gains that the call leaves is the reference's. -/
theorem final9 (c : Dev nD) : (dats m 0 c).arrAt 9 cfg0.N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have h : t.val % 8 = 7 := (flush0_9 t).mp hf
  obtain ⟨-, -, -, -, -, -, -, -, -, e9⟩ := idx t
  blk_simp
  rw [after0_9, layer_total m c t h, Cert.Reference21Ideal.Mix.layer_gain_at]
  unfold part
  refine Fin.sum_mul_add_congr fun s k hl => ?_
  obtain ⟨-, -, f3⟩ := run_idx t h s
  refine congrArg₂ (fun a b : EReal => a * b) ?_ (congrArg₂ (fun a b : EReal => a * b) ?_ (Cert.Rows.root_congr fun k => ?_))
  · refine grad_blk m c _ _ _ ?_ (by blk_simp [e9])
    have : t.val < 8 := t.isLt
    show s.val * 256 + k.val = (8 * (t.val / 8) + s.val) * 256 + k.val
    omega
  · refine Eq.trans ?_ (congrFun (V_main_arg3 m c) _)
    blk_point [iblk, f3, e9]
  · refine Eq.trans ?_ (congrFun (V_main_arg3 m c) _)
    blk_point [iblk, f3, e9]

end Cert.Kernel21Ideal.Mix

end
-- ==== Proof.LossHead.lean ====
/-
  The loss and the gradients that leave it.
-/
module

public import proofs.«01_k».proof.Proof.Gen.Kernel22Ideal.Value
public import proofs.«01_k».proof.Proof.Gen.Reference22Ideal.Read
public import proofs.«01_k».proof.Proof.NormFwd
public import proofs.«01_k».proof.Proof.MidNormsBwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline

namespace Cert.Loss

theorem half_eq : Ideal.ofBits .f32 0x3F000000#32 = ((1 / 2 : ℝ) : EReal) := by
  simp [Ideal.ofBits, Ideal.ieee]
  rw [← EReal.coe_mul]
  norm_num

theorem one_eq : Ideal.ofBits .f32 0x3F800000#32 = ((1 : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem share_eq : Ideal.ofBits .f32 0x3A000000#32 = ((1 / 2048 : ℝ) : EReal) := by
  simp [Ideal.ofBits, Ideal.ieee]
  rw [← EReal.coe_mul]
  norm_num

/-- Twice the error, times half of one entry's share of the mean, is the error times that share. -/
theorem scaled_eq (x : EReal) :
    Ideal.div (Ideal.ofBits .f32 0x3F000000#32 * Ideal.ofBits .f32 0x3F800000#32) (Ideal.ofBits .f32 0x45000000#32) * (Ideal.ofBits .f32 0x40000000#32 * x)
      = x * Ideal.ofBits .f32 0x3A000000#32 := by
  rw [half_eq, one_eq, two_eq, share_eq, Cert.Rows.size_eq, ← EReal.coe_mul, Ideal.div_coe (by norm_num), ← EReal.coe_mul, ← mul_assoc, ← EReal.coe_mul, mul_comm]
  norm_num

/-- Half of a sum is the sum of the halves. -/
theorem half_sum {n : ℕ} (f : Fin n → EReal) : ∑ s, Ideal.ofBits .f32 0x3F000000#32 * f s = Ideal.ofBits .f32 0x3F000000#32 * ∑ s, f s := by
  rw [half_eq, mul_comm, ← Cert.Rows.sum_mul_coe f (by norm_num)]
  exact Finset.sum_congr rfl fun s _ => mul_comm _ _

/-- A row's mean square error. -/
def row (e : Fin 2048 → EReal) : EReal := Ideal.div (∑ l, e l * e l) (Ideal.ofBits .f32 0x45000000#32)

/-- The blocks' parts of the loss are together the loss. -/
theorem blocks (f : Fin 8 → Fin 256 → Fin 2048 → EReal) (g : Fin 2048 → Fin 2048 → EReal) (h : ∀ (s : Fin 8) (k : Fin 256) (hl : s.val * 256 + k.val < 2048) (l : Fin 2048), f s k l = g ⟨s.val * 256 + k.val, hl⟩ l) :
    ∑ s, Ideal.ofBits .f32 0x3F000000#32 * ∑ k, row (f s k) = Ideal.ofBits .f32 0x3F000000#32 * ∑ k, row (g k) := by
  rw [half_sum]
  refine congrArg _ (Fin.sum_mul_add_congr fun s k hl => congrArg row (funext fun l => ?_))
  exact h s k hl l

end Cert.Loss

/-! ## The reference -/

namespace Cert.Reference22Ideal.Mix

open Cert.Reference22Ideal.Gen Cert.Reference22Ideal.Read

variable (x0 x1 x2 : (⟨S2048x2048, .f32⟩ : BufTy).Contents (Elt Ideal)) (x3 : (⟨S1x2048, .f32⟩ : BufTy).Contents (Elt Ideal))

/-- The error. -/
theorem err_at (q : S2048x2048.Idx) : val_main_v16 (F := Ideal) x0 x1 x2 x3 q
    = Cert.Rows.sum (fun k => x0 (ix2 (q 0) k)) (fun k => x1 (ix2 (q 0) k)) (fun k => x3 (ix2 0 k)) (q 1) - (x2 q : EReal) :=
  congrArg (fun a : EReal => a - x2 q) (Cert.Reference24Ideal.Mix.sum_at x0 x1 x3 q)

/-- Its gradient. -/
theorem scaled_at (q : S2048x2048.Idx) : val_main_v30 (F := Ideal) x0 x1 x2 x3 q = (val_main_v16 (F := Ideal) x0 x1 x2 x3 q : EReal) * Ideal.ofBits .f32 0x3A000000#32 := by
  refine Eq.trans ?_ (Cert.Loss.scaled_eq _)
  pointwise [val_main_v30_apply, val_main_v29_apply, val_main_v28_apply, val_main_v27_apply, val_main_v26_apply, val_main_v25_apply, val_main_v19_apply, val_main_v18_apply, val_main_cst_3_apply, val_main_cst_8_apply, val_main_cst_9_apply, val_main_cst_10_apply]

/-- The loss. -/
theorem loss_at (q : S1x128.Idx) : val_main_v50 (F := Ideal) x0 x1 x2 x3 q
    = Ideal.ofBits .f32 0x3F000000#32 * ∑ k : Fin 2048, Cert.Loss.row fun l => val_main_v16 (F := Ideal) x0 x1 x2 x3 (ix2 k l) := by
  pointwise [val_main_v50_apply, val_main_v24_apply, val_main_v23_apply, val_main_v22_apply, val_main_v21_apply, val_main_v20_apply, val_main_v17_apply, val_main_cst_4_apply, val_main_cst_5_apply, val_main_cst_6_apply, val_main_cst_7_apply]
  refine congrArg (fun a : EReal => Ideal.ofBits .f32 0x3F000000#32 * a) ((sum_idx1 _).trans (Finset.sum_congr rfl fun k _ => congrArg (fun a : EReal => Ideal.div a (Ideal.ofBits .f32 0x45000000#32)) (Finset.sum_congr rfl fun l _ => ?_)))
  rw [show idx_main_v20 (ix1 k) l = ix2 k l from eq_ix2 _]

theorem layer_at (q : S2048x2048.Idx) : val_main_v51 (F := Ideal) x0 x1 x2 x3 q
    = Cert.Rows.back (fun k => x1 (ix2 (q 0) k)) (fun k => (val_main_v30 (F := Ideal) x0 x1 x2 x3 (ix2 (q 0) k) : EReal) * x3 (ix2 0 k)) (q 1) :=
  Cert.Reference20Ideal.Mix.back_at (val_main_v30 (F := Ideal) x0 x1 x2 x3) x1 x3 q

theorem gain_at (q : S1x2048.Idx) : val_main_v33 (F := Ideal) x0 x1 x2 x3 q
    = ∑ k : Fin 2048, (val_main_v30 (F := Ideal) x0 x1 x2 x3 (ix2 k (q 1)) : EReal) * ((x1 (ix2 k (q 1)) : EReal) * Cert.Rows.root fun l => x1 (ix2 k l)) :=
  Cert.Reference20Ideal.Mix.gain_at (val_main_v30 (F := Ideal) x0 x1 x2 x3) x1 q

end Cert.Reference22Ideal.Mix

/-! ## The call -/

namespace Cert.Kernel22Ideal.Mix

open Cert.Kernel22Ideal.Gen Cert.Reference22Ideal.Read
open Cert.Kernel20Ideal.Mix (part)

variable (m : (ℓ : Loc nD τ sig) → Buf (Elt Ideal) ℓ)

/-- Where the blocks of a grid point lie. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] :=
  (by decide +kernel : ∀ t : Fin grid0.N, _)

theorem run_idx (t : Fin cfg0.N) (h : t.val % 8 = 8 - 1) (s : Fin 8) : win0_1.index ⟨8 * (t.val / 8) + s.val, run_point_lt_of_flush t h s⟩ = ![s.val, 0] := by
  obtain ⟨-, e1, -⟩ := idx ⟨8 * (t.val / 8) + s.val, run_point_lt_of_flush t h s⟩
  have a : 8 * (t.val / 8) + s.val = s.val := by
    have : t.val < 8 := t.isLt
    omega
  rw [e1]
  dsimp only
  rw [a]

theorem root_at (x : Vec Ideal S256x2048 .f32) (i : S256x1.Idx) :
    k0_pay6 (F := Ideal) x i = Cert.Rows.root fun k => x (ix2 (i 0) k) :=
  Cert.Kernel20Ideal.Mix.root_at x i

theorem rows_at (x : Vec Ideal S256x2048 .f32) (i : S256x2048.Idx) :
    k0_pay2 (F := Ideal) x (k0_pay6 (F := Ideal) x) i = (x i : EReal) * Cert.Rows.root fun k => x (ix2 (i 0) k) :=
  Cert.Kernel20Ideal.Mix.rows_at x i

/-- A block of the error. -/
theorem err_at (v x : Vec Ideal S256x2048 .f32) (g : Vec Ideal S1x2048 .f32) (b : Vec Ideal S256x2048 .f32) (i : S256x2048.Idx) : k0_pay7 (F := Ideal) v x g b i
    = Cert.Rows.sum (fun k => x (ix2 (i 0) k)) (fun k => v (ix2 (i 0) k)) (fun k => g (ix2 0 k)) (i 1) - (b i : EReal) :=
  congrArg (fun a : EReal => a - b i) (Cert.Kernel24Ideal.Mix.sum_at v x g i)

/-- The gradient of a block's rows in the lower precision. -/
theorem layer_at (e x : Vec Ideal S256x2048 .f32) (g : Vec Ideal S1x2048 .f32) (i : S256x2048.Idx) :
    k0_pay3 (F := Ideal) x (k0_pay6 (F := Ideal) x) e g i = Cert.Rows.back (fun k => x (ix2 (i 0) k)) (fun k => (k0_pay1 (F := Ideal) e (ix2 (i 0) k) : EReal) * g (ix2 0 k)) (i 1) :=
  Cert.Kernel21Ideal.Mix.layer_at (k0_pay1 (F := Ideal) e) x g i

/-- A point's block of the error, and of its gradient. -/
def err (c : Dev nD) (t : Fin cfg0.N) : Vec Ideal S256x2048 .f32 :=
  k0_pay7 (F := Ideal) (iblk m c 1 t) (iblk m c 0 t) (iblk m c 3 t) (iblk m c 2 t)

def scaled (c : Dev nD) (t : Fin cfg0.N) : Vec Ideal S256x2048 .f32 := k0_pay1 (F := Ideal) (err m c t)

variable (c : Dev nD) (t : Fin cfg0.N) (j : S256x2048.Idx) (q : S2048x2048.Idx) (h0 : (q 0).val = t.val * 256 + (j 0).val) (h1 : (q 1).val = (j 1).val)

include h0 h1

/-- They are the reference's. -/
theorem err_blk : err m c t j = val_main_v16 (F := Ideal) (m ((c : Thread nD τ).loc main_arg0)) (m ((c : Thread nD τ).loc main_arg1)) (m ((c : Thread nD τ).loc main_arg2)) (m ((c : Thread nD τ).loc main_arg3)) q := by
  obtain ⟨e0, e1, e2, e3, -⟩ := idx t
  rw [Cert.Reference22Ideal.Mix.err_at]
  refine Eq.trans (err_at _ _ _ _ j) ?_
  refine congrArg₂ (fun a b : EReal => a - b) (Cert.Rows.sum_congr (fun k => ?_) (fun k => ?_) (fun k => ?_) ?_) ?_
  · refine Eq.trans ?_ (congrFun (V_main_arg0 m c) _)
    blk_point [iblk, e0, h0]
  · refine Eq.trans ?_ (congrFun (V_main_arg1 m c) _)
    blk_point [iblk, e1, h0]
  · refine Eq.trans ?_ (congrFun (V_main_arg3 m c) _)
    blk_point [iblk, e3]
  · exact Fin.ext h1.symm
  · refine Eq.trans ?_ (congrFun (V_main_arg2 m c) _)
    blk_point [iblk, e2, h0, h1]

theorem scaled_blk : scaled m c t j = val_main_v30 (F := Ideal) (m ((c : Thread nD τ).loc main_arg0)) (m ((c : Thread nD τ).loc main_arg1)) (m ((c : Thread nD τ).loc main_arg2)) (m ((c : Thread nD τ).loc main_arg3)) q := by
  rw [Cert.Reference22Ideal.Mix.scaled_at, ← err_blk m c t j q h0 h1]
  rfl

omit h0 h1

/-- A point's part of the loss. -/
def lossPart : EReal :=
  Ideal.ofBits .f32 0x3F000000#32 * ∑ k : Fin 256, Cert.Loss.row fun l => err m c t (ix2 k l)

/-- What a point leaves in the blocks of the two gradients. -/
theorem same : (outsAt0 m c t.val t.isLt).2.1 = scaled m c t
    ∧ (outsAt0 m c t.val t.isLt).2.2.1 = k0_pay3 (F := Ideal) (iblk m c 1 t) (k0_pay6 (F := Ideal) (iblk m c 1 t)) (err m c t) (iblk m c 3 t) := by
  unfold scaled err
  by_cases h : t.val % 8 = 0
  · rw [outsAt0_A m c t h h]
    constructor <;> frame_out
  · rw [outsAt0_B m c t h h]
    constructor <;> frame_out

/-- After a run the accumulators have the parts of all the blocks. -/
theorem total (h : t.val % 8 = 8 - 1) (i : S1x128.Idx) :
    (outsAt0 m c t.val t.isLt).1 i = ∑ s : Fin 8, lossPart m c ⟨8 * (t.val / 8) + s.val, run_point_lt_of_flush t h s⟩ := by
  rw [eq_sum_fin_of_reset_step_apply_of_flush (fun n h => (outsAt0 m c n h).1) 8 (fun _ => (0 : EReal)) (fun t _ => lossPart m c t) ?_ ?_ t h i]
  · exact zero_add _
  · intro t h i
    rw [outsAt0_A m c t h h]
    frame_out
    pointwise [k0_pay8, k0_pay9]
    rfl
  · intro t h i
    rw [outsAt0_B m c t (by omega) (by omega)]
    frame_out
    pointwise [k0_pay9]
    rfl

theorem layer_total (h : t.val % 8 = 8 - 1) (i : S1x2048.Idx) :
    (outsAt0 m c t.val t.isLt).2.2.2 i = ∑ s : Fin 8, part (iblk m c 1 ⟨8 * (t.val / 8) + s.val, run_point_lt_of_flush t h s⟩) (scaled m c ⟨8 * (t.val / 8) + s.val, run_point_lt_of_flush t h s⟩) i := by
  rw [eq_sum_fin_of_reset_step_apply_of_flush (fun n h => (outsAt0 m c n h).2.2.2) 8 (fun _ => (0 : EReal)) (fun t => part (iblk m c 1 t) (scaled m c t)) ?_ ?_ t h i]
  · exact zero_add _
  · intro t h i
    rw [outsAt0_A m c t h h]
    frame_out
    pointwise [k0_pay4, k0_pay5, rows_at]
    rfl
  · intro t h i
    rw [outsAt0_B m c t (by omega) (by omega)]
    frame_out
    pointwise [k0_pay5, rows_at]
    rfl

omit t

/-- The loss that the call leaves is the reference's. -/
theorem final4 : (dats m 0 c).arrAt 4 cfg0.N = val_main_v50 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h : t.val % 8 = 7 := (flush0_4 t).mp hf
  blk_simp
  rw [after0_4, total m c t h, Cert.Reference22Ideal.Mix.loss_at]
  have b : t.val < 8 := t.isLt
  refine Cert.Loss.blocks (fun s k l => err m c ⟨8 * (t.val / 8) + s.val, run_point_lt_of_flush t h s⟩ (ix2 k l)) _ fun s k hl l => ?_
  exact err_blk m c _ _ (ix2 ⟨s.val * 256 + k.val, hl⟩ l) (show s.val * 256 + k.val = (8 * (t.val / 8) + s.val) * 256 + k.val by omega) rfl

/-- The gradient of the sum that the call leaves is the reference's. -/
theorem final5 : (dats m 0 c).arrAt 5 cfg0.N = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e5, -⟩ := idx t
  blk_simp
  rw [after0_5, (same m c t).1]
  exact scaled_blk m c t y _ (by blk_simp [e5]) (by blk_simp [e5])

/-- The gradient of the layer that the call leaves is the reference's. -/
theorem final6 : (dats m 0 c).arrAt 6 cfg0.N = val_main_v51 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨-, e1, -, e3, -, -, e6, -⟩ := idx t
  blk_simp
  rw [after0_6, (same m c t).2, layer_at, Cert.Reference22Ideal.Mix.layer_at]
  refine Cert.Rows.back_congr (fun k => ?_) (fun k => congrArg₂ (fun a b : EReal => a * b) ?_ ?_) ?_
  · refine Eq.trans ?_ (congrFun (V_main_arg1 m c) _)
    blk_point [iblk, e1, e6]
  · exact scaled_blk m c t _ _ (by blk_simp [e6]) (by blk_simp [e6])
  · refine Eq.trans ?_ (congrFun (V_main_arg3 m c) _)
    blk_point [iblk, e3, e6]
  · refine Fin.ext ?_
    blk_simp [e6]

/-- The gradient of the gains that the call leaves is the reference's. -/
theorem final7 : (dats m 0 c).arrAt 7 cfg0.N = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h : t.val % 8 = 7 := (flush0_7 t).mp hf
  obtain ⟨-, -, -, -, -, -, -, e7⟩ := idx t
  blk_simp
  rw [after0_7, layer_total m c t h, Cert.Reference22Ideal.Mix.gain_at]
  unfold part
  refine Fin.sum_mul_add_congr fun s k hl => ?_
  have f1 := run_idx t h s
  refine congrArg₂ (fun a b : EReal => a * b) ?_ (congrArg₂ (fun a b : EReal => a * b) ?_ (Cert.Rows.root_congr fun k => ?_))
  · refine scaled_blk m c _ _ _ ?_ (by blk_simp [e7])
    have : t.val < 8 := t.isLt
    show s.val * 256 + k.val = (8 * (t.val / 8) + s.val) * 256 + k.val
    omega
  · refine Eq.trans ?_ (congrFun (V_main_arg1 m c) _)
    blk_point [iblk, f1, e7]
  · refine Eq.trans ?_ (congrFun (V_main_arg1 m c) _)
    blk_point [iblk, f1, e7]

end Cert.Kernel22Ideal.Mix

end
-- ==== Proof.Adam.lean ====
/-
  The optimiser's step on one device's part of a weight: its gradient is the sum of what the four chips send it.
-/
module

public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline

namespace Cert.Adam

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- What is added to the weight. -/
def step (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- An index with one place along its first axis, from the other two. -/
theorem only {n k : ℕ} (i : (⟨3, ![1, n, k]⟩ : Shape).Idx) : i = ix3 0 (i 1) (i 2) :=
  (eq_ix3 i).trans (congrArg (fun a => ix3 a (i 1) (i 2)) (Subsingleton.elim (α := Fin 1) (i 0) 0))

end Cert.Adam

/-! ## The branches' weights -/

namespace Cert.Reference25Ideal.Mix

open Cert.Reference25Ideal.Gen Cert.Reference25Ideal.Read

variable (x0 : (⟨S4x1024x256, .bf16⟩ : BufTy).Contents (Elt Ideal)) (x1 x2 x3 : (⟨S1x1024x256, .f32⟩ : BufTy).Contents (Elt Ideal)) (i : S1x1024x256.Idx)

theorem sum_at : val_main_v2 (F := Ideal) x0 i = ∑ s : Fin 4, (x0 (ix3 s (i 1) (i 2)) : EReal) := by
  pointwise [val_main_v2_apply, val_main_v1_apply, val_main_v0_apply, val_main_cst_apply]
  exact Finset.sum_congr rfl fun s _ => congrArg x0 (eq_ix3 (idx_main_v1 (idx_main_v2 i) s))

theorem first_at : val_main_v7 (F := Ideal) x0 x2 i = Cert.Adam.first (∑ s : Fin 4, (x0 (ix3 s (i 1) (i 2)) : EReal)) (x2 i) := by
  pointwise [val_main_v7_apply, val_main_v6_apply, val_main_v5_apply, val_main_v4_apply, val_main_v3_apply, val_main_cst_0_apply, val_main_cst_1_apply, sum_at]
  rfl

theorem second_at : val_main_v13 (F := Ideal) x0 x3 i = Cert.Adam.second (∑ s : Fin 4, (x0 (ix3 s (i 1) (i 2)) : EReal)) (x3 i) := by
  pointwise [val_main_v13_apply, val_main_v12_apply, val_main_v11_apply, val_main_v10_apply, val_main_v9_apply, val_main_v8_apply, val_main_cst_2_apply, val_main_cst_3_apply, sum_at]
  rfl

theorem step_at : val_main_v26 (F := Ideal) x0 x1 x2 x3 i = Cert.Adam.step (∑ s : Fin 4, (x0 (ix3 s (i 1) (i 2)) : EReal)) (x1 i) (x2 i) (x3 i) := by
  pointwise [val_main_v26_apply, val_main_v25_apply, val_main_v24_apply, val_main_v23_apply, val_main_v22_apply, val_main_v21_apply, val_main_v20_apply, val_main_v19_apply, val_main_v18_apply, val_main_v17_apply, val_main_v16_apply,
    val_main_v15_apply, val_main_v14_apply, val_main_cst_4_apply, val_main_cst_5_apply, val_main_cst_6_apply, val_main_cst_7_apply, val_main_cst_8_apply, first_at, second_at]
  rfl

end Cert.Reference25Ideal.Mix

namespace Cert.Kernel25Ideal.Mix

open Cert.Kernel25Ideal.Gen Cert.Reference25Ideal.Read

variable (m : (ℓ : Loc nD τ sig) → Buf (Elt Ideal) ℓ)

/-- The four chips' parts, added one after the other. -/
theorem sum_at (x0 : Vec Ideal S4x1024x256 .bf16) (i : S1024x256.Idx) :
    k0_pay6 (F := Ideal) (View.ld x0 r0_0) (View.ld x0 r0_1) (View.ld x0 r0_2) (View.ld x0 r0_3) i = ∑ s : Fin 4, (x0 (ix3 s (i 0) (i 1)) : EReal) := by
  pointwise [k0_pay6, Fin.sum_univ_four]

theorem final4 (c : Dev nD) : (dats m 0 c).arrAt 4 cfg0.N = val_main_v2 (F := Ideal) (m ((c : Thread nD τ).loc main_arg0)) := by
  rw [Value.final4]
  funext i
  obtain ⟨a, b, rfl⟩ : ∃ a b, i = ix3 0 a b := ⟨i 1, i 2, Cert.Adam.only i⟩
  rw [Cert.Reference25Ideal.Mix.sum_at]
  pointwise [k0_pay2, sum_at]

theorem final5 (c : Dev nD) : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  rw [Value.final5]
  funext i
  obtain ⟨a, b, rfl⟩ : ∃ a b, i = ix3 0 a b := ⟨i 1, i 2, Cert.Adam.only i⟩
  rw [Cert.Reference25Ideal.Mix.step_at]
  pointwise [k0_pay1, k0_pay3, k0_pay7, k0_pay8, k0_pay9, k0_pay10, k0_pay11, k0_pay12, k0_pay13, sum_at]
  rfl

theorem final6 (c : Dev nD) : (dats m 0 c).arrAt 6 cfg0.N = val_main_v7 (F := Ideal) (m ((c : Thread nD τ).loc main_arg0)) (m ((c : Thread nD τ).loc main_arg2)) := by
  rw [Value.final6]
  funext i
  obtain ⟨a, b, rfl⟩ : ∃ a b, i = ix3 0 a b := ⟨i 1, i 2, Cert.Adam.only i⟩
  rw [Cert.Reference25Ideal.Mix.first_at]
  pointwise [k0_pay4, k0_pay9, k0_pay12, sum_at]
  rfl

theorem final7 (c : Dev nD) : (dats m 0 c).arrAt 7 cfg0.N = val_main_v13 (F := Ideal) (m ((c : Thread nD τ).loc main_arg0)) (m ((c : Thread nD τ).loc main_arg3)) := by
  rw [Value.final7]
  funext i
  obtain ⟨a, b, rfl⟩ : ∃ a b, i = ix3 0 a b := ⟨i 1, i 2, Cert.Adam.only i⟩
  rw [Cert.Reference25Ideal.Mix.second_at]
  pointwise [k0_pay1, k0_pay5, k0_pay8, k0_pay10, k0_pay11, k0_pay13, sum_at]
  rfl

end Cert.Kernel25Ideal.Mix

/-! ## The weight behind the branches -/

namespace Cert.Reference26Ideal.Mix

open Cert.Reference26Ideal.Gen Cert.Reference26Ideal.Read

variable (x0 : (⟨S4x256x2048, .bf16⟩ : BufTy).Contents (Elt Ideal)) (x1 x2 x3 : (⟨S1x256x2048, .f32⟩ : BufTy).Contents (Elt Ideal)) (i : S1x256x2048.Idx)

theorem sum_at : val_main_v2 (F := Ideal) x0 i = ∑ s : Fin 4, (x0 (ix3 s (i 1) (i 2)) : EReal) := by
  pointwise [val_main_v2_apply, val_main_v1_apply, val_main_v0_apply, val_main_cst_apply]
  exact Finset.sum_congr rfl fun s _ => congrArg x0 (eq_ix3 (idx_main_v1 (idx_main_v2 i) s))

theorem first_at : val_main_v7 (F := Ideal) x0 x2 i = Cert.Adam.first (∑ s : Fin 4, (x0 (ix3 s (i 1) (i 2)) : EReal)) (x2 i) := by
  pointwise [val_main_v7_apply, val_main_v6_apply, val_main_v5_apply, val_main_v4_apply, val_main_v3_apply, val_main_cst_0_apply, val_main_cst_1_apply, sum_at]
  rfl

theorem second_at : val_main_v13 (F := Ideal) x0 x3 i = Cert.Adam.second (∑ s : Fin 4, (x0 (ix3 s (i 1) (i 2)) : EReal)) (x3 i) := by
  pointwise [val_main_v13_apply, val_main_v12_apply, val_main_v11_apply, val_main_v10_apply, val_main_v9_apply, val_main_v8_apply, val_main_cst_2_apply, val_main_cst_3_apply, sum_at]
  rfl

theorem step_at : val_main_v26 (F := Ideal) x0 x1 x2 x3 i = Cert.Adam.step (∑ s : Fin 4, (x0 (ix3 s (i 1) (i 2)) : EReal)) (x1 i) (x2 i) (x3 i) := by
  pointwise [val_main_v26_apply, val_main_v25_apply, val_main_v24_apply, val_main_v23_apply, val_main_v22_apply, val_main_v21_apply, val_main_v20_apply, val_main_v19_apply, val_main_v18_apply, val_main_v17_apply, val_main_v16_apply,
    val_main_v15_apply, val_main_v14_apply, val_main_cst_4_apply, val_main_cst_5_apply, val_main_cst_6_apply, val_main_cst_7_apply, val_main_cst_8_apply, first_at, second_at]
  rfl

end Cert.Reference26Ideal.Mix

namespace Cert.Kernel26Ideal.Mix

open Cert.Kernel26Ideal.Gen Cert.Reference26Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The four chips' parts, added one after the other. -/
theorem sum_at (x0 : Vec Ideal S4x128x2048 .bf16) (i : S128x2048.Idx) :
    k0_pay6 (F := Ideal) (View.ld x0 r0_0) (View.ld x0 r0_1) (View.ld x0 r0_2) (View.ld x0 r0_3) i = ∑ s : Fin 4, (x0 (ix3 s (i 0) (i 1)) : EReal) := by
  pointwise [k0_pay6, Fin.sum_univ_four]

variable (c : Dev nD) (t : Fin cfg0.N) (j : S1x128x2048.Idx) (q : S1x256x2048.Idx) (h1 : (q 1).val = t.val * 128 + (j 1).val) (h2 : (q 2).val = (j 2).val)

include h1 h2

/-- The block of the parts that a point reads, added up. -/
theorem parts_at : Finset.sum (M := EReal) Finset.univ (fun s : Fin 4 => iblk m c 0 t (ix3 s (j 1) (j 2))) = Finset.sum (M := EReal) Finset.univ (fun s : Fin 4 => m ((c : Thread nD τ).loc main_arg0) (ix3 s (q 1) (q 2))) := by
  obtain ⟨e0, -⟩ := idx t
  refine Finset.sum_congr rfl fun s _ => ?_
  refine Eq.trans ?_ (congrFun (V_main_arg0 m c) _)
  blk_point [iblk, e0, h1, h2]

/-- The blocks of the weight and of its moments that a point reads. -/
theorem weight_at : iblk m c 1 t j = m ((c : Thread nD τ).loc main_arg1) q := by
  obtain ⟨-, e1, -⟩ := idx t
  refine Eq.trans ?_ (congrFun (V_main_arg1 m c) q)
  blk_point [iblk, e1, h1, h2]

theorem first_at : iblk m c 2 t j = m ((c : Thread nD τ).loc main_arg2) q := by
  obtain ⟨-, -, e2, -⟩ := idx t
  refine Eq.trans ?_ (congrFun (V_main_arg2 m c) q)
  blk_point [iblk, e2, h1, h2]

theorem second_at : iblk m c 3 t j = m ((c : Thread nD τ).loc main_arg3) q := by
  obtain ⟨-, -, -, e3, -⟩ := idx t
  refine Eq.trans ?_ (congrFun (V_main_arg3 m c) q)
  blk_point [iblk, e3, h1, h2]

omit h1 h2

theorem final4 (c : Dev nD) : (dats m 0 c).arrAt 4 cfg0.N = val_main_v2 (F := Ideal) (m ((c : Thread nD τ).loc main_arg0)) := by
  refine (dats m 0 c).arrAt_eq_of_covers 4 _ (by decide +kernel) fun t hf y => ?_
  obtain ⟨a, b, rfl⟩ : ∃ a b, y = ix3 0 a b := ⟨y 1, y 2, Cert.Adam.only y⟩
  obtain ⟨-, -, -, -, e4, -⟩ := idx t
  blk_simp
  rw [after0_4, Cert.Reference26Ideal.Mix.sum_at]
  frame_out
  pointwise [k0_pay2, sum_at]
  exact parts_at m c t (ix3 0 a b) _ (by blk_simp [e4]) (by blk_simp [e4])

theorem final5 (c : Dev nD) : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨a, b, rfl⟩ : ∃ a b, y = ix3 0 a b := ⟨y 1, y 2, Cert.Adam.only y⟩
  obtain ⟨-, -, -, -, -, e5, -⟩ := idx t
  blk_simp
  rw [after0_5, Cert.Reference26Ideal.Mix.step_at, ← parts_at m c t (ix3 0 a b) _ (by blk_simp [e5]) (by blk_simp [e5]), ← weight_at m c t (ix3 0 a b) _ (by blk_simp [e5]) (by blk_simp [e5]),
    ← first_at m c t (ix3 0 a b) _ (by blk_simp [e5]) (by blk_simp [e5]), ← second_at m c t (ix3 0 a b) _ (by blk_simp [e5]) (by blk_simp [e5])]
  frame_out
  pointwise [k0_pay1, k0_pay3, k0_pay7, k0_pay8, k0_pay9, k0_pay10, k0_pay11, k0_pay12, k0_pay13, sum_at]
  rfl

theorem final6 (c : Dev nD) : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  obtain ⟨a, b, rfl⟩ : ∃ a b, y = ix3 0 a b := ⟨y 1, y 2, Cert.Adam.only y⟩
  obtain ⟨-, -, -, -, -, -, e6, -⟩ := idx t
  blk_simp
  rw [after0_6, Cert.Reference26Ideal.Mix.first_at, ← parts_at m c t (ix3 0 a b) _ (by blk_simp [e6]) (by blk_simp [e6]), ← first_at m c t (ix3 0 a b) _ (by blk_simp [e6]) (by blk_simp [e6])]
  frame_out
  pointwise [k0_pay4, k0_pay9, k0_pay12, sum_at]
  rfl

theorem final7 (c : Dev nD) : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  obtain ⟨a, b, rfl⟩ : ∃ a b, y = ix3 0 a b := ⟨y 1, y 2, Cert.Adam.only y⟩
  obtain ⟨-, -, -, -, -, -, -, e7⟩ := idx t
  blk_simp
  rw [after0_7, Cert.Reference26Ideal.Mix.second_at, ← parts_at m c t (ix3 0 a b) _ (by blk_simp [e7]) (by blk_simp [e7]), ← second_at m c t (ix3 0 a b) _ (by blk_simp [e7]) (by blk_simp [e7])]
  frame_out
  pointwise [k0_pay1, k0_pay5, k0_pay8, k0_pay10, k0_pay11, k0_pay13, sum_at]
  rfl

end Cert.Kernel26Ideal.Mix

/-! ## The feed-forward layer's last weight -/

namespace Cert.Reference27Ideal.Mix

open Cert.Reference27Ideal.Gen Cert.Reference27Ideal.Read

variable (x0 : (⟨S4x704x2048, .bf16⟩ : BufTy).Contents (Elt Ideal)) (x1 x2 x3 : (⟨S1x704x2048, .f32⟩ : BufTy).Contents (Elt Ideal)) (i : S1x704x2048.Idx)

theorem sum_at : val_main_v2 (F := Ideal) x0 i = ∑ s : Fin 4, (x0 (ix3 s (i 1) (i 2)) : EReal) := by
  pointwise [val_main_v2_apply, val_main_v1_apply, val_main_v0_apply, val_main_cst_apply]
  exact Finset.sum_congr rfl fun s _ => congrArg x0 (eq_ix3 (idx_main_v1 (idx_main_v2 i) s))

theorem first_at : val_main_v7 (F := Ideal) x0 x2 i = Cert.Adam.first (∑ s : Fin 4, (x0 (ix3 s (i 1) (i 2)) : EReal)) (x2 i) := by
  pointwise [val_main_v7_apply, val_main_v6_apply, val_main_v5_apply, val_main_v4_apply, val_main_v3_apply, val_main_cst_0_apply, val_main_cst_1_apply, sum_at]
  rfl

theorem second_at : val_main_v13 (F := Ideal) x0 x3 i = Cert.Adam.second (∑ s : Fin 4, (x0 (ix3 s (i 1) (i 2)) : EReal)) (x3 i) := by
  pointwise [val_main_v13_apply, val_main_v12_apply, val_main_v11_apply, val_main_v10_apply, val_main_v9_apply, val_main_v8_apply, val_main_cst_2_apply, val_main_cst_3_apply, sum_at]
  rfl

theorem step_at : val_main_v26 (F := Ideal) x0 x1 x2 x3 i = Cert.Adam.step (∑ s : Fin 4, (x0 (ix3 s (i 1) (i 2)) : EReal)) (x1 i) (x2 i) (x3 i) := by
  pointwise [val_main_v26_apply, val_main_v25_apply, val_main_v24_apply, val_main_v23_apply, val_main_v22_apply, val_main_v21_apply, val_main_v20_apply, val_main_v19_apply, val_main_v18_apply, val_main_v17_apply, val_main_v16_apply,
    val_main_v15_apply, val_main_v14_apply, val_main_cst_4_apply, val_main_cst_5_apply, val_main_cst_6_apply, val_main_cst_7_apply, val_main_cst_8_apply, first_at, second_at]
  rfl

end Cert.Reference27Ideal.Mix

namespace Cert.Kernel27Ideal.Mix

open Cert.Kernel27Ideal.Gen Cert.Reference27Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The four chips' parts, added one after the other. -/
theorem sum_at (x0 : Vec Ideal S4x88x2048 .bf16) (i : S88x2048.Idx) :
    k0_pay6 (F := Ideal) (View.ld x0 r0_0) (View.ld x0 r0_1) (View.ld x0 r0_2) (View.ld x0 r0_3) i = ∑ s : Fin 4, (x0 (ix3 s (i 0) (i 1)) : EReal) := by
  pointwise [k0_pay6, Fin.sum_univ_four]

variable (c : Dev nD) (t : Fin cfg0.N) (j : S1x88x2048.Idx) (q : S1x704x2048.Idx) (h1 : (q 1).val = t.val * 88 + (j 1).val) (h2 : (q 2).val = (j 2).val)

include h1 h2

/-- The block of the parts that a point reads, added up. -/
theorem parts_at : Finset.sum (M := EReal) Finset.univ (fun s : Fin 4 => iblk m c 0 t (ix3 s (j 1) (j 2))) = Finset.sum (M := EReal) Finset.univ (fun s : Fin 4 => m ((c : Thread nD τ).loc main_arg0) (ix3 s (q 1) (q 2))) := by
  obtain ⟨e0, -⟩ := idx t
  refine Finset.sum_congr rfl fun s _ => ?_
  refine Eq.trans ?_ (congrFun (V_main_arg0 m c) _)
  blk_point [iblk, e0, h1, h2]

/-- The blocks of the weight and of its moments that a point reads. -/
theorem weight_at : iblk m c 1 t j = m ((c : Thread nD τ).loc main_arg1) q := by
  obtain ⟨-, e1, -⟩ := idx t
  refine Eq.trans ?_ (congrFun (V_main_arg1 m c) q)
  blk_point [iblk, e1, h1, h2]

theorem first_at : iblk m c 2 t j = m ((c : Thread nD τ).loc main_arg2) q := by
  obtain ⟨-, -, e2, -⟩ := idx t
  refine Eq.trans ?_ (congrFun (V_main_arg2 m c) q)
  blk_point [iblk, e2, h1, h2]

theorem second_at : iblk m c 3 t j = m ((c : Thread nD τ).loc main_arg3) q := by
  obtain ⟨-, -, -, e3, -⟩ := idx t
  refine Eq.trans ?_ (congrFun (V_main_arg3 m c) q)
  blk_point [iblk, e3, h1, h2]

omit h1 h2

theorem final4 (c : Dev nD) : (dats m 0 c).arrAt 4 cfg0.N = val_main_v2 (F := Ideal) (m ((c : Thread nD τ).loc main_arg0)) := by
  refine (dats m 0 c).arrAt_eq_of_covers 4 _ (by decide +kernel) fun t hf y => ?_
  obtain ⟨a, b, rfl⟩ : ∃ a b, y = ix3 0 a b := ⟨y 1, y 2, Cert.Adam.only y⟩
  obtain ⟨-, -, -, -, e4, -⟩ := idx t
  blk_simp
  rw [after0_4, Cert.Reference27Ideal.Mix.sum_at]
  frame_out
  pointwise [k0_pay2, sum_at]
  exact parts_at m c t (ix3 0 a b) _ (by blk_simp [e4]) (by blk_simp [e4])

theorem final5 (c : Dev nD) : (dats m 0 c).arrAt 5 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨a, b, rfl⟩ : ∃ a b, y = ix3 0 a b := ⟨y 1, y 2, Cert.Adam.only y⟩
  obtain ⟨-, -, -, -, -, e5, -⟩ := idx t
  blk_simp
  rw [after0_5, Cert.Reference27Ideal.Mix.step_at, ← parts_at m c t (ix3 0 a b) _ (by blk_simp [e5]) (by blk_simp [e5]), ← weight_at m c t (ix3 0 a b) _ (by blk_simp [e5]) (by blk_simp [e5]),
    ← first_at m c t (ix3 0 a b) _ (by blk_simp [e5]) (by blk_simp [e5]), ← second_at m c t (ix3 0 a b) _ (by blk_simp [e5]) (by blk_simp [e5])]
  frame_out
  pointwise [k0_pay1, k0_pay3, k0_pay7, k0_pay8, k0_pay9, k0_pay10, k0_pay11, k0_pay12, k0_pay13, sum_at]
  rfl

theorem final6 (c : Dev nD) : (dats m 0 c).arrAt 6 cfg0.N = val_main_v7 (F := Ideal) (m ((c : Thread nD τ).loc main_arg0)) (m ((c : Thread nD τ).loc main_arg2)) := by
  refine (dats m 0 c).arrAt_eq_of_covers 6 _ (by decide +kernel) fun t hf y => ?_
  obtain ⟨a, b, rfl⟩ : ∃ a b, y = ix3 0 a b := ⟨y 1, y 2, Cert.Adam.only y⟩
  obtain ⟨-, -, -, -, -, -, e6, -⟩ := idx t
  blk_simp
  rw [after0_6, Cert.Reference27Ideal.Mix.first_at, ← parts_at m c t (ix3 0 a b) _ (by blk_simp [e6]) (by blk_simp [e6]), ← first_at m c t (ix3 0 a b) _ (by blk_simp [e6]) (by blk_simp [e6])]
  frame_out
  pointwise [k0_pay4, k0_pay9, k0_pay12, sum_at]
  rfl

theorem final7 (c : Dev nD) : (dats m 0 c).arrAt 7 cfg0.N = val_main_v13 (F := Ideal) (m ((c : Thread nD τ).loc main_arg0)) (m ((c : Thread nD τ).loc main_arg3)) := by
  refine (dats m 0 c).arrAt_eq_of_covers 7 _ (by decide +kernel) fun t hf y => ?_
  obtain ⟨a, b, rfl⟩ : ∃ a b, y = ix3 0 a b := ⟨y 1, y 2, Cert.Adam.only y⟩
  obtain ⟨-, -, -, -, -, -, -, e7⟩ := idx t
  blk_simp
  rw [after0_7, Cert.Reference27Ideal.Mix.second_at, ← parts_at m c t (ix3 0 a b) _ (by blk_simp [e7]) (by blk_simp [e7]), ← second_at m c t (ix3 0 a b) _ (by blk_simp [e7]) (by blk_simp [e7])]
  frame_out
  pointwise [k0_pay1, k0_pay5, k0_pay8, k0_pay10, k0_pay11, k0_pay13, sum_at]
  rfl

end Cert.Kernel27Ideal.Mix

end
-- ==== Proof.Decayed.lean ====
/-
  The optimiser's step in two calls: the products that do without the gradient, and the rest.
-/
module

public import proofs.«01_k».proof.Proof.Gen.Kernel28Ideal.Value
public import proofs.«01_k».proof.Proof.Gen.Reference28Ideal.Read
public import proofs.«01_k».proof.Proof.Gen.Kernel29Ideal.Frame
public import proofs.«01_k».proof.Proof.Gen.Reference29Ideal.Read
public import Idealize.ShloMosaic.Lib.Pipeline.ValueKit
public import proofs.«01_k».proof.Proof.Adam

@[expose] public section

set_option maxRecDepth 16384

noncomputable section

open Idealize.ShloMosaic Idealize.ShloMosaic.TcCoe Idealize.SL.Sem
open Idealize.ShloMosaic.Pipeline

/-! ## The products that do without the gradient -/

namespace Cert.Kernel28Ideal.Mix

open Cert.Kernel28Ideal.Gen Cert.Reference28Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] :=
  (by decide +kernel : ∀ t : Fin grid0.N, _)

variable (c : Dev nD) (t : Fin cfg0.N) (j : S1x256x704.Idx) (q : S1x2048x704.Idx) (h1 : (q 1).val = t.val * 256 + (j 1).val) (h2 : (q 2).val = (j 2).val)

include h1 h2

/-- The blocks of the weight and of its moments that a point reads. -/
theorem weight_at : iblk m c 0 t j = m ((c : Thread nD τ).loc main_arg0) q := by
  obtain ⟨e0, -⟩ := idx t
  refine Eq.trans ?_ (congrFun (V_main_arg0 m c) q)
  blk_point [iblk, e0, h1, h2]

theorem first_at : iblk m c 1 t j = m ((c : Thread nD τ).loc main_arg1) q := by
  obtain ⟨-, e1, -⟩ := idx t
  refine Eq.trans ?_ (congrFun (V_main_arg1 m c) q)
  blk_point [iblk, e1, h1, h2]

theorem second_at : iblk m c 2 t j = m ((c : Thread nD τ).loc main_arg2) q := by
  obtain ⟨-, -, e2, -⟩ := idx t
  refine Eq.trans ?_ (congrFun (V_main_arg2 m c) q)
  blk_point [iblk, e2, h1, h2]

omit h1 h2

theorem final3 (c : Dev nD) : (dats m 0 c).arrAt 3 cfg0.N = val_main_v1 (F := Ideal) (m ((c : Thread nD τ).loc main_arg0)) := by
  refine (dats m 0 c).arrAt_eq_of_covers 3 _ (by decide +kernel) fun t hf y => ?_
  obtain ⟨-, -, -, e, -⟩ := idx t
  obtain ⟨a, b, rfl⟩ : ∃ a b, y = ix3 0 a b := ⟨y 1, y 2, Cert.Adam.only y⟩
  blk_simp
  rw [after0_3, val_main_v1_apply, ← weight_at m c t (ix3 0 a b) _ (by blk_simp [e]) (by blk_simp [e])]
  dsimp only [outsAt0]
  frame_out
  pointwise [k0_pay1, val_main_v0_apply, val_main_cst_apply]

theorem final4 (c : Dev nD) : (dats m 0 c).arrAt 4 cfg0.N = val_main_v3 (F := Ideal) (m ((c : Thread nD τ).loc main_arg1)) := by
  refine (dats m 0 c).arrAt_eq_of_covers 4 _ (by decide +kernel) fun t hf y => ?_
  obtain ⟨-, -, -, -, e, -⟩ := idx t
  obtain ⟨a, b, rfl⟩ : ∃ a b, y = ix3 0 a b := ⟨y 1, y 2, Cert.Adam.only y⟩
  blk_simp
  rw [after0_4, val_main_v3_apply, ← first_at m c t (ix3 0 a b) _ (by blk_simp [e]) (by blk_simp [e])]
  dsimp only [outsAt0]
  frame_out
  pointwise [k0_pay2, val_main_v2_apply, val_main_cst_0_apply]

theorem final5 (c : Dev nD) : (dats m 0 c).arrAt 5 cfg0.N = val_main_v5 (F := Ideal) (m ((c : Thread nD τ).loc main_arg2)) := by
  refine (dats m 0 c).arrAt_eq_of_covers 5 _ (by decide +kernel) fun t hf y => ?_
  obtain ⟨-, -, -, -, -, e⟩ := idx t
  obtain ⟨a, b, rfl⟩ : ∃ a b, y = ix3 0 a b := ⟨y 1, y 2, Cert.Adam.only y⟩
  blk_simp
  rw [after0_5, val_main_v5_apply, ← second_at m c t (ix3 0 a b) _ (by blk_simp [e]) (by blk_simp [e])]
  dsimp only [outsAt0]
  frame_out
  pointwise [k0_pay3, val_main_v4_apply, val_main_cst_1_apply]

end Cert.Kernel28Ideal.Mix

/-! ## The rest of the step -/

namespace Cert.Decayed

/-- The new first moment, of the old one already multiplied. -/
def first (g m : EReal) : EReal := m + Ideal.ofBits .f32 0x3DCCCCCD#32 * g

/-- The new second moment, of the old one already multiplied. -/
def second (g v : EReal) : EReal := v + Ideal.ofBits .f32 0x3A83126F#32 * (g * g)

/-- What is added to the weight. -/
def step (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + w)

end Cert.Decayed

namespace Cert.Reference29Ideal.Mix

open Cert.Reference29Ideal.Gen Cert.Reference29Ideal.Read

variable (x0 : (⟨S4x2048x704, .bf16⟩ : BufTy).Contents (Elt Ideal)) (x1 x2 x3 : (⟨S1x2048x704, .f32⟩ : BufTy).Contents (Elt Ideal)) (i : S1x2048x704.Idx)

theorem sum_at : val_main_v2 (F := Ideal) x0 i = ∑ s : Fin 4, (x0 (ix3 s (i 1) (i 2)) : EReal) := by
  pointwise [val_main_v2_apply, val_main_v1_apply, val_main_v0_apply, val_main_cst_apply]
  exact Finset.sum_congr rfl fun s _ => congrArg x0 (eq_ix3 (idx_main_v1 (idx_main_v2 i) s))

theorem first_at : val_main_v5 (F := Ideal) x0 x2 i = Cert.Decayed.first (∑ s : Fin 4, (x0 (ix3 s (i 1) (i 2)) : EReal)) (x2 i) := by
  pointwise [val_main_v5_apply, val_main_v4_apply, val_main_v3_apply, val_main_cst_0_apply, sum_at]
  rfl

theorem second_at : val_main_v9 (F := Ideal) x0 x3 i = Cert.Decayed.second (∑ s : Fin 4, (x0 (ix3 s (i 1) (i 2)) : EReal)) (x3 i) := by
  pointwise [val_main_v9_apply, val_main_v8_apply, val_main_v7_apply, val_main_v6_apply, val_main_cst_1_apply, sum_at]
  rfl

theorem step_at : val_main_v20 (F := Ideal) x0 x1 x2 x3 i = Cert.Decayed.step (∑ s : Fin 4, (x0 (ix3 s (i 1) (i 2)) : EReal)) (x1 i) (x2 i) (x3 i) := by
  pointwise [val_main_v20_apply, val_main_v19_apply, val_main_v18_apply, val_main_v17_apply, val_main_v16_apply,
    val_main_v15_apply, val_main_v14_apply, val_main_v13_apply, val_main_v12_apply, val_main_v11_apply, val_main_v10_apply, val_main_cst_2_apply, val_main_cst_3_apply, val_main_cst_4_apply, val_main_cst_5_apply, first_at, second_at]
  rfl

end Cert.Reference29Ideal.Mix

namespace Cert.Kernel29Ideal.Mix

open Cert.Kernel29Ideal.Gen Cert.Reference29Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, 0, t.val] ∧ win0_5.index t = ![0, 0, t.val] ∧ win0_6.index t = ![0, 0, t.val] ∧ win0_7.index t = ![0, 0, t.val] :=
  (by decide +kernel : ∀ t : Fin grid0.N, _)

variable (c : Dev nD) (t : Fin cfg0.N) (j : S1x256x704.Idx) (q : S1x2048x704.Idx) (h1 : (q 1).val = t.val * 256 + (j 1).val) (h2 : (q 2).val = (j 2).val)

include h1 h2

/-- The block of the parts that a point reads, added up. -/
theorem parts_at : Finset.sum (M := EReal) Finset.univ (fun s : Fin 4 => iblk m c 0 t (ix3 s (j 1) (j 2))) = Finset.sum (M := EReal) Finset.univ (fun s : Fin 4 => m ((c : Thread nD τ).loc main_arg0) (ix3 s (q 1) (q 2))) := by
  obtain ⟨e0, -⟩ := idx t
  refine Finset.sum_congr rfl fun s _ => ?_
  refine Eq.trans ?_ (congrFun (V_main_arg0 m c) _)
  blk_point [iblk, e0, h1, h2]

/-- The blocks of the weight and of its moments that a point reads. -/
theorem weight_at : iblk m c 1 t j = m ((c : Thread nD τ).loc main_arg1) q := by
  obtain ⟨-, e1, -⟩ := idx t
  refine Eq.trans ?_ (congrFun (V_main_arg1 m c) q)
  blk_point [iblk, e1, h1, h2]

theorem first_at : iblk m c 2 t j = m ((c : Thread nD τ).loc main_arg2) q := by
  obtain ⟨-, -, e2, -⟩ := idx t
  refine Eq.trans ?_ (congrFun (V_main_arg2 m c) q)
  blk_point [iblk, e2, h1, h2]

theorem second_at : iblk m c 3 t j = m ((c : Thread nD τ).loc main_arg3) q := by
  obtain ⟨-, -, -, e3, -⟩ := idx t
  refine Eq.trans ?_ (congrFun (V_main_arg3 m c) q)
  blk_point [iblk, e3, h1, h2]

omit h1 h2

/-- The place of a transposed array's element in the array. -/
def back (i : S1x704x2048.Idx) : S1x2048x704.Idx := ix3 ⟨(i 0).val, (i 0).isLt⟩ ⟨(i 2).val, (i 2).isLt⟩ ⟨(i 1).val, (i 1).isLt⟩

/-- The same in a block. -/
abbrev turned (y : S1x704x256.Idx) : S1x256x704.Idx := ix3 0 (y 2) (y 1)

theorem final4 (c : Dev nD) : (dats m 0 c).arrAt 4 cfg0.N = fun i => val_main_v2 (F := Ideal) (m ((c : Thread nD τ).loc main_arg0)) (back i) := by
  refine (dats m 0 c).arrAt_eq_of_covers 4 _ (by decide +kernel) fun t hf y => ?_
  obtain ⟨-, -, -, -, e4, -⟩ := idx t
  blk_simp
  rw [after0_4, Cert.Reference29Ideal.Mix.sum_at, ← parts_at m c t (turned y) _ (by blk_simp [e4, back, turned]) (by blk_simp [e4, back, turned])]
  frame_out
  pointwise [k0_pay1, k0_pay5, Fin.sum_univ_four]

theorem final5 (c : Dev nD) : (dats m 0 c).arrAt 5 cfg0.N = fun i => val_main_v20 (F := Ideal) (m ((c : Thread nD τ).loc main_arg0)) (m ((c : Thread nD τ).loc main_arg1)) (m ((c : Thread nD τ).loc main_arg2)) (m ((c : Thread nD τ).loc main_arg3)) (back i) := by
  refine (dats m 0 c).arrAt_eq_of_covers 5 _ (by decide +kernel) fun t hf y => ?_
  obtain ⟨-, -, -, -, -, e5, -⟩ := idx t
  blk_simp
  rw [after0_5, Cert.Reference29Ideal.Mix.step_at, ← parts_at m c t (turned y) _ (by blk_simp [e5, back, turned]) (by blk_simp [e5, back, turned]), ← weight_at m c t (turned y) _ (by blk_simp [e5, back, turned]) (by blk_simp [e5, back, turned]),
    ← first_at m c t (turned y) _ (by blk_simp [e5, back, turned]) (by blk_simp [e5, back, turned]), ← second_at m c t (turned y) _ (by blk_simp [e5, back, turned]) (by blk_simp [e5, back, turned])]
  frame_out
  pointwise [k0_pay2, k0_pay5, k0_pay6, k0_pay7, k0_pay8, k0_pay9, k0_pay10, Fin.sum_univ_four]
  rfl

theorem final6 (c : Dev nD) : (dats m 0 c).arrAt 6 cfg0.N = fun i => val_main_v5 (F := Ideal) (m ((c : Thread nD τ).loc main_arg0)) (m ((c : Thread nD τ).loc main_arg2)) (back i) := by
  refine (dats m 0 c).arrAt_eq_of_covers 6 _ (by decide +kernel) fun t hf y => ?_
  obtain ⟨-, -, -, -, -, -, e6, -⟩ := idx t
  blk_simp
  rw [after0_6, Cert.Reference29Ideal.Mix.first_at, ← parts_at m c t (turned y) _ (by blk_simp [e6, back, turned]) (by blk_simp [e6, back, turned]), ← first_at m c t (turned y) _ (by blk_simp [e6, back, turned]) (by blk_simp [e6, back, turned])]
  frame_out
  pointwise [k0_pay3, k0_pay5, k0_pay7, Fin.sum_univ_four]
  rfl

theorem final7 (c : Dev nD) : (dats m 0 c).arrAt 7 cfg0.N = fun i => val_main_v9 (F := Ideal) (m ((c : Thread nD τ).loc main_arg0)) (m ((c : Thread nD τ).loc main_arg3)) (back i) := by
  refine (dats m 0 c).arrAt_eq_of_covers 7 _ (by decide +kernel) fun t hf y => ?_
  obtain ⟨-, -, -, -, -, -, -, e7⟩ := idx t
  blk_simp
  rw [after0_7, Cert.Reference29Ideal.Mix.second_at, ← parts_at m c t (turned y) _ (by blk_simp [e7, back, turned]) (by blk_simp [e7, back, turned]), ← second_at m c t (turned y) _ (by blk_simp [e7, back, turned]) (by blk_simp [e7, back, turned])]
  frame_out
  pointwise [k0_pay4, k0_pay5, k0_pay8, Fin.sum_univ_four]
  rfl

/-- A transposed array, transposed again by the host. -/
theorem turned_back (f : (⟨S1x2048x704, .f32⟩ : BufTy).Contents (Elt Ideal)) :
    transpose S1x2048x704 [0, 2, 1] (fun i => f (back i)) transposes_S1x704x2048_S1x2048x704_0_2_1 = f := by
  funext i
  pointwise [back]
  exact congrArg f (Cert.Adam.only i).symm

/-- The arrays when the call has ended. -/
abbrev arrays (c : Dev nD) := withArrays (cfgs 0).spec c (V0 m c) fun w => (dats m 0 c).arrAt w (cfgs 0).N

variable (s : MemSt nD τ sig (Elt Ideal)) (c : Dev nD)
  (h : ∀ b ∈ restRefs sig (cfgs 0).spec, s.mem ((c.tc : Thread nD τ).loc b) = afterTail₀ cfgs (dats m) 0 (V0 m) [hostOps1] c b)

include h

theorem result_sum : s.mem ((c.tc : Thread nD τ).loc main_v1) = val_main_v2 (F := Ideal) (m ((c : Thread nD τ).loc main_arg0)) := by
  rw [h main_v1 (mem_restRefs_of main_v1 rfl (by decide))]
  have hw : arrays m c (Proc.devRef .tc main_v0_0) = (dats m 0 c).arrAt 4 cfg0.N := withArrays_arr (cfgs 0).spec (by decide) c (V0 m c) (fun w => (dats m 0 c).arrAt w (cfgs 0).N) 4
  have e : StableHlo.after [hostOps1].flatten (arrays m c) (Proc.devRef .tc main_v1) = transpose S1x2048x704 [0, 2, 1] (arrays m c (Proc.devRef .tc main_v0_0)) transposes_S1x704x2048_S1x2048x704_0_2_1 := by
    show StableHlo.after [_, _, _, _] _ _ = _
    simp only [StableHlo.after_cons, StableHlo.after_nil]
    rfl
  exact e.trans ((congrArg (transpose S1x2048x704 [0, 2, 1] · transposes_S1x704x2048_S1x2048x704_0_2_1) (hw.trans (final4 m c))).trans (turned_back _))

theorem result_delta : s.mem ((c.tc : Thread nD τ).loc main_v2) = val_main_v20 (F := Ideal) (m ((c : Thread nD τ).loc main_arg0)) (m ((c : Thread nD τ).loc main_arg1)) (m ((c : Thread nD τ).loc main_arg2)) (m ((c : Thread nD τ).loc main_arg3)) := by
  rw [h main_v2 (mem_restRefs_of main_v2 rfl (by decide))]
  have hw : arrays m c (Proc.devRef .tc main_v0_1) = (dats m 0 c).arrAt 5 cfg0.N := withArrays_arr (cfgs 0).spec (by decide) c (V0 m c) (fun w => (dats m 0 c).arrAt w (cfgs 0).N) 5
  have e : StableHlo.after [hostOps1].flatten (arrays m c) (Proc.devRef .tc main_v2) = transpose S1x2048x704 [0, 2, 1] (arrays m c (Proc.devRef .tc main_v0_1)) transposes_S1x704x2048_S1x2048x704_0_2_1 := by
    show StableHlo.after [_, _, _, _] _ _ = _
    simp only [StableHlo.after_cons, StableHlo.after_nil]
    rfl
  exact e.trans ((congrArg (transpose S1x2048x704 [0, 2, 1] · transposes_S1x704x2048_S1x2048x704_0_2_1) (hw.trans (final5 m c))).trans (turned_back _))

theorem result_moment : s.mem ((c.tc : Thread nD τ).loc main_v3) = val_main_v5 (F := Ideal) (m ((c : Thread nD τ).loc main_arg0)) (m ((c : Thread nD τ).loc main_arg2)) := by
  rw [h main_v3 (mem_restRefs_of main_v3 rfl (by decide))]
  have hw : arrays m c (Proc.devRef .tc main_v0_2) = (dats m 0 c).arrAt 6 cfg0.N := withArrays_arr (cfgs 0).spec (by decide) c (V0 m c) (fun w => (dats m 0 c).arrAt w (cfgs 0).N) 6
  have e : StableHlo.after [hostOps1].flatten (arrays m c) (Proc.devRef .tc main_v3) = transpose S1x2048x704 [0, 2, 1] (arrays m c (Proc.devRef .tc main_v0_2)) transposes_S1x704x2048_S1x2048x704_0_2_1 := by
    show StableHlo.after [_, _, _, _] _ _ = _
    simp only [StableHlo.after_cons, StableHlo.after_nil]
    rfl
  exact e.trans ((congrArg (transpose S1x2048x704 [0, 2, 1] · transposes_S1x704x2048_S1x2048x704_0_2_1) (hw.trans (final6 m c))).trans (turned_back _))

theorem result_square : s.mem ((c.tc : Thread nD τ).loc main_v4) = val_main_v9 (F := Ideal) (m ((c : Thread nD τ).loc main_arg0)) (m ((c : Thread nD τ).loc main_arg3)) := by
  rw [h main_v4 (mem_restRefs_of main_v4 rfl (by decide))]
  have hw : arrays m c (Proc.devRef .tc main_v0_3) = (dats m 0 c).arrAt 7 cfg0.N := withArrays_arr (cfgs 0).spec (by decide) c (V0 m c) (fun w => (dats m 0 c).arrAt w (cfgs 0).N) 7
  have e : StableHlo.after [hostOps1].flatten (arrays m c) (Proc.devRef .tc main_v4) = transpose S1x2048x704 [0, 2, 1] (arrays m c (Proc.devRef .tc main_v0_3)) transposes_S1x704x2048_S1x2048x704_0_2_1 := by
    show StableHlo.after [_, _, _, _] _ _ = _
    simp only [StableHlo.after_cons, StableHlo.after_nil]
    rfl
  exact e.trans ((congrArg (transpose S1x2048x704 [0, 2, 1] · transposes_S1x704x2048_S1x2048x704_0_2_1) (hw.trans (final7 m c))).trans (turned_back _))

end Cert.Kernel29Ideal.Mix
-- ==== Proof.Words.lean ====
/-
  The program printed for the machine's numbers and the one printed for the extended reals have the same text; so the one run serves both.
-/
module

public import proofs.«01_k».proof.Defs
public import proofs.«01_k».proof.Proof.Region
public import proofs.«01_k».proof.Proof.Gen.Kernel

@[expose] public section

noncomputable section

namespace Cert.Kernel.Sb

open Idealize.ShloMosaic Idealize.ShloMosaic.TcCoe Idealize.SL.Sem

set_option maxHeartbeats 4000000 in
theorem body_eq : @Cert.Kernel.cc0_sb_bwd Bits _ _ = @Cert.KernelIdeal.cc0_sb_bwd Bits _ _ := rfl

set_option maxHeartbeats 4000000 in
theorem defs₀_eq : Cert.Kernel.defs₀ (F := Bits) = Cert.KernelIdeal.defs₀ (F := Bits) :=
  congrArg Defs.onTc (funext fun l => match l with
    | 0 => funext fun ⟨t, s⟩ => rfl)

set_option maxHeartbeats 4000000 in
theorem defs_eq : Cert.Kernel.defs (F := Bits) = Cert.KernelIdeal.defs (F := Bits) :=
  congrArg (Pipeline.defs Cert.KernelIdeal.pcfgs) defs₀_eq

set_option maxHeartbeats 4000000 in
theorem main_eq : Cert.Kernel.main (F := Bits) = Cert.KernelIdeal.main (F := Bits) := by
  funext c
  unfold Cert.Kernel.main Cert.KernelIdeal.main Cert.Kernel.fn_log_sigmoid.body Cert.KernelIdeal.fn_log_sigmoid.body Cert.Kernel.fn_where.body
    Cert.KernelIdeal.fn_where.body Cert.Kernel.fn_pad.body Cert.KernelIdeal.fn_pad.body Cert.Kernel.fn_softplus.body Cert.KernelIdeal.fn_softplus.body
  rfl

/-- The kernel's run on the machine's numbers: the same run, at the words. -/
theorem frame_kernel : Cert.quiescent_Kernel := fun m g _ => by
  rw [defs_eq, main_eq]
  exact (θ_run Cert.KernelIdeal.defs _ _).mono (fun _ h => h) (Cert.KernelIdeal.Sb.run_kept (F := Bits) m g)

end Cert.Kernel.Sb

end
-- ==== Proof.WIn.lean ====
/-
  The optimiser's step on the weights of the input projection, in two calls.
-/
module

public import proofs.«01_k».proof.Proof.Gen.Kernel30Ideal.Value
public import proofs.«01_k».proof.Proof.Gen.Reference30Ideal.Read
public import proofs.«01_k».proof.Proof.Gen.Kernel31Ideal.Frame
public import proofs.«01_k».proof.Proof.Gen.Reference31Ideal.Read
public import Idealize.ShloMosaic.Lib.Pipeline.ValueKit
public import Idealize.ShloMosaic.Lib.Pipeline.ReadBack
public import proofs.«01_k».proof.Proof.Decayed

@[expose] public section

set_option maxRecDepth 16384

noncomputable section

open Idealize.ShloMosaic Idealize.ShloMosaic.TcCoe Idealize.SL.Sem
open Idealize.ShloMosaic.Pipeline

/-! ## The products that do without the gradient -/

namespace Cert.Kernel30Ideal.Mix

open Cert.Kernel30Ideal.Gen Cert.Reference30Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0]
    ∧ win0_3.index t = ![0, t.val, 0] :=
  (by decide +kernel : ∀ t : Fin grid0.N, _)

variable (c : Dev nD) (t : Fin cfg0.N) (j : S1x128x1281.Idx) (q : S1x2048x1281.Idx) (h1 : (q 1).val = t.val * 128 + (j 1).val) (h2 : (q 2).val = (j 2).val)

include h1 h2

/-- The blocks of the moments that a point reads. -/
theorem first_at : iblk m c 0 t j = m ((c : Thread nD τ).loc main_arg0) q := by
  obtain ⟨e0, -⟩ := idx t
  refine Eq.trans ?_ (congrFun (V_main_arg0 m c) q)
  blk_point [iblk, e0, h1, h2]

theorem second_at : iblk m c 1 t j = m ((c : Thread nD τ).loc main_arg1) q := by
  obtain ⟨-, e1, -⟩ := idx t
  refine Eq.trans ?_ (congrFun (V_main_arg1 m c) q)
  blk_point [iblk, e1, h1, h2]

omit h1 h2

theorem final2 (c : Dev nD) : (dats m 0 c).arrAt 2 cfg0.N = val_main_v1 (F := Ideal) (m ((c : Thread nD τ).loc main_arg0)) := by
  refine (dats m 0 c).arrAt_eq_of_covers 2 _ (by decide +kernel) fun t hf y => ?_
  obtain ⟨-, -, e, -⟩ := idx t
  obtain ⟨a, b, rfl⟩ : ∃ a b, y = ix3 0 a b := ⟨y 1, y 2, Cert.Adam.only y⟩
  blk_simp
  rw [after0_2, val_main_v1_apply, ← first_at m c t (ix3 0 a b) _ (by blk_simp [e]) (by blk_simp [e])]
  dsimp only [outsAt0]
  frame_out
  pointwise [k0_pay1, val_main_v0_apply, val_main_cst_apply]

theorem final3 (c : Dev nD) : (dats m 0 c).arrAt 3 cfg0.N = val_main_v3 (F := Ideal) (m ((c : Thread nD τ).loc main_arg1)) := by
  refine (dats m 0 c).arrAt_eq_of_covers 3 _ (by decide +kernel) fun t hf y => ?_
  obtain ⟨-, -, -, e⟩ := idx t
  obtain ⟨a, b, rfl⟩ : ∃ a b, y = ix3 0 a b := ⟨y 1, y 2, Cert.Adam.only y⟩
  blk_simp
  rw [after0_3, val_main_v3_apply, ← second_at m c t (ix3 0 a b) _ (by blk_simp [e]) (by blk_simp [e])]
  dsimp only [outsAt0]
  frame_out
  pointwise [k0_pay2, val_main_v2_apply, val_main_cst_0_apply]

end Cert.Kernel30Ideal.Mix

/-! ## The rest of the step -/

namespace Cert.WIn

/-- A column of the weight is a column of the parts, which are wider. -/
abbrev own (a : Fin 1281) : Fin 1408 := ⟨a.val, by omega⟩

end Cert.WIn

namespace Cert.Reference31Ideal.Mix

open Cert.Reference31Ideal.Gen Cert.Reference31Ideal.Read

variable (x0 : (⟨S4x2048x1408, .bf16⟩ : BufTy).Contents (Elt Ideal)) (x1 x2 x3 : (⟨S1x2048x1281, .f32⟩ : BufTy).Contents (Elt Ideal)) (i : S1x2048x1281.Idx)

theorem sum_at : val_main_v3 (F := Ideal) x0 i = ∑ s : Fin 4, (x0 (ix3 s (i 1) (Cert.WIn.own (i 2))) : EReal) := by
  pointwise [val_main_v3_apply, val_main_v2_apply, val_main_v1_apply, val_main_cst_apply]
  exact Finset.sum_congr rfl fun s _ => congrArg x0 (funext fun a => Fin.ext (match a with | ⟨0, _⟩ => Nat.zero_add _ | ⟨1, _⟩ => Nat.zero_add _ | ⟨2, _⟩ => Nat.zero_add _))

theorem first_at : val_main_v6 (F := Ideal) x0 x2 i = Cert.Decayed.first (∑ s : Fin 4, (x0 (ix3 s (i 1) (Cert.WIn.own (i 2))) : EReal)) (x2 i) := by
  pointwise [val_main_v6_apply, val_main_v5_apply, val_main_v4_apply, val_main_cst_0_apply, sum_at]
  rfl

theorem second_at : val_main_v10 (F := Ideal) x0 x3 i = Cert.Decayed.second (∑ s : Fin 4, (x0 (ix3 s (i 1) (Cert.WIn.own (i 2))) : EReal)) (x3 i) := by
  pointwise [val_main_v10_apply, val_main_v9_apply, val_main_v8_apply, val_main_v7_apply, val_main_cst_1_apply, sum_at]
  rfl

theorem step_at : val_main_v21 (F := Ideal) x0 x1 x2 x3 i = Cert.Decayed.step (∑ s : Fin 4, (x0 (ix3 s (i 1) (Cert.WIn.own (i 2))) : EReal)) (x1 i) (x2 i) (x3 i) := by
  pointwise [val_main_v21_apply, val_main_v20_apply, val_main_v19_apply, val_main_v18_apply, val_main_v17_apply,
    val_main_v16_apply, val_main_v15_apply, val_main_v14_apply, val_main_v13_apply, val_main_v12_apply, val_main_v11_apply, val_main_cst_2_apply, val_main_cst_3_apply, val_main_cst_4_apply, val_main_cst_5_apply, first_at, second_at]
  rfl

end Cert.Reference31Ideal.Mix

namespace Cert.Kernel31Ideal.Mix

open Cert.Kernel31Ideal.Gen Cert.Reference31Ideal.Read

variable (m : (ℓ : Loc nD τ sig) → Buf (Elt Ideal) ℓ)

/-- Where the blocks of a grid point lie. -/
theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, 0, t.val] ∧ win0_5.index t = ![0, 0, t.val] ∧ win0_6.index t = ![0, 0, t.val] ∧ win0_7.index t = ![0, 0, t.val] :=
  (by decide +kernel : ∀ t : Fin grid0.N, _)

variable (c : Dev nD) (t : Fin cfg0.N) (j : S1x256x1281.Idx) (q : S1x2048x1281.Idx) (h1 : (q 1).val = t.val * 256 + (j 1).val) (h2 : (q 2).val = (j 2).val)

include h1 h2

/-- The block of the parts that a point reads, added up. -/
theorem parts_at : Finset.sum (M := EReal) Finset.univ (fun s : Fin 4 => iblk m c 0 t (ix3 s (j 1) (Cert.WIn.own (j 2)))) = Finset.sum (M := EReal) Finset.univ (fun s : Fin 4 => m ((c : Thread nD τ).loc main_arg0) (ix3 s (q 1) (Cert.WIn.own (q 2)))) := by
  obtain ⟨e0, -⟩ := idx t
  refine Finset.sum_congr rfl fun s _ => ?_
  refine Eq.trans ?_ (congrFun (V_main_arg0 m c) _)
  blk_point [iblk, e0, h1, h2]

/-- The blocks of the weight and of its moments that a point reads. -/
theorem weight_at : iblk m c 1 t j = m ((c : Thread nD τ).loc main_arg1) q := by
  obtain ⟨-, e1, -⟩ := idx t
  refine Eq.trans ?_ (congrFun (V_main_arg1 m c) q)
  blk_point [iblk, e1, h1, h2]

theorem first_at : iblk m c 2 t j = m ((c : Thread nD τ).loc main_arg2) q := by
  obtain ⟨-, -, e2, -⟩ := idx t
  refine Eq.trans ?_ (congrFun (V_main_arg2 m c) q)
  blk_point [iblk, e2, h1, h2]

theorem second_at : iblk m c 3 t j = m ((c : Thread nD τ).loc main_arg3) q := by
  obtain ⟨-, -, -, e3, -⟩ := idx t
  refine Eq.trans ?_ (congrFun (V_main_arg3 m c) q)
  blk_point [iblk, e3, h1, h2]

omit h1 h2

/-- The place of a transposed array's element in the array. -/
def back (i : S1x1281x2048.Idx) : S1x2048x1281.Idx := ix3 ⟨(i 0).val, (i 0).isLt⟩ ⟨(i 2).val, (i 2).isLt⟩ ⟨(i 1).val, (i 1).isLt⟩

/-- The same in a block. -/
abbrev turned (y : S1x1281x256.Idx) : S1x256x1281.Idx := ix3 0 (y 2) (y 1)

/-- The rows and columns of a value, exchanged through the wider scratch arrays: what a point writes. -/
theorem exchanged (v1 : View sig .tc .vmem S256x1408 .f32) (v2 : View sig .tc .vmem S1408x256 .f32) (f : FVec Ideal S256x1281 .f32)
    (L : List (View.Piece (Elt Ideal) S256x1408 .f32)) (L' : List (View.Piece (Elt Ideal) S1408x256 .f32)) (a : Fin 256) (b : Fin 1281) :
    k0_pay2 (F := Ideal) (v2.readCov (⟨Rect.unit (s := S1408x256) ![0, 0] S1408x256.size inb_S1408x256_S1408x256_0_0,
      k0_pay1 (F := Ideal) (v1.readCov (⟨Rect.unit (s := S256x1408) ![0, 0] S256x1281.size inb_S256x1408_S256x1281_0_0, f⟩ :: L)
        (Rect.unit (s := S256x1408) ![0, 0] S256x1408.size inb_S256x1408_S256x1408_0_0).toLoadRect)⟩ :: L')
      (Rect.unit (s := S1408x256) ![0, 0] S1281x256.size inb_S1408x256_S1281x256_0_0).toLoadRect) (ix3 0 b a) = f (ix2 a b) := by
  rw [View.readCov_fill v2 inb_S1408x256_S1408x256_0_0 _ L' _ (by decide)]
  pointwise [k0_pay2, k0_pay1]
  rw [View.readCov_eq_canon']
  refine Eq.trans ?_ (View.canon_cons_emb (Rect.unit (s := S256x1408) ![0, 0] S256x1281.size inb_S256x1408_S256x1281_0_0) f L (ix2 a b))
  exact congrArg _ (funext fun x => Fin.ext (match x with | ⟨0, _⟩ => rfl | ⟨1, _⟩ => rfl))

/-- The first device's own columns are the first ones. -/
theorem own_columns : ∀ b : Fin 1281, IntOp.cmpi .slt (BitVec.ofNat 32 b.val) (Scalar.minsi 1281#32 (Scalar.maxsi 0#32 6152#32)) = 1#1 := by
  decide +kernel

/-- The sum of the parts that a point reads, on the device's own columns. -/
theorem summed_at (v : View sig .tc .vmem S256x1408 .f32) (x0 x1 x2 x3 : Vec Ideal S1x256x1408 .bf16) (a : Fin 256) (b : Fin 1281) :
    (v.readCov [(⟨Rect.unit (s := S256x1408) ![0, 0] S256x1408.size inb_S256x1408_S256x1408_0_0, k0_pay3 (F := Ideal) x0 x1 x2 x3⟩ : View.Piece (Elt Ideal) S256x1408 .f32)]
      (Rect.unit (s := S256x1408) ![0, 0] S256x1281.size inb_S256x1408_S256x1281_0_0).toLoadRect (ix2 a b : S256x1281.Idx) : EReal)
      = (x0 (ix3 0 a (Cert.WIn.own b)) + x1 (ix3 0 a (Cert.WIn.own b)) + x2 (ix3 0 a (Cert.WIn.own b)) + x3 (ix3 0 a (Cert.WIn.own b)) : EReal) := by
  rw [View.readCov_fill v inb_S256x1408_S256x1408_0_0 _ [] _ (by decide)]
  pointwise [k0_pay3]
  have hk : (b.val + 1408) % 1408 = b.val := by omega
  rw [own_columns b]
  simp only [hk]
  rfl

/-- The four loads of the parts' block, summed at a point. -/
theorem loaded (B : S4x256x1408.Idx → Elt Ideal .bf16) (a : Fin 256) (k : Fin 1408) :
    View.ld B (Rect.unit ![0, 0, 0] ![1, 256, 1408] inb_S4x256x1408_S1x256x1408_0_0_0) (ix3 0 a k)
        + View.ld B (Rect.unit ![1, 0, 0] ![1, 256, 1408] inb_S4x256x1408_S1x256x1408_1_0_0) (ix3 0 a k)
        + View.ld B (Rect.unit ![2, 0, 0] ![1, 256, 1408] inb_S4x256x1408_S1x256x1408_2_0_0) (ix3 0 a k)
        + View.ld B (Rect.unit ![3, 0, 0] ![1, 256, 1408] inb_S4x256x1408_S1x256x1408_3_0_0) (ix3 0 a k)
      = ∑ x, (B (ix3 x a k) : EReal) := by
  pointwise [Fin.sum_univ_four]

theorem final4 (c : Dev nD) : (dats m 0 c).arrAt 4 cfg0.N = fun i => val_main_v3 (F := Ideal) (m ((c : Thread nD τ).loc main_arg0)) (back i) := by
  refine (dats m 0 c).arrAt_eq_of_covers 4 _ (by decide +kernel) fun t hf y => ?_
  obtain ⟨-, -, -, -, e4, -⟩ := idx t
  obtain ⟨b, a, rfl⟩ : ∃ (b : Fin 1281) (a : Fin 256), y = ix3 0 b a := ⟨y 1, y 2, Cert.Adam.only y⟩
  blk_simp
  rw [after0_4, Cert.Reference31Ideal.Mix.sum_at, ← parts_at m c t (turned (ix3 0 b a)) _ (by blk_simp [e4, back, turned]) (by blk_simp [e4, back, turned])]
  dsimp only [outsAt0]
  frame_out
  refine (exchanged (View.whole cc0_scratch1) (View.whole cc0_scratch2) _ _ _ a b).trans ?_
  generalize hR : View.readCov (Val := Elt Ideal) (View.whole cc0_scratch0) _ _ = R
  have hs := (congrFun hR (ix2 a b)).symm.trans (summed_at (View.whole cc0_scratch0) _ _ _ _ a b)
  pointwise [k0_pay10]
  rw [hs.trans (loaded _ a (Cert.WIn.own b))]

theorem final5 (c : Dev nD) : (dats m 0 c).arrAt 5 cfg0.N = fun i => val_main_v21 (F := Ideal) (m ((c : Thread nD τ).loc main_arg0)) (m ((c : Thread nD τ).loc main_arg1)) (m ((c : Thread nD τ).loc main_arg2)) (m ((c : Thread nD τ).loc main_arg3)) (back i) := by
  refine (dats m 0 c).arrAt_eq_of_covers 5 _ (by decide +kernel) fun t hf y => ?_
  obtain ⟨-, -, -, -, -, e5, -⟩ := idx t
  obtain ⟨b, a, rfl⟩ : ∃ (b : Fin 1281) (a : Fin 256), y = ix3 0 b a := ⟨y 1, y 2, Cert.Adam.only y⟩
  blk_simp
  rw [after0_5, Cert.Reference31Ideal.Mix.step_at, ← parts_at m c t (turned (ix3 0 b a)) _ (by blk_simp [e5, back, turned]) (by blk_simp [e5, back, turned]), ← weight_at m c t (turned (ix3 0 b a)) _ (by blk_simp [e5, back, turned]) (by blk_simp [e5, back, turned]), ← first_at m c t (turned (ix3 0 b a)) _ (by blk_simp [e5, back, turned]) (by blk_simp [e5, back, turned]), ← second_at m c t (turned (ix3 0 b a)) _ (by blk_simp [e5, back, turned]) (by blk_simp [e5, back, turned])]
  dsimp only [outsAt0]
  frame_out
  refine (exchanged (View.whole cc0_scratch1) (View.whole cc0_scratch2) _ _ _ a b).trans ?_
  generalize hR : View.readCov (Val := Elt Ideal) (View.whole cc0_scratch0) _ _ = R
  have hs := (congrFun hR (ix2 a b)).symm.trans (summed_at (View.whole cc0_scratch0) _ _ _ _ a b)
  pointwise [k0_pay13, k0_pay8, k0_pay4, k0_pay5, k0_pay6, k0_pay7]
  rw [hs.trans (loaded _ a (Cert.WIn.own b))]
  rfl

theorem final6 (c : Dev nD) : (dats m 0 c).arrAt 6 cfg0.N = fun i => val_main_v6 (F := Ideal) (m ((c : Thread nD τ).loc main_arg0)) (m ((c : Thread nD τ).loc main_arg2)) (back i) := by
  refine (dats m 0 c).arrAt_eq_of_covers 6 _ (by decide +kernel) fun t hf y => ?_
  obtain ⟨-, -, -, -, -, -, e6, -⟩ := idx t
  obtain ⟨b, a, rfl⟩ : ∃ (b : Fin 1281) (a : Fin 256), y = ix3 0 b a := ⟨y 1, y 2, Cert.Adam.only y⟩
  blk_simp
  rw [after0_6, Cert.Reference31Ideal.Mix.first_at, ← parts_at m c t (turned (ix3 0 b a)) _ (by blk_simp [e6, back, turned]) (by blk_simp [e6, back, turned]), ← first_at m c t (turned (ix3 0 b a)) _ (by blk_simp [e6, back, turned]) (by blk_simp [e6, back, turned])]
  dsimp only [outsAt0]
  frame_out
  refine (exchanged (View.whole cc0_scratch1) (View.whole cc0_scratch2) _ _ _ a b).trans ?_
  generalize hR : View.readCov (Val := Elt Ideal) (View.whole cc0_scratch0) _ _ = R
  have hs := (congrFun hR (ix2 a b)).symm.trans (summed_at (View.whole cc0_scratch0) _ _ _ _ a b)
  pointwise [k0_pay16, k0_pay5, k0_pay6]
  rw [hs.trans (loaded _ a (Cert.WIn.own b))]
  rfl

theorem final7 (c : Dev nD) : (dats m 0 c).arrAt 7 cfg0.N = fun i => val_main_v10 (F := Ideal) (m ((c : Thread nD τ).loc main_arg0)) (m ((c : Thread nD τ).loc main_arg3)) (back i) := by
  refine (dats m 0 c).arrAt_eq_of_covers 7 _ (by decide +kernel) fun t hf y => ?_
  obtain ⟨-, -, -, -, -, -, -, e7⟩ := idx t
  obtain ⟨b, a, rfl⟩ : ∃ (b : Fin 1281) (a : Fin 256), y = ix3 0 b a := ⟨y 1, y 2, Cert.Adam.only y⟩
  blk_simp
  rw [after0_7, Cert.Reference31Ideal.Mix.second_at, ← parts_at m c t (turned (ix3 0 b a)) _ (by blk_simp [e7, back, turned]) (by blk_simp [e7, back, turned]), ← second_at m c t (turned (ix3 0 b a)) _ (by blk_simp [e7, back, turned]) (by blk_simp [e7, back, turned])]
  dsimp only [outsAt0]
  frame_out
  refine (exchanged (View.whole cc0_scratch1) (View.whole cc0_scratch2) _ _ _ a b).trans ?_
  generalize hR : View.readCov (Val := Elt Ideal) (View.whole cc0_scratch0) _ _ = R
  have hs := (congrFun hR (ix2 a b)).symm.trans (summed_at (View.whole cc0_scratch0) _ _ _ _ a b)
  pointwise [k0_pay19, k0_pay7]
  rw [hs.trans (loaded _ a (Cert.WIn.own b))]
  rfl

/-- A transposed array, transposed again by the host. -/
theorem turned_back (f : (⟨S1x2048x1281, .f32⟩ : BufTy).Contents (Elt Ideal)) :
    transpose S1x2048x1281 [0, 2, 1] (fun i => f (back i)) transposes_S1x1281x2048_S1x2048x1281_0_2_1 = f := by
  funext i
  pointwise [back]
  exact congrArg f (Cert.Adam.only i).symm

/-- The arrays when the call has ended. -/
abbrev arrays (c : Dev nD) := withArrays (cfgs 0).spec c (V0 m c) fun w => (dats m 0 c).arrAt w (cfgs 0).N

variable (s : MemSt nD τ sig (Elt Ideal)) (c : Dev nD)
  (h : ∀ b ∈ restRefs sig (cfgs 0).spec, s.mem ((c.tc : Thread nD τ).loc b) = afterTail₀ cfgs (dats m) 0 (V0 m) [hostOps1] c b)

include h

theorem result_sum : s.mem ((c.tc : Thread nD τ).loc main_v1) = val_main_v3 (F := Ideal) (m ((c : Thread nD τ).loc main_arg0)) := by
  rw [h main_v1 (mem_restRefs_of main_v1 rfl (by decide))]
  have hw : arrays m c (Proc.devRef .tc main_v0_0) = (dats m 0 c).arrAt 4 cfg0.N := withArrays_arr (cfgs 0).spec (by decide) c (V0 m c) (fun w => (dats m 0 c).arrAt w (cfgs 0).N) 4
  have e : StableHlo.after [hostOps1].flatten (arrays m c) (Proc.devRef .tc main_v1) = transpose S1x2048x1281 [0, 2, 1] (arrays m c (Proc.devRef .tc main_v0_0)) transposes_S1x1281x2048_S1x2048x1281_0_2_1 := by
    show StableHlo.after [_, _, _, _] _ _ = _
    simp only [StableHlo.after_cons, StableHlo.after_nil]
    rfl
  exact e.trans ((congrArg (transpose S1x2048x1281 [0, 2, 1] · transposes_S1x1281x2048_S1x2048x1281_0_2_1) (hw.trans (final4 m c))).trans (turned_back _))

theorem result_delta : s.mem ((c.tc : Thread nD τ).loc main_v2) = val_main_v21 (F := Ideal) (m ((c : Thread nD τ).loc main_arg0)) (m ((c : Thread nD τ).loc main_arg1)) (m ((c : Thread nD τ).loc main_arg2)) (m ((c : Thread nD τ).loc main_arg3)) := by
  rw [h main_v2 (mem_restRefs_of main_v2 rfl (by decide))]
  have hw : arrays m c (Proc.devRef .tc main_v0_1) = (dats m 0 c).arrAt 5 cfg0.N := withArrays_arr (cfgs 0).spec (by decide) c (V0 m c) (fun w => (dats m 0 c).arrAt w (cfgs 0).N) 5
  have e : StableHlo.after [hostOps1].flatten (arrays m c) (Proc.devRef .tc main_v2) = transpose S1x2048x1281 [0, 2, 1] (arrays m c (Proc.devRef .tc main_v0_1)) transposes_S1x1281x2048_S1x2048x1281_0_2_1 := by
    show StableHlo.after [_, _, _, _] _ _ = _
    simp only [StableHlo.after_cons, StableHlo.after_nil]
    rfl
  exact e.trans ((congrArg (transpose S1x2048x1281 [0, 2, 1] · transposes_S1x1281x2048_S1x2048x1281_0_2_1) (hw.trans (final5 m c))).trans (turned_back _))

theorem result_moment : s.mem ((c.tc : Thread nD τ).loc main_v3) = val_main_v6 (F := Ideal) (m ((c : Thread nD τ).loc main_arg0)) (m ((c : Thread nD τ).loc main_arg2)) := by
  rw [h main_v3 (mem_restRefs_of main_v3 rfl (by decide))]
  have hw : arrays m c (Proc.devRef .tc main_v0_2) = (dats m 0 c).arrAt 6 cfg0.N := withArrays_arr (cfgs 0).spec (by decide) c (V0 m c) (fun w => (dats m 0 c).arrAt w (cfgs 0).N) 6
  have e : StableHlo.after [hostOps1].flatten (arrays m c) (Proc.devRef .tc main_v3) = transpose S1x2048x1281 [0, 2, 1] (arrays m c (Proc.devRef .tc main_v0_2)) transposes_S1x1281x2048_S1x2048x1281_0_2_1 := by
    show StableHlo.after [_, _, _, _] _ _ = _
    simp only [StableHlo.after_cons, StableHlo.after_nil]
    rfl
  exact e.trans ((congrArg (transpose S1x2048x1281 [0, 2, 1] · transposes_S1x1281x2048_S1x2048x1281_0_2_1) (hw.trans (final6 m c))).trans (turned_back _))

theorem result_square : s.mem ((c.tc : Thread nD τ).loc main_v4) = val_main_v10 (F := Ideal) (m ((c : Thread nD τ).loc main_arg0)) (m ((c : Thread nD τ).loc main_arg3)) := by
  rw [h main_v4 (mem_restRefs_of main_v4 rfl (by decide))]
  have hw : arrays m c (Proc.devRef .tc main_v0_3) = (dats m 0 c).arrAt 7 cfg0.N := withArrays_arr (cfgs 0).spec (by decide) c (V0 m c) (fun w => (dats m 0 c).arrAt w (cfgs 0).N) 7
  have e : StableHlo.after [hostOps1].flatten (arrays m c) (Proc.devRef .tc main_v4) = transpose S1x2048x1281 [0, 2, 1] (arrays m c (Proc.devRef .tc main_v0_3)) transposes_S1x1281x2048_S1x2048x1281_0_2_1 := by
    show StableHlo.after [_, _, _, _] _ _ = _
    simp only [StableHlo.after_cons, StableHlo.after_nil]
    rfl
  exact e.trans ((congrArg (transpose S1x2048x1281 [0, 2, 1] · transposes_S1x1281x2048_S1x2048x1281_0_2_1) (hw.trans (final7 m c))).trans (turned_back _))

end Cert.Kernel31Ideal.Mix
-- ==== Proof.ForgetSum.lean ====
/-
  The running sum of the forget gate's logarithm.
-/
module

public import proofs.«01_k».proof.Proof.Gen.Kernel32Ideal.Value
public import proofs.«01_k».proof.Proof.Gen.Reference32Ideal.Read
public import Idealize.ShloMosaic.Lib.Pipeline.ValueKit
public import Idealize.ShloMosaic.Lib.IdealHost
public import proofs.«01_k».proof.Proof.Sig
public import proofs.«01_k».proof.Proof.Adam

@[expose] public section

set_option maxRecDepth 16384

noncomputable section

open Idealize.ShloMosaic Idealize.ShloMosaic.TcCoe Idealize.SL.Sem
open Idealize.ShloMosaic.Pipeline

namespace Cert.Forget

/-- The logarithm of the logistic function over the extended reals, as the kernel writes it. -/
def lsg (z : EReal) : EReal := min z 0 - Ideal.log (1 + Ideal.exp (0 - max z (-z)))

theorem lsg_coe (w : ℝ) : lsg (w : EReal) = ((Cert.KernelIdeal.Sb.lsig w : ℝ) : EReal) := by
  unfold lsg Cert.KernelIdeal.Sb.lsig
  rw [show (0 : EReal) = ((0 : ℝ) : EReal) from rfl, ← EReal.coe_neg, Cert.KernelIdeal.Sb.coe_max, ← EReal.coe_sub, Ideal.exp_coe, Cert.KernelIdeal.Sb.log_one_add_exp,
    show min (w : EReal) ((0 : ℝ) : EReal) = ((min w 0 : ℝ) : EReal) from (EReal.coe_strictMono.monotone.map_min).symm, ← EReal.coe_sub]
  rfl

theorem log_one : Ideal.log 1 = 0 := by
  rw [← EReal.coe_one, Ideal.log_coe]
  norm_num

theorem lsg_top : lsg ⊤ = 0 := by
  unfold lsg
  simp [log_one]

theorem lsg_bot : lsg ⊥ = ⊥ := by
  unfold lsg
  simp [log_one]

theorem lsg_ne_top (z : EReal) : lsg z ≠ ⊤ := by
  induction z with
  | bot => rw [lsg_bot]; exact bot_ne_top
  | top => rw [lsg_top]; exact EReal.zero_ne_top
  | coe w => rw [lsg_coe]; exact EReal.coe_ne_top _

/-- The reference's way of writing it, with its guard against what is not a number. -/
theorem host_lsg (x d : Ideal .f32) :
    FloatOps.hostNegf (Scalar.select (FloatOps.cmpf .une (FloatOps.subf (FloatOps.hostNegf x) (FloatOps.ofBits .f32 0x00000000#32)) (FloatOps.subf (FloatOps.hostNegf x) (FloatOps.ofBits .f32 0x00000000#32))) d
      (FloatOps.addf (FloatOps.maximumf (FloatOps.hostNegf x) (FloatOps.ofBits .f32 0x00000000#32)) (FloatOps.hostUnary .log1p (FloatOps.hostUnary .exp
        (FloatOps.hostNegf (FloatOps.hostAbsf (FloatOps.subf (FloatOps.hostNegf x) (FloatOps.ofBits .f32 0x00000000#32))))))))
      = lsg x := by
  show - Scalar.select (BitVec.ofBool (decide (-x - Ideal.ofBits .f32 0x00000000#32 ≠ -x - Ideal.ofBits .f32 0x00000000#32))) d
    (max (-x) (Ideal.ofBits .f32 0x00000000#32) + Ideal.log (1 + Ideal.exp (-(max (-x - Ideal.ofBits .f32 0x00000000#32)
      (-(-x - Ideal.ofBits .f32 0x00000000#32)))))) = lsg x
  rw [Cert.KernelIdeal.Sb.ofBits_zero, Cert.KernelIdeal.Sb.select_bit]
  simp only [ne_eq, not_true_eq_false, decide_false, Bool.false_eq_true, if_false, sub_zero, neg_neg]
  induction x using EReal.rec with
  | bot => rw [lsg_bot]; simp [log_one]
  | top => rw [lsg_top]; simp [log_one]
  | coe w =>
    rw [lsg_coe, ← EReal.coe_neg, Cert.KernelIdeal.Sb.coe_max, ← EReal.coe_neg, Ideal.exp_coe, Cert.KernelIdeal.Sb.log_one_add_exp, show (0 : EReal) = ((0 : ℝ) : EReal) from rfl,
      Cert.KernelIdeal.Sb.coe_max, ← EReal.coe_add, ← EReal.coe_neg]
    congr 1
    unfold Cert.KernelIdeal.Sb.lsig
    rw [zero_sub, max_comm (-w) w, show max w (-w) = |w| from rfl, neg_add, show -max (-w) 0 = min w 0 by rw [← neg_zero, max_neg_neg, neg_zero]; ring]
    rfl

/-- The three parts of a split sum to the value, at each weight of a triangular matrix. -/
theorem split (p : Bool) (x : EReal) (hx : x ≠ ⊤) :
    (if p then (1 : EReal) else 0) * x + (if p then (1 : EReal) else 0) * (x - x) + (if p then (1 : EReal) else 0) * ((x - x) - (x - x)) = if p then x else 0 := by
  cases p
  · simp
  · induction x using EReal.rec with
    | bot => simp
    | top => exact absurd rfl hx
    | coe w => simp [← EReal.coe_sub]

theorem shift (f : ℕ → EReal) (y : ℕ) (hy : y < 2048) :
    (∑ k : Fin 2048, if 2047 ≤ y + k.val then f (y + k.val - 2047) else 0) = ∑ b ∈ Finset.range (y + 1), f b := by
  rw [← Finset.sum_range fun k => if 2047 ≤ y + k then f (y + k - 2047) else 0, ← Finset.sum_filter]
  refine Finset.sum_bij (fun k _ => y + k - 2047) (fun k hk => ?_) (fun a ha b hb h => ?_) (fun b hb => ?_) (fun _ _ => rfl)
  · simp only [Finset.mem_filter, Finset.mem_range] at hk ⊢; omega
  · simp only [Finset.mem_filter, Finset.mem_range] at ha hb; omega
  · simp only [Finset.mem_range] at hb
    exact ⟨b + 2047 - y, by simp only [Finset.mem_filter, Finset.mem_range]; omega, by omega⟩

/-- A sum over windows of the columns' length, padded before the first row, is the running sum. -/
theorem windows (f : FVec Ideal ⟨2, ![2048, 128]⟩ .f32) (R : ℕ → Fin 128 → EReal) (hf : ∀ p, f p = R (p 0).val (p 1)) (init : FVec Ideal ⟨0, ![]⟩ .f32) (hi : ∀ i, init i = (0 : EReal))
    (h : (⟨2, ![2048, 128]⟩ : Shape).ReduceWindows ![2048, 1] ![1, 1] ![2047, 0] ![0, 0] ⟨2, ![2048, 128]⟩)
    (hu : 0 < (⟨0, ![]⟩ : Shape).numel) (x : Fin 2048) (y : Fin 128) :
    Host.reduceWindowAdd ![2048, 1] ![1, 1] ![2047, 0] ![0, 0] f init h hu (ix2 x y) = ∑ b ∈ Finset.range (x.val + 1), R b y := by
  unfold Host.reduceWindowAdd
  rw [Ideal.hostReduceWindowAdd_def, hi]
  unfold Ideal.hostReduceWindowAdd Host.reduceWindow
  dsimp only
  rw [Cert.KernelIdeal.Sb.fold_add, zero_add]
  have key := Equiv.sum_comp (⟨2, ![2048, 1]⟩ : Shape).rowMajor.symm (fun w : (⟨2, ![2048, 1]⟩ : Shape).Idx =>
    if 2047 ≤ x.val + (w 0).val then R (x.val + (w 0).val - 2047) y else 0)
  refine Eq.trans (Finset.sum_congr rfl fun k _ => ?_) (key.trans ?_)
  · have w1 : ((⟨2, ![2048, 1]⟩ : Shape).rowMajor.symm k 1).val = 0 := Nat.lt_one_iff.1 ((⟨2, ![2048, 1]⟩ : Shape).rowMajor.symm k 1).isLt
    have w0 : ((⟨2, ![2048, 1]⟩ : Shape).rowMajor.symm k 0).val < 2048 := ((⟨2, ![2048, 1]⟩ : Shape).rowMajor.symm k 0).isLt
    have hx := x.isLt
    have hy := y.isLt
    by_cases c : 2047 ≤ x.val + ((⟨2, ![2048, 1]⟩ : Shape).rowMajor.symm k 0).val
    · rw [if_pos c, dif_pos fun a => by
        match a with
        | ⟨0, _⟩ =>
          show 2047 ≤ x.val * 1 + ((⟨2, ![2048, 1]⟩ : Shape).rowMajor.symm k 0).val ∧ x.val * 1 + ((⟨2, ![2048, 1]⟩ : Shape).rowMajor.symm k 0).val - 2047 < 2048
          omega
        | ⟨1, _⟩ =>
          show 0 ≤ y.val * 1 + ((⟨2, ![2048, 1]⟩ : Shape).rowMajor.symm k 1).val ∧ y.val * 1 + ((⟨2, ![2048, 1]⟩ : Shape).rowMajor.symm k 1).val - 0 < 128
          omega]
      rw [hf]
      refine congrArg₂ R ?_ (Fin.ext ?_)
      · show x.val * 1 + ((⟨2, ![2048, 1]⟩ : Shape).rowMajor.symm k 0).val - 2047 = _
        rw [Nat.mul_one]
      · show y.val * 1 + ((⟨2, ![2048, 1]⟩ : Shape).rowMajor.symm k 1).val - 0 = _
        omega
    · rw [if_neg c, dif_neg fun hin => c ?_]
      have h2 := hin 0
      change 2047 ≤ x.val * 1 + ((⟨2, ![2048, 1]⟩ : Shape).rowMajor.symm k 0).val ∧ _ at h2
      omega
  · rw [sum_idx2]
    simp only [Fin.sum_univ_one]
    exact shift (fun n => R n y) x.val x.isLt

end Cert.Forget

namespace Cert.Kernel32Ideal.Mix

open Cert.Kernel32Ideal.Gen Cert.Reference32Ideal.Read

/-- A tile's running sum on top of the sum of the tiles before it. -/
def cum (v : FVec Ideal S1x128 .f32) (L : FVec Ideal S256x128 .f32) : FVec Ideal S256x128 .f32 :=
  let d := subf L (extf .f32 (truncf .bf16 L bitsLt_bf16_f32) bitsLt_bf16_f32)
  addf (addf (addf (broadcastTo S256x128 v broadcasts_S1x128_S256x128)
    (matmul dot_S256x256_S256x128_S256x128_1_0_0_1_n_n none (k0_pay3 (F := Ideal)) (truncf .bf16 L bitsLt_bf16_f32) (constant S256x128 .f32 0x00000000#32)))
    (matmul dot_S256x256_S256x128_S256x128_1_0_0_1_n_n none (k0_pay3 (F := Ideal)) (truncf .bf16 d bitsLt_bf16_f32) (constant S256x128 .f32 0x00000000#32)))
    (matmul dot_S256x256_S256x128_S256x128_1_0_0_1_n_n none (k0_pay3 (F := Ideal)) (truncf .bf16 (subf d (extf .f32 (truncf .bf16 d bitsLt_bf16_f32) bitsLt_bf16_f32)) bitsLt_bf16_f32) (constant S256x128 .f32 0x00000000#32))

theorem tri_at (a b : Fin 256) : k0_pay3 (F := Ideal) (ix2 a b) = if decide (b.val ≤ a.val) then (1 : EReal) else 0 := by
  pointwise [k0_pay3]
  have h : IntOp.cmpi .sle (BitVec.ofNat 32 b.val) (BitVec.ofNat 32 a.val) = BitVec.ofBool (decide (b.val ≤ a.val)) := by
    show BitVec.ofBool (BitVec.sle _ _) = _
    congr 1
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  rw [h, Cert.KernelIdeal.Sb.select_bit]

theorem cum_at (v : FVec Ideal S1x128 .f32) (L : FVec Ideal S256x128 .f32) (hL : ∀ j, L j ≠ (⊤ : EReal)) (a : Fin 256) (b : Fin 128) :
    cum v L (ix2 a b) = (v (ix2 0 b) + ∑ j : Fin 256, if decide (j.val ≤ a.val) then L (ix2 j b) else 0 : EReal) := by
  have h : ∀ j : Fin 256, _ := fun j => Cert.Forget.split (decide (j.val ≤ a.val)) (L (ix2 j b)) (hL _)
  simp only [← h, Finset.sum_add_distrib, ← tri_at]
  pointwise [cum]
  simp only [add_assoc]

theorem next_at (v : FVec Ideal S1x128 .f32) (L : FVec Ideal S256x128 .f32) (b : Fin 128) :
    k0_pay9 v L (ix2 0 b) = (v (ix2 0 b) + ∑ j : Fin 256, L (ix2 j b) : EReal) := by
  pointwise [k0_pay9]

theorem gate_at (X : Vec Ideal S256x128 .f32) (B : Vec Ideal S1x128 .f32) (a : Fin 256) (b : Fin 128) :
    k0_pay5 X B (ix2 a b) = Cert.Forget.lsg (X (ix2 a b) + B (ix2 0 b)) := by
  unfold Cert.Forget.lsg
  pointwise [k0_pay5]
  rfl

variable (x : Vec Ideal S2048x128 .f32) (B : Vec Ideal S1x128 .f32)

/-- The gate's logarithm in a row and a column, and nothing beyond the rows. -/
def row (b : Fin 128) (n : ℕ) : EReal := if h : n < 2048 then Cert.Forget.lsg (x (ix2 ⟨n, h⟩ b) + B (ix2 0 b)) else 0

/-- The gate's logarithm in a tile of rows. -/
abbrev tile (o : ℕ) (inb : ∀ a, (![o, 0] : Fin 2 → ℕ) a + S256x128.size a ≤ S2048x128.size a) : FVec Ideal S256x128 .f32 :=
  k0_pay5 (View.ld x (Rect.unit (s := S2048x128) ![o, 0] S256x128.size inb)) B

theorem tile_at (o : ℕ) (inb) (a : Fin 256) (b : Fin 128) : tile x B o inb (ix2 a b) = row x B b (o + a.val) := by
  have h : o + a.val < 2048 := by have := inb 0; change o + 256 ≤ 2048 at this; omega
  refine (gate_at _ _ a b).trans ?_
  rw [row, dif_pos h]
  refine congrArg (fun w => Cert.Forget.lsg (x w + B (ix2 0 b))) (funext fun k => Fin.ext (match k with
    | ⟨0, _⟩ => by show o + 1 * a.val = o + a.val; omega
    | ⟨1, _⟩ => by show 0 + 1 * b.val = b.val; omega))

theorem tile_ne_top (o : ℕ) (inb) (j : S256x128.Idx) : tile x B o inb j ≠ (⊤ : EReal) := by
  obtain ⟨a, b, rfl⟩ : ∃ (a : Fin 256) (b : Fin 128), j = ix2 a b := ⟨j 0, j 1, eq_ix2 j⟩
  exact ne_of_eq_of_ne (gate_at _ _ a b) (Cert.Forget.lsg_ne_top _)

/-- The sum of the rows before a tile. -/
def Before (v : FVec Ideal S1x128 .f32) (o : ℕ) : Prop := ∀ b, v (ix2 0 b) = ∑ n ∈ Finset.range o, row x B b n

theorem before_zero : Before x B (k0_pay4 (F := Ideal)) 0 := fun b => by
  pointwise [k0_pay4]
  simp

variable {x B} {v : FVec Ideal S1x128 .f32} {o : ℕ} (hv : Before x B v o) (inb : ∀ a, (![o, 0] : Fin 2 → ℕ) a + S256x128.size a ≤ S2048x128.size a)

include hv

theorem before_next : Before x B (k0_pay9 v (tile x B o inb)) (o + 256) := fun b => by
  rw [next_at, hv b, Finset.sum_range_add, Finset.sum_range fun n => row x B b (o + n)]
  simp only [tile_at]

theorem cum_eq (a : Fin 256) (b : Fin 128) : cum v (tile x B o inb) (ix2 a b) = ∑ n ∈ Finset.range (o + a.val + 1), row x B b n := by
  rw [cum_at _ _ (tile_ne_top x B o inb), hv b, add_assoc, Finset.sum_range_add]
  congr 1
  simp only [tile_at, decide_eq_true_eq]
  rw [← Finset.sum_range fun n => if n ≤ a.val then row x B b (o + n) else 0, ← Finset.sum_filter]
  refine Finset.sum_congr (Finset.ext fun n => ?_) fun _ _ => rfl
  have := a.isLt
  simp only [Finset.mem_filter, Finset.mem_range]
  omega

omit hv

/-- The running sums in their place. -/
def sums (x : Vec Ideal S2048x128 .f32) (B : Vec Ideal S1x128 .f32) (y : S2048x128.Idx) : EReal := ∑ n ∈ Finset.range ((y 0).val + 1), row x B (y 1) n

/-- The running sums in blocks of rows, each with rows and columns exchanged. -/
def blocks (x : Vec Ideal S2048x128 .f32) (B : Vec Ideal S1x128 .f32) (y : S8x128x256.Idx) : EReal := ∑ n ∈ Finset.range (256 * (y 0).val + (y 2).val + 1), row x B (y 1) n

include hv

theorem piece (p : S256x128.Idx) : cum v (tile x B o inb) p = sums x B ((Rect.unit (s := S2048x128) ![o, 0] S256x128.size inb).emb p) := by
  obtain ⟨a, b, rfl⟩ : ∃ (a : Fin 256) (b : Fin 128), p = ix2 a b := ⟨p 0, p 1, eq_ix2 p⟩
  rw [cum_eq hv]
  have h0 : (((Rect.unit (s := S2048x128) ![o, 0] S256x128.size inb).emb (ix2 a b)) 0).val = o + a.val := by show o + 1 * a.val = _; omega
  have h1 : (((Rect.unit (s := S2048x128) ![o, 0] S256x128.size inb).emb (ix2 a b)) 1) = b := Fin.ext (by show 0 + 1 * b.val = _; omega)
  unfold sums
  rw [h0, h1]

theorem piece_turned {q : ℕ} (hq : o = 256 * q) (inb' : ∀ a, (![q, 0, 0] : Fin 3 → ℕ) a + S1x128x256.size a ≤ S8x128x256.size a) (p : S1x128x256.Idx) :
    shapeCast S1x128x256 (transpose S128x256 [1, 0] (cum v (tile x B o inb)) transposes_S256x128_p1_0_S128x256) shapeCasts_S128x256_S1x128x256 p
      = blocks x B ((Rect.unit (s := S8x128x256) ![q, 0, 0] S1x128x256.size inb').emb p) := by
  obtain ⟨b, a, rfl⟩ : ∃ (b : Fin 128) (a : Fin 256), p = ix3 0 b a := ⟨p 1, p 2, Cert.Adam.only p⟩
  have h0 : (((Rect.unit (s := S8x128x256) ![q, 0, 0] S1x128x256.size inb').emb (ix3 0 b a)) 0).val = q := by show q + 1 * 0 = _; omega
  have h1 : (((Rect.unit (s := S8x128x256) ![q, 0, 0] S1x128x256.size inb').emb (ix3 0 b a)) 1) = b := Fin.ext (by show 0 + 1 * b.val = _; omega)
  have h2 : (((Rect.unit (s := S8x128x256) ![q, 0, 0] S1x128x256.size inb').emb (ix3 0 b a)) 2).val = a.val := by show 0 + 1 * a.val = _; omega
  unfold blocks
  rw [h0, h1, h2, ← hq]
  refine Eq.trans ?_ (cum_eq hv inb a b)
  generalize cum v (tile x B o inb) = w
  pointwise []

omit hv

variable (x B)

/-- The sums of the rows before each of the tiles that follow. -/
theorem before_all (x1 : Vec Ideal S1x128 .f32) : Before x (View.ld x1 r0_1) (k0_pay9 (k0_pay50 x x1) (k0_pay51 x x1)) 256 ∧ Before x (View.ld x1 r0_1) (k0_pay52 x x1) 512
    ∧ Before x (View.ld x1 r0_1) (k0_pay53 x x1) 768 ∧ Before x (View.ld x1 r0_1) (k0_pay54 x x1) 1024 ∧ Before x (View.ld x1 r0_1) (k0_pay57 x x1) 1280
    ∧ Before x (View.ld x1 r0_1) (k0_pay61 x x1) 1536 ∧ Before x (View.ld x1 r0_1) (k0_pay64 x x1) 1792 := by
  have h0 := before_zero x (View.ld x1 r0_1)
  have h1 := before_next h0 inb_S2048x128_S256x128_0_0
  have h2 := before_next h1 inb_S2048x128_S256x128_256_0
  have h3 := before_next h2 inb_S2048x128_S256x128_512_0
  have h4 := before_next h3 inb_S2048x128_S256x128_768_0
  have h5 := before_next h4 inb_S2048x128_S256x128_1024_0
  have h6 := before_next h5 inb_S2048x128_S256x128_1280_0
  have h7 := before_next h6 inb_S2048x128_S256x128_1536_0
  exact ⟨h1, h2, h3, h4, h5, h6, h7⟩

theorem out2 (x1 : Vec Ideal S1x128 .f32) : out0_2 x x1 = sums x (View.ld x1 r0_1) := by
  obtain ⟨h1, h2, h3, h4, h5, h6, h7⟩ := before_all x x1
  funext y
  refine View.canon_apply_of_pieces (Val := Elt Ideal) (sums x (View.ld x1 r0_1)) _ (fun p hp => ?_) y (cover0_2 _ _ _ _ _ _ _ _ y)
  simp only [List.mem_cons, List.not_mem_nil, or_false] at hp
  rcases hp with rfl | rfl | rfl | rfl | rfl | rfl | rfl | rfl
  exacts [piece h7 _, piece h6 _, piece h5 _, piece h4 _, piece h3 _, piece h2 _, piece h1 _, piece (before_zero x _) _]

theorem out3 (x1 : Vec Ideal S1x128 .f32) : out0_3 x x1 = blocks x (View.ld x1 r0_1) := by
  obtain ⟨h1, h2, h3, h4, h5, h6, h7⟩ := before_all x x1
  funext y
  refine View.canon_apply_of_pieces (Val := Elt Ideal) (blocks x (View.ld x1 r0_1)) _ (fun p hp => ?_) y (cover0_3 _ _ _ _ _ _ _ _ y)
  simp only [List.mem_cons, List.not_mem_nil, or_false] at hp
  rcases hp with rfl | rfl | rfl | rfl | rfl | rfl | rfl | rfl
  exacts [piece_turned h7 inb_S2048x128_S256x128_1792_0 (q := 7) rfl inb_S8x128x256_S1x128x256_7_0_0, piece_turned h6 inb_S2048x128_S256x128_1536_0 (q := 6) rfl inb_S8x128x256_S1x128x256_6_0_0, piece_turned h5 inb_S2048x128_S256x128_1280_0 (q := 5) rfl inb_S8x128x256_S1x128x256_5_0_0, piece_turned h4 inb_S2048x128_S256x128_1024_0 (q := 4) rfl inb_S8x128x256_S1x128x256_4_0_0, piece_turned h3 inb_S2048x128_S256x128_768_0 (q := 3) rfl inb_S8x128x256_S1x128x256_3_0_0, piece_turned h2 inb_S2048x128_S256x128_512_0 (q := 2) rfl inb_S8x128x256_S1x128x256_2_0_0, piece_turned h1 inb_S2048x128_S256x128_256_0 (q := 1) rfl inb_S8x128x256_S1x128x256_1_0_0, piece_turned (before_zero x _) inb_S2048x128_S256x128_0_0 (q := 0) rfl inb_S8x128x256_S1x128x256_0_0_0]

end Cert.Kernel32Ideal.Mix

namespace Cert.Kernel32Ideal.Mix

open Cert.Kernel32Ideal.Gen Cert.Reference32Ideal.Read

variable (m : (ℓ : Loc nD τ sig) → Buf (Elt Ideal) ℓ) (c : Dev nD)

/-- Where the blocks of the one grid point lie. -/
theorem idx : ∀ t : Fin cfg0.N, win0_0.index t = ![0, 32] ∧ win0_1.index t = ![0, 0] ∧ win0_2.index t = ![0, 0] ∧ win0_3.index t = ![0, 0, 0] :=
  (by decide +kernel : ∀ t : Fin grid0.N, _)

theorem first_at (t : Fin cfg0.N) (j : S2048x128.Idx) (q : S2048x4608.Idx) (h1 : (q 0).val = (j 0).val) (h2 : (q 1).val = 4096 + (j 1).val) :
    iblk m c 0 t j = m ((c : Thread nD τ).loc main_arg0) q := by
  obtain ⟨e0, -⟩ := idx t
  refine Eq.trans ?_ (congrFun (V_main_arg0 m c) q)
  blk_point [iblk, e0, h1, h2]

theorem second_at (t : Fin cfg0.N) (j q : S1x128.Idx) (h : (q 1).val = (j 1).val) :
    iblk m c 1 t j = m ((c : Thread nD τ).loc main_arg1) q := by
  obtain ⟨-, e1, -⟩ := idx t
  refine Eq.trans ?_ (congrFun (V_main_arg1 m c) q)
  blk_point [iblk, e1, h]

theorem row_eq (t : Fin cfg0.N) (b : Fin 128) (n : ℕ) (hn : n < 2048) : row (iblk m c 0 t) (View.ld (iblk m c 1 t) r0_1) b n
    = val_main_v3 (F := Ideal) (m ((c : Thread nD τ).loc main_arg0)) (m ((c : Thread nD τ).loc main_arg1)) (ix2 ⟨n, hn⟩ b) := by
  obtain ⟨e0, e1, -, -⟩ := idx t
  rw [row, dif_pos hn]
  refine Eq.trans ?_ (Cert.Forget.host_lsg _ _).symm
  refine congrArg Cert.Forget.lsg (congrArg₂ (· + ·) ?_ ?_)
  · rw [val_main_v0_apply]
    exact first_at m c t _ _ rfl rfl
  · rw [val_main_v1_apply]
    exact second_at m c t (r0_1.idx (ix2 0 b)) _ (show b.val = 0 + 1 * b.val by omega)

theorem ref_sums (t : Fin cfg0.N) (y : S2048x128.Idx) : val_main_v4 (F := Ideal) (m ((c : Thread nD τ).loc main_arg0)) (m ((c : Thread nD τ).loc main_arg1)) y
    = sums (iblk m c 0 t) (View.ld (iblk m c 1 t) r0_1) y := by
  obtain ⟨a, b, rfl⟩ : ∃ (a : Fin 2048) (b : Fin 128), y = ix2 a b := ⟨y 0, y 1, eq_ix2 y⟩
  refine Cert.Forget.windows _ (fun n b => row (iblk m c 0 t) (View.ld (iblk m c 1 t) r0_1) b n) (fun p => ?_) _ (fun i => ?_) _ _ a b
  · exact (congrArg _ (eq_ix2 p)).trans (row_eq m c t (p 1) (p 0).val (p 0).isLt).symm
  · rw [val_main_call1_v0_apply, val_main_call1_cst_apply]
    exact Cert.KernelIdeal.Sb.ofBits_zero

theorem same_sums (x : Vec Ideal S2048x128 .f32) (B : Vec Ideal S1x128 .f32) (y z : S2048x128.Idx) (h0 : (z 0).val = (y 0).val) (h1 : (z 1).val = (y 1).val) :
    sums x B y = sums x B z := by
  unfold sums
  rw [h0, show z 1 = y 1 from Fin.ext h1]

theorem same_blocks (x : Vec Ideal S2048x128 .f32) (B : Vec Ideal S1x128 .f32) (y : S8x128x256.Idx) (z : S2048x128.Idx)
    (h0 : (z 0).val = 256 * (y 0).val + (y 2).val) (h1 : (z 1).val = (y 1).val) : blocks x B y = sums x B z := by
  unfold sums blocks
  rw [h0, show z 1 = y 1 from Fin.ext h1]

theorem final2 : (dats m 0 c).arrAt 2 cfg0.N = val_main_v4 (F := Ideal) (m ((c : Thread nD τ).loc main_arg0)) (m ((c : Thread nD τ).loc main_arg1)) := by
  refine (dats m 0 c).arrAt_eq_of_covers 2 _ (by decide +kernel) fun t hf y => ?_
  obtain ⟨-, -, e2, -⟩ := idx t
  blk_simp
  rw [ref_sums m c t, after0_2, out2]
  exact same_sums _ _ _ _ (by blk_simp [e2]) (by blk_simp [e2])

theorem final3 : (dats m 0 c).arrAt 3 cfg0.N = val_main_v6 (F := Ideal) (m ((c : Thread nD τ).loc main_arg0)) (m ((c : Thread nD τ).loc main_arg1)) := by
  refine (dats m 0 c).arrAt_eq_of_covers 3 _ (by decide +kernel) fun t hf y => ?_
  obtain ⟨-, -, -, e3⟩ := idx t
  blk_simp
  rw [val_main_v6_apply, val_main_v5_apply, ref_sums m c t, after0_3, out3]
  obtain ⟨p, a, b, rfl⟩ : ∃ (p : Fin 8) (a : Fin 128) (b : Fin 256), y = ix3 p a b := ⟨y 0, y 1, y 2, eq_ix3 y⟩
  have h : (win0_3.blk t).view.emb (ix3 p a b) = ix3 p a b := by
    blk_ext [e3]
  rw [h]
  exact same_blocks _ _ (ix3 p a b) _ (show ((p.val * 256 + b.val) * 128 + a.val) / 128 = 256 * p.val + b.val by omega)
    (show ((p.val * 256 + b.val) * 128 + a.val) % 128 = a.val by omega)

end Cert.Kernel32Ideal.Mix
-- ==== Proof.ForgetBwd.lean ====
/-
  The gradient of the forget gate's running sum.
-/
module

public import proofs.«01_k».proof.Proof.Gen.Kernel33Ideal.Value
public import proofs.«01_k».proof.Proof.Gen.Reference33Ideal.Read
public import Idealize.ShloMosaic.Lib.Pipeline.ValueKit
public import Idealize.ShloMosaic.Lib.IdealHost
public import proofs.«01_k».proof.Proof.ForgetSum
public import proofs.«01_k».proof.Pre_below_inf
public import Idealize.ShloMosaic.Lib.KernelVsHost

@[expose] public section

set_option maxRecDepth 16384

noncomputable section

open Idealize.ShloMosaic Idealize.ShloMosaic.TcCoe Idealize.SL.Sem
open Idealize.ShloMosaic.Pipeline

namespace Cert.Forget

/-- The sum of a column's entries from a row on. -/
def from_row (f : ℕ → EReal) (o : ℕ) : EReal := ∑ n ∈ Finset.range 2048, if o ≤ n then f n else 0

theorem from_end (f : ℕ → EReal) : from_row f 2048 = 0 :=
  Finset.sum_eq_zero fun n hn => if_neg (by simp only [Finset.mem_range] at hn; omega)

/-- The entries of a tile from one of its rows on, and those after the tile. -/
theorem from_tile (f : ℕ → EReal) (o a : ℕ) (ho : o + 256 ≤ 2048) (ha : a ≤ 256) :
    from_row f (o + 256) + (∑ j : Fin 256, if decide (a ≤ j.val) then f (o + j.val) else 0) = from_row f (o + a) := by
  have h : (∑ j : Fin 256, if decide (a ≤ j.val) then f (o + j.val) else 0) = ∑ n ∈ Finset.range 2048, if o + a ≤ n ∧ n < o + 256 then f n else 0 := by
    simp only [decide_eq_true_eq]
    rw [← Finset.sum_range fun j => if a ≤ j then f (o + j) else 0, ← Finset.sum_filter, ← Finset.sum_filter]
    refine Finset.sum_bij (fun k _ => o + k) (fun k hk => ?_) (fun x hx y hy h => ?_) (fun b hb => ?_) (fun _ _ => rfl)
    · simp only [Finset.mem_filter, Finset.mem_range] at hk ⊢; omega
    · omega
    · simp only [Finset.mem_filter, Finset.mem_range] at hb
      exact ⟨b - o, by simp only [Finset.mem_filter, Finset.mem_range]; omega, by omega⟩
  rw [h]
  unfold from_row
  rw [← Finset.sum_add_distrib]
  refine Finset.sum_congr rfl fun n _ => ?_
  by_cases h1 : o + 256 ≤ n
  · rw [if_pos h1, if_neg (by omega), if_pos (by omega), add_zero]
  · rw [if_neg h1, zero_add]
    exact if_congr (by omega) rfl rfl

theorem shift_back (f : ℕ → EReal) (y : ℕ) : (∑ k : Fin 2048, if y + k.val < 2048 then f (y + k.val) else 0) = from_row f y := by
  unfold from_row
  rw [← Finset.sum_range fun k => if y + k < 2048 then f (y + k) else 0, ← Finset.sum_filter, ← Finset.sum_filter]
  refine Finset.sum_bij (fun k _ => y + k) (fun k hk => ?_) (fun a ha b hb h => ?_) (fun b hb => ?_) (fun _ _ => rfl)
  · simp only [Finset.mem_filter, Finset.mem_range] at hk ⊢; omega
  · omega
  · simp only [Finset.mem_filter, Finset.mem_range] at hb
    exact ⟨b - y, by simp only [Finset.mem_filter, Finset.mem_range]; omega, by omega⟩

/-- A sum over windows of the columns' length, padded after the last row, is the sum from a row on. -/
theorem windows_back (f : FVec Ideal ⟨2, ![2048, 128]⟩ .f32) (R : Fin 128 → ℕ → EReal) (hf : ∀ p, f p = R (p 1) (p 0).val) (init : FVec Ideal ⟨0, ![]⟩ .f32) (hi : ∀ i, init i = (0 : EReal))
    (h : (⟨2, ![2048, 128]⟩ : Shape).ReduceWindows ![2048, 1] ![1, 1] ![0, 0] ![2047, 0] ⟨2, ![2048, 128]⟩)
    (hu : 0 < (⟨0, ![]⟩ : Shape).numel) (x : Fin 2048) (y : Fin 128) :
    Host.reduceWindowAdd ![2048, 1] ![1, 1] ![0, 0] ![2047, 0] f init h hu (ix2 x y) = from_row (R y) x.val := by
  unfold Host.reduceWindowAdd
  rw [Ideal.hostReduceWindowAdd_def, hi]
  unfold Ideal.hostReduceWindowAdd Host.reduceWindow
  dsimp only
  rw [Cert.KernelIdeal.Sb.fold_add, zero_add]
  have key := Equiv.sum_comp (⟨2, ![2048, 1]⟩ : Shape).rowMajor.symm (fun w : (⟨2, ![2048, 1]⟩ : Shape).Idx =>
    if x.val + (w 0).val < 2048 then R y (x.val + (w 0).val) else 0)
  refine Eq.trans (Finset.sum_congr rfl fun k _ => ?_) (key.trans ?_)
  · have w1 : ((⟨2, ![2048, 1]⟩ : Shape).rowMajor.symm k 1).val = 0 := Nat.lt_one_iff.1 ((⟨2, ![2048, 1]⟩ : Shape).rowMajor.symm k 1).isLt
    have hy := y.isLt
    by_cases c : x.val + ((⟨2, ![2048, 1]⟩ : Shape).rowMajor.symm k 0).val < 2048
    · rw [if_pos c, dif_pos fun a => by
        match a with
        | ⟨0, _⟩ =>
          show 0 ≤ x.val * 1 + ((⟨2, ![2048, 1]⟩ : Shape).rowMajor.symm k 0).val ∧ x.val * 1 + ((⟨2, ![2048, 1]⟩ : Shape).rowMajor.symm k 0).val - 0 < 2048
          omega
        | ⟨1, _⟩ =>
          show 0 ≤ y.val * 1 + ((⟨2, ![2048, 1]⟩ : Shape).rowMajor.symm k 1).val ∧ y.val * 1 + ((⟨2, ![2048, 1]⟩ : Shape).rowMajor.symm k 1).val - 0 < 128
          omega]
      rw [hf]
      refine congrArg₂ R (Fin.ext ?_) ?_
      · show y.val * 1 + ((⟨2, ![2048, 1]⟩ : Shape).rowMajor.symm k 1).val - 0 = _
        omega
      · show x.val * 1 + ((⟨2, ![2048, 1]⟩ : Shape).rowMajor.symm k 0).val - 0 = _
        rw [Nat.mul_one, Nat.sub_zero]
    · rw [if_neg c, dif_neg fun hin => c ?_]
      have h2 := hin 0
      change 0 ≤ x.val * 1 + ((⟨2, ![2048, 1]⟩ : Shape).rowMajor.symm k 0).val ∧ x.val * 1 + ((⟨2, ![2048, 1]⟩ : Shape).rowMajor.symm k 0).val - 0 < 2048 at h2
      omega
  · rw [sum_idx2]
    simp only [Fin.sum_univ_one]
    exact shift_back (R y) x.val

theorem neg_out (a b : EReal) : -(-a * b) = a * b := by rw [EReal.neg_mul, neg_neg]

/-- The logistic function of a value's negation, as the kernel writes it. -/
def sg (z : EReal) : EReal := Ideal.div 1 (1 + Ideal.exp (0 - (0 - z)))

/-- The derivative of the host's softplus of a value's negation, its guards included, is the logistic function, at infinite values too. -/
theorem host_sg (z x d s : Ideal .f32) (hx : x = FloatOps.hostNegf z)
    (hs : s = Scalar.select (FloatOps.cmpf .une (FloatOps.subf x (FloatOps.ofBits .f32 0x00000000#32)) (FloatOps.subf x (FloatOps.ofBits .f32 0x00000000#32))) d
      (FloatOps.addf (FloatOps.maximumf x (FloatOps.ofBits .f32 0x00000000#32)) (FloatOps.hostUnary .log1p (FloatOps.hostUnary .exp
        (FloatOps.hostNegf (FloatOps.hostAbsf (FloatOps.subf x (FloatOps.ofBits .f32 0x00000000#32)))))))) :
    FloatOps.hostUnary .exp (FloatOps.subf
      (Scalar.select (FloatOps.cmpf .oeq x (FloatOps.ofBits .f32 0x7F800000#32)) (FloatOps.ofBits .f32 0x00000000#32) x)
      (Scalar.select (FloatOps.cmpf .oeq s (FloatOps.ofBits .f32 0x7F800000#32)) (FloatOps.ofBits .f32 0x00000000#32) s)) = sg z := by
  have real : ∀ w : ℝ, z = ((w : ℝ) : EReal) → FloatOps.hostUnary .exp (FloatOps.subf
      (Scalar.select (FloatOps.cmpf .oeq x (FloatOps.ofBits .f32 0x7F800000#32)) (FloatOps.ofBits .f32 0x00000000#32) x)
      (Scalar.select (FloatOps.cmpf .oeq s (FloatOps.ofBits .f32 0x7F800000#32)) (FloatOps.ofBits .f32 0x00000000#32) s)) = sg z := by
    rintro w rfl
    have hw : x = (((-w : ℝ)) : EReal) := hx.trans (EReal.coe_neg w).symm
    rw [Cert.KernelIdeal.Sb.softplus_grad x s (-w) hw (hs.trans (Cert.KernelIdeal.Sb.softplus x d (-w) hw)), Cert.KernelIdeal.Sb.exp_neg_sub_sp, Cert.KernelIdeal.Sb.exp_lsig, sg]
    have hp := Real.exp_pos w
    rw [show (0 - (0 - ((w : ℝ) : EReal)) : EReal) = ((w : ℝ) : EReal) by rw [zero_sub, zero_sub, neg_neg], Ideal.exp_coe, ← EReal.coe_one, ← EReal.coe_add,
      Ideal.div_coe (by linarith), ← EReal.coe_mul, EReal.coe_eq_coe_iff]
    field_simp
    ring
  have infinite : ∀ s' : EReal, s = s' → FloatOps.hostUnary .exp (FloatOps.subf
      (Scalar.select (FloatOps.cmpf .oeq x (FloatOps.ofBits .f32 0x7F800000#32)) (FloatOps.ofBits .f32 0x00000000#32) x)
      (Scalar.select (FloatOps.cmpf .oeq s (FloatOps.ofBits .f32 0x7F800000#32)) (FloatOps.ofBits .f32 0x00000000#32) s))
      = Ideal.exp ((if x = (⊤ : EReal) then 0 else x) - (if s' = ⊤ then 0 else s') : EReal) := by
    rintro s' rfl
    show Ideal.exp (Scalar.select (BitVec.ofBool (decide (x = Ideal.ofBits .f32 0x7F800000#32))) (Ideal.ofBits .f32 0x00000000#32) x
      - Scalar.select (BitVec.ofBool (decide (s = Ideal.ofBits .f32 0x7F800000#32))) (Ideal.ofBits .f32 0x00000000#32) s) = _
    rw [Cert.KernelIdeal.Sb.ofBits_inf, Cert.KernelIdeal.Sb.ofBits_zero, Cert.KernelIdeal.Sb.select_bit, Cert.KernelIdeal.Sb.select_bit]
    simp only [decide_eq_true_eq]
  have big : s = (max x 0 + Ideal.log (1 + Ideal.exp (-(max x (-x)))) : EReal) := by
    rw [hs]
    show Scalar.select (BitVec.ofBool (decide (x - Ideal.ofBits .f32 0x00000000#32 ≠ x - Ideal.ofBits .f32 0x00000000#32))) d
      (max x (Ideal.ofBits .f32 0x00000000#32) + Ideal.log (1 + Ideal.exp (-(max (x - Ideal.ofBits .f32 0x00000000#32) (-(x - Ideal.ofBits .f32 0x00000000#32)))))) = _
    rw [Cert.KernelIdeal.Sb.ofBits_zero, Cert.KernelIdeal.Sb.select_bit]
    simp
  have hx' : x = (-z : EReal) := hx
  induction z using EReal.rec with
  | bot =>
    rw [infinite _ big, hx', sg]
    simp [log_one]
    rw [show (0 : EReal) = ((0 : ℝ) : EReal) from rfl, Ideal.exp_coe, Real.exp_zero, ← EReal.coe_one, Ideal.div_coe one_ne_zero]
    simp
  | top =>
    rw [infinite _ big, hx', sg]
    simp [log_one]
    rw [show (1 + ⊤ : EReal) = ⊤ from rfl, Ideal.div, if_neg (by simp)]
    simp
  | coe w => exact real w rfl

end Cert.Forget

namespace Cert.Pre_below_inf

instance facts : Facts where
  bcast_S_S2048x128 := by decide

/-- The cotangent of the running sums has no entry that is +inf. -/
theorem below [Facts] (x0 : FVec Ideal S2048x4608 .bf16) (x1 : FVec Ideal S2048x128 .f32) (x2 : FVec Ideal S2048x4608 .f32) (x3 : FVec Ideal S1x128 .f32)
    (h : fn (F := Ideal) x0 x1 x2 x3 = fun _ => 1#1) (i : S2048x128.Idx) : x1 i ≠ (⊤ : EReal) := by
  intro hi
  have h1 : BitVec.ofBool (decide (x1 i < Ideal.ofBits .f32 0x7F800000#32)) = 1#1 := congrFun h i
  rw [Cert.KernelIdeal.Sb.ofBits_inf, hi, decide_eq_false (lt_irrefl _)] at h1
  exact absurd h1 (by decide)

end Cert.Pre_below_inf

namespace Cert.Kernel33Ideal.Mix

open Cert.Kernel33Ideal.Gen Cert.Reference33Ideal.Read

/-- A tile's sums from a row on, on top of the sum of the tiles after it. -/
def cum (v : FVec Ideal S1x128 .f32) (L : FVec Ideal S256x128 .f32) : FVec Ideal S256x128 .f32 :=
  let d := subf L (extf .f32 (truncf .bf16 L bitsLt_bf16_f32) bitsLt_bf16_f32)
  addf (addf (addf (broadcastTo S256x128 v broadcasts_S1x128_S256x128)
    (matmul dot_S256x256_S256x128_S256x128_1_0_0_1_n_n none (k0_pay4 (F := Ideal)) (truncf .bf16 L bitsLt_bf16_f32) (constant S256x128 .f32 0x00000000#32)))
    (matmul dot_S256x256_S256x128_S256x128_1_0_0_1_n_n none (k0_pay4 (F := Ideal)) (truncf .bf16 d bitsLt_bf16_f32) (constant S256x128 .f32 0x00000000#32)))
    (matmul dot_S256x256_S256x128_S256x128_1_0_0_1_n_n none (k0_pay4 (F := Ideal)) (truncf .bf16 (subf d (extf .f32 (truncf .bf16 d bitsLt_bf16_f32) bitsLt_bf16_f32)) bitsLt_bf16_f32) (constant S256x128 .f32 0x00000000#32))

theorem tri_at (a b : Fin 256) : k0_pay4 (F := Ideal) (ix2 a b) = if decide (a.val ≤ b.val) then (1 : EReal) else 0 := by
  pointwise [k0_pay4]
  have h : IntOp.cmpi .sge (BitVec.ofNat 32 b.val) (BitVec.ofNat 32 a.val) = BitVec.ofBool (decide (a.val ≤ b.val)) := by
    show BitVec.ofBool (BitVec.sle _ _) = _
    congr 1
    rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  rw [h, Cert.KernelIdeal.Sb.select_bit]

theorem cum_at (v : FVec Ideal S1x128 .f32) (L : FVec Ideal S256x128 .f32) (hL : ∀ j, L j ≠ (⊤ : EReal)) (a : Fin 256) (b : Fin 128) :
    cum v L (ix2 a b) = (v (ix2 0 b) + ∑ j : Fin 256, if decide (a.val ≤ j.val) then L (ix2 j b) else 0 : EReal) := by
  have h : ∀ j : Fin 256, _ := fun j => Cert.Forget.split (decide (a.val ≤ j.val)) (L (ix2 j b)) (hL _)
  simp only [← h, Finset.sum_add_distrib, ← tri_at]
  pointwise [cum]
  simp only [add_assoc]

/-- The sum of a tile's rows on top of a row. -/
def next (v : FVec Ideal S1x128 .f32) (L : FVec Ideal S256x128 .f32) : FVec Ideal S1x128 .f32 :=
  addf v (shapeCast S1x128 (multiReduction .add [0] S128 L 0x00000000#32 reduces_S256x128_S128 (.inl rfl) rfl) shapeCasts_S128_S1x128)

theorem next_at (v : FVec Ideal S1x128 .f32) (L : FVec Ideal S256x128 .f32) (b : Fin 128) :
    next v L (ix2 0 b) = (v (ix2 0 b) + ∑ j : Fin 256, L (ix2 j b) : EReal) := by
  pointwise [next]

/-- A tile of the gate's gradient. -/
def grad (v : FVec Ideal S1x128 .f32) (L : FVec Ideal S256x128 .f32) (X : Vec Ideal S256x128 .f32) (B : Vec Ideal S1x128 .f32) : FVec Ideal S256x128 .f32 :=
  mulf (cum v L) (divf (broadcast S256x128 (Scalar.ofBits .f32 0x3F800000#32)) (k0_pay9 X B))

theorem grad_at (v : FVec Ideal S1x128 .f32) (L : FVec Ideal S256x128 .f32) (X : Vec Ideal S256x128 .f32) (B : Vec Ideal S1x128 .f32) (a : Fin 256) (b : Fin 128) :
    grad v L X B (ix2 a b) = (cum v L (ix2 a b) * Cert.Forget.sg (X (ix2 a b) + B (ix2 0 b)) : EReal) := by
  unfold Cert.Forget.sg
  pointwise [grad, k0_pay9]

variable (D x : Vec Ideal S2048x128 .f32) (B : Vec Ideal S1x128 .f32)

/-- A tile of rows. -/
def tile (D : Vec Ideal S2048x128 .f32) (o : ℕ) (inb : ∀ a, (![o, 0] : Fin 2 → ℕ) a + S256x128.size a ≤ S2048x128.size a) : FVec Ideal S256x128 .f32 :=
  View.ld D (Rect.unit (s := S2048x128) ![o, 0] S256x128.size inb)

theorem tile_at (o : ℕ) (inb) (a : Fin 256) (b : Fin 128) (h : o + a.val < 2048) : tile D o inb (ix2 a b) = D (ix2 ⟨o + a.val, h⟩ b) :=
  congrArg D (funext fun k => Fin.ext (match k with
    | ⟨0, _⟩ => by show o + 1 * a.val = o + a.val; omega
    | ⟨1, _⟩ => by show 0 + 1 * b.val = b.val; omega))

def carry6 : FVec Ideal S1x128 .f32 := next (k0_pay5 (F := Ideal)) (tile D 1792 inb_S2048x128_S256x128_1792_0)
def carry5 : FVec Ideal S1x128 .f32 := next (carry6 D) (tile D 1536 inb_S2048x128_S256x128_1536_0)
def carry4 : FVec Ideal S1x128 .f32 := next (carry5 D) (tile D 1280 inb_S2048x128_S256x128_1280_0)
def carry3 : FVec Ideal S1x128 .f32 := next (carry4 D) (tile D 1024 inb_S2048x128_S256x128_1024_0)
def carry2 : FVec Ideal S1x128 .f32 := next (carry3 D) (tile D 768 inb_S2048x128_S256x128_768_0)
def carry1 : FVec Ideal S1x128 .f32 := next (carry2 D) (tile D 512 inb_S2048x128_S256x128_512_0)
def carry0 : FVec Ideal S1x128 .f32 := next (carry1 D) (tile D 256 inb_S2048x128_S256x128_256_0)

/-- The gate's gradient in a tile of rows, from the sum of the rows after it. -/
def part (v : FVec Ideal S1x128 .f32) (o : ℕ) (inb : ∀ a, (![o, 0] : Fin 2 → ℕ) a + S256x128.size a ≤ S2048x128.size a) : FVec Ideal S256x128 .f32 :=
  grad v (tile D o inb) (tile x o inb) B

/-- The tiles of the gate's gradient, summed from the last. -/
def bias : FVec Ideal S1x128 .f32 :=
  next (next (next (next (next (next (next (next (k0_pay6 (F := Ideal))
    (part D x B (k0_pay5 (F := Ideal)) 1792 inb_S2048x128_S256x128_1792_0)) (part D x B (carry6 D) 1536 inb_S2048x128_S256x128_1536_0))
    (part D x B (carry5 D) 1280 inb_S2048x128_S256x128_1280_0)) (part D x B (carry4 D) 1024 inb_S2048x128_S256x128_1024_0))
    (part D x B (carry3 D) 768 inb_S2048x128_S256x128_768_0)) (part D x B (carry2 D) 512 inb_S2048x128_S256x128_512_0))
    (part D x B (carry1 D) 256 inb_S2048x128_S256x128_256_0)) (part D x B (carry0 D) 0 inb_S2048x128_S256x128_0_0)

/-- A column's entries by rows, and nothing beyond the rows. -/
def col (b : Fin 128) (n : ℕ) : EReal := if h : n < 2048 then D (ix2 ⟨n, h⟩ b) else 0

/-- The gate's gradient in a column and a row. -/
def slope (b : Fin 128) (n : ℕ) : EReal := Cert.Forget.from_row (col D b) n * Cert.Forget.sg (col x b n + B (ix2 0 b))

/-- A row has the sums of the rows of a matrix from one of them on. -/
def After (f : Fin 128 → ℕ → EReal) (v : FVec Ideal S1x128 .f32) (o : ℕ) : Prop := ∀ b, v (ix2 0 b) = Cert.Forget.from_row (f b) o

theorem after_end (f : Fin 128 → ℕ → EReal) : After f (k0_pay5 (F := Ideal)) 2048 := fun b => by
  rw [Cert.Forget.from_end]
  pointwise [k0_pay5]

theorem after_next {f : Fin 128 → ℕ → EReal} {v : FVec Ideal S1x128 .f32} {o : ℕ} (hv : After f v (o + 256)) (ho : o + 256 ≤ 2048) (L : FVec Ideal S256x128 .f32)
    (hL : ∀ (a : Fin 256) (b : Fin 128), L (ix2 a b) = f b (o + a.val)) : After f (next v L) o := fun b => by
  rw [next_at, hv b]
  simp only [hL]
  have h := Cert.Forget.from_tile (f b) o 0 ho (by omega)
  simpa using h

variable {o : ℕ} (inb : ∀ a, (![o, 0] : Fin 2 → ℕ) a + S256x128.size a ≤ S2048x128.size a)

theorem rows_le {o : ℕ} (inb : ∀ a, (![o, 0] : Fin 2 → ℕ) a + S256x128.size a ≤ S2048x128.size a) : o + 256 ≤ 2048 := by
  have := inb 0
  exact this

theorem tile_col (a : Fin 256) (b : Fin 128) : tile D o inb (ix2 a b) = col D b (o + a.val) := by
  have h : o + a.val < 2048 := by have := rows_le inb; omega
  rw [tile_at D o inb a b h, col, dif_pos h]

theorem after_tile {v : FVec Ideal S1x128 .f32} (hv : After (col D) v (o + 256)) : After (col D) (next v (tile D o inb)) o :=
  after_next hv (rows_le inb) _ (tile_col D inb)

variable (hD : ∀ i, D i ≠ (⊤ : EReal))

include hD

theorem part_at {v : FVec Ideal S1x128 .f32} (hv : After (col D) v (o + 256)) (a : Fin 256) (b : Fin 128) : part D x B v o inb (ix2 a b) = slope D x B b (o + a.val) := by
  refine (grad_at _ _ _ _ a b).trans (congrArg₂ (· * ·) ?_ (congrArg (fun w => Cert.Forget.sg (w + B (ix2 0 b))) (tile_col x inb a b)))
  have hT : ∀ j, tile D o inb j ≠ (⊤ : EReal) := fun j => hD _
  refine (cum_at v (tile D o inb) hT a b).trans ?_
  rw [hv b, ← Cert.Forget.from_tile (col D b) o a.val (rows_le inb) (by omega)]
  exact congrArg _ (Finset.sum_congr rfl fun j _ => congrArg (fun w => if decide (a.val ≤ j.val) then w else 0) (tile_col D inb j b))

theorem after_part {v w : FVec Ideal S1x128 .f32} (hv : After (col D) v (o + 256)) (hw : After (slope D x B) w (o + 256)) : After (slope D x B) (next w (part D x B v o inb)) o :=
  after_next hw (rows_le inb) _ (part_at D x B inb hD hv)

omit hD

theorem carries : After (col D) (carry6 D) 1792 ∧ After (col D) (carry5 D) 1536 ∧ After (col D) (carry4 D) 1280 ∧ After (col D) (carry3 D) 1024
    ∧ After (col D) (carry2 D) 768 ∧ After (col D) (carry1 D) 512 ∧ After (col D) (carry0 D) 256 := by
  have h6 : After (col D) (carry6 D) 1792 := after_tile D _ (after_end _)
  have h5 : After (col D) (carry5 D) 1536 := after_tile D _ h6
  have h4 : After (col D) (carry4 D) 1280 := after_tile D _ h5
  have h3 : After (col D) (carry3 D) 1024 := after_tile D _ h4
  have h2 : After (col D) (carry2 D) 768 := after_tile D _ h3
  have h1 : After (col D) (carry1 D) 512 := after_tile D _ h2
  exact ⟨h6, h5, h4, h3, h2, h1, after_tile D _ h1⟩

include hD

theorem bias_at (b : Fin 128) : bias D x B (ix2 0 b) = ∑ n : Fin 2048, slope D x B b n.val := by
  obtain ⟨h6, h5, h4, h3, h2, h1, h0⟩ := carries D
  have h : After (slope D x B) (bias D x B) 0 :=
    after_part D x B _ hD h0 (after_part D x B _ hD h1 (after_part D x B _ hD h2 (after_part D x B _ hD h3
      (after_part D x B _ hD h4 (after_part D x B _ hD h5 (after_part D x B _ hD h6 (after_part D x B _ hD (after_end _) (after_end _))))))))
  rw [h b, ← Finset.sum_range fun n => slope D x B b n]
  exact Finset.sum_congr rfl fun n _ => if_pos (Nat.zero_le n)

omit hD

/-- The gate's gradient in the columns of the block that it has, and nothing in the others. -/
def place (D x : Vec Ideal S2048x128 .f32) (B : Vec Ideal S1x128 .f32) (y : S2048x512.Idx) : EReal :=
  if h : (y 1).val < 128 then slope D x B ⟨(y 1).val, h⟩ (y 0).val else 0

include hD

/-- A store of a tile of the gate's gradient, after others. -/
theorem store {v : FVec Ideal S1x128 .f32} (hv : After (col D) v (o + 256)) (inb' : ∀ a, (![o, 0] : Fin 2 → ℕ) a + S256x128.size a ≤ S2048x512.size a) (L : List (View.Piece (Elt Ideal) S2048x512 .bf16))
    (y : S2048x512.Idx) (hL : ¬(o ≤ (y 0).val ∧ (y 0).val < o + 256 ∧ (y 1).val < 128) → View.canon (Val := Elt Ideal) L y = place D x B y) :
    View.canon (Val := Elt Ideal) (⟨Rect.unit (s := S2048x512) ![o, 0] S256x128.size inb', truncf .bf16 (part D x B v o inb) bitsLt_bf16_f32⟩ :: L) y = place D x B y := by
  by_cases hm : y ∈ (Rect.unit (s := S2048x512) ![o, 0] S256x128.size inb').set
  · obtain ⟨p, rfl⟩ := (Rect.unit (s := S2048x512) ![o, 0] S256x128.size inb').exists_idx_of_mem hm
    refine (View.canon_cons_emb (Val := Elt Ideal) _ _ _ p).trans ?_
    obtain ⟨a, b, rfl⟩ : ∃ (a : Fin 256) (b : Fin 128), p = ix2 a b := ⟨p 0, p 1, eq_ix2 p⟩
    refine (part_at D x B inb hD hv a b).trans ?_
    have h0 : (((Rect.unit (s := S2048x512) ![o, 0] S256x128.size inb').idx (ix2 a b)) 0).val = o + a.val := by show o + 1 * a.val = _; omega
    have h1 : (((Rect.unit (s := S2048x512) ![o, 0] S256x128.size inb').idx (ix2 a b)) 1).val = b.val := by show 0 + 1 * b.val = _; omega
    rw [place, dif_pos (by rw [h1]; exact b.isLt), h0]
    exact congrArg (fun b => slope D x B b (o + a.val)) (Fin.ext h1.symm)
  · refine (View.canon_cons_of_not_mem (Val := Elt Ideal) (⟨Rect.unit (s := S2048x512) ![o, 0] S256x128.size inb', truncf .bf16 (part D x B v o inb) bitsLt_bf16_f32⟩ : View.Piece (Elt Ideal) S2048x512 .bf16) L hm).trans (hL fun h => hm (Rect.mem_set_unit.2 fun a => ?_))
    match a with
    | ⟨0, _⟩ => exact ⟨h.1, h.2.1⟩
    | ⟨1, _⟩ => exact ⟨Nat.zero_le _, by show (y 1).val < 0 + 128; omega⟩

omit hD

variable (m : (ℓ : Loc nD τ sig) → Buf (Elt Ideal) ℓ) (c : Dev nD) (t : Fin cfg0.N)

theorem out4 : (outsAt0 m c t).2 = bias (iblk m c 0 t) (iblk m c 1 t) (iblk m c 2 t) := by
  dsimp only [outsAt0]
  frame_out
  rfl

theorem out3 (hd : ∀ i, iblk m c 0 t i ≠ (⊤ : EReal)) (y : S2048x512.Idx) : (outsAt0 m c t).1 y = place (iblk m c 0 t) (iblk m c 1 t) (iblk m c 2 t) y := by
  obtain ⟨h6, h5, h4, h3, h2, h1, h0⟩ := carries (iblk m c 0 t)
  dsimp only [outsAt0]
  frame_out
  refine store _ _ _ inb_S2048x128_S256x128_0_0 hd h0 _ _ y fun n0 => ?_
  refine store _ _ _ inb_S2048x128_S256x128_256_0 hd h1 _ _ y fun n1 => ?_
  refine store _ _ _ inb_S2048x128_S256x128_512_0 hd h2 _ _ y fun n2 => ?_
  refine store _ _ _ inb_S2048x128_S256x128_768_0 hd h3 _ _ y fun n3 => ?_
  refine store _ _ _ inb_S2048x128_S256x128_1024_0 hd h4 _ _ y fun n4 => ?_
  refine store _ _ _ inb_S2048x128_S256x128_1280_0 hd h5 _ _ y fun n5 => ?_
  refine store _ _ _ inb_S2048x128_S256x128_1536_0 hd h6 _ _ y fun n6 => ?_
  refine store _ _ _ inb_S2048x128_S256x128_1792_0 hd (after_end _) _ _ y fun n7 => ?_
  have hy : (y 0).val < 2048 := (y 0).isLt
  rw [place, dif_neg (by omega), View.canon_unit_zero (Val := Elt Ideal) (by funext a; fin_cases a <;> rfl)]
  pointwise [k0_pay7]

/-- Where the blocks of the one grid point lie. -/
theorem idx : ∀ t : Fin cfg0.N, win0_0.index t = ![0, 0] ∧ win0_1.index t = ![0, 32] ∧ win0_2.index t = ![0, 0] ∧ win0_3.index t = ![0, 8] ∧ win0_4.index t = ![0, 0] :=
  (by decide +kernel : ∀ t : Fin grid0.N, _)

theorem host_at (x2 : FVec Ideal S2048x4608 .f32) (x3 : FVec Ideal S1x128 .f32) (i : S2048x128.Idx) : val_main_v3_1 (F := Ideal) x2 x3 i = Cert.Forget.sg (val_main_v2 (F := Ideal) x2 x3 i) :=
  Cert.Forget.host_sg _ _ _ _ rfl rfl

variable (hd : ∀ i : S2048x128.Idx, (m ((c : Thread nD τ).loc main_arg1) : Vec Ideal S2048x128 .f32) i ≠ (⊤ : EReal))

theorem first_at (t : Fin cfg0.N) (j q : S2048x128.Idx) (h0 : (q 0).val = (j 0).val) (h1 : (q 1).val = (j 1).val) :
    iblk m c 0 t j = m ((c : Thread nD τ).loc main_arg1) q := by
  obtain ⟨e0, -⟩ := idx t
  refine Eq.trans ?_ (congrFun (V_main_arg1 m c) q)
  blk_point [iblk, e0, h0, h1]

theorem second_at (t : Fin cfg0.N) (j : S2048x128.Idx) (q : S2048x4608.Idx) (h1 : (q 0).val = (j 0).val) (h2 : (q 1).val = 4096 + (j 1).val) :
    iblk m c 1 t j = m ((c : Thread nD τ).loc main_arg2) q := by
  obtain ⟨-, e1, -⟩ := idx t
  refine Eq.trans ?_ (congrFun (V_main_arg2 m c) q)
  blk_point [iblk, e1, h1, h2]

theorem third_at (t : Fin cfg0.N) (j q : S1x128.Idx) (h : (q 1).val = (j 1).val) :
    iblk m c 2 t j = m ((c : Thread nD τ).loc main_arg3) q := by
  obtain ⟨-, -, e2, -⟩ := idx t
  refine Eq.trans ?_ (congrFun (V_main_arg3 m c) q)
  blk_point [iblk, e2, h]

theorem ref_slope (t : Fin cfg0.N) (n : Fin 2048) (b : Fin 128) : val_main_v6 (F := Ideal) (m ((c : Thread nD τ).loc main_arg1)) (m ((c : Thread nD τ).loc main_arg2)) (m ((c : Thread nD τ).loc main_arg3)) (ix2 n b)
    = slope (iblk m c 0 t) (iblk m c 1 t) (iblk m c 2 t) b n.val := by
  rw [val_main_v6_apply, val_main_call3_v1_apply, val_main_call3_v0_apply, host_at]
  rw [slope]
  refine (Cert.Forget.neg_out _ _).trans (congrArg₂ (· * ·) ?_ (congrArg Cert.Forget.sg ?_))
  · unfold val_main_v5
    refine Cert.Forget.windows_back _ (fun b => col (iblk m c 0 t) b) (fun p => ?_) _ (fun i => ?_) _ _ n b
    · have hp : (p 0).val < 2048 := (p 0).isLt
      refine Eq.symm ((dif_pos hp).trans ?_)
      exact first_at m c t _ _ rfl rfl
    · rw [val_main_call2_v0_apply]
      exact Cert.KernelIdeal.Sb.ofBits_zero
  · rw [val_main_v2_apply, col, dif_pos n.isLt]
    refine congrArg₂ (· + ·) ?_ ?_
    · rw [val_main_v0_apply]
      exact (second_at m c t _ _ rfl rfl).symm
    · rw [val_main_v1_apply]
      exact (third_at m c t (ix2 0 b) (idx_main_v1 (ix2 n b)) rfl).symm

theorem ref_bias (t : Fin cfg0.N) (b : Fin 128) (i : S1x128.Idx) (hi : (i 1).val = b.val) : val_main_v8 (F := Ideal) (m ((c : Thread nD τ).loc main_arg1)) (m ((c : Thread nD τ).loc main_arg2)) (m ((c : Thread nD τ).loc main_arg3)) i
    = ∑ n : Fin 2048, slope (iblk m c 0 t) (iblk m c 1 t) (iblk m c 2 t) b n.val := by
  rw [val_main_v8_apply, val_main_v7_apply]
  refine (congrArg₂ (· + ·) Cert.KernelIdeal.Sb.ofBits_zero (Finset.sum_congr rfl fun n _ => ?_)).trans (zero_add _)
  refine Eq.trans (congrArg _ (funext fun a => Fin.ext ?_)) (ref_slope m c t n b)
  match a with
  | ⟨0, _⟩ => rfl
  | ⟨1, _⟩ =>
    have h0 : (i 0).val < 1 := (i 0).isLt
    refine Eq.trans (b := (i 0).val * 128 + (i 1).val) rfl ?_
    show (i 0).val * 128 + (i 1).val = b.val
    omega

theorem ref_left (x0 : FVec Ideal S2048x4608 .bf16) (x1 : FVec Ideal S2048x128 .f32) (x2 : FVec Ideal S2048x4608 .f32) (x3 : FVec Ideal S1x128 .f32) (i : S2048x4608.Idx) (h : (i 1).val < 4096) :
    val_main_v12 (F := Ideal) x0 x1 x2 x3 i = x0 i := by
  have e : val_main_v12 (F := Ideal) x0 x1 x2 x3 i = val_main_v9 (F := Ideal) x0 (ix2 (i 0) ⟨(i 1).val, h⟩) := by
    unfold val_main_v12
    refine concatenate_pair_apply_left (s₁ := Cert.Reference33Ideal.S2048x4096) (s₂ := Cert.Reference33Ideal.S2048x512) (1 : Fin Cert.Reference33Ideal.S2048x4608.rank) _ _ _ i rfl _ fun a => ?_
    match a with
    | ⟨0, _⟩ => rfl
    | ⟨1, _⟩ => rfl
  rw [e, val_main_v9_apply]
  refine congrArg x0 (funext fun a => Fin.ext ?_)
  match a with
  | ⟨0, _⟩ => rfl
  | ⟨1, _⟩ => rfl

theorem ref_right (t : Fin cfg0.N) (x0 : FVec Ideal S2048x4608 .bf16) (i : S2048x4608.Idx) (y : S2048x512.Idx) (h0 : (i 0).val = (y 0).val) (h1 : (i 1).val = 4096 + (y 1).val) :
    val_main_v12 (F := Ideal) x0 (m ((c : Thread nD τ).loc main_arg1)) (m ((c : Thread nD τ).loc main_arg2)) (m ((c : Thread nD τ).loc main_arg3)) i
      = place (iblk m c 0 t) (iblk m c 1 t) (iblk m c 2 t) y := by
  have e : val_main_v12 (F := Ideal) x0 (m ((c : Thread nD τ).loc main_arg1)) (m ((c : Thread nD τ).loc main_arg2)) (m ((c : Thread nD τ).loc main_arg3)) i
      = val_main_v11 (F := Ideal) (m ((c : Thread nD τ).loc main_arg1)) (m ((c : Thread nD τ).loc main_arg2)) (m ((c : Thread nD τ).loc main_arg3)) y := by
    unfold val_main_v12
    refine concatenate_pair_apply_right (s₁ := Cert.Reference33Ideal.S2048x4096) (s₂ := Cert.Reference33Ideal.S2048x512) (1 : Fin Cert.Reference33Ideal.S2048x4608.rank) _ _ _ i rfl rfl _ (fun a ha => ?_) ?_
    · match a with
      | ⟨0, _⟩ => exact h0.symm
      | ⟨1, _⟩ => exact absurd rfl ha
    · show (y 1).val + 4096 = (i 1).val
      omega
  rw [e, place]
  unfold val_main_v11
  by_cases h : (y 1).val < 128
  · rw [dif_pos h]
    refine (pad_apply_of_inside _ _ _ _ _ _ _ y (ix2 (y 0) ⟨(y 1).val, h⟩) fun a => ?_).trans ?_
    · match a with
      | ⟨0, _⟩ => show (y 0).val = 0 + (y 0).val * (0 + 1); omega
      | ⟨1, _⟩ => show (y 1).val = 0 + (y 1).val * (0 + 1); omega
    · exact ref_slope m c t (y 0) ⟨(y 1).val, h⟩
  · rw [dif_neg h]
    refine (pad_apply_of_not_inside _ _ _ _ _ _ _ y 1 fun hin => h ?_).trans ?_
    · have h2 := hin.2.2
      change ((y 1).val - 0) / (0 + 1) < 128 at h2
      omega
    · rw [val_main_call4_v0_apply]
      show (((0#32 : BitVec 32).toInt : ℝ) : EReal) = 0
      simp

theorem array_first : (dats m 0 c).A 3 = m ((c : Thread nD τ).loc main_arg0) := by
  refine (A_eq m c 3).trans ?_
  rfl

include hd

theorem block_ne_top (t : Fin cfg0.N) (i : S2048x128.Idx) : iblk m c 0 t i ≠ (⊤ : EReal) := by
  rw [first_at m c t i i rfl rfl]
  exact hd i

theorem final3 : (dats m 0 c).arrAt 3 cfg0.N = val_main_v12 (F := Ideal) (m ((c : Thread nD τ).loc main_arg0)) (m ((c : Thread nD τ).loc main_arg1)) (m ((c : Thread nD τ).loc main_arg2)) (m ((c : Thread nD τ).loc main_arg3)) := by
  have key : (dats m 0 c).arrAt 3 cfg0.N = fun i => if (i (1 : Fin 2)).val / 512 = 8 then val_main_v12 (F := Ideal) (m ((c : Thread nD τ).loc main_arg0)) (m ((c : Thread nD τ).loc main_arg1)) (m ((c : Thread nD τ).loc main_arg2)) (m ((c : Thread nD τ).loc main_arg3)) i
      else (dats m 0 c).A 3 i := by
    refine (dats m 0 c).arrAt_eq_of_coversWhere 3 (val_main_v12 (F := Ideal) (m ((c : Thread nD τ).loc main_arg0)) (m ((c : Thread nD τ).loc main_arg1)) (m ((c : Thread nD τ).loc main_arg2)) (m ((c : Thread nD τ).loc main_arg3)))
      (fun β => β (1 : Fin _) = 8) (by decide +kernel) (fun t hf y => ?_) (fun j => Iff.rfl)
    obtain ⟨-, -, -, e3, -⟩ := idx t
    blk_simp
    rw [after0_3]
    refine (out3 m c t (block_ne_top m c hd t) _).trans (ref_right m c t _ _ _ ?_ ?_).symm <;> blk_simp [e3]
  rw [key]
  funext i
  have h1 : (i 1).val < 4608 := (i 1).isLt
  dsimp only
  split
  · rfl
  · rw [array_first]
    exact (ref_left _ _ _ _ i (by omega)).symm

theorem final4 : (dats m 0 c).arrAt 4 cfg0.N = val_main_v8 (F := Ideal) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨-, -, -, -, e4⟩ := idx t
  blk_simp
  rw [after0_4, out4]
  obtain ⟨b, rfl⟩ : ∃ b : Fin 128, y = ix2 0 b := ⟨y 1, by
    funext a
    match a with
    | ⟨0, _⟩ => exact Fin.ext (Nat.lt_one_iff.1 (y 0).isLt)
    | ⟨1, _⟩ => rfl⟩
  refine (bias_at _ _ _ (block_ne_top m c hd t) b).trans (ref_bias m c t b _ ?_).symm
  blk_simp [e4]

end Cert.Kernel33Ideal.Mix
-- ==== Proof.WShift.lean ====
/-
  The shifted weight and its decay.
-/
module

public import proofs.«01_k».proof.Proof.Gen.Kernel34Ideal.Value
public import proofs.«01_k».proof.Proof.Gen.Reference34Ideal.Read
public import Idealize.ShloMosaic.Lib.Pipeline.ValueKit
public import Idealize.ShloMosaic.Lib.KernelVsHost
public import proofs.«01_k».proof.Proof.Decayed

@[expose] public section

set_option maxRecDepth 16384

noncomputable section

open Idealize.ShloMosaic Idealize.ShloMosaic.TcCoe Idealize.SL.Sem
open Idealize.ShloMosaic.Pipeline

/-! ## The strips of the weight, shifted into the first device's columns -/

namespace Cert.Kernel34Ideal.Mix

open Cert.Kernel34Ideal.Gen Cert.Reference34Ideal.Read

variable (m : (ℓ : Loc nD τ sig) → Buf (Elt Ideal) ℓ) (c : Dev nD) (t : Fin cfg0.N)

/-- Where the blocks of a grid point lie. -/
theorem idx : ∀ t : Fin cfg0.N, win0_0.index t = ![0, 0] ∧ win0_1.index t = ![t.val, 0] ∧ win0_2.index t = ![0, t.val, 0] :=
  (by decide +kernel : ∀ t : Fin grid0.N, _)

/-- Where a strided load of a point starts. -/
theorem off1 : ∀ (t : Fin grid0.N) (j : Fin 10) (k : Fin 2),
    k0_off1 (grid0.coords t) (BitVec.ofNat 32 (2048 * j.val)) (BitVec.ofNat 32 k.val) = ![j.val * 2048 + 2 * t.val + k.val, 0] := by
  decide +kernel

/-- Where the loads of the last column start. -/
theorem off2 : ∀ (t : Fin grid0.N) (k : Fin 2), k0_off2 (grid0.coords t) (BitVec.ofNat 32 k.val) = ![20480 + 2 * t.val + k.val, 0] := by
  decide +kernel

/-- The element of the array of strips that a column and a row of a point's block come from, zero past the last column. -/
def cell (X : Vec Ideal S20496x128 .f32) (n : Fin 8) (r k : ℕ) (hr : r < 256) : EReal :=
  if h : k < 1281 then X (ix2 ⟨k * 16 + 2 * n.val + r / 128, by have := n.isLt; omega⟩ ⟨r % 128, Nat.mod_lt _ (by decide)⟩) else 0

/-- A store of a tile that holds the cells of its place, after others. -/
theorem store (X : Vec Ideal S20496x128 .f32) (n : Fin 8) {r o w : ℕ} (inb : ∀ a, (![r, o] : Fin 2 → ℕ) a + (![128, w] : Fin 2 → ℕ) a ≤ S256x1408.size a)
    (P : FVec Ideal ⟨2, ![128, w]⟩ .f32) (L : List (View.Piece (Elt Ideal) S256x1408 .f32))
    (hP : ∀ (a : Fin 128) (b : Fin w) (h : r + a.val < 256), P (ix2 a b) = cell X n (r + a.val) (o + b.val) h) (y : S256x1408.Idx)
    (hL : ¬(r ≤ (y 0).val ∧ (y 0).val < r + 128 ∧ o ≤ (y 1).val ∧ (y 1).val < o + w) →
      View.canon (Val := Elt Ideal) L y = cell X n (y 0).val (y 1).val (y 0).isLt) :
    View.canon (Val := Elt Ideal) (⟨Rect.unit (s := S256x1408) ![r, o] ![128, w] inb, P⟩ :: L) y = cell X n (y 0).val (y 1).val (y 0).isLt := by
  by_cases hm : y ∈ (Rect.unit (s := S256x1408) ![r, o] ![128, w] inb).set
  · obtain ⟨p, rfl⟩ := (Rect.unit (s := S256x1408) ![r, o] ![128, w] inb).exists_idx_of_mem hm
    refine (View.canon_cons_emb (Val := Elt Ideal) _ _ _ p).trans ?_
    obtain ⟨a, b, rfl⟩ : ∃ (a : Fin 128) (b : Fin w), p = ix2 a b := ⟨p 0, p 1, eq_ix2 p⟩
    have h0 : (((Rect.unit (s := S256x1408) ![r, o] ![128, w] inb).idx (ix2 a b)) 0).val = r + a.val := by show r + 1 * a.val = _; omega
    have h1 : (((Rect.unit (s := S256x1408) ![r, o] ![128, w] inb).idx (ix2 a b)) 1).val = o + b.val := by show o + 1 * b.val = _; omega
    refine (hP a b (h0 ▸ (((Rect.unit (s := S256x1408) ![r, o] ![128, w] inb).idx (ix2 a b)) 0).isLt)).trans ?_
    simp only [h0, h1]
  · refine (View.canon_cons_of_not_mem (Val := Elt Ideal) (⟨Rect.unit (s := S256x1408) ![r, o] ![128, w] inb, P⟩ : View.Piece (Elt Ideal) S256x1408 .f32) L hm).trans (hL fun h => hm (Rect.mem_set_unit.2 fun a => ?_))
    match a with
    | ⟨0, _⟩ => exact ⟨h.1, h.2.1⟩
    | ⟨1, _⟩ => exact ⟨h.2.2.1, h.2.2.2⟩

/-- A tile of sixteenth rows, turned. -/
theorem tile (X : Vec Ideal S20496x128 .f32) (n : Fin 8) (j : Fin 10) (k : Fin 2) (v : View sig .tc .vmem S20496x128 .f32) (f : v.ty.Contents (Elt Ideal))
    (hf : v.read (Elt Ideal) f = X) (off : Fin 2 → ℕ) (ho : off = ![j.val * 2048 + 2 * n.val + k.val, 0]) (inb) (a b : Fin 128) (h : k.val * 128 + a.val < 256) :
    k0_pay4 (F := Ideal) (View.readAt (Elt Ideal) v (⟨off, ![128, 128], ![16, 1], inb⟩ : LoadRect S20496x128) f) (ix2 a b) = cell X n (k.val * 128 + a.val) (j.val * 128 + b.val) h := by
  subst ho hf
  pointwise [k0_pay4]
  rw [View.readAt_apply, cell, dif_pos (by omega)]
  refine congrArg _ (funext fun x => Fin.ext ?_)
  match x with
  | ⟨0, _⟩ => show j.val * 2048 + 2 * n.val + k.val + 16 * b.val = (j.val * 128 + b.val) * 16 + 2 * n.val + (k.val * 128 + a.val) / 128; omega
  | ⟨1, _⟩ => show 0 + 1 * a.val = (k.val * 128 + a.val) % 128; omega

/-- The tile of the last column: a row, turned, with seven columns of zeros. -/
theorem last (X : Vec Ideal S20496x128 .f32) (n : Fin 8) (k : Fin 2) (off : Fin 2 → ℕ) (ho : off = ![20480 + 2 * n.val + k.val, 0]) (inb) (a : Fin 128) (b : Fin 8)
    (h : k.val * 128 + a.val < 256) :
    k0_pay25 (F := Ideal) (View.ld X (Rect.unit off ![1, 128] inb)) (ix2 a b) = cell X n (k.val * 128 + a.val) (1280 + b.val) h := by
  subst ho
  pointwise [k0_pay25, k0_pay24]
  match b with
  | ⟨0, _⟩ =>
    rw [cell, dif_pos (by show 1280 + 0 < 1281; decide)]
    refine congrArg X (funext fun x => Fin.ext ?_)
    match x with
    | ⟨0, _⟩ => show 20480 + 2 * n.val + k.val = 1280 * 16 + 2 * n.val + (k.val * 128 + a.val) / 128; omega
    | ⟨1, _⟩ => show a.val = (k.val * 128 + a.val) % 128; omega
  | ⟨1, _⟩ | ⟨2, _⟩ | ⟨3, _⟩ | ⟨4, _⟩ | ⟨5, _⟩ | ⟨6, _⟩ | ⟨7, _⟩ => rw [cell, dif_neg (by simp)]; rfl

/-- The stores of the first tiles, over a buffer of zeros. -/
def strips (t : Fin grid0.N) (v : View sig .tc .vmem S20496x128 .f32) (f : v.ty.Contents (Elt Ideal)) : (n : ℕ) → n ≤ 10 → List (View.Piece (Elt Ideal) S256x1408 .f32)
  | 0, _ => [⟨Rect.unit (s := S256x1408) ![0, 0] S256x1408.size inb_S256x1408_S256x1408_0_0, k0_pay3 (F := Ideal)⟩]
  | n + 1, h =>
    ⟨Rect.unit (s := S256x1408) ![128, n * 128] ![128, 128] (by intro a; match a with | ⟨0, _⟩ => simp | ⟨1, _⟩ => show n * 128 + 128 ≤ 1408; omega),
      k0_pay4 (F := Ideal) (View.readAt (Elt Ideal) v (⟨k0_off1 (grid0.coords t) (BitVec.ofNat 32 (2048 * n)) 1#32, ![128, 128], ![16, 1], k0_off1_inb (grid0.coords t) ⟨n, h⟩ 1⟩ : LoadRect S20496x128) f)⟩
    :: ⟨Rect.unit (s := S256x1408) ![0, n * 128] ![128, 128] (by intro a; match a with | ⟨0, _⟩ => simp | ⟨1, _⟩ => show n * 128 + 128 ≤ 1408; omega),
      k0_pay4 (F := Ideal) (View.readAt (Elt Ideal) v (⟨k0_off1 (grid0.coords t) (BitVec.ofNat 32 (2048 * n)) 0#32, ![128, 128], ![16, 1], k0_off1_inb (grid0.coords t) ⟨n, h⟩ 0⟩ : LoadRect S20496x128) f)⟩
    :: strips t v f n (by omega)

theorem strips_at (t : Fin grid0.N) (v : View sig .tc .vmem S20496x128 .f32) (f : v.ty.Contents (Elt Ideal)) (X : Vec Ideal S20496x128 .f32) (hf : v.read (Elt Ideal) f = X) (y : S256x1408.Idx) :
    ∀ (n : ℕ) (h : n ≤ 10), ((y 1).val < n * 128 ∨ 1281 ≤ (y 1).val) → View.canon (Val := Elt Ideal) (strips t v f n h) y = cell X t (y 0).val (y 1).val (y 0).isLt
  | 0, _, hy => by
    refine Eq.trans ?_ (dif_neg (show ¬(y 1).val < 1281 by omega)).symm
    rw [strips, View.canon_unit_zero (Val := Elt Ideal) (by funext a; fin_cases a <;> rfl)]
    pointwise [k0_pay3]
  | n + 1, h, hy => by
    have h0 : (y 0).val < 256 := (y 0).isLt
    refine store X t _ _ _ (fun a b hr => ?_) y fun n1 => store X t _ _ _ (fun a b hr => ?_) y fun n0 => strips_at t v f X hf y n (by omega) (by omega)
    · exact tile X t ⟨n, h⟩ 1 v f hf _ (off1 t ⟨n, h⟩ 1) _ a b hr
    · have e : (0 : Fin 2).val * 128 + a.val = 0 + a.val := rfl
      exact tile X t ⟨n, h⟩ 0 v f hf _ (off1 t ⟨n, h⟩ 0) _ a b hr

/-- All the stores of a point. -/
def stores (t : Fin grid0.N) (v : View sig .tc .vmem S20496x128 .f32) (f : v.ty.Contents (Elt Ideal)) (X : Vec Ideal S20496x128 .f32) : List (View.Piece (Elt Ideal) S256x1408 .f32) :=
  ⟨Rect.unit (s := S256x1408) ![128, 1280] ![128, 8] inb_S256x1408_S128x8_128_1280, k0_pay25 (F := Ideal) (View.ld X (Rect.unit (s := S20496x128) (k0_off2 (grid0.coords t) 1#32) ![1, 128] (k0_off2_inb (grid0.coords t) 1)))⟩
  :: ⟨Rect.unit (s := S256x1408) ![0, 1280] ![128, 8] inb_S256x1408_S128x8_0_1280, k0_pay25 (F := Ideal) (View.ld X (Rect.unit (s := S20496x128) (k0_off2 (grid0.coords t) 0#32) ![1, 128] (k0_off2_inb (grid0.coords t) 0)))⟩
  :: strips t v f 10 le_rfl

theorem stores_at (t : Fin grid0.N) (v : View sig .tc .vmem S20496x128 .f32) (f : v.ty.Contents (Elt Ideal)) (X : Vec Ideal S20496x128 .f32) (hf : v.read (Elt Ideal) f = X) (y : S256x1408.Idx) :
    View.canon (Val := Elt Ideal) (stores t v f X) y = cell X t (y 0).val (y 1).val (y 0).isLt := by
  have h0 : (y 0).val < 256 := (y 0).isLt
  refine store X t _ _ _ (fun a b hr => ?_) y fun n1 => store X t _ _ _ (fun a b hr => ?_) y fun n0 => strips_at t v f X hf y 10 le_rfl (by omega)
  · exact last X t 1 _ (off2 t 1) _ a b hr
  · exact last X t 0 _ (off2 t 0) _ a b hr

theorem out2 : (outsAt0 m c t).2 = k0_pay1 (F := Ideal) ((View.whole cc0_scratch0).readCov (stores t (ms0_0 t).view ((hs0_0 t).unread (iblk m c 0 t)) (iblk m c 0 t))
    (Rect.unit (s := S256x1408) ![0, 0] S256x1281.size inb_S256x1408_S256x1281_0_0).toLoadRect) (k0_pay27 (F := Ideal)) := by
  dsimp only [outsAt0]
  frame_out
  rfl

theorem out1 : (outsAt0 m c t).1 = k0_pay2 (F := Ideal) ((View.whole cc0_scratch0).readCov (stores t (ms0_0 t).view ((hs0_0 t).unread (iblk m c 0 t)) (iblk m c 0 t))
    (Rect.unit (s := S256x1408) ![0, 0] S256x1408.size inb_S256x1408_S256x1408_0_0).toLoadRect) := by
  dsimp only [outsAt0]
  frame_out
  rfl

/-- The array of strips is the weight's transpose, read in rows of 128. -/
theorem V_strips : V m c main_v1 = shapeCast S20496x128 (transpose S1x1281x2048 [0, 2, 1] (m ((c : Thread nD τ).loc main_arg0)) transposes_S1x2048x1281_S1x1281x2048_0_2_1) shapeCasts_S1x1281x2048_S20496x128 := by
  show StableHlo.after [_, _] _ _ = _
  simp only [StableHlo.after_cons, StableHlo.after_nil]
  rfl

/-- A cell of a point's block is the weight's element there. -/
theorem cell_in (r k : ℕ) (hr : r < 256) (hk : k < 1281) (q : S1x2048x1281.Idx) (h1 : (q 1).val = t.val * 256 + r) (h2 : (q 2).val = k) :
    cell (iblk m c 0 t) t r k hr = m ((c : Thread nD τ).loc main_arg0) q := by
  have ht : t.val < 8 := t.isLt
  obtain ⟨e0, -⟩ := idx t
  refine (dif_pos hk).trans ?_
  refine Eq.trans (b := (V m c main_v1 : (⟨S20496x128, .f32⟩ : BufTy).Contents (Elt Ideal)) (ix2 ⟨k * 16 + 2 * t.val + r / 128, by omega⟩ ⟨r % 128, Nat.mod_lt _ (by decide)⟩)) ?_ ?_
  · blk_point [iblk, e0]
  · rw [V_strips]
    refine (shapeCast_apply _ _ _ (ix3 0 ⟨k, hk⟩ ⟨t.val * 256 + r, by omega⟩ : S1x1281x2048.Idx) ?_).trans ?_
    · rewrite [Shape.rowMajor_val_three, Shape.rowMajor_val_two]
      show (0 * 1281 + k) * 2048 + (t.val * 256 + r) = (k * 16 + 2 * t.val + r / 128) * 128 + r % 128
      omega
    · pointwise
      refine congrArg _ (funext fun x => Fin.ext ?_)
      match x with
      | ⟨0, _⟩ => have h0 : (q 0).val < 1 := (q 0).isLt; show 0 = (q 0).val; omega
      | ⟨1, _⟩ => exact h1.symm
      | ⟨2, _⟩ => exact h2.symm

theorem final2 : (dats m 0 c).arrAt 2 cfg0.N = val_main_v4 (F := Ideal) (m ((c : Thread nD τ).loc main_arg0)) := by
  refine (dats m 0 c).arrAt_eq_of_covers 2 _ (by decide +kernel) fun t hf y => ?_
  obtain ⟨-, -, e⟩ := idx t
  obtain ⟨a, b, rfl⟩ : ∃ a b, y = ix3 0 a b := ⟨y 1, y 2, Cert.Adam.only y⟩
  blk_simp
  rw [after0_2, out2, val_main_v4_apply, val_main_v3_apply, val_main_cst_apply, View.readCov_eq_canon']
  pointwise [k0_pay1, k0_pay27]
  rw [stores_at t _ _ _ ((hs0_0 t).read_unread _)]
  refine congrArg _ (cell_in m c t a.val b.val a.isLt b.isLt _ ?_ ?_) <;> blk_simp [e]

/-- The first device's own columns are the first ones, and the pad's come from past the last column. -/
theorem own : ∀ b : Fin 1408, (b.val < 1281 → IntOp.cmpi .slt (BitVec.ofNat 32 b.val) (Scalar.addi (Scalar.minsi 1281#32 (Scalar.maxsi 0#32 6152#32)) 0#32) = 1#1)
    ∧ (1281 ≤ b.val → IntOp.cmpi .slt (BitVec.ofNat 32 b.val) (Scalar.addi (Scalar.minsi 1281#32 (Scalar.maxsi 0#32 6152#32)) 0#32) = 0#1)
    ∧ (b.val < 1401 → IntOp.cmpi .sge (BitVec.ofNat 32 b.val) (Scalar.addi (Scalar.minsi 1281#32 (Scalar.maxsi 0#32 6152#32)) 120#32) = 0#1) := by
  decide +kernel

/-- The reference's padded weight. -/
theorem padded (w : (⟨S1x2048x1281, .f32⟩ : BufTy).Contents (Elt Ideal)) (y : S2048x1408.Idx) :
    (∀ q : S1x2048x1281.Idx, (q 1).val = (y 0).val → (q 2).val = (y 1).val → val_main_v1 (F := Ideal) w y = w q) ∧ (1281 ≤ (y 1).val → val_main_v1 (F := Ideal) w y = (0 : EReal)) := by
  constructor
  · intro q h1 h2
    unfold val_main_v1
    refine (pad_apply_of_inside _ _ _ _ _ _ _ y (ix2 ⟨(q 1).val, (q 1).isLt⟩ ⟨(q 2).val, (q 2).isLt⟩) fun a => ?_).trans ?_
    · match a with
      | ⟨0, _⟩ => show (y 0).val = 0 + (q 1).val * (0 + 1); omega
      | ⟨1, _⟩ => show (y 1).val = 0 + (q 2).val * (0 + 1); omega
    · refine (val_main_v0_apply _ _).trans ?_
      have h0 : (q 0).val < 1 := (q 0).isLt
      have h3 : (q 1).val < 2048 := (q 1).isLt
      have h4 : (q 2).val < 1281 := (q 2).isLt
      refine congrArg w (funext fun x => Fin.ext ?_)
      match x with
      | ⟨0, _⟩ => show 0 = (q 0).val; omega
      | ⟨1, _⟩ => show ((q 1).val * 1281 + (q 2).val) / 1281 % 2048 = (q 1).val; omega
      | ⟨2, _⟩ => show ((q 1).val * 1281 + (q 2).val) % 1281 = (q 2).val; omega
  · intro h
    unfold val_main_v1
    refine (pad_apply_of_not_inside _ _ _ _ _ _ _ y 1 fun hin => ?_).trans ?_
    · have h2 := hin.2.2
      change ((y 1).val - 0) / (0 + 1) < 1281 at h2
      omega
    · rw [val_main_call0_v0_apply]
      show (((0#32 : BitVec 32).toInt : ℝ) : EReal) = 0
      simp

theorem final1 : (dats m 0 c).arrAt 1 cfg0.N = val_main_v2 (F := Ideal) (m ((c : Thread nD τ).loc main_arg0)) := by
  refine (dats m 0 c).arrAt_eq_of_covers 1 _ (by decide +kernel) fun t hf y => ?_
  obtain ⟨-, e, -⟩ := idx t
  obtain ⟨a, b, rfl⟩ : ∃ (a : Fin 256) (b : Fin 1408), y = ix2 a b := ⟨y 0, y 1, eq_ix2 y⟩
  blk_simp
  rw [after0_1, out1, val_main_v2_apply, View.readCov_eq_canon']
  pointwise [k0_pay2]
  obtain ⟨o1, o2, o3⟩ := own b
  obtain ⟨p1, p2⟩ := padded (m ((c : Thread nD τ).loc main_arg0)) (((View.whole main_v2_0).slice (win0_1.rect t)).emb (ix2 a b))
  have ht : t.val < 8 := t.isLt
  have hb : b.val < 1408 := b.isLt
  have hv : ((((View.whole main_v2_0).slice (win0_1.rect t)).emb (ix2 a b)) 0).val = t.val * 256 + a.val := by blk_simp [e]
  have hk : ((((View.whole main_v2_0).slice (win0_1.rect t)).emb (ix2 a b)) 1).val = b.val := by blk_simp [e]
  rw [stores_at t _ _ _ ((hs0_0 t).read_unread _), stores_at t _ _ _ ((hs0_0 t).read_unread _)]
  by_cases h : b.val < 1281
  · rw [o1 h, p1 (ix3 0 ⟨t.val * 256 + a.val, by omega⟩ ⟨b.val, h⟩) hv.symm hk.symm]
    refine Eq.trans ?_ (cell_in m c t a.val b.val a.isLt h _ rfl rfl)
    have hn : (b.val + 1408) % 1408 = b.val := by omega
    simp only [hn]
    rfl
  · rw [o2 (by omega), p2 (by omega)]
    by_cases h' : b.val < 1401
    · rw [o3 h']
      rfl
    · have hz : cell (iblk m c 0 t) t a.val ((b.val + 1408 - 120) % 1408) a.isLt = 0 := dif_neg (by omega)
      refine (Eq.refl _ : _ = Scalar.select _ _ (0 : EReal)).trans ?_
      unfold Scalar.select
      split
      · exact hz
      · rfl

end Cert.Kernel34Ideal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Read
public import proofs.«01_k».proof.Proof.Gen.Kernel27
public import proofs.«01_k».proof.Proof.Gen.Kernel28
public import proofs.«01_k».proof.Proof.Gen.Kernel29
public import proofs.«01_k».proof.Proof.Gen.Kernel27.Frame
public import proofs.«01_k».proof.Proof.Gen.Kernel28.Frame
public import proofs.«01_k».proof.Proof.Gen.Kernel29.Frame
public import proofs.«01_k».proof.Proof.Gen.Kernel27Ideal
public import proofs.«01_k».proof.Proof.Gen.Kernel27Ideal.Value
public import proofs.«01_k».proof.Proof.Gen.Kernel28Ideal.Value
public import proofs.«01_k».proof.Proof.Gen.Kernel29Ideal.Frame
public import proofs.«01_k».proof.Proof.Gen.Reference27Ideal
public import proofs.«01_k».proof.Proof.Gen.Reference27Ideal.Read
public import proofs.«01_k».proof.Proof.Gen.Reference28Ideal.Read
public import proofs.«01_k».proof.Proof.Gen.Reference29Ideal.Read
public import proofs.«01_k».proof.Proof.Blocks
public import proofs.«01_k».proof.Proof.Ends
public import proofs.«01_k».proof.Proof.Pre
public import proofs.«01_k».proof.Proof.Pre2
public import proofs.«01_k».proof.Proof.DownBwd
public import proofs.«01_k».proof.Proof.Du
public import proofs.«01_k».proof.Proof.DwUp
public import proofs.«01_k».proof.Proof.DwDown
public import proofs.«01_k».proof.Proof.Up
public import proofs.«01_k».proof.Proof.Down
public import proofs.«01_k».proof.Proof.MergeBwd
public import proofs.«01_k».proof.Proof.DwProj
public import proofs.«01_k».proof.Proof.DuProj
public import proofs.«01_k».proof.Proof.DoBranch
public import proofs.«01_k».proof.Proof.Proj
public import proofs.«01_k».proof.Proof.BranchMerge
public import proofs.«01_k».proof.Proof.NormBwd
public import proofs.«01_k».proof.Proof.NormFwd
public import proofs.«01_k».proof.Proof.MidNormsBwd
public import proofs.«01_k».proof.Proof.LossHead
public import proofs.«01_k».proof.Proof.Adam
public import proofs.«01_k».proof.Proof.Decayed
public import proofs.«01_k».proof.Proof.Words
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal.Frame
public import proofs.«01_k».proof.Proof.Gen.Reference31Ideal.Read
public import proofs.«01_k».proof.Proof.WIn
public import proofs.«01_k».proof.Proof.Gen.Kernel32
public import proofs.«01_k».proof.Proof.Gen.Kernel32.Frame
public import proofs.«01_k».proof.Proof.Gen.Kernel32Ideal.Value
public import proofs.«01_k».proof.Proof.Gen.Reference32Ideal.Read
public import proofs.«01_k».proof.Proof.ForgetSum
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal.Read
public import proofs.«01_k».proof.Proof.ForgetBwd
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal.Read
public import proofs.«01_k».proof.Proof.WShift
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's run leaves its arguments and counters as they were. -/
theorem reference_ideal_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The kernel's and the reference's gradients, as the same real numbers. -/
theorem full_eq (R D : Dev Cert.KernelIdeal.nD → ℕ → ℕ → ℝ) (c : Dev Cert.KernelIdeal.nD) (x y : ℕ) :
    Cert.KernelIdeal.Sb.full (Cert.KernelIdeal.Sb.headsOf R D c (y / 1536)) x (y % 1536) = Cert.ReferenceIdeal.Sb.grads (R c) (D c) x y := by
  have e0 : y % 1536 / 128 % 3 = y / 128 % 3 := by omega
  have e1 : 4 * (y / 1536) + y % 1536 / 128 / 3 = y / 384 := by omega
  have e2 : y % 1536 % 128 = y % 128 := by omega
  unfold Cert.KernelIdeal.Sb.full Cert.ReferenceIdeal.Sb.grads
  unfold Cert.KernelIdeal.Sb.Heads.dq Cert.KernelIdeal.Sb.Heads.dk Cert.KernelIdeal.Sb.Heads.dv Cert.KernelIdeal.Sb.headsOf
  dsimp only
  rw [e0, e1, e2]

/-- The gradients of the attention, as an array. -/
def gradients (R D : ℕ → ℕ → ℝ) : (⟨⟨2, ![2048, 3072]⟩, .bf16⟩ : BufTy).Contents (Elt Ideal) :=
  fun i => ((Cert.ReferenceIdeal.Sb.grads R D (i 0).val (i 1).val : ℝ) : EReal)

theorem algebraic : Cert.algebraic_KernelIdeal_ReferenceIdeal_pre_finite_inputs := by
  intro m g m' g' hp hm
  let R : Dev Cert.KernelIdeal.nD → ℕ → ℕ → ℝ := fun c => Cert.Pre_finite_inputs.numbers (m ((c.tc : Thread Cert.KernelIdeal.nD Cert.KernelIdeal.τ).loc Cert.KernelIdeal.main_arg0))
  let D : Dev Cert.KernelIdeal.nD → ℕ → ℕ → ℝ := fun c => Cert.Pre_finite_inputs.numbers (m ((c.tc : Thread Cert.KernelIdeal.nD Cert.KernelIdeal.τ).loc Cert.KernelIdeal.main_arg1))
  have hl : Cert.KernelIdeal.Sb.Launched R D m := fun c => Cert.Pre_finite_inputs.real _ _ (hp c)
  refine ⟨fun c => gradients (R c) (D c), ?_, ?_⟩
  · refine (θ_run _ _ _).mono (fun r h c => ⟨?_, Cert.KernelIdeal.Sb.kept r.2 h.1 c⟩) (Cert.KernelIdeal.Sb.run_final (Cert.KernelIdeal.Sb.headsOf R D) m g)
    funext i
    exact (Cert.KernelIdeal.Sb.result _ m (Cert.KernelIdeal.Sb.hold hl) r.2 h.1 c i).trans (congrArg _ (full_eq R D c _ _))
  · refine (θ_run _ _ _).mono (fun r h c => ⟨((h c).1.trans (Cert.ReferenceIdeal.Read.val_main_v56_eq _)).trans ?_, (h c).2⟩) (Cert.ReferenceIdeal.Value.run m' g')
    funext i
    refine Cert.ReferenceIdeal.Sb.grads_eq (R := R c) (D := D c) ?_ i
    show Cert.ReferenceIdeal.Sb.Real (R c) (D c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    rw [(hm c).1, (hm c).2]
    exact hl c

/-- A function of equal arguments, three of them. -/
theorem congr_three {α β γ δ : Sort*} (f : α → β → γ → δ) {a a' : α} {b b' : β} {c c' : γ} (h : a = a') (k : b = b') (l : c = c') : f a b c = f a' b' c' := by
  rw [h, k, l]

/-- A function of equal arguments, four of them. -/
theorem congr_four {α β γ δ ε : Sort*} (f : α → β → γ → δ → ε) {a a' : α} {b b' : β} {c c' : γ} {d d' : δ} (h : a = a') (k : b = b') (l : c = c') (n : d = d') :
    f a b c d = f a' b' c' d' := by
  rw [h, k, l, n]

/-- A function of equal arguments, five of them. -/
theorem congr_five {α β γ δ ε ζ : Sort*} (f : α → β → γ → δ → ε → ζ) {a a' : α} {b b' : β} {c c' : γ} {d d' : δ} {e e' : ε} (h : a = a') (k : b = b') (l : c = c') (n : d = d') (o : e = e') :
    f a b c d e = f a' b' c' d' e' := by
  rw [h, k, l, n, o]

/-- A function of equal arguments, six of them. -/
theorem congr_six {α β γ δ ε ζ η : Sort*} (f : α → β → γ → δ → ε → ζ → η) {a a' : α} {b b' : β} {c c' : γ} {d d' : δ} {e e' : ε} {p p' : ζ} (h : a = a') (k : b = b') (l : c = c') (n : d = d') (o : e = e') (q : p = p') :
    f a b c d e p = f a' b' c' d' e' p' := by
  rw [h, k, l, n, o, q]

/-- The gradient of the gated product. -/
theorem algebraic2 : Cert.algebraic_Kernel2Ideal_Reference2Ideal_pre_finite2 := by
  intro m g m' g' hp hm
  exact ⟨fun c => Cert.Reference2Ideal.Read.val_main_v18 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.Reference2Ideal.Read.val_main_v21 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run _ _ _).mono (fun r h c => ⟨((h c).1).trans (Cert.Kernel2Ideal.Ffn.dgate m c (Cert.Pre_finite2.real_fst _ _ _ _ (hp c).1) (Cert.Pre_finite2.real_snd _ _ _ _ (hp c).2.1) (Cert.Pre_finite2.real_thd _ _ _ _ (hp c).2.2)), ((h c).2.1).trans (Cert.Kernel2Ideal.Ffn.dup m c), (h c).2.2⟩) (Cert.Kernel2Ideal.Value.run_blocks m g),
    (θ_run _ _ _).mono (fun r h c => ⟨(((h c).1).trans (Cert.Reference2Ideal.Read.val_main_v18_eq _ _ _ _ )).trans (congr_four (Cert.Reference2Ideal.Read.val_main_v18 (F := Ideal)) (hm c).1 (hm c).2.1 (hm c).2.2.1 (hm c).2.2.2), (((h c).2.1).trans (Cert.Reference2Ideal.Read.val_main_v21_eq _ _ _ )).trans (congr_three (Cert.Reference2Ideal.Read.val_main_v21 (F := Ideal)) (hm c).1 (hm c).2.1 (hm c).2.2.1), (h c).2.2⟩) (Cert.Reference2Ideal.Value.run m' g')⟩

/-- The gradient of the normalised input. -/
theorem algebraic3 : Cert.algebraic_Kernel3Ideal_Reference3Ideal := by
  intro m g m' g' hp hm
  exact ⟨fun c => Cert.Reference3Ideal.Read.val_main_v17 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run _ _ _).mono (fun r h c => ⟨((h c).1).trans (Cert.Kernel3Ideal.Ffn.final m c), (h c).2⟩) (Cert.Kernel3Ideal.Value.run_blocks m g),
    (θ_run _ _ _).mono (fun r h c => ⟨(((h c).1).trans (Cert.Reference3Ideal.Read.val_main_v17_eq _ _ _ _ )).trans (congr_four (Cert.Reference3Ideal.Read.val_main_v17 (F := Ideal)) (hm c).1 (hm c).2.1 (hm c).2.2.1 (hm c).2.2.2), (h c).2⟩) (Cert.Reference3Ideal.Value.run m' g')⟩

/-- The gradient of the gate's and the up projection's weights. -/
theorem algebraic4 : Cert.algebraic_Kernel4Ideal_Reference4Ideal := by
  intro m g m' g' hp hm
  exact ⟨fun c => Cert.Reference4Ideal.Read.val_main_v11 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run _ _ _).mono (fun r h c => ⟨((h c).1).trans (Cert.Kernel4Ideal.Ffn.final m c), (h c).2⟩) (Cert.Kernel4Ideal.Value.run_blocks m g),
    (θ_run _ _ _).mono (fun r h c => ⟨(((h c).1).trans (Cert.Reference4Ideal.Read.val_main_v11_eq _ _ )).trans (congrArg₂ (Cert.Reference4Ideal.Read.val_main_v11 (F := Ideal)) (hm c).1 (hm c).2), (h c).2⟩) (Cert.Reference4Ideal.Value.run m' g')⟩

/-- The gradient of the down projection's weights. -/
theorem algebraic5 : Cert.algebraic_Kernel5Ideal_Reference5Ideal := by
  intro m g m' g' hp hm
  exact ⟨fun c => Cert.Reference5Ideal.Read.val_main_v9 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run _ _ _).mono (fun r h c => ⟨((h c).1).trans (Cert.Kernel5Ideal.Ffn.final m c), (h c).2⟩) (Cert.Kernel5Ideal.Value.run_blocks m g),
    (θ_run _ _ _).mono (fun r h c => ⟨(((h c).1).trans (Cert.Reference5Ideal.Read.val_main_v9_eq _ _ )).trans (congrArg₂ (Cert.Reference5Ideal.Read.val_main_v9 (F := Ideal)) (hm c).1 (hm c).2), (h c).2⟩) (Cert.Reference5Ideal.Value.run m' g')⟩

/-- The gate, the up projection and their product. -/
theorem algebraic6 : Cert.algebraic_Kernel6Ideal_Reference6Ideal := by
  intro m g m' g' hp hm
  exact ⟨fun c => Cert.Reference6Ideal.Read.val_main_v16 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), fun c => Cert.Reference6Ideal.Read.val_main_v19 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)), fun c => Cert.Reference6Ideal.Read.val_main_v13 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), fun c => Cert.Reference6Ideal.Read.val_main_v20 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run _ _ _).mono (fun r h c => ⟨((h c).1).trans (Cert.Kernel6Ideal.Ffn.gate m c), ((h c).2.1).trans (Cert.Kernel6Ideal.Ffn.up m c), ((h c).2.2.1).trans (Cert.Kernel6Ideal.Ffn.act m c), ((h c).2.2.2.1).trans (Cert.Kernel6Ideal.Ffn.act_t m c), (h c).2.2.2.2⟩) (Cert.Kernel6Ideal.Value.run_blocks m g),
    (θ_run _ _ _).mono (fun r h c => ⟨(((h c).1).trans (Cert.Reference6Ideal.Read.val_main_v16_eq _ _ )).trans (congrArg₂ (Cert.Reference6Ideal.Read.val_main_v16 (F := Ideal)) (hm c).1 (hm c).2.1), (((h c).2.1).trans (Cert.Reference6Ideal.Read.val_main_v19_eq _ _ )).trans (congrArg₂ (Cert.Reference6Ideal.Read.val_main_v19 (F := Ideal)) (hm c).1 (hm c).2.2), (((h c).2.2.1).trans (Cert.Reference6Ideal.Read.val_main_v13_eq _ _ _ )).trans (congr_three (Cert.Reference6Ideal.Read.val_main_v13 (F := Ideal)) (hm c).1 (hm c).2.1 (hm c).2.2), (((h c).2.2.2.1).trans (Cert.Reference6Ideal.Read.val_main_v20_eq _ _ _ )).trans (congr_three (Cert.Reference6Ideal.Read.val_main_v20 (F := Ideal)) (hm c).1 (hm c).2.1 (hm c).2.2), (h c).2.2.2.2⟩) (Cert.Reference6Ideal.Value.run m' g')⟩

/-- The down projection. -/
theorem algebraic7 : Cert.algebraic_Kernel7Ideal_Reference7Ideal := by
  intro m g m' g' hp hm
  exact ⟨fun c => Cert.Reference7Ideal.Read.val_main_v5 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run _ _ _).mono (fun r h c => ⟨((h c).1).trans (Cert.Kernel7Ideal.Ffn.final m c), (h c).2⟩) (Cert.Kernel7Ideal.Value.run_blocks m g),
    (θ_run _ _ _).mono (fun r h c => ⟨(((h c).1).trans (Cert.Reference7Ideal.Read.val_main_v5_eq _ _ )).trans (congrArg₂ (Cert.Reference7Ideal.Read.val_main_v5 (F := Ideal)) (hm c).1 (hm c).2), (h c).2⟩) (Cert.Reference7Ideal.Value.run m' g')⟩

/-- The gradients of the two branches and of the gates. -/
theorem algebraic8 : Cert.algebraic_Kernel8Ideal_Reference8Ideal := by
  intro m g m' g' hp hm
  exact ⟨fun c => Cert.Reference8Ideal.Read.val_main_v43 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), fun c => Cert.Reference8Ideal.Read.val_main_v44 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), fun c => Cert.Reference8Ideal.Read.val_main_v49 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)),
    (θ_run _ _ _).mono (fun r h c => ⟨((h c).1 5).trans (Cert.Kernel8Ideal.Mix.branch_sb m c), ((h c).1 6).trans (Cert.Kernel8Ideal.Mix.branch_fx m c), Cert.Kernel8Ideal.Mix.result m r.2 c (h c).2,
      ((h c).1 0).trans (((Cert.Kernel8Ideal.Gen.dats m 0 c).arrAt_in 0 rfl _).trans ((Cert.Kernel8Ideal.Gen.A_eq m c 0).trans (Cert.Kernel8Ideal.Gen.V_main_arg0 m c))), ((h c).1 1).trans (((Cert.Kernel8Ideal.Gen.dats m 0 c).arrAt_in 1 rfl _).trans ((Cert.Kernel8Ideal.Gen.A_eq m c 1).trans (Cert.Kernel8Ideal.Gen.V_main_arg1 m c))), ((h c).1 2).trans (((Cert.Kernel8Ideal.Gen.dats m 0 c).arrAt_in 2 rfl _).trans ((Cert.Kernel8Ideal.Gen.A_eq m c 2).trans (Cert.Kernel8Ideal.Gen.V_main_arg2 m c))), ((h c).1 3).trans (((Cert.Kernel8Ideal.Gen.dats m 0 c).arrAt_in 3 rfl _).trans ((Cert.Kernel8Ideal.Gen.A_eq m c 3).trans (Cert.Kernel8Ideal.Gen.V_main_arg3 m c))), ((h c).1 4).trans (((Cert.Kernel8Ideal.Gen.dats m 0 c).arrAt_in 4 rfl _).trans ((Cert.Kernel8Ideal.Gen.A_eq m c 4).trans (Cert.Kernel8Ideal.Gen.V_main_arg4 m c)))⟩) (Cert.Kernel8Ideal.Gen.run_main m g),
    (θ_run _ _ _).mono (fun r h c => ⟨(((h c).1).trans (Cert.Reference8Ideal.Read.val_main_v43_eq _ _ _)).trans (congr_three (Cert.Reference8Ideal.Read.val_main_v43 (F := Ideal)) (hm c).1 (hm c).2.1 (hm c).2.2.1), (((h c).2.1).trans (Cert.Reference8Ideal.Read.val_main_v44_eq _ _ _)).trans (congr_three (Cert.Reference8Ideal.Read.val_main_v44 (F := Ideal)) (hm c).1 (hm c).2.1 (hm c).2.2.1), (((h c).2.2.1).trans (Cert.Reference8Ideal.Read.val_main_v49_eq _ _ _ _ _)).trans (congr_five (Cert.Reference8Ideal.Read.val_main_v49 (F := Ideal)) (hm c).1 (hm c).2.1 (hm c).2.2.1 (hm c).2.2.2.1 (hm c).2.2.2.2), (h c).2.2.2⟩) (Cert.Reference8Ideal.Value.run m' g')⟩

/-- The gradient of the attention projection's weights. -/
theorem algebraic9 : Cert.algebraic_Kernel9Ideal_Reference9Ideal := by
  intro m g m' g' hp hm
  exact ⟨fun c => Cert.Reference9Ideal.Read.val_main_v7 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r h c => ⟨((h c).1).trans (Cert.Kernel9Ideal.Mix.final m c), (h c).2⟩) (Cert.Kernel9Ideal.Value.run_blocks m g),
    (θ_run _ _ _).mono (fun r h c => ⟨(((h c).1).trans (Cert.Reference9Ideal.Read.val_main_v7_eq _ _)).trans (congrArg₂ (Cert.Reference9Ideal.Read.val_main_v7 (F := Ideal)) (hm c).1 (hm c).2), (h c).2⟩) (Cert.Reference9Ideal.Value.run m' g')⟩

/-- The gradient of the gates' projection's weights. -/
theorem algebraic10 : Cert.algebraic_Kernel10Ideal_Reference10Ideal := by
  intro m g m' g' hp hm
  exact ⟨fun c => Cert.Reference10Ideal.Read.val_main_v7 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ⟨((h c).1).trans (Cert.Kernel10Ideal.Mix.final m c), (h c).2⟩) (Cert.Kernel10Ideal.Value.run_blocks m g),
    (θ_run _ _ _).mono (fun r h c => ⟨(((h c).1).trans (Cert.Reference10Ideal.Read.val_main_v7_eq _ _)).trans (congrArg₂ (Cert.Reference10Ideal.Read.val_main_v7 (F := Ideal)) (hm c).1 (hm c).2), (h c).2⟩) (Cert.Reference10Ideal.Value.run m' g')⟩

/-- The gradient of the output projection's weights. -/
theorem algebraic11 : Cert.algebraic_Kernel11Ideal_Reference11Ideal := by
  intro m g m' g' hp hm
  exact ⟨fun c => Cert.Reference11Ideal.Read.val_main_v7 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r h c => ⟨((h c).1).trans (Cert.Kernel11Ideal.Mix.final m c), (h c).2⟩) (Cert.Kernel11Ideal.Value.run_blocks m g),
    (θ_run _ _ _).mono (fun r h c => ⟨(((h c).1).trans (Cert.Reference11Ideal.Read.val_main_v7_eq _ _)).trans (congrArg₂ (Cert.Reference11Ideal.Read.val_main_v7 (F := Ideal)) (hm c).1 (hm c).2), (h c).2⟩) (Cert.Reference11Ideal.Value.run m' g')⟩

/-- The attention projection's share of the gradient of the normalised input. -/
theorem algebraic12 : Cert.algebraic_Kernel12Ideal_Reference12Ideal := by
  intro m g m' g' hp hm
  exact ⟨fun c => Cert.Reference12Ideal.Read.val_main_v5 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run _ _ _).mono (fun r h c => ⟨((h c).1).trans (Cert.Kernel12Ideal.Mix.final m c), (h c).2⟩) (Cert.Kernel12Ideal.Value.run_blocks m g),
    (θ_run _ _ _).mono (fun r h c => ⟨(((h c).1).trans (Cert.Reference12Ideal.Read.val_main_v5_eq _ _)).trans (congrArg₂ (Cert.Reference12Ideal.Read.val_main_v5 (F := Ideal)) (hm c).1 (hm c).2), (h c).2⟩) (Cert.Reference12Ideal.Value.run m' g')⟩

/-- The gradient of the normalised input with the gates' share added. -/
theorem algebraic13 : Cert.algebraic_Kernel13Ideal_Reference13Ideal := by
  intro m g m' g' hp hm
  exact ⟨fun c => Cert.Reference13Ideal.Read.val_main_v6 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    (θ_run _ _ _).mono (fun r h c => ⟨((h c).1).trans (Cert.Kernel13Ideal.Mix.final m c), (h c).2⟩) (Cert.Kernel13Ideal.Value.run_blocks m g),
    (θ_run _ _ _).mono (fun r h c => ⟨(((h c).1).trans (Cert.Reference13Ideal.Read.val_main_v6_eq _ _ _)).trans (congr_three (Cert.Reference13Ideal.Read.val_main_v6 (F := Ideal)) (hm c).1 (hm c).2.1 (hm c).2.2), (h c).2⟩) (Cert.Reference13Ideal.Value.run m' g')⟩

/-- The gradient of a branch's attention output. -/
theorem algebraic14 : Cert.algebraic_Kernel14Ideal_Reference14Ideal := by
  intro m g m' g' hp hm
  exact ⟨fun c => Cert.Reference14Ideal.Read.val_main_v7 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run _ _ _).mono (fun r h c => ⟨((h c).1).trans (Cert.Kernel14Ideal.Mix.final m c), (h c).2⟩) (Cert.Kernel14Ideal.Value.run_blocks m g),
    (θ_run _ _ _).mono (fun r h c => ⟨(((h c).1).trans (Cert.Reference14Ideal.Read.val_main_v7_eq _ _)).trans (congrArg₂ (Cert.Reference14Ideal.Read.val_main_v7 (F := Ideal)) (hm c).1 (hm c).2), (h c).2⟩) (Cert.Reference14Ideal.Value.run m' g')⟩

/-- The gradient of a branch's weights. -/
theorem algebraic15 : Cert.algebraic_Kernel15Ideal_Reference15Ideal := by
  intro m g m' g' hp hm
  exact ⟨fun c => Cert.Reference15Ideal.Read.val_main_v9 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run _ _ _).mono (fun r h c => ⟨((h c).1).trans (Cert.Kernel15Ideal.Mix.final m c), (h c).2⟩) (Cert.Kernel15Ideal.Value.run_blocks m g),
    (θ_run _ _ _).mono (fun r h c => ⟨(((h c).1).trans (Cert.Reference15Ideal.Read.val_main_v9_eq _ _)).trans (congrArg₂ (Cert.Reference15Ideal.Read.val_main_v9 (F := Ideal)) (hm c).1 (hm c).2), (h c).2⟩) (Cert.Reference15Ideal.Value.run m' g')⟩

/-- The attention projection. -/
theorem algebraic16 : Cert.algebraic_Kernel16Ideal_Reference16Ideal := by
  intro m g m' g' hp hm
  exact ⟨fun c => Cert.Reference16Ideal.Read.val_main_v4 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run _ _ _).mono (fun r h c => ⟨((h c).1).trans (Cert.Kernel16Ideal.Mix.final m c), (h c).2⟩) (Cert.Kernel16Ideal.Value.run_blocks m g),
    (θ_run _ _ _).mono (fun r h c => ⟨(((h c).1).trans (Cert.Reference16Ideal.Read.val_main_v4_eq _ _)).trans (congrArg₂ (Cert.Reference16Ideal.Read.val_main_v4 (F := Ideal)) (hm c).1 (hm c).2), (h c).2⟩) (Cert.Reference16Ideal.Value.run m' g')⟩

/-- The gates' projection. -/
theorem algebraic17 : Cert.algebraic_Kernel17Ideal_Reference17Ideal := by
  intro m g m' g' hp hm
  exact ⟨fun c => Cert.Reference17Ideal.Read.val_main_v3 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)),
    (θ_run _ _ _).mono (fun r h c => ⟨((h c).1).trans (Cert.Kernel17Ideal.Mix.final m c), (h c).2⟩) (Cert.Kernel17Ideal.Value.run_blocks m g),
    (θ_run _ _ _).mono (fun r h c => ⟨(((h c).1).trans (Cert.Reference17Ideal.Read.val_main_v3_eq _ _)).trans (congrArg₂ (Cert.Reference17Ideal.Read.val_main_v3 (F := Ideal)) (hm c).1 (hm c).2), (h c).2⟩) (Cert.Reference17Ideal.Value.run m' g')⟩

/-- The output projection. -/
theorem algebraic18 : Cert.algebraic_Kernel18Ideal_Reference18Ideal := by
  intro m g m' g' hp hm
  exact ⟨fun c => Cert.Reference18Ideal.Read.val_main_v2 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run _ _ _).mono (fun r h c => ⟨((h c).1).trans (Cert.Kernel18Ideal.Mix.final m c), (h c).2⟩) (Cert.Kernel18Ideal.Value.run_blocks m g),
    (θ_run _ _ _).mono (fun r h c => ⟨(((h c).1).trans (Cert.Reference18Ideal.Read.val_main_v2_eq _ _)).trans (congrArg₂ (Cert.Reference18Ideal.Read.val_main_v2 (F := Ideal)) (hm c).1 (hm c).2), (h c).2⟩) (Cert.Reference18Ideal.Value.run m' g')⟩

/-- The two branches' products and their gated sum. -/
theorem algebraic19 : Cert.algebraic_Kernel19Ideal_Reference19Ideal := by
  intro m g m' g' hp hm
  exact ⟨fun c => Cert.Reference19Ideal.Read.val_main_v33 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)), fun c => Cert.Reference19Ideal.Read.val_main_v34 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)), fun c => Cert.Reference19Ideal.Read.val_main_v35 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg2)), fun c => Cert.Reference19Ideal.Read.val_main_v36 (F := Ideal) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg3)),
    (θ_run _ _ _).mono (fun r h c => ⟨((h c).1).trans (Cert.Kernel19Ideal.Mix.merged m c), ((h c).2.1).trans (Cert.Kernel19Ideal.Mix.merged_t m c), ((h c).2.2.1).trans (Cert.Kernel19Ideal.Mix.branch_sb m c), ((h c).2.2.2.1).trans (Cert.Kernel19Ideal.Mix.branch_fx m c), (h c).2.2.2.2⟩) (Cert.Kernel19Ideal.Value.run_blocks m g),
    (θ_run _ _ _).mono (fun r h c => ⟨(((h c).1).trans (Cert.Reference19Ideal.Read.val_main_v33_eq _ _ _ _ _)).trans (congr_five (Cert.Reference19Ideal.Read.val_main_v33 (F := Ideal)) (hm c).1 (hm c).2.1 (hm c).2.2.1 (hm c).2.2.2.1 (hm c).2.2.2.2), (((h c).2.1).trans (Cert.Reference19Ideal.Read.val_main_v34_eq _ _ _ _ _)).trans (congr_five (Cert.Reference19Ideal.Read.val_main_v34 (F := Ideal)) (hm c).1 (hm c).2.1 (hm c).2.2.1 (hm c).2.2.2.1 (hm c).2.2.2.2), (((h c).2.2.1).trans (Cert.Reference19Ideal.Read.val_main_v35_eq _ _)).trans (congrArg₂ (Cert.Reference19Ideal.Read.val_main_v35 (F := Ideal)) (hm c).1 (hm c).2.2.1), (((h c).2.2.2.1).trans (Cert.Reference19Ideal.Read.val_main_v36_eq _ _)).trans (congrArg₂ (Cert.Reference19Ideal.Read.val_main_v36 (F := Ideal)) (hm c).2.1 (hm c).2.2.2.1), (h c).2.2.2.2⟩) (Cert.Reference19Ideal.Value.run m' g')⟩

/-- The gradient that comes back through the first normalisation. -/
theorem algebraic20 : Cert.algebraic_Kernel20Ideal_Reference20Ideal := by
  intro m g m' g' hp hm
  exact ⟨fun c => Cert.Reference20Ideal.Read.val_main_v34 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), fun c => Cert.Reference20Ideal.Read.val_main_v17 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    (θ_run _ _ _).mono (fun r h c => ⟨((h c).1).trans (Cert.Kernel20Ideal.Mix.final4 m c), ((h c).2.1).trans (Cert.Kernel20Ideal.Mix.final5 m c), (h c).2.2⟩) (Cert.Kernel20Ideal.Value.run_blocks m g),
    (θ_run _ _ _).mono (fun r h c => ⟨(((h c).1).trans (Cert.Reference20Ideal.Read.val_main_v34_eq _ _ _ _)).trans (congr_four (Cert.Reference20Ideal.Read.val_main_v34 (F := Ideal)) (hm c).1 (hm c).2.1 (hm c).2.2.1 (hm c).2.2.2), (((h c).2.1).trans (Cert.Reference20Ideal.Read.val_main_v17_eq _ _)).trans (congrArg₂ (Cert.Reference20Ideal.Read.val_main_v17 (F := Ideal)) (hm c).2.1 (hm c).2.2.1), (h c).2.2⟩) (Cert.Reference20Ideal.Value.run m' g')⟩

/-- The gradients that come back through the two normalisations between the layers. -/
theorem algebraic21 : Cert.algebraic_Kernel21Ideal_Reference21Ideal := by
  intro m g m' g' hp hm
  exact ⟨fun c => Cert.Reference21Ideal.Read.val_main_v34 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg4)), fun c => Cert.Reference21Ideal.Read.val_main_v69 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)), fun c => Cert.Reference21Ideal.Read.val_main_v17 (F := Ideal) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)), fun c => Cert.Reference21Ideal.Read.val_main_v52 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)),
    (θ_run _ _ _).mono (fun r h c => ⟨((h c).1).trans (Cert.Kernel21Ideal.Mix.final6 m c), ((h c).2.1).trans (Cert.Kernel21Ideal.Mix.final7 m c), ((h c).2.2.1).trans (Cert.Kernel21Ideal.Mix.final8 m c), ((h c).2.2.2.1).trans (Cert.Kernel21Ideal.Mix.final9 m c), (h c).2.2.2.2⟩) (Cert.Kernel21Ideal.Value.run_blocks m g),
    (θ_run _ _ _).mono (fun r h c => ⟨(((h c).1).trans (Cert.Reference21Ideal.Read.val_main_v34_eq _ _ _ _)).trans (congr_four (Cert.Reference21Ideal.Read.val_main_v34 (F := Ideal)) (hm c).1 (hm c).2.1 (hm c).2.2.1 (hm c).2.2.2.2.1), (((h c).2.1).trans (Cert.Reference21Ideal.Read.val_main_v69_eq m' c)).trans (congr_six (Cert.Reference21Ideal.Read.val_main_v69 (F := Ideal)) (hm c).1 (hm c).2.1 (hm c).2.2.1 (hm c).2.2.2.1 (hm c).2.2.2.2.1 (hm c).2.2.2.2.2), (((h c).2.2.1).trans (Cert.Reference21Ideal.Read.val_main_v17_eq _ _)).trans (congrArg₂ (Cert.Reference21Ideal.Read.val_main_v17 (F := Ideal)) (hm c).2.1 (hm c).2.2.1), (((h c).2.2.2.1).trans (Cert.Reference21Ideal.Read.val_main_v52_eq m' c)).trans (congr_five (Cert.Reference21Ideal.Read.val_main_v52 (F := Ideal)) (hm c).1 (hm c).2.1 (hm c).2.2.1 (hm c).2.2.2.1 (hm c).2.2.2.2.1), (h c).2.2.2.2⟩) (Cert.Reference21Ideal.Value.run m' g')⟩

/-- The loss and the gradients that leave it. -/
theorem algebraic22 : Cert.algebraic_Kernel22Ideal_Reference22Ideal := by
  intro m g m' g' hp hm
  exact ⟨fun c => Cert.Reference22Ideal.Read.val_main_v50 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Reference22Ideal.Read.val_main_v30 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Reference22Ideal.Read.val_main_v51 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Reference22Ideal.Read.val_main_v33 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    (θ_run _ _ _).mono (fun r h c => ⟨((h c).1).trans (Cert.Kernel22Ideal.Mix.final4 m c), ((h c).2.1).trans (Cert.Kernel22Ideal.Mix.final5 m c), ((h c).2.2.1).trans (Cert.Kernel22Ideal.Mix.final6 m c), ((h c).2.2.2.1).trans (Cert.Kernel22Ideal.Mix.final7 m c), (h c).2.2.2.2⟩) (Cert.Kernel22Ideal.Value.run_blocks m g),
    (θ_run _ _ _).mono (fun r h c => ⟨(((h c).1).trans (Cert.Reference22Ideal.Read.val_main_v50_eq _ _ _ _)).trans (congr_four (Cert.Reference22Ideal.Read.val_main_v50 (F := Ideal)) (hm c).1 (hm c).2.1 (hm c).2.2.1 (hm c).2.2.2), (((h c).2.1).trans (Cert.Reference22Ideal.Read.val_main_v30_eq _ _ _ _)).trans (congr_four (Cert.Reference22Ideal.Read.val_main_v30 (F := Ideal)) (hm c).1 (hm c).2.1 (hm c).2.2.1 (hm c).2.2.2), (((h c).2.2.1).trans (Cert.Reference22Ideal.Read.val_main_v51_eq m' c)).trans (congr_four (Cert.Reference22Ideal.Read.val_main_v51 (F := Ideal)) (hm c).1 (hm c).2.1 (hm c).2.2.1 (hm c).2.2.2), (((h c).2.2.2.1).trans (Cert.Reference22Ideal.Read.val_main_v33_eq _ _ _ _)).trans (congr_four (Cert.Reference22Ideal.Read.val_main_v33 (F := Ideal)) (hm c).1 (hm c).2.1 (hm c).2.2.1 (hm c).2.2.2), (h c).2.2.2.2⟩) (Cert.Reference22Ideal.Value.run m' g')⟩

/-- The first normalisation. -/
theorem algebraic23 : Cert.algebraic_Kernel23Ideal_Reference23Ideal := by
  intro m g m' g' hp hm
  exact ⟨fun c => Cert.Reference23Ideal.Read.val_main_v12 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), fun c => Cert.Reference23Ideal.Read.val_main_v13 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)),
    (θ_run _ _ _).mono (fun r h c => ⟨((h c).1).trans (Cert.Kernel23Ideal.Mix.final2 m c), ((h c).2.1).trans (Cert.Kernel23Ideal.Mix.final3 m c), (h c).2.2⟩) (Cert.Kernel23Ideal.Value.run_blocks m g),
    (θ_run _ _ _).mono (fun r h c => ⟨(((h c).1).trans (Cert.Reference23Ideal.Read.val_main_v12_eq _ _)).trans (congrArg₂ (Cert.Reference23Ideal.Read.val_main_v12 (F := Ideal)) (hm c).1 (hm c).2), (((h c).2.1).trans (Cert.Reference23Ideal.Read.val_main_v13_eq _ _)).trans (congrArg₂ (Cert.Reference23Ideal.Read.val_main_v13 (F := Ideal)) (hm c).1 (hm c).2), (h c).2.2⟩) (Cert.Reference23Ideal.Value.run m' g')⟩

/-- The two normalisations between the layers. -/
theorem algebraic24 : Cert.algebraic_Kernel24Ideal_Reference24Ideal := by
  intro m g m' g' hp hm
  exact ⟨fun c => Cert.Reference24Ideal.Read.val_main_v12 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)), fun c => Cert.Reference24Ideal.Read.val_main_v25 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Reference24Ideal.Read.val_main_v26 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)),
    (θ_run _ _ _).mono (fun r h c => ⟨((h c).1).trans (Cert.Kernel24Ideal.Mix.final4 m c), ((h c).2.1).trans (Cert.Kernel24Ideal.Mix.final5 m c), ((h c).2.2.1).trans (Cert.Kernel24Ideal.Mix.final6 m c), (h c).2.2.2⟩) (Cert.Kernel24Ideal.Value.run_blocks m g),
    (θ_run _ _ _).mono (fun r h c => ⟨(((h c).1).trans (Cert.Reference24Ideal.Read.val_main_v12_eq _ _ _)).trans (congr_three (Cert.Reference24Ideal.Read.val_main_v12 (F := Ideal)) (hm c).1 (hm c).2.1 (hm c).2.2.1), (((h c).2.1).trans (Cert.Reference24Ideal.Read.val_main_v25_eq _ _ _ _)).trans (congr_four (Cert.Reference24Ideal.Read.val_main_v25 (F := Ideal)) (hm c).1 (hm c).2.1 (hm c).2.2.1 (hm c).2.2.2), (((h c).2.2.1).trans (Cert.Reference24Ideal.Read.val_main_v26_eq _ _ _ _)).trans (congr_four (Cert.Reference24Ideal.Read.val_main_v26 (F := Ideal)) (hm c).1 (hm c).2.1 (hm c).2.2.1 (hm c).2.2.2), (h c).2.2.2⟩) (Cert.Reference24Ideal.Value.run m' g')⟩

/-- The step of a branch's weights. -/
theorem algebraic25 : Cert.algebraic_Kernel25Ideal_Reference25Ideal := by
  intro m g m' g' hp hm
  exact ⟨fun c => Cert.Reference25Ideal.Read.val_main_v2 (F := Ideal) (m ((c.tc : Thread Cert.Kernel25Ideal.nD Cert.Kernel25Ideal.τ).loc Cert.Kernel25Ideal.main_arg0)), fun c => Cert.Reference25Ideal.Read.val_main_v26 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)), fun c => Cert.Reference25Ideal.Read.val_main_v7 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg2)), fun c => Cert.Reference25Ideal.Read.val_main_v13 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg3)),
    (θ_run _ _ _).mono (fun r h c => ⟨((h c).1).trans (Cert.Kernel25Ideal.Mix.final4 m c), ((h c).2.1).trans (Cert.Kernel25Ideal.Mix.final5 m c), ((h c).2.2.1).trans (Cert.Kernel25Ideal.Mix.final6 m c), ((h c).2.2.2.1).trans (Cert.Kernel25Ideal.Mix.final7 m c), (h c).2.2.2.2⟩) (Cert.Kernel25Ideal.Value.run_blocks m g),
    (θ_run _ _ _).mono (fun r h c => ⟨(((h c).1).trans (Cert.Reference25Ideal.Read.val_main_v2_eq _)).trans (congrArg (Cert.Reference25Ideal.Read.val_main_v2 (F := Ideal)) (hm c).1), (((h c).2.1).trans (Cert.Reference25Ideal.Read.val_main_v26_eq _ _ _ _)).trans (congr_four (Cert.Reference25Ideal.Read.val_main_v26 (F := Ideal)) (hm c).1 (hm c).2.1 (hm c).2.2.1 (hm c).2.2.2), (((h c).2.2.1).trans (Cert.Reference25Ideal.Read.val_main_v7_eq _ _)).trans (congrArg₂ (Cert.Reference25Ideal.Read.val_main_v7 (F := Ideal)) (hm c).1 (hm c).2.2.1), (((h c).2.2.2.1).trans (Cert.Reference25Ideal.Read.val_main_v13_eq _ _)).trans (congrArg₂ (Cert.Reference25Ideal.Read.val_main_v13 (F := Ideal)) (hm c).1 (hm c).2.2.2), (h c).2.2.2.2⟩) (Cert.Reference25Ideal.Value.run m' g')⟩

/-- The step of the output projection's weights. -/
theorem algebraic26 : Cert.algebraic_Kernel26Ideal_Reference26Ideal := by
  intro m g m' g' hp hm
  exact ⟨fun c => Cert.Reference26Ideal.Read.val_main_v2 (F := Ideal) (m ((c.tc : Thread Cert.Kernel26Ideal.nD Cert.Kernel26Ideal.τ).loc Cert.Kernel26Ideal.main_arg0)), fun c => Cert.Reference26Ideal.Read.val_main_v26 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => Cert.Reference26Ideal.Read.val_main_v7 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg2)), fun c => Cert.Reference26Ideal.Read.val_main_v13 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg3)),
    (θ_run _ _ _).mono (fun r h c => ⟨((h c).1).trans (Cert.Kernel26Ideal.Mix.final4 m c), ((h c).2.1).trans (Cert.Kernel26Ideal.Mix.final5 m c), ((h c).2.2.1).trans (Cert.Kernel26Ideal.Mix.final6 m c), ((h c).2.2.2.1).trans (Cert.Kernel26Ideal.Mix.final7 m c), (h c).2.2.2.2⟩) (Cert.Kernel26Ideal.Value.run_blocks m g),
    (θ_run _ _ _).mono (fun r h c => ⟨(((h c).1).trans (Cert.Reference26Ideal.Read.val_main_v2_eq _)).trans (congrArg (Cert.Reference26Ideal.Read.val_main_v2 (F := Ideal)) (hm c).1), (((h c).2.1).trans (Cert.Reference26Ideal.Read.val_main_v26_eq _ _ _ _)).trans (congr_four (Cert.Reference26Ideal.Read.val_main_v26 (F := Ideal)) (hm c).1 (hm c).2.1 (hm c).2.2.1 (hm c).2.2.2), (((h c).2.2.1).trans (Cert.Reference26Ideal.Read.val_main_v7_eq _ _)).trans (congrArg₂ (Cert.Reference26Ideal.Read.val_main_v7 (F := Ideal)) (hm c).1 (hm c).2.2.1), (((h c).2.2.2.1).trans (Cert.Reference26Ideal.Read.val_main_v13_eq _ _)).trans (congrArg₂ (Cert.Reference26Ideal.Read.val_main_v13 (F := Ideal)) (hm c).1 (hm c).2.2.2), (h c).2.2.2.2⟩) (Cert.Reference26Ideal.Value.run m' g')⟩

/-- The step of the feed-forward layer's last weights. -/
theorem algebraic27 : Cert.algebraic_Kernel27Ideal_Reference27Ideal := by
  intro m g m' g' hp hm
  exact ⟨fun c => Cert.Reference27Ideal.Read.val_main_v2 (F := Ideal) (m ((c.tc : Thread Cert.Kernel27Ideal.nD Cert.Kernel27Ideal.τ).loc Cert.Kernel27Ideal.main_arg0)), fun c => Cert.Reference27Ideal.Read.val_main_v26 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), fun c => Cert.Reference27Ideal.Read.val_main_v7 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg2)), fun c => Cert.Reference27Ideal.Read.val_main_v13 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg3)),
    (θ_run _ _ _).mono (fun r h c => ⟨((h c).1).trans (Cert.Kernel27Ideal.Mix.final4 m c), ((h c).2.1).trans (Cert.Kernel27Ideal.Mix.final5 m c), ((h c).2.2.1).trans (Cert.Kernel27Ideal.Mix.final6 m c), ((h c).2.2.2.1).trans (Cert.Kernel27Ideal.Mix.final7 m c), (h c).2.2.2.2⟩) (Cert.Kernel27Ideal.Value.run_blocks m g),
    (θ_run _ _ _).mono (fun r h c => ⟨(((h c).1).trans (Cert.Reference27Ideal.Read.val_main_v2_eq _)).trans (congrArg (Cert.Reference27Ideal.Read.val_main_v2 (F := Ideal)) (hm c).1), (((h c).2.1).trans (Cert.Reference27Ideal.Read.val_main_v26_eq _ _ _ _)).trans (congr_four (Cert.Reference27Ideal.Read.val_main_v26 (F := Ideal)) (hm c).1 (hm c).2.1 (hm c).2.2.1 (hm c).2.2.2), (((h c).2.2.1).trans (Cert.Reference27Ideal.Read.val_main_v7_eq _ _)).trans (congrArg₂ (Cert.Reference27Ideal.Read.val_main_v7 (F := Ideal)) (hm c).1 (hm c).2.2.1), (((h c).2.2.2.1).trans (Cert.Reference27Ideal.Read.val_main_v13_eq _ _)).trans (congrArg₂ (Cert.Reference27Ideal.Read.val_main_v13 (F := Ideal)) (hm c).1 (hm c).2.2.2), (h c).2.2.2.2⟩) (Cert.Reference27Ideal.Value.run m' g')⟩

/-- The products that the step of the gates' weights begins with. -/
theorem algebraic28 : Cert.algebraic_Kernel28Ideal_Reference28Ideal := by
  intro m g m' g' hp hm
  exact ⟨fun c => Cert.Reference28Ideal.Read.val_main_v1 (F := Ideal) (m ((c.tc : Thread Cert.Kernel28Ideal.nD Cert.Kernel28Ideal.τ).loc Cert.Kernel28Ideal.main_arg0)), fun c => Cert.Reference28Ideal.Read.val_main_v3 (F := Ideal) (m ((c.tc : Thread Cert.Kernel28Ideal.nD Cert.Kernel28Ideal.τ).loc Cert.Kernel28Ideal.main_arg1)), fun c => Cert.Reference28Ideal.Read.val_main_v5 (F := Ideal) (m ((c.tc : Thread Cert.Kernel28Ideal.nD Cert.Kernel28Ideal.τ).loc Cert.Kernel28Ideal.main_arg2)),
    (θ_run _ _ _).mono (fun r h c => ⟨((h c).1).trans (Cert.Kernel28Ideal.Mix.final3 m c), ((h c).2.1).trans (Cert.Kernel28Ideal.Mix.final4 m c), ((h c).2.2.1).trans (Cert.Kernel28Ideal.Mix.final5 m c), (h c).2.2.2⟩) (Cert.Kernel28Ideal.Value.run_blocks m g),
    (θ_run _ _ _).mono (fun r h c => ⟨(((h c).1).trans (Cert.Reference28Ideal.Read.val_main_v1_eq _)).trans (congrArg (Cert.Reference28Ideal.Read.val_main_v1 (F := Ideal)) (hm c).1), (((h c).2.1).trans (Cert.Reference28Ideal.Read.val_main_v3_eq _)).trans (congrArg (Cert.Reference28Ideal.Read.val_main_v3 (F := Ideal)) (hm c).2.1), (((h c).2.2.1).trans (Cert.Reference28Ideal.Read.val_main_v5_eq _)).trans (congrArg (Cert.Reference28Ideal.Read.val_main_v5 (F := Ideal)) (hm c).2.2), (h c).2.2.2⟩) (Cert.Reference28Ideal.Value.run m' g')⟩

/-- The rest of the step of the gates' weights. -/
theorem algebraic29 : Cert.algebraic_Kernel29Ideal_Reference29Ideal := by
  intro m g m' g' hp hm
  exact ⟨fun c => Cert.Reference29Ideal.Read.val_main_v2 (F := Ideal) (m ((c.tc : Thread Cert.Kernel29Ideal.nD Cert.Kernel29Ideal.τ).loc Cert.Kernel29Ideal.main_arg0)), fun c => Cert.Reference29Ideal.Read.val_main_v20 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)), fun c => Cert.Reference29Ideal.Read.val_main_v5 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg2)), fun c => Cert.Reference29Ideal.Read.val_main_v9 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg3)),
    (θ_run _ _ _).mono (fun r h c => ⟨Cert.Kernel29Ideal.Mix.result_sum m r.2 c (h c).2, Cert.Kernel29Ideal.Mix.result_delta m r.2 c (h c).2, Cert.Kernel29Ideal.Mix.result_moment m r.2 c (h c).2, Cert.Kernel29Ideal.Mix.result_square m r.2 c (h c).2,
      ((h c).1 0).trans (((Cert.Kernel29Ideal.Gen.dats m 0 c).arrAt_in 0 rfl _).trans ((Cert.Kernel29Ideal.Gen.A_eq m c 0).trans (Cert.Kernel29Ideal.Gen.V_main_arg0 m c))), ((h c).1 1).trans (((Cert.Kernel29Ideal.Gen.dats m 0 c).arrAt_in 1 rfl _).trans ((Cert.Kernel29Ideal.Gen.A_eq m c 1).trans (Cert.Kernel29Ideal.Gen.V_main_arg1 m c))), ((h c).1 2).trans (((Cert.Kernel29Ideal.Gen.dats m 0 c).arrAt_in 2 rfl _).trans ((Cert.Kernel29Ideal.Gen.A_eq m c 2).trans (Cert.Kernel29Ideal.Gen.V_main_arg2 m c))), ((h c).1 3).trans (((Cert.Kernel29Ideal.Gen.dats m 0 c).arrAt_in 3 rfl _).trans ((Cert.Kernel29Ideal.Gen.A_eq m c 3).trans (Cert.Kernel29Ideal.Gen.V_main_arg3 m c)))⟩) (Cert.Kernel29Ideal.Gen.run_main m g),
    (θ_run _ _ _).mono (fun r h c => ⟨(((h c).1).trans (Cert.Reference29Ideal.Read.val_main_v2_eq _)).trans (congrArg (Cert.Reference29Ideal.Read.val_main_v2 (F := Ideal)) (hm c).1), (((h c).2.1).trans (Cert.Reference29Ideal.Read.val_main_v20_eq _ _ _ _)).trans (congr_four (Cert.Reference29Ideal.Read.val_main_v20 (F := Ideal)) (hm c).1 (hm c).2.1 (hm c).2.2.1 (hm c).2.2.2), (((h c).2.2.1).trans (Cert.Reference29Ideal.Read.val_main_v5_eq _ _)).trans (congrArg₂ (Cert.Reference29Ideal.Read.val_main_v5 (F := Ideal)) (hm c).1 (hm c).2.2.1), (((h c).2.2.2.1).trans (Cert.Reference29Ideal.Read.val_main_v9_eq _ _)).trans (congrArg₂ (Cert.Reference29Ideal.Read.val_main_v9 (F := Ideal)) (hm c).1 (hm c).2.2.2), (h c).2.2.2.2⟩) (Cert.Reference29Ideal.Value.run m' g')⟩

/-- The products that the step of the first projection's weight begins with. -/
theorem algebraic30 : Cert.algebraic_Kernel30Ideal_Reference30Ideal := by
  intro m g m' g' hp hm
  exact ⟨fun c => Cert.Reference30Ideal.Read.val_main_v1 (F := Ideal) (m ((c.tc : Thread Cert.Kernel30Ideal.nD Cert.Kernel30Ideal.τ).loc Cert.Kernel30Ideal.main_arg0)), fun c => Cert.Reference30Ideal.Read.val_main_v3 (F := Ideal) (m ((c.tc : Thread Cert.Kernel30Ideal.nD Cert.Kernel30Ideal.τ).loc Cert.Kernel30Ideal.main_arg1)),
    (θ_run _ _ _).mono (fun r h c => ⟨((h c).1).trans (Cert.Kernel30Ideal.Mix.final2 m c), ((h c).2.1).trans (Cert.Kernel30Ideal.Mix.final3 m c), (h c).2.2⟩) (Cert.Kernel30Ideal.Value.run_blocks m g),
    (θ_run _ _ _).mono (fun r h c => ⟨(((h c).1).trans (Cert.Reference30Ideal.Read.val_main_v1_eq _)).trans (congrArg (Cert.Reference30Ideal.Read.val_main_v1 (F := Ideal)) (hm c).1), (((h c).2.1).trans (Cert.Reference30Ideal.Read.val_main_v3_eq _)).trans (congrArg (Cert.Reference30Ideal.Read.val_main_v3 (F := Ideal)) (hm c).2), (h c).2.2⟩) (Cert.Reference30Ideal.Value.run m' g')⟩

/-- The rest of the step of the first projection's weight. -/
theorem algebraic31 : Cert.algebraic_Kernel31Ideal_Reference31Ideal := by
  intro m g m' g' hp hm
  exact ⟨fun c => Cert.Reference31Ideal.Read.val_main_v3 (F := Ideal) (m ((c.tc : Thread Cert.Kernel31Ideal.nD Cert.Kernel31Ideal.τ).loc Cert.Kernel31Ideal.main_arg0)), fun c => Cert.Reference31Ideal.Read.val_main_v21 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)), fun c => Cert.Reference31Ideal.Read.val_main_v6 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg2)), fun c => Cert.Reference31Ideal.Read.val_main_v10 (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg3)),
    (θ_run _ _ _).mono (fun r h c => ⟨Cert.Kernel31Ideal.Mix.result_sum m r.2 c (h c).2, Cert.Kernel31Ideal.Mix.result_delta m r.2 c (h c).2, Cert.Kernel31Ideal.Mix.result_moment m r.2 c (h c).2, Cert.Kernel31Ideal.Mix.result_square m r.2 c (h c).2,
      ((h c).1 0).trans (((Cert.Kernel31Ideal.Gen.dats m 0 c).arrAt_in 0 rfl _).trans ((Cert.Kernel31Ideal.Gen.A_eq m c 0).trans (Cert.Kernel31Ideal.Gen.V_main_arg0 m c))), ((h c).1 1).trans (((Cert.Kernel31Ideal.Gen.dats m 0 c).arrAt_in 1 rfl _).trans ((Cert.Kernel31Ideal.Gen.A_eq m c 1).trans (Cert.Kernel31Ideal.Gen.V_main_arg1 m c))), ((h c).1 2).trans (((Cert.Kernel31Ideal.Gen.dats m 0 c).arrAt_in 2 rfl _).trans ((Cert.Kernel31Ideal.Gen.A_eq m c 2).trans (Cert.Kernel31Ideal.Gen.V_main_arg2 m c))), ((h c).1 3).trans (((Cert.Kernel31Ideal.Gen.dats m 0 c).arrAt_in 3 rfl _).trans ((Cert.Kernel31Ideal.Gen.A_eq m c 3).trans (Cert.Kernel31Ideal.Gen.V_main_arg3 m c)))⟩) (Cert.Kernel31Ideal.Gen.run_main m g),
    (θ_run _ _ _).mono (fun r h c => ⟨(((h c).1).trans (Cert.Reference31Ideal.Read.val_main_v3_eq _)).trans (congrArg (Cert.Reference31Ideal.Read.val_main_v3 (F := Ideal)) (hm c).1), (((h c).2.1).trans (Cert.Reference31Ideal.Read.val_main_v21_eq _ _ _ _)).trans (congr_four (Cert.Reference31Ideal.Read.val_main_v21 (F := Ideal)) (hm c).1 (hm c).2.1 (hm c).2.2.1 (hm c).2.2.2), (((h c).2.2.1).trans (Cert.Reference31Ideal.Read.val_main_v6_eq _ _)).trans (congrArg₂ (Cert.Reference31Ideal.Read.val_main_v6 (F := Ideal)) (hm c).1 (hm c).2.2.1), (((h c).2.2.2.1).trans (Cert.Reference31Ideal.Read.val_main_v10_eq _ _)).trans (congrArg₂ (Cert.Reference31Ideal.Read.val_main_v10 (F := Ideal)) (hm c).1 (hm c).2.2.2), (h c).2.2.2.2⟩) (Cert.Reference31Ideal.Value.run m' g')⟩

theorem algebraic32 : Cert.algebraic_Kernel32Ideal_Reference32Ideal := by
  intro m g m' g' hp hm
  exact ⟨fun c => Cert.Reference32Ideal.Read.val_main_v4 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)), fun c => Cert.Reference32Ideal.Read.val_main_v6 (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)),
    (θ_run _ _ _).mono (fun r h c => ⟨((h c).1).trans (Cert.Kernel32Ideal.Mix.final2 m c), ((h c).2.1).trans (Cert.Kernel32Ideal.Mix.final3 m c), (h c).2.2⟩) (Cert.Kernel32Ideal.Value.run_blocks m g),
    (θ_run _ _ _).mono (fun r h c => ⟨(((h c).1).trans (Cert.Reference32Ideal.Read.val_main_v4_eq _ _)).trans (congrArg₂ (Cert.Reference32Ideal.Read.val_main_v4 (F := Ideal)) (hm c).1 (hm c).2), (((h c).2.1).trans (Cert.Reference32Ideal.Read.val_main_v6_eq _ _)).trans (congrArg₂ (Cert.Reference32Ideal.Read.val_main_v6 (F := Ideal)) (hm c).1 (hm c).2), (h c).2.2⟩) (Cert.Reference32Ideal.Value.run m' g')⟩

/-- The gradient of the forget gate's running sums. -/
theorem algebraic33 : Cert.algebraic_Kernel33Ideal_Reference33Ideal_pre_below_inf := by
  intro m g m' g' hp hm
  exact ⟨fun c => Cert.Reference33Ideal.Read.val_main_v12 (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)), fun c => Cert.Reference33Ideal.Read.val_main_v8 (F := Ideal) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)),
    (θ_run _ _ _).mono (fun r h c => ⟨((h c).1).trans (Cert.Kernel33Ideal.Mix.final3 m c (Cert.Pre_below_inf.below _ _ _ _ (hp c))), ((h c).2.1).trans (Cert.Kernel33Ideal.Mix.final4 m c (Cert.Pre_below_inf.below _ _ _ _ (hp c))), (h c).2.2⟩) (Cert.Kernel33Ideal.Value.run_blocks m g),
    (θ_run _ _ _).mono (fun r h c => ⟨(((h c).1).trans (Cert.Reference33Ideal.Read.val_main_v12_eq _ _)).trans (congr_four (Cert.Reference33Ideal.Read.val_main_v12 (F := Ideal)) (hm c).1 (hm c).2.1 (hm c).2.2.1 (hm c).2.2.2),
      (((h c).2.1).trans (Cert.Reference33Ideal.Read.val_main_v8_eq _ _)).trans (by rw [(hm c).2.1, (hm c).2.2.1, (hm c).2.2.2]), (h c).2.2⟩) (Cert.Reference33Ideal.Value.run m' g')⟩

/-- The shifted weights of the input projection and their decay. -/
theorem algebraic34 : Cert.algebraic_Kernel34Ideal_Reference34Ideal := by
  intro m g m' g' hp hm
  exact ⟨fun c => Cert.Reference34Ideal.Read.val_main_v2 (F := Ideal) (m ((c.tc : Thread Cert.Kernel34Ideal.nD Cert.Kernel34Ideal.τ).loc Cert.Kernel34Ideal.main_arg0)), fun c => Cert.Reference34Ideal.Read.val_main_v4 (F := Ideal) (m ((c.tc : Thread Cert.Kernel34Ideal.nD Cert.Kernel34Ideal.τ).loc Cert.Kernel34Ideal.main_arg0)),
    (θ_run _ _ _).mono (fun r h c => ⟨((h c).1).trans (Cert.Kernel34Ideal.Mix.final1 m c), ((h c).2.1).trans (Cert.Kernel34Ideal.Mix.final2 m c), (h c).2.2⟩) (Cert.Kernel34Ideal.Value.run_blocks m g),
    (θ_run _ _ _).mono (fun r h c => ⟨(((h c).1).trans (Cert.Reference34Ideal.Read.val_main_v2_eq _)).trans (congrArg (Cert.Reference34Ideal.Read.val_main_v2 (F := Ideal)) (hm c)),
      (((h c).2.1).trans (Cert.Reference34Ideal.Read.val_main_v4_eq _)).trans (congrArg (Cert.Reference34Ideal.Read.val_main_v4 (F := Ideal)) (hm c)), (h c).2.2⟩) (Cert.Reference34Ideal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Pre_finite_inputs.facts, Cert.Pre_finite2.facts, Cert.Pre_below_inf.facts,
    Cert.Kernel.Sb.frame_kernel, fun m g _ => Cert.KernelIdeal.Sb.run_kept m g, fun m g _ => Cert.KernelIdeal.Sb.run_kept m g,
    fun m g _ => reference_ideal_frame m g, fun m g _ => reference_ideal_frame m g,
    fun m g _ => Cert.Kernel2.Gen.frame m g,
    fun m g _ => Cert.Kernel2Ideal.Gen.frame m g,
    fun m g _ => Cert.Kernel2Ideal.Gen.frame m g,
    fun m g _ => (θ_run _ _ _).mono (fun r h => ⟨fun c => (h c).2.2, sem_eq_zero_of_no_sems (by decide) r.2⟩) (Cert.Reference2Ideal.Value.run m g),
    fun m g _ => (θ_run _ _ _).mono (fun r h => ⟨fun c => (h c).2.2, sem_eq_zero_of_no_sems (by decide) r.2⟩) (Cert.Reference2Ideal.Value.run m g),
    fun m g _ => Cert.Kernel3.Gen.frame m g,
    fun m g _ => Cert.Kernel3Ideal.Gen.frame m g,
    fun m g _ => (θ_run _ _ _).mono (fun r h => ⟨fun c => (h c).2, sem_eq_zero_of_no_sems (by decide) r.2⟩) (Cert.Reference3Ideal.Value.run m g),
    fun m g _ => Cert.Kernel4.Gen.frame m g,
    fun m g _ => Cert.Kernel4Ideal.Gen.frame m g,
    fun m g _ => (θ_run _ _ _).mono (fun r h => ⟨fun c => (h c).2, sem_eq_zero_of_no_sems (by decide) r.2⟩) (Cert.Reference4Ideal.Value.run m g),
    fun m g _ => Cert.Kernel5.Gen.frame m g,
    fun m g _ => Cert.Kernel5Ideal.Gen.frame m g,
    fun m g _ => (θ_run _ _ _).mono (fun r h => ⟨fun c => (h c).2, sem_eq_zero_of_no_sems (by decide) r.2⟩) (Cert.Reference5Ideal.Value.run m g),
    fun m g _ => Cert.Kernel6.Gen.frame m g,
    fun m g _ => Cert.Kernel6Ideal.Gen.frame m g,
    fun m g _ => (θ_run _ _ _).mono (fun r h => ⟨fun c => (h c).2.2.2.2, sem_eq_zero_of_no_sems (by decide) r.2⟩) (Cert.Reference6Ideal.Value.run m g),
    fun m g _ => Cert.Kernel7.Gen.frame m g,
    fun m g _ => Cert.Kernel7Ideal.Gen.frame m g,
    fun m g _ => (θ_run _ _ _).mono (fun r h => ⟨fun c => (h c).2, sem_eq_zero_of_no_sems (by decide) r.2⟩) (Cert.Reference7Ideal.Value.run m g),
    fun m g _ => Cert.Kernel8.Gen.frame m g,
    fun m g _ => Cert.Kernel8Ideal.Gen.frame m g,
    fun m g _ => (θ_run _ _ _).mono (fun r h => ⟨fun c => (h c).2.2.2, sem_eq_zero_of_no_sems (by decide) r.2⟩) (Cert.Reference8Ideal.Value.run m g),
    fun m g _ => Cert.Kernel9.Gen.frame m g,
    fun m g _ => Cert.Kernel9Ideal.Gen.frame m g,
    fun m g _ => (θ_run _ _ _).mono (fun r h => ⟨fun c => (h c).2, sem_eq_zero_of_no_sems (by decide) r.2⟩) (Cert.Reference9Ideal.Value.run m g),
    fun m g _ => Cert.Kernel10.Gen.frame m g,
    fun m g _ => Cert.Kernel10Ideal.Gen.frame m g,
    fun m g _ => (θ_run _ _ _).mono (fun r h => ⟨fun c => (h c).2, sem_eq_zero_of_no_sems (by decide) r.2⟩) (Cert.Reference10Ideal.Value.run m g),
    fun m g _ => Cert.Kernel11.Gen.frame m g,
    fun m g _ => Cert.Kernel11Ideal.Gen.frame m g,
    fun m g _ => (θ_run _ _ _).mono (fun r h => ⟨fun c => (h c).2, sem_eq_zero_of_no_sems (by decide) r.2⟩) (Cert.Reference11Ideal.Value.run m g),
    fun m g _ => Cert.Kernel12.Gen.frame m g,
    fun m g _ => Cert.Kernel12Ideal.Gen.frame m g,
    fun m g _ => (θ_run _ _ _).mono (fun r h => ⟨fun c => (h c).2, sem_eq_zero_of_no_sems (by decide) r.2⟩) (Cert.Reference12Ideal.Value.run m g),
    fun m g _ => Cert.Kernel13.Gen.frame m g,
    fun m g _ => Cert.Kernel13Ideal.Gen.frame m g,
    fun m g _ => (θ_run _ _ _).mono (fun r h => ⟨fun c => (h c).2, sem_eq_zero_of_no_sems (by decide) r.2⟩) (Cert.Reference13Ideal.Value.run m g),
    fun m g _ => Cert.Kernel14.Gen.frame m g,
    fun m g _ => Cert.Kernel14Ideal.Gen.frame m g,
    fun m g _ => (θ_run _ _ _).mono (fun r h => ⟨fun c => (h c).2, sem_eq_zero_of_no_sems (by decide) r.2⟩) (Cert.Reference14Ideal.Value.run m g),
    fun m g _ => Cert.Kernel15.Gen.frame m g,
    fun m g _ => Cert.Kernel15Ideal.Gen.frame m g,
    fun m g _ => (θ_run _ _ _).mono (fun r h => ⟨fun c => (h c).2, sem_eq_zero_of_no_sems (by decide) r.2⟩) (Cert.Reference15Ideal.Value.run m g),
    fun m g _ => Cert.Kernel16.Gen.frame m g,
    fun m g _ => Cert.Kernel16Ideal.Gen.frame m g,
    fun m g _ => (θ_run _ _ _).mono (fun r h => ⟨fun c => (h c).2, sem_eq_zero_of_no_sems (by decide) r.2⟩) (Cert.Reference16Ideal.Value.run m g),
    fun m g _ => Cert.Kernel17.Gen.frame m g,
    fun m g _ => Cert.Kernel17Ideal.Gen.frame m g,
    fun m g _ => (θ_run _ _ _).mono (fun r h => ⟨fun c => (h c).2, sem_eq_zero_of_no_sems (by decide) r.2⟩) (Cert.Reference17Ideal.Value.run m g),
    fun m g _ => Cert.Kernel18.Gen.frame m g,
    fun m g _ => Cert.Kernel18Ideal.Gen.frame m g,
    fun m g _ => (θ_run _ _ _).mono (fun r h => ⟨fun c => (h c).2, sem_eq_zero_of_no_sems (by decide) r.2⟩) (Cert.Reference18Ideal.Value.run m g),
    fun m g _ => Cert.Kernel19.Gen.frame m g,
    fun m g _ => Cert.Kernel19Ideal.Gen.frame m g,
    fun m g _ => (θ_run _ _ _).mono (fun r h => ⟨fun c => (h c).2.2.2.2, sem_eq_zero_of_no_sems (by decide) r.2⟩) (Cert.Reference19Ideal.Value.run m g),
    fun m g _ => Cert.Kernel20.Gen.frame m g,
    fun m g _ => Cert.Kernel20Ideal.Gen.frame m g,
    fun m g _ => (θ_run _ _ _).mono (fun r h => ⟨fun c => (h c).2.2, sem_eq_zero_of_no_sems (by decide) r.2⟩) (Cert.Reference20Ideal.Value.run m g),
    fun m g _ => Cert.Kernel21.Gen.frame m g,
    fun m g _ => Cert.Kernel21Ideal.Gen.frame m g,
    fun m g _ => (θ_run _ _ _).mono (fun r h => ⟨fun c => (h c).2.2.2.2, sem_eq_zero_of_no_sems (by decide) r.2⟩) (Cert.Reference21Ideal.Value.run m g),
    fun m g _ => Cert.Kernel22.Gen.frame m g,
    fun m g _ => Cert.Kernel22Ideal.Gen.frame m g,
    fun m g _ => (θ_run _ _ _).mono (fun r h => ⟨fun c => (h c).2.2.2.2, sem_eq_zero_of_no_sems (by decide) r.2⟩) (Cert.Reference22Ideal.Value.run m g),
    fun m g _ => Cert.Kernel23.Gen.frame m g,
    fun m g _ => Cert.Kernel23Ideal.Gen.frame m g,
    fun m g _ => (θ_run _ _ _).mono (fun r h => ⟨fun c => (h c).2.2, sem_eq_zero_of_no_sems (by decide) r.2⟩) (Cert.Reference23Ideal.Value.run m g),
    fun m g _ => Cert.Kernel24.Gen.frame m g,
    fun m g _ => Cert.Kernel24Ideal.Gen.frame m g,
    fun m g _ => (θ_run _ _ _).mono (fun r h => ⟨fun c => (h c).2.2.2, sem_eq_zero_of_no_sems (by decide) r.2⟩) (Cert.Reference24Ideal.Value.run m g),
    fun m g _ => Cert.Kernel25.Gen.frame m g,
    fun m g _ => Cert.Kernel25Ideal.Gen.frame m g,
    fun m g _ => (θ_run _ _ _).mono (fun r h => ⟨fun c => (h c).2.2.2.2, sem_eq_zero_of_no_sems (by decide) r.2⟩) (Cert.Reference25Ideal.Value.run m g),
    fun m g _ => Cert.Kernel26.Gen.frame m g,
    fun m g _ => Cert.Kernel26Ideal.Gen.frame m g,
    fun m g _ => (θ_run _ _ _).mono (fun r h => ⟨fun c => (h c).2.2.2.2, sem_eq_zero_of_no_sems (by decide) r.2⟩) (Cert.Reference26Ideal.Value.run m g),
    fun m g _ => Cert.Kernel27.Gen.frame m g,
    fun m g _ => Cert.Kernel27Ideal.Gen.frame m g,
    fun m g _ => (θ_run _ _ _).mono (fun r h => ⟨fun c => (h c).2.2.2.2, sem_eq_zero_of_no_sems (by decide) r.2⟩) (Cert.Reference27Ideal.Value.run m g),
    fun m g _ => Cert.Kernel28.Gen.frame m g,
    fun m g _ => Cert.Kernel28Ideal.Gen.frame m g,
    fun m g _ => (θ_run _ _ _).mono (fun r h => ⟨fun c => (h c).2.2.2, sem_eq_zero_of_no_sems (by decide) r.2⟩) (Cert.Reference28Ideal.Value.run m g),
    fun m g _ => Cert.Kernel29.Gen.frame m g,
    fun m g _ => Cert.Kernel29Ideal.Gen.frame m g,
    fun m g _ => (θ_run _ _ _).mono (fun r h => ⟨fun c => (h c).2.2.2.2, sem_eq_zero_of_no_sems (by decide) r.2⟩) (Cert.Reference29Ideal.Value.run m g),
    fun m g _ => Cert.Kernel30.Gen.frame m g,
    fun m g _ => Cert.Kernel30Ideal.Gen.frame m g,
    fun m g _ => (θ_run _ _ _).mono (fun r h => ⟨fun c => (h c).2.2, sem_eq_zero_of_no_sems (by decide) r.2⟩) (Cert.Reference30Ideal.Value.run m g),
    fun m g _ => Cert.Kernel31.Gen.frame m g,
    fun m g _ => Cert.Kernel31Ideal.Gen.frame m g,
    fun m g _ => (θ_run _ _ _).mono (fun r h => ⟨fun c => (h c).2.2.2.2, sem_eq_zero_of_no_sems (by decide) r.2⟩) (Cert.Reference31Ideal.Value.run m g),
    fun m g _ => Cert.Kernel32.Gen.frame m g,
    fun m g _ => Cert.Kernel32Ideal.Gen.frame m g,
    fun m g _ => (θ_run _ _ _).mono (fun r h => ⟨fun c => (h c).2.2, sem_eq_zero_of_no_sems (by decide) r.2⟩) (Cert.Reference32Ideal.Value.run m g),
    fun m g _ => Cert.Kernel33.Gen.frame m g,
    fun m g _ => Cert.Kernel33Ideal.Gen.frame m g,
    fun m g _ => Cert.Kernel33Ideal.Gen.frame m g,
    fun m g _ => (θ_run _ _ _).mono (fun r h => ⟨fun c => (h c).2.2, sem_eq_zero_of_no_sems (by decide) r.2⟩) (Cert.Reference33Ideal.Value.run m g),
    fun m g _ => (θ_run _ _ _).mono (fun r h => ⟨fun c => (h c).2.2, sem_eq_zero_of_no_sems (by decide) r.2⟩) (Cert.Reference33Ideal.Value.run m g),
    fun m g _ => Cert.Kernel34.Gen.frame m g,
    fun m g _ => Cert.Kernel34Ideal.Gen.frame m g,
    fun m g _ => (θ_run _ _ _).mono (fun r h => ⟨fun c => (h c).2.2, sem_eq_zero_of_no_sems (by decide) r.2⟩) (Cert.Reference34Ideal.Value.run m g),
    trivial, algebraic, trivial, algebraic2, trivial, algebraic3, trivial, algebraic4, trivial, algebraic5, trivial, algebraic6, trivial, algebraic7,
    trivial, algebraic8, trivial, algebraic9, trivial, algebraic10, trivial, algebraic11, trivial, algebraic12, trivial, algebraic13, trivial, algebraic14, trivial, algebraic15, trivial, algebraic16, trivial, algebraic17, trivial, algebraic18, trivial, algebraic19,
    trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34⟩

end Cert.Proof

end
